-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_head_finite [hPre_head_finite : Cert.Pre_head_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.2.2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.2.2.2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.2.2.2.2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.2.2.2.2.2.1 = (fun _ => 1#1)
    ∧ (Cert.Pre_head_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8))).2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.2.2.2 = (fun _ => 1#1)

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradIdeal_out_finite [hPre_out_finite : Cert.Pre_out_finite.Facts] (m : (ℓ : Loc Cert.OutWgradIdeal.nD Cert.OutWgradIdeal.τ Cert.OutWgradIdeal.sig) → Buf (Elt Ideal) ℓ) : Prop :=
  ∀ c : Dev Cert.OutWgradIdeal.nD,
    (Cert.Pre_out_finite.fn (F := Ideal) (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2)) (m ((c.tc : Thread Cert.OutWgradIdeal.nD Cert.OutWgradIdeal.τ).loc Cert.OutWgradIdeal.main_arg3))).1 = (fun _ => 1#1)
    ∧ (Cert.Pre_out_finite.fn (F := Ideal) (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2)) (m ((c.tc : Thread Cert.OutWgradIdeal.nD Cert.OutWgradIdeal.τ).loc Cert.OutWgradIdeal.main_arg3))).2.1 = (fun _ => 1#1)
    ∧ (Cert.Pre_out_finite.fn (F := Ideal) (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2)) (m ((c.tc : Thread Cert.OutWgradIdeal.nD Cert.OutWgradIdeal.τ).loc Cert.OutWgradIdeal.main_arg3))).2.2.1 = (fun _ => 1#1)
    ∧ (Cert.Pre_out_finite.fn (F := Ideal) (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2)) (m ((c.tc : Thread Cert.OutWgradIdeal.nD Cert.OutWgradIdeal.τ).loc Cert.OutWgradIdeal.main_arg3))).2.2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3))).1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3))).2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3))).2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3))).2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_GuWgrad (m : (ℓ : Loc Cert.GuWgrad.nD Cert.GuWgrad.τ Cert.GuWgrad.sig) → Buf (Elt Bits) ℓ) : Prop :=
  True

def Pre_GuWgradIdeal (m : (ℓ : Loc Cert.GuWgradIdeal.nD Cert.GuWgradIdeal.τ Cert.GuWgradIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8)
      ∧ r.2.mem ((c.tc : Thread Cert.MixerBwd.nD Cert.MixerBwd.τ).loc Cert.MixerBwd.main_arg9) = m ((c.tc : Thread Cert.MixerBwd.nD Cert.MixerBwd.τ).loc Cert.MixerBwd.main_arg9))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7)
      ∧ r.2.mem ((c.tc : Thread Cert.FfnFwd.nD Cert.FfnFwd.τ).loc Cert.FfnFwd.main_arg8) = m ((c.tc : Thread Cert.FfnFwd.nD Cert.FfnFwd.τ).loc Cert.FfnFwd.main_arg8))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ r.2.sem = fun _ => 0)

def quiescent_FfnFwdIdeal_pre_head_finite [hFfnFwdIdeal : Cert.FfnFwdIdeal.Facts] [hPre_head_finite : Cert.Pre_head_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_head_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2)
      ∧ r.2.mem ((c.tc : Thread Cert.OutWgrad.nD Cert.OutWgrad.τ).loc Cert.OutWgrad.main_arg3) = m ((c.tc : Thread Cert.OutWgrad.nD Cert.OutWgrad.τ).loc Cert.OutWgrad.main_arg3))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2)
      ∧ r.2.mem ((c.tc : Thread Cert.OutWgradIdeal.nD Cert.OutWgradIdeal.τ).loc Cert.OutWgradIdeal.main_arg3) = m ((c.tc : Thread Cert.OutWgradIdeal.nD Cert.OutWgradIdeal.τ).loc Cert.OutWgradIdeal.main_arg3))
      ∧ r.2.sem = fun _ => 0)

def quiescent_OutWgradIdeal_pre_out_finite [hOutWgradIdeal : Cert.OutWgradIdeal.Facts] [hPre_out_finite : Cert.Pre_out_finite.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal_out_finite m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2)
      ∧ r.2.mem ((c.tc : Thread Cert.OutWgradIdeal.nD Cert.OutWgradIdeal.τ).loc Cert.OutWgradIdeal.main_arg3) = m ((c.tc : Thread Cert.OutWgradIdeal.nD Cert.OutWgradIdeal.τ).loc Cert.OutWgradIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_GuWgrad [hGuWgrad : Cert.GuWgrad.Facts] : Prop :=
  ∀ (m : (ℓ : Loc Cert.GuWgrad.nD Cert.GuWgrad.τ Cert.GuWgrad.sig) → Buf (Elt Bits) ℓ) (g : Dev Cert.GuWgrad.nD → PrngReg), Pre_GuWgrad m →
    θ_run (Cert.GuWgrad.defs (F := Bits)) (onTc (τ := Cert.GuWgrad.τ) (Cert.GuWgrad.main (F := Bits))) ⟨m, fun _ => 0, g⟩ (fun r => (∀ c : Dev Cert.GuWgrad.nD,
      r.2.mem ((c.tc : Thread Cert.GuWgrad.nD Cert.GuWgrad.τ).loc Cert.GuWgrad.main_arg0) = m ((c.tc : Thread Cert.GuWgrad.nD Cert.GuWgrad.τ).loc Cert.GuWgrad.main_arg0)
      ∧ r.2.mem ((c.tc : Thread Cert.GuWgrad.nD Cert.GuWgrad.τ).loc Cert.GuWgrad.main_arg1) = m ((c.tc : Thread Cert.GuWgrad.nD Cert.GuWgrad.τ).loc Cert.GuWgrad.main_arg1)
      ∧ r.2.mem ((c.tc : Thread Cert.GuWgrad.nD Cert.GuWgrad.τ).loc Cert.GuWgrad.main_arg2) = m ((c.tc : Thread Cert.GuWgrad.nD Cert.GuWgrad.τ).loc Cert.GuWgrad.main_arg2))
      ∧ r.2.sem = fun _ => 0)

def quiescent_GuWgradIdeal [hGuWgradIdeal : Cert.GuWgradIdeal.Facts] : Prop :=
  ∀ (m : (ℓ : Loc Cert.GuWgradIdeal.nD Cert.GuWgradIdeal.τ Cert.GuWgradIdeal.sig) → Buf (Elt Ideal) ℓ) (g : Dev Cert.GuWgradIdeal.nD → PrngReg), Pre_GuWgradIdeal m →
    θ_run (Cert.GuWgradIdeal.defs (F := Ideal)) (onTc (τ := Cert.GuWgradIdeal.τ) (Cert.GuWgradIdeal.main (F := Ideal))) ⟨m, fun _ => 0, g⟩ (fun r => (∀ c : Dev Cert.GuWgradIdeal.nD,
      r.2.mem ((c.tc : Thread Cert.GuWgradIdeal.nD Cert.GuWgradIdeal.τ).loc Cert.GuWgradIdeal.main_arg0) = m ((c.tc : Thread Cert.GuWgradIdeal.nD Cert.GuWgradIdeal.τ).loc Cert.GuWgradIdeal.main_arg0)
      ∧ r.2.mem ((c.tc : Thread Cert.GuWgradIdeal.nD Cert.GuWgradIdeal.τ).loc Cert.GuWgradIdeal.main_arg1) = m ((c.tc : Thread Cert.GuWgradIdeal.nD Cert.GuWgradIdeal.τ).loc Cert.GuWgradIdeal.main_arg1)
      ∧ r.2.mem ((c.tc : Thread Cert.GuWgradIdeal.nD Cert.GuWgradIdeal.τ).loc Cert.GuWgradIdeal.main_arg2) = m ((c.tc : Thread Cert.GuWgradIdeal.nD Cert.GuWgradIdeal.τ).loc Cert.GuWgradIdeal.main_arg2))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MixerBwd_MixerBwdIdeal : Prop :=
  IdealRules.named_const.Statement Cert.MixerBwdIdeal.κ "gelu_c" .f32 0x3D372713#32 ((8943 / 200000 : ℝ) : EReal)
  ∧ IdealRules.named_const.Statement Cert.MixerBwdIdeal.κ "gelu_3c" .f32 0x3E095D4F#32 ((26829 / 200000 : ℝ) : EReal)

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)
      ∧ m' ((c.tc : Thread Cert.FfnRefIdeal.nD Cert.FfnRefIdeal.τ).loc Cert.FfnRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v53_0)) (v1 : (c : Dev Cert.FfnBwdIdeal.nD) → Buf (Elt Ideal) ((c.tc : Thread Cert.FfnBwdIdeal.nD Cert.FfnBwdIdeal.τ).loc Cert.FfnBwdIdeal.main_v53_1)) (v2 : (c : Dev Cert.FfnBwdIdeal.nD) → Buf (Elt Ideal) ((c.tc : Thread Cert.FfnBwdIdeal.nD Cert.FfnBwdIdeal.τ).loc Cert.FfnBwdIdeal.main_v53_2)) (v3 : (c : Dev Cert.FfnBwdIdeal.nD) → Buf (Elt Ideal) ((c.tc : Thread Cert.FfnBwdIdeal.nD Cert.FfnBwdIdeal.τ).loc Cert.FfnBwdIdeal.main_v53_3)) (v4 : (c : Dev Cert.FfnBwdIdeal.nD) → Buf (Elt Ideal) ((c.tc : Thread Cert.FfnBwdIdeal.nD Cert.FfnBwdIdeal.τ).loc Cert.FfnBwdIdeal.main_v53_4)) (v5 : (c : Dev Cert.FfnBwdIdeal.nD) → Buf (Elt Ideal) ((c.tc : Thread Cert.FfnBwdIdeal.nD Cert.FfnBwdIdeal.τ).loc Cert.FfnBwdIdeal.main_v53_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v53_0) = v0 c
          ∧ r.2.mem ((c.tc : Thread Cert.FfnBwdIdeal.nD Cert.FfnBwdIdeal.τ).loc Cert.FfnBwdIdeal.main_v53_1) = v1 c
          ∧ r.2.mem ((c.tc : Thread Cert.FfnBwdIdeal.nD Cert.FfnBwdIdeal.τ).loc Cert.FfnBwdIdeal.main_v53_2) = v2 c
          ∧ r.2.mem ((c.tc : Thread Cert.FfnBwdIdeal.nD Cert.FfnBwdIdeal.τ).loc Cert.FfnBwdIdeal.main_v53_3) = v3 c
          ∧ r.2.mem ((c.tc : Thread Cert.FfnBwdIdeal.nD Cert.FfnBwdIdeal.τ).loc Cert.FfnBwdIdeal.main_v53_4) = v4 c
          ∧ r.2.mem ((c.tc : Thread Cert.FfnBwdIdeal.nD Cert.FfnBwdIdeal.τ).loc Cert.FfnBwdIdeal.main_v53_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v101) = v0 c
          ∧ r.2.mem ((c.tc : Thread Cert.FfnRefIdeal.nD Cert.FfnRefIdeal.τ).loc Cert.FfnRefIdeal.main_v105) = v1 c
          ∧ r.2.mem ((c.tc : Thread Cert.FfnRefIdeal.nD Cert.FfnRefIdeal.τ).loc Cert.FfnRefIdeal.main_v106) = v2 c
          ∧ r.2.mem ((c.tc : Thread Cert.FfnRefIdeal.nD Cert.FfnRefIdeal.τ).loc Cert.FfnRefIdeal.main_v108) = v3 c
          ∧ r.2.mem ((c.tc : Thread Cert.FfnRefIdeal.nD Cert.FfnRefIdeal.τ).loc Cert.FfnRefIdeal.main_v110) = v4 c
          ∧ r.2.mem ((c.tc : Thread Cert.FfnRefIdeal.nD Cert.FfnRefIdeal.τ).loc Cert.FfnRefIdeal.main_v112) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_FfnFwd_FfnFwdIdeal : Prop :=
  True

def algebraic_FfnFwdIdeal_HeadRefIdeal_pre_head_finite [hFfnFwdIdeal : Cert.FfnFwdIdeal.Facts] [hHeadRefIdeal : Cert.HeadRefIdeal.Facts] [hPre_head_finite : Cert.Pre_head_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_FfnFwdIdeal_head_finite m →
    (∀ c : Dev Cert.FfnFwdIdeal.nD,
      m' ((c.tc : Thread Cert.HeadRefIdeal.nD Cert.HeadRefIdeal.τ).loc Cert.HeadRefIdeal.main_arg0) = m ((c.tc : Thread Cert.FfnFwdIdeal.nD Cert.FfnFwdIdeal.τ).loc Cert.FfnFwdIdeal.main_arg0)
      ∧ m' ((c.tc : Thread Cert.HeadRefIdeal.nD Cert.HeadRefIdeal.τ).loc Cert.HeadRefIdeal.main_arg1) = m ((c.tc : Thread Cert.FfnFwdIdeal.nD Cert.FfnFwdIdeal.τ).loc Cert.FfnFwdIdeal.main_arg1)
      ∧ m' ((c.tc : Thread Cert.HeadRefIdeal.nD Cert.HeadRefIdeal.τ).loc Cert.HeadRefIdeal.main_arg2) = m ((c.tc : Thread Cert.FfnFwdIdeal.nD Cert.FfnFwdIdeal.τ).loc Cert.FfnFwdIdeal.main_arg2)
      ∧ m' ((c.tc : Thread Cert.HeadRefIdeal.nD Cert.HeadRefIdeal.τ).loc Cert.HeadRefIdeal.main_arg3) = m ((c.tc : Thread Cert.FfnFwdIdeal.nD Cert.FfnFwdIdeal.τ).loc Cert.FfnFwdIdeal.main_arg3)
      ∧ m' ((c.tc : Thread Cert.HeadRefIdeal.nD Cert.HeadRefIdeal.τ).loc Cert.HeadRefIdeal.main_arg4) = m ((c.tc : Thread Cert.FfnFwdIdeal.nD Cert.FfnFwdIdeal.τ).loc Cert.FfnFwdIdeal.main_arg4)
      ∧ m' ((c.tc : Thread Cert.HeadRefIdeal.nD Cert.HeadRefIdeal.τ).loc Cert.HeadRefIdeal.main_arg5) = m ((c.tc : Thread Cert.FfnFwdIdeal.nD Cert.FfnFwdIdeal.τ).loc Cert.FfnFwdIdeal.main_arg5)
      ∧ m' ((c.tc : Thread Cert.HeadRefIdeal.nD Cert.HeadRefIdeal.τ).loc Cert.HeadRefIdeal.main_arg6) = m ((c.tc : Thread Cert.FfnFwdIdeal.nD Cert.FfnFwdIdeal.τ).loc Cert.FfnFwdIdeal.main_arg6)
      ∧ m' ((c.tc : Thread Cert.HeadRefIdeal.nD Cert.HeadRefIdeal.τ).loc Cert.HeadRefIdeal.main_arg7) = m ((c.tc : Thread Cert.FfnFwdIdeal.nD Cert.FfnFwdIdeal.τ).loc Cert.FfnFwdIdeal.main_arg7)
      ∧ m' ((c.tc : Thread Cert.HeadRefIdeal.nD Cert.HeadRefIdeal.τ).loc Cert.HeadRefIdeal.main_arg8) = m ((c.tc : Thread Cert.FfnFwdIdeal.nD Cert.FfnFwdIdeal.τ).loc Cert.FfnFwdIdeal.main_arg8)) →
    ∃ (v0 : (c : Dev Cert.FfnFwdIdeal.nD) → Buf (Elt Ideal) ((c.tc : Thread Cert.FfnFwdIdeal.nD Cert.FfnFwdIdeal.τ).loc Cert.FfnFwdIdeal.main_v48_0)) (v1 : (c : Dev Cert.FfnFwdIdeal.nD) → Buf (Elt Ideal) ((c.tc : Thread Cert.FfnFwdIdeal.nD Cert.FfnFwdIdeal.τ).loc Cert.FfnFwdIdeal.main_v48_1)) (v2 : (c : Dev Cert.FfnFwdIdeal.nD) → Buf (Elt Ideal) ((c.tc : Thread Cert.FfnFwdIdeal.nD Cert.FfnFwdIdeal.τ).loc Cert.FfnFwdIdeal.main_v48_2)) (v3 : (c : Dev Cert.FfnFwdIdeal.nD) → Buf (Elt Ideal) ((c.tc : Thread Cert.FfnFwdIdeal.nD Cert.FfnFwdIdeal.τ).loc Cert.FfnFwdIdeal.main_v48_3)) (v4 : (c : Dev Cert.FfnFwdIdeal.nD) → Buf (Elt Ideal) ((c.tc : Thread Cert.FfnFwdIdeal.nD Cert.FfnFwdIdeal.τ).loc Cert.FfnFwdIdeal.main_v48_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v48_0) = v0 c
          ∧ r.2.mem ((c.tc : Thread Cert.FfnFwdIdeal.nD Cert.FfnFwdIdeal.τ).loc Cert.FfnFwdIdeal.main_v48_1) = v1 c
          ∧ r.2.mem ((c.tc : Thread Cert.FfnFwdIdeal.nD Cert.FfnFwdIdeal.τ).loc Cert.FfnFwdIdeal.main_v48_2) = v2 c
          ∧ r.2.mem ((c.tc : Thread Cert.FfnFwdIdeal.nD Cert.FfnFwdIdeal.τ).loc Cert.FfnFwdIdeal.main_v48_3) = v3 c
          ∧ r.2.mem ((c.tc : Thread Cert.FfnFwdIdeal.nD Cert.FfnFwdIdeal.τ).loc Cert.FfnFwdIdeal.main_v48_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
          ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v101) = v0 c
          ∧ r.2.mem ((c.tc : Thread Cert.HeadRefIdeal.nD Cert.HeadRefIdeal.τ).loc Cert.HeadRefIdeal.main_v102) = v1 c
          ∧ r.2.mem ((c.tc : Thread Cert.HeadRefIdeal.nD Cert.HeadRefIdeal.τ).loc Cert.HeadRefIdeal.main_v104) = v2 c
          ∧ r.2.mem ((c.tc : Thread Cert.HeadRefIdeal.nD Cert.HeadRefIdeal.τ).loc Cert.HeadRefIdeal.main_v105) = v3 c
          ∧ r.2.mem ((c.tc : Thread Cert.HeadRefIdeal.nD Cert.HeadRefIdeal.τ).loc Cert.HeadRefIdeal.main_v106) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def preserves_OutWgrad_OutWgradIdeal : Prop :=
  True

def algebraic_OutWgradIdeal_OutRefIdeal_pre_out_finite [hOutWgradIdeal : Cert.OutWgradIdeal.Facts] [hOutRefIdeal : Cert.OutRefIdeal.Facts] [hPre_out_finite : Cert.Pre_out_finite.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutWgradIdeal_out_finite m →
    (∀ c : Dev Cert.OutWgradIdeal.nD,
      m' ((c.tc : Thread Cert.OutRefIdeal.nD Cert.OutRefIdeal.τ).loc Cert.OutRefIdeal.main_arg0) = m ((c.tc : Thread Cert.OutWgradIdeal.nD Cert.OutWgradIdeal.τ).loc Cert.OutWgradIdeal.main_arg0)
      ∧ m' ((c.tc : Thread Cert.OutRefIdeal.nD Cert.OutRefIdeal.τ).loc Cert.OutRefIdeal.main_arg1) = m ((c.tc : Thread Cert.OutWgradIdeal.nD Cert.OutWgradIdeal.τ).loc Cert.OutWgradIdeal.main_arg1)
      ∧ m' ((c.tc : Thread Cert.OutRefIdeal.nD Cert.OutRefIdeal.τ).loc Cert.OutRefIdeal.main_arg2) = m ((c.tc : Thread Cert.OutWgradIdeal.nD Cert.OutWgradIdeal.τ).loc Cert.OutWgradIdeal.main_arg2)
      ∧ m' ((c.tc : Thread Cert.OutRefIdeal.nD Cert.OutRefIdeal.τ).loc Cert.OutRefIdeal.main_arg3) = m ((c.tc : Thread Cert.OutWgradIdeal.nD Cert.OutWgradIdeal.τ).loc Cert.OutWgradIdeal.main_arg3)) →
    ∃ (v0 : (c : Dev Cert.OutWgradIdeal.nD) → Buf (Elt Ideal) ((c.tc : Thread Cert.OutWgradIdeal.nD Cert.OutWgradIdeal.τ).loc Cert.OutWgradIdeal.main_v9_0)) (v1 : (c : Dev Cert.OutWgradIdeal.nD) → Buf (Elt Ideal) ((c.tc : Thread Cert.OutWgradIdeal.nD Cert.OutWgradIdeal.τ).loc Cert.OutWgradIdeal.main_v9_1)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v9_0) = v0 c
          ∧ r.2.mem ((c.tc : Thread Cert.OutWgradIdeal.nD Cert.OutWgradIdeal.τ).loc Cert.OutWgradIdeal.main_v9_1) = v1 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2)
          ∧ r.2.mem ((c.tc : Thread Cert.OutWgradIdeal.nD Cert.OutWgradIdeal.τ).loc Cert.OutWgradIdeal.main_arg3) = m ((c.tc : Thread Cert.OutWgradIdeal.nD Cert.OutWgradIdeal.τ).loc Cert.OutWgradIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v23) = v0 c
          ∧ r.2.mem ((c.tc : Thread Cert.OutRefIdeal.nD Cert.OutRefIdeal.τ).loc Cert.OutRefIdeal.main_v25) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v12) = v0 c
          ∧ r.2.mem ((c.tc : Thread Cert.OutProjRefIdeal.nD Cert.OutProjRefIdeal.τ).loc Cert.OutProjRefIdeal.main_v36) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_AdaBwd_AdaBwdIdeal : Prop :=
  True

def algebraic_AdaBwdIdeal_AdaRefIdeal [hAdaBwdIdeal : Cert.AdaBwdIdeal.Facts] [hAdaRefIdeal : Cert.AdaRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaBwdIdeal m →
    (∀ c : Dev Cert.AdaBwdIdeal.nD,
      m' ((c.tc : Thread Cert.AdaRefIdeal.nD Cert.AdaRefIdeal.τ).loc Cert.AdaRefIdeal.main_arg0) = m ((c.tc : Thread Cert.AdaBwdIdeal.nD Cert.AdaBwdIdeal.τ).loc Cert.AdaBwdIdeal.main_arg0)
      ∧ m' ((c.tc : Thread Cert.AdaRefIdeal.nD Cert.AdaRefIdeal.τ).loc Cert.AdaRefIdeal.main_arg1) = m ((c.tc : Thread Cert.AdaBwdIdeal.nD Cert.AdaBwdIdeal.τ).loc Cert.AdaBwdIdeal.main_arg1)
      ∧ m' ((c.tc : Thread Cert.AdaRefIdeal.nD Cert.AdaRefIdeal.τ).loc Cert.AdaRefIdeal.main_arg2) = m ((c.tc : Thread Cert.AdaBwdIdeal.nD Cert.AdaBwdIdeal.τ).loc Cert.AdaBwdIdeal.main_arg2)
      ∧ m' ((c.tc : Thread Cert.AdaRefIdeal.nD Cert.AdaRefIdeal.τ).loc Cert.AdaRefIdeal.main_arg3) = m ((c.tc : Thread Cert.AdaBwdIdeal.nD Cert.AdaBwdIdeal.τ).loc Cert.AdaBwdIdeal.main_arg3)
      ∧ m' ((c.tc : Thread Cert.AdaRefIdeal.nD Cert.AdaRefIdeal.τ).loc Cert.AdaRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v7_0)) (v1 : (c : Dev Cert.AdaBwdIdeal.nD) → Buf (Elt Ideal) ((c.tc : Thread Cert.AdaBwdIdeal.nD Cert.AdaBwdIdeal.τ).loc Cert.AdaBwdIdeal.main_v7_1)) (v2 : (c : Dev Cert.AdaBwdIdeal.nD) → Buf (Elt Ideal) ((c.tc : Thread Cert.AdaBwdIdeal.nD Cert.AdaBwdIdeal.τ).loc Cert.AdaBwdIdeal.main_v7_2)) (v3 : (c : Dev Cert.AdaBwdIdeal.nD) → Buf (Elt Ideal) ((c.tc : Thread Cert.AdaBwdIdeal.nD Cert.AdaBwdIdeal.τ).loc Cert.AdaBwdIdeal.main_v7_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v7_0) = v0 c
          ∧ r.2.mem ((c.tc : Thread Cert.AdaBwdIdeal.nD Cert.AdaBwdIdeal.τ).loc Cert.AdaBwdIdeal.main_v7_1) = v1 c
          ∧ r.2.mem ((c.tc : Thread Cert.AdaBwdIdeal.nD Cert.AdaBwdIdeal.τ).loc Cert.AdaBwdIdeal.main_v7_2) = v2 c
          ∧ r.2.mem ((c.tc : Thread Cert.AdaBwdIdeal.nD Cert.AdaBwdIdeal.τ).loc Cert.AdaBwdIdeal.main_v7_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v30) = v0 c
          ∧ r.2.mem ((c.tc : Thread Cert.AdaRefIdeal.nD Cert.AdaRefIdeal.τ).loc Cert.AdaRefIdeal.main_v31) = v1 c
          ∧ r.2.mem ((c.tc : Thread Cert.AdaRefIdeal.nD Cert.AdaRefIdeal.τ).loc Cert.AdaRefIdeal.main_v32) = v2 c
          ∧ r.2.mem ((c.tc : Thread Cert.AdaRefIdeal.nD Cert.AdaRefIdeal.τ).loc Cert.AdaRefIdeal.main_v33) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v27) = v0 c
          ∧ r.2.mem ((c.tc : Thread Cert.AdamRefIdeal.nD Cert.AdamRefIdeal.τ).loc Cert.AdamRefIdeal.main_v28) = v1 c
          ∧ r.2.mem ((c.tc : Thread Cert.AdamRefIdeal.nD Cert.AdamRefIdeal.τ).loc Cert.AdamRefIdeal.main_v29) = v2 c
          ∧ r.2.mem ((c.tc : Thread Cert.AdamRefIdeal.nD Cert.AdamRefIdeal.τ).loc Cert.AdamRefIdeal.main_v30) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_GuWgrad_GuWgradIdeal : Prop :=
  True

def algebraic_GuWgradIdeal_GuRefIdeal [hGuWgradIdeal : Cert.GuWgradIdeal.Facts] [hGuRefIdeal : Cert.GuRefIdeal.Facts] : Prop :=
  ∀ (m : (ℓ : Loc Cert.GuWgradIdeal.nD Cert.GuWgradIdeal.τ Cert.GuWgradIdeal.sig) → Buf (Elt Ideal) ℓ) (g : Dev Cert.GuWgradIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuWgradIdeal m →
    (∀ c : Dev Cert.GuWgradIdeal.nD,
      m' ((c.tc : Thread Cert.GuRefIdeal.nD Cert.GuRefIdeal.τ).loc Cert.GuRefIdeal.main_arg0) = m ((c.tc : Thread Cert.GuWgradIdeal.nD Cert.GuWgradIdeal.τ).loc Cert.GuWgradIdeal.main_arg0)
      ∧ m' ((c.tc : Thread Cert.GuRefIdeal.nD Cert.GuRefIdeal.τ).loc Cert.GuRefIdeal.main_arg1) = m ((c.tc : Thread Cert.GuWgradIdeal.nD Cert.GuWgradIdeal.τ).loc Cert.GuWgradIdeal.main_arg1)
      ∧ m' ((c.tc : Thread Cert.GuRefIdeal.nD Cert.GuRefIdeal.τ).loc Cert.GuRefIdeal.main_arg2) = m ((c.tc : Thread Cert.GuWgradIdeal.nD Cert.GuWgradIdeal.τ).loc Cert.GuWgradIdeal.main_arg2)) →
    ∃ (v0 : (c : Dev Cert.GuWgradIdeal.nD) → Buf (Elt Ideal) ((c.tc : Thread Cert.GuWgradIdeal.nD Cert.GuWgradIdeal.τ).loc Cert.GuWgradIdeal.main_v7)),
      θ_run (Cert.GuWgradIdeal.defs (F := Ideal)) (onTc (τ := Cert.GuWgradIdeal.τ) (Cert.GuWgradIdeal.main (F := Ideal))) ⟨m, fun _ => 0, g⟩ (fun r => ∀ c : Dev Cert.GuWgradIdeal.nD,
          r.2.mem ((c.tc : Thread Cert.GuWgradIdeal.nD Cert.GuWgradIdeal.τ).loc Cert.GuWgradIdeal.main_v7) = v0 c
          ∧ r.2.mem ((c.tc : Thread Cert.GuWgradIdeal.nD Cert.GuWgradIdeal.τ).loc Cert.GuWgradIdeal.main_arg0) = m ((c.tc : Thread Cert.GuWgradIdeal.nD Cert.GuWgradIdeal.τ).loc Cert.GuWgradIdeal.main_arg0)
          ∧ r.2.mem ((c.tc : Thread Cert.GuWgradIdeal.nD Cert.GuWgradIdeal.τ).loc Cert.GuWgradIdeal.main_arg1) = m ((c.tc : Thread Cert.GuWgradIdeal.nD Cert.GuWgradIdeal.τ).loc Cert.GuWgradIdeal.main_arg1)
          ∧ r.2.mem ((c.tc : Thread Cert.GuWgradIdeal.nD Cert.GuWgradIdeal.τ).loc Cert.GuWgradIdeal.main_arg2) = m ((c.tc : Thread Cert.GuWgradIdeal.nD Cert.GuWgradIdeal.τ).loc Cert.GuWgradIdeal.main_arg2))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v8) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2))

def Claim : Prop :=
  ∃ (hKernel : Cert.Kernel.Facts) (hKernelIdeal : Cert.KernelIdeal.Facts) (hReferenceIdeal : Cert.ReferenceIdeal.Facts) (hMixerBwd : Cert.MixerBwd.Facts) (hMixerBwdIdeal : Cert.MixerBwdIdeal.Facts) (hMixerRefIdeal : Cert.MixerRefIdeal.Facts) (hFfnBwd : Cert.FfnBwd.Facts) (hFfnBwdIdeal : Cert.FfnBwdIdeal.Facts) (hFfnRefIdeal : Cert.FfnRefIdeal.Facts) (hFfnFwd : Cert.FfnFwd.Facts) (hFfnFwdIdeal : Cert.FfnFwdIdeal.Facts) (hHeadRefIdeal : Cert.HeadRefIdeal.Facts) (hOutWgrad : Cert.OutWgrad.Facts) (hOutWgradIdeal : Cert.OutWgradIdeal.Facts) (hOutRefIdeal : Cert.OutRefIdeal.Facts) (hOutProj : Cert.OutProj.Facts) (hOutProjIdeal : Cert.OutProjIdeal.Facts) (hOutProjRefIdeal : Cert.OutProjRefIdeal.Facts) (hAdaBwd : Cert.AdaBwd.Facts) (hAdaBwdIdeal : Cert.AdaBwdIdeal.Facts) (hAdaRefIdeal : Cert.AdaRefIdeal.Facts) (hAdam : Cert.Adam.Facts) (hAdamIdeal : Cert.AdamIdeal.Facts) (hAdamRefIdeal : Cert.AdamRefIdeal.Facts) (hGuWgrad : Cert.GuWgrad.Facts) (hGuWgradIdeal : Cert.GuWgradIdeal.Facts) (hGuRefIdeal : Cert.GuRefIdeal.Facts) (hPre_finite : Cert.Pre_finite.Facts) (hPre_ffn_finite : Cert.Pre_ffn_finite.Facts) (hPre_head_finite : Cert.Pre_head_finite.Facts) (hPre_out_finite : Cert.Pre_out_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixerBwd (hMixerBwd := hMixerBwd)
    ∧ quiescent_MixerBwdIdeal (hMixerBwdIdeal := hMixerBwdIdeal)
    ∧ quiescent_MixerRefIdeal (hMixerRefIdeal := hMixerRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdIdeal_pre_head_finite (hFfnFwdIdeal := hFfnFwdIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_OutWgrad (hOutWgrad := hOutWgrad)
    ∧ quiescent_OutWgradIdeal (hOutWgradIdeal := hOutWgradIdeal)
    ∧ quiescent_OutWgradIdeal_pre_out_finite (hOutWgradIdeal := hOutWgradIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdaBwd (hAdaBwd := hAdaBwd)
    ∧ quiescent_AdaBwdIdeal (hAdaBwdIdeal := hAdaBwdIdeal)
    ∧ quiescent_AdaRefIdeal (hAdaRefIdeal := hAdaRefIdeal)
    ∧ quiescent_Adam (hAdam := hAdam)
    ∧ quiescent_AdamIdeal (hAdamIdeal := hAdamIdeal)
    ∧ quiescent_AdamRefIdeal (hAdamRefIdeal := hAdamRefIdeal)
    ∧ quiescent_GuWgrad (hGuWgrad := hGuWgrad)
    ∧ quiescent_GuWgradIdeal (hGuWgradIdeal := hGuWgradIdeal)
    ∧ quiescent_GuRefIdeal (hGuRefIdeal := hGuRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MixerBwd_MixerBwdIdeal
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_FfnFwd_FfnFwdIdeal
    ∧ algebraic_FfnFwdIdeal_HeadRefIdeal_pre_head_finite (hFfnFwdIdeal := hFfnFwdIdeal) (hHeadRefIdeal := hHeadRefIdeal) (hPre_head_finite := hPre_head_finite)
    ∧ preserves_OutWgrad_OutWgradIdeal
    ∧ algebraic_OutWgradIdeal_OutRefIdeal_pre_out_finite (hOutWgradIdeal := hOutWgradIdeal) (hOutRefIdeal := hOutRefIdeal) (hPre_out_finite := hPre_out_finite)
    ∧ preserves_OutProj_OutProjIdeal
    ∧ algebraic_OutProjIdeal_OutProjRefIdeal (hOutProjIdeal := hOutProjIdeal) (hOutProjRefIdeal := hOutProjRefIdeal)
    ∧ preserves_AdaBwd_AdaBwdIdeal
    ∧ algebraic_AdaBwdIdeal_AdaRefIdeal (hAdaBwdIdeal := hAdaBwdIdeal) (hAdaRefIdeal := hAdaRefIdeal)
    ∧ preserves_Adam_AdamIdeal
    ∧ algebraic_AdamIdeal_AdamRefIdeal (hAdamIdeal := hAdamIdeal) (hAdamRefIdeal := hAdamRefIdeal)
    ∧ preserves_GuWgrad_GuWgradIdeal
    ∧ algebraic_GuWgradIdeal_GuRefIdeal (hGuWgradIdeal := hGuWgradIdeal) (hGuRefIdeal := hGuRefIdeal)
-- ==== Pre_ffn_finite.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x2816x1024 .f32) (main_arg7 : FVec F S1x8192x1024 .f32) (main_v2 : IVec S1x8192x1024 1) (main_v5 : IVec S1x8192x1024 1) (main_v8 : IVec S1x6144 1) (main_v11 : IVec S1x1024 1) (main_v14 : IVec S1x1024x1024 1) (main_v17 : IVec S1x1024x5632 1) : IVec S1x8192x1024 1 × IVec S1x8192x1024 1 × IVec S1x6144 1 × IVec S1x1024 1 × IVec S1x1024x1024 1 × IVec S1x1024x5632 1 × IVec S1x2816x1024 1 × IVec S1x8192x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  let main_v21 : FVec F S1x8192x1024 .f32 := Host.absf main_arg7
  let main_cst_6 : FVec F S_ .f32 := constant S_ .f32 0x7F800000#32
  let main_v22 : FVec F S1x8192x1024 .f32 := broadcastInDim S1x8192x1024 ![] bcast_S_S1x8192x1024 main_cst_6
  let main_v23 : IVec S1x8192x1024 1 := cmpf .olt main_v21 main_v22
  (main_v2, main_v5, main_v8, main_v11, main_v14, main_v17, main_v20, main_v23)

def fn {F : FTy → Type} [FloatOps F] (main_arg0 : FVec F S1x8192x1024 .f32) (main_arg1 : FVec F S1x8192x1024 .f32) (main_arg2 : FVec F S1x6144 .f32) (main_arg3 : FVec F S1x1024 .f32) (main_arg4 : FVec F S1x1024x1024 .f32) (main_arg5 : FVec F S1x1024x5632 .f32) (main_arg6 : FVec F S1x2816x1024 .f32) (main_arg7 : FVec F S1x8192x1024 .f32) : IVec S1x8192x1024 1 × IVec S1x8192x1024 1 × IVec S1x6144 1 × IVec S1x1024 1 × IVec S1x1024x1024 1 × IVec S1x1024x5632 1 × IVec S1x2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024x5632 .f32 := Host.absf main_arg5
  let main_cst_4 : FVec F S_ .f32 := constant S_ .f32 0x7F800000#32
  let main_v16 : FVec F S1x1024x5632 .f32 := broadcastInDim S1x1024x5632 ![] bcast_S_S1x1024x5632 main_cst_4
  let main_v17 : IVec S1x1024x5632 1 := cmpf .olt main_v15 main_v16
  fn_part1 (F := F) main_arg6 main_arg7 main_v2 main_v5 main_v8 main_v11 main_v14 main_v17
-- ==== Pre_finite.lean ====
abbrev S1x8192x1024 : Shape := ⟨3, ![1, 8192, 1024]⟩
abbrev S1x6144 : Shape := ⟨2, ![1, 6144]⟩
abbrev S1x1024 : Shape := ⟨2, ![1, 1024]⟩
abbrev S1x1024x7168 : Shape := ⟨3, ![1, 1024, 7168]⟩
abbrev S1x8192x7168 : Shape := ⟨3, ![1, 8192, 7168]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x7168 : S_.BroadcastsInDim S1x1024x7168 (![] : Fin 0 → Fin S1x1024x7168.rank)
  bcast_S_S1x8192x7168 : S_.BroadcastsInDim S1x8192x7168 (![] : Fin 0 → Fin S1x8192x7168.rank)

variable [Facts]

def fn {F : FTy → Type} [FloatOps F] (main_arg0 : FVec F S1x8192x1024 .f32) (main_arg1 : FVec F S1x6144 .f32) (main_arg2 : FVec F S1x1024 .f32) (main_arg3 : FVec F S1x1024x7168 .f32) (main_arg4 : FVec F S1x8192x1024 .f32) (main_arg5 : FVec F S1x8192x7168 .f32) : IVec S1x8192x1024 1 × IVec S1x6144 1 × IVec S1x1024 1 × IVec S1x1024x7168 1 × IVec S1x8192x7168 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x7168 .f32 := Host.absf main_arg3
  let main_cst_2 : FVec F S_ .f32 := constant S_ .f32 0x7F800000#32
  let main_v10 : FVec F S1x1024x7168 .f32 := broadcastInDim S1x1024x7168 ![] bcast_S_S1x1024x7168 main_cst_2
  let main_v11 : IVec S1x1024x7168 1 := cmpf .olt main_v9 main_v10
  let main_v12 : FVec F S1x8192x7168 .f32 := Host.absf main_arg5
  let main_cst_3 : FVec F S_ .f32 := constant S_ .f32 0x7F800000#32
  let main_v13 : FVec F S1x8192x7168 .f32 := broadcastInDim S1x8192x7168 ![] bcast_S_S1x8192x7168 main_cst_3
  let main_v14 : IVec S1x8192x7168 1 := cmpf .olt main_v12 main_v13
  (main_v2, main_v5, main_v8, main_v11, main_v14)
-- ==== Pre_head_finite.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn_part1 {F : FTy → Type} [FloatOps F] (main_arg6 : FVec F S1x2816x1024 .f32) (main_arg7 : FVec F S1024 .f32) (main_arg8 : FVec F S1x8192x1024 .f32) (main_v2 : IVec S1x8192x1024 1) (main_v5 : IVec S1x8192x1024 1) (main_v8 : IVec S1x6144 1) (main_v11 : IVec S1x1024 1) (main_v14 : IVec S1x1024x1024 1) (main_v17 : IVec S1x1024x5632 1) : IVec S1x8192x1024 1 × IVec S1x8192x1024 1 × IVec S1x6144 1 × IVec S1x1024 1 × IVec S1x1024x1024 1 × IVec S1x1024x5632 1 × IVec S1x2816x1024 1 × IVec S1024 1 × IVec S1x8192x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1x8192x1024 .f32 := Host.absf main_arg8
  let main_cst_7 : FVec F S_ .f32 := constant S_ .f32 0x7F800000#32
  let main_v25 : FVec F S1x8192x1024 .f32 := broadcastInDim S1x8192x1024 ![] bcast_S_S1x8192x1024 main_cst_7
  let main_v26 : IVec S1x8192x1024 1 := cmpf .olt main_v24 main_v25
  (main_v2, main_v5, main_v8, main_v11, main_v14, main_v17, main_v20, main_v23, main_v26)

def fn {F : FTy → Type} [FloatOps F] (main_arg0 : FVec F S1x8192x1024 .f32) (main_arg1 : FVec F S1x8192x1024 .f32) (main_arg2 : FVec F S1x6144 .f32) (main_arg3 : FVec F S1x1024 .f32) (main_arg4 : FVec F S1x1024x1024 .f32) (main_arg5 : FVec F S1x1024x5632 .f32) (main_arg6 : FVec F S1x2816x1024 .f32) (main_arg7 : FVec F S1024 .f32) (main_arg8 : FVec F S1x8192x1024 .f32) : IVec S1x8192x1024 1 × IVec S1x8192x1024 1 × IVec S1x6144 1 × IVec S1x1024 1 × IVec S1x1024x1024 1 × IVec S1x1024x5632 1 × IVec S1x2816x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024x5632 .f32 := Host.absf main_arg5
  let main_cst_4 : FVec F S_ .f32 := constant S_ .f32 0x7F800000#32
  let main_v16 : FVec F S1x1024x5632 .f32 := broadcastInDim S1x1024x5632 ![] bcast_S_S1x1024x5632 main_cst_4
  let main_v17 : IVec S1x1024x5632 1 := cmpf .olt main_v15 main_v16
  fn_part1 (F := F) main_arg6 main_arg7 main_arg8 main_v2 main_v5 main_v8 main_v11 main_v14 main_v17
-- ==== Pre_out_finite.lean ====
abbrev S1x8192x1024 : Shape := ⟨3, ![1, 8192, 1024]⟩
abbrev S1x6144 : Shape := ⟨2, ![1, 6144]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024x1024 : S_.BroadcastsInDim S1x1024x1024 (![] : Fin 0 → Fin S1x1024x1024.rank)

variable [Facts]

def fn {F : FTy → Type} [FloatOps F] (main_arg0 : FVec F S1x8192x1024 .f32) (main_arg1 : FVec F S1x6144 .f32) (main_arg2 : FVec F S1x1024x1024 .f32) (main_arg3 : FVec F S1x8192x1024 .f32) : IVec S1x8192x1024 1 × IVec S1x6144 1 × IVec S1x1024x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  (main_v2, main_v5, main_v8, main_v11)
-- ==== Kernel.lean ====
abbrev S1x8192x1024 : Shape := ⟨3, ![1, 8192, 1024]⟩
abbrev S1x6144 : Shape := ⟨2, ![1, 6144]⟩
abbrev S1x1024 : Shape := ⟨2, ![1, 1024]⟩
abbrev S1x1024x7168 : Shape := ⟨3, ![1, 1024, 7168]⟩
abbrev S1x8192x7168 : Shape := ⟨3, ![1, 8192, 7168]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S8192x7168 : Shape := ⟨2, ![8192, 7168]⟩
abbrev S1024x7168 : Shape := ⟨2, ![1024, 7168]⟩
abbrev S8192x1024 : Shape := ⟨2, ![8192, 1024]⟩
abbrev S512x7168 : Shape := ⟨2, ![512, 7168]⟩
abbrev S512x1024 : Shape := ⟨2, ![512, 1024]⟩
abbrev S256x7168 : Shape := ⟨2, ![256, 7168]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 18
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x7168, .f32⟩
  | .hbm, ⟨4, _⟩ => ⟨S1x8192x1024, .f32⟩
  | .hbm, ⟨5, _⟩ => ⟨S1x8192x7168, .f32⟩
  | .hbm, ⟨6, _⟩ => ⟨S6x1024, .f32⟩
  | .hbm, ⟨7, _⟩ => ⟨S_, .f32⟩
  | .hbm, ⟨8, _⟩ => ⟨S2x1024, .f32⟩
  | .hbm, ⟨9, _⟩ => ⟨S8x1024, .f32⟩
  | .hbm, ⟨10, _⟩ => ⟨S8192x7168, .f32⟩
  | .hbm, ⟨11, _⟩ => ⟨S8192x7168, .bf16⟩
  | .hbm, ⟨12, _⟩ => ⟨S1024x7168, .f32⟩
  | .hbm, ⟨13, _⟩ => ⟨S1024x7168, .bf16⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8x1024, .f32⟩
  | .local _ .vmem, ⟨0, _⟩ => ⟨S512x7168, .bf16⟩
  | .local _ .vmem, ⟨1, _⟩ => ⟨S512x7168, .bf16⟩
  | .local _ .vmem, ⟨2, _⟩ => ⟨S1024x7168, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x8192x1024 : Shape := ⟨3, ![1, 8192, 1024]⟩
abbrev S1x6144 : Shape := ⟨2, ![1, 6144]⟩
abbrev S1x1024 : Shape := ⟨2, ![1, 1024]⟩
abbrev S1x1024x7168 : Shape := ⟨3, ![1, 1024, 7168]⟩
abbrev S1x8192x7168 : Shape := ⟨3, ![1, 8192, 7168]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x7168 : Shape := ⟨2, ![1024, 7168]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x7168, .f32⟩
  | .hbm, ⟨4, _⟩ => ⟨S1x8192x1024, .f32⟩
  | .hbm, ⟨5, _⟩ => ⟨S1x8192x7168, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x8192x1024, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S1x8192x1024, .f32⟩
  | .hbm, ⟨29, _⟩ => ⟨S1x8192x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x1x1024, .f32⟩
  | .hbm, ⟨40, _⟩ => ⟨S1x8192x1024, .f32⟩
  | .hbm, ⟨41, _⟩ => ⟨S1x8192x1024, .f32⟩
  | .hbm, ⟨42, _⟩ => ⟨S1024x7168, .f32⟩
  | .hbm, ⟨43, _⟩ => ⟨S1x8192x7168, .f32⟩
  | .hbm, ⟨44, _⟩ => ⟨S1x8192x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x8192x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x8192x1024, .f32⟩
  | .hbm, ⟨56, _⟩ => ⟨S1x8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x8192x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x8192x1024, .f32⟩
  | .hbm, ⟨65, _⟩ => ⟨S1x8192x1024, .f32⟩
  | .hbm, ⟨66, _⟩ => ⟨S_, .f32⟩
  | .hbm, ⟨67, _⟩ => ⟨S1024, .f32⟩
  | .hbm, ⟨68, _⟩ => ⟨S1x8192x1024, .f32⟩
  | .hbm, ⟨69, _⟩ => ⟨S_, .f32⟩
  | .hbm, ⟨70, _⟩ => ⟨S1x8192, .f32⟩
  | .hbm, ⟨71, _⟩ => ⟨S1x8192x1, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S1x8192x1, .f32⟩
  | .hbm, ⟨76, _⟩ => ⟨S_, .f32⟩
  | .hbm, ⟨77, _⟩ => ⟨S1x8192x1, .f32⟩
  | .hbm, ⟨78, _⟩ => ⟨S1x8192x1, .f32⟩
  | .hbm, ⟨79, _⟩ => ⟨S_, .f32⟩
  | .hbm, ⟨80, _⟩ => ⟨S8192, .f32⟩
  | .hbm, ⟨81, _⟩ => ⟨S1x8192, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x1024, .f32⟩
  | .hbm, ⟨88, _⟩ => ⟨S8192x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== MixerBwd.lean ====
abbrev S1x8192x7168 : Shape := ⟨3, ![1, 8192, 7168]⟩
abbrev S1x3x1024 : Shape := ⟨3, ![1, 3, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S1x8192x1024 : Shape := ⟨3, ![1, 8192, 1024]⟩
abbrev S3x1024 : Shape := ⟨2, ![3, 1024]⟩
abbrev S_ : Shape := ⟨0, ![]⟩
abbrev S1x2x1024 : Shape := ⟨3, ![1, 2, 1024]⟩
abbrev S1x8194x1024 : Shape := ⟨3, ![1, 8194, 1024]⟩
abbrev S1024 : Shape := ⟨1, ![1024]⟩
abbrev S1x1x1024 : Shape := ⟨3, ![1, 1, 1024]⟩
abbrev S4x1024 : Shape := ⟨2, ![4, 1024]⟩
abbrev S1x8195x1024 : Shape := ⟨3, ![1, 8195, 1024]⟩
abbrev S4x256x256 : Shape := ⟨3, ![4, 256, 256]⟩
abbrev S1x8192x4x256 : Shape := ⟨4, ![1, 8192, 4, 256]⟩
abbrev S4x256x1x8192 : Shape := ⟨4, ![4, 256, 1, 8192]⟩
abbrev S1 : Shape := ⟨1, ![1]⟩
abbrev S8192x1x1024 : Shape := ⟨3, ![8192, 1, 1024]⟩
abbrev S6x8192x1024 : Shape := ⟨3, ![6, 8192, 1024]⟩
abbrev S5x1024 : Shape := ⟨2, ![5, 1024]⟩
abbrev S16x1024 : Shape := ⟨2, ![16, 1024]⟩
abbrev S8192x7168 : Shape := ⟨2, ![8192, 7168]⟩
abbrev S8192x1024 : Shape := ⟨2, ![8192, 1024]⟩
abbrev S256x7168 : Shape := ⟨2, ![256, 7168]⟩
abbrev S256x1024 : Shape := ⟨2, ![256, 1024]⟩
abbrev S8x1024 : Shape := ⟨2, ![8, 1024]⟩
abbrev S6x256x1024 : Shape := ⟨3, ![6, 256, 1024]⟩
abbrev S264x1024 : Shape := ⟨2, ![264, 1024]⟩
abbrev S64x1024 : Shape := ⟨2, ![64, 1024]⟩
abbrev S8x256 : Shape := ⟨2, ![8, 256]⟩
abbrev S1x256 : Shape := ⟨2, ![1, 256]⟩
abbrev S16x256 : Shape := ⟨2, ![16, 256]⟩
abbrev S1x16x256 : Shape := ⟨3, ![1, 16, 256]⟩
abbrev S1x8x256 : Shape := ⟨3, ![1, 8, 256]⟩
abbrev S256 : Shape := ⟨1, ![256]⟩
abbrev S1x256x1024 : Shape := ⟨3, ![1, 256, 1024]⟩
abbrev S256x256 : Shape := ⟨2, ![256, 256]⟩
abbrev S1x256x256 : Shape := ⟨3, ![1, 256, 256]⟩

abbrev nBuf : Space → Nat
  | .hbm => 210
  | .vmem => 26
  | .smem => 0
  | _ => 0

abbrev hbmTy0_0 (i : Nat) : BufTy := match i % 128 with
  | 0 => ⟨S1x8192x7168, .f32⟩
  | 1 => ⟨S1x3x1024, .f32⟩
  | 2 => ⟨S1x4x1024, .f32⟩
  | 3 => ⟨S1x1024, .f32⟩
  | 4 => ⟨S1x4x256x256, .f32⟩
  | 5 => ⟨S1x1024, .f32⟩
  | 6 => ⟨S1x4x256x256, .f32⟩
  | 7 => ⟨S1x1024, .f32⟩
  | 8 => ⟨S1x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x8192x1024, .f32⟩
  | 16 => ⟨S1x8192x1024, .f32⟩
  | 17 => ⟨S1x8192x1024, .f32⟩
  | 18 => ⟨S3x1024, .f32⟩
  | 19 => ⟨S_, .f32⟩
  | 20 => ⟨S1x2x1024, .f32⟩
  | 21 => ⟨S1x8194x1024, .f32⟩
  | 22 => ⟨S1x1024, .f32⟩
  | 23 => ⟨S1024, .f32⟩
  | 24 => ⟨S1x8192x1024, .f32⟩
  | 25 => ⟨S1x1x1024, .f32⟩
  | 26 => ⟨S1x8192x1024, .f32⟩
  | 27 => ⟨S1x8192x1024, .f32⟩
  | 28 => ⟨S_, .f32⟩
  | 29 => ⟨S1x8192x1024, .f32⟩
  | 30 => ⟨S1x8192x1024, .f32⟩
  | 31 => ⟨S1x1024, .f32⟩
  | 32 => ⟨S1024, .f32⟩
  | 33 => ⟨S1x8192x1024, .f32⟩
  | 34 => ⟨S1x1x1024, .f32⟩
  | 35 => ⟨S1x8192x1024, .f32⟩
  | 36 => ⟨S1x8192x1024, .f32⟩
  | 37 => ⟨S1x8192x1024, .f32⟩
  | 38 => ⟨S1x1024, .f32⟩
  | 39 => ⟨S1024, .f32⟩
  | 40 => ⟨S1x8192x1024, .f32⟩
  | 41 => ⟨S1x1x1024, .f32⟩
  | 42 => ⟨S1x8192x1024, .f32⟩
  | 43 => ⟨S1x8192x1024, .f32⟩
  | 44 => ⟨S1x8192x1024, .f32⟩
  | 45 => ⟨S4x1024, .f32⟩
  | 46 => ⟨S_, .f32⟩
  | 47 => ⟨S1x3x1024, .f32⟩
  | 48 => ⟨S1x8195x1024, .f32⟩
  | 49 => ⟨S1x1024, .f32⟩
  | 50 => ⟨S1024, .f32⟩
  | 51 => ⟨S1x8192x1024, .f32⟩
  | 52 => ⟨S1x1x1024, .f32⟩
  | 53 => ⟨S1x8192x1024, .f32⟩
  | 54 => ⟨S1x8192x1024, .f32⟩
  | 55 => ⟨S_, .f32⟩
  | 56 => ⟨S1x8192x1024, .f32⟩
  | 57 => ⟨S1x8192x1024, .f32⟩
  | 58 => ⟨S1x1024, .f32⟩
  | 59 => ⟨S1024, .f32⟩
  | 60 => ⟨S1x8192x1024, .f32⟩
  | 61 => ⟨S1x1x1024, .f32⟩
  | 62 => ⟨S1x8192x1024, .f32⟩
  | 63 => ⟨S1x8192x1024, .f32⟩
  | 64 => ⟨S1x8192x1024, .f32⟩
  | 65 => ⟨S1x1024, .f32⟩
  | 66 => ⟨S1024, .f32⟩
  | 67 => ⟨S1x8192x1024, .f32⟩
  | 68 => ⟨S1x1x1024, .f32⟩
  | 69 => ⟨S1x8192x1024, .f32⟩
  | 70 => ⟨S1x8192x1024, .f32⟩
  | 71 => ⟨S1x8192x1024, .f32⟩
  | 72 => ⟨S1x1024, .f32⟩
  | 73 => ⟨S1024, .f32⟩
  | 74 => ⟨S1x8192x1024, .f32⟩
  | 75 => ⟨S1x1x1024, .f32⟩
  | 76 => ⟨S1x8192x1024, .f32⟩
  | 77 => ⟨S1x8192x1024, .f32⟩
  | 78 => ⟨S1x8192x1024, .f32⟩
  | 79 => ⟨S1024, .f32⟩
  | 80 => ⟨S1x1x1024, .f32⟩
  | 81 => ⟨S1x8192x1024, .f32⟩
  | 82 => ⟨S1x8192x1024, .f32⟩
  | 83 => ⟨S4x256x256, .f32⟩
  | 84 => ⟨S1024, .f32⟩
  | 85 => ⟨S4x256x256, .f32⟩
  | 86 => ⟨S1024, .f32⟩
  | 87 => ⟨S1024, .f32⟩
  | 88 => ⟨S1x8192x4x256, .f32⟩
  | 89 => ⟨S4x256x1x8192, .f32⟩
  | 90 => ⟨S1x8192x4x256, .f32⟩
  | 91 => ⟨S1x8192x1024, .f32⟩
  | 92 => ⟨S1x1x1024, .f32⟩
  | 93 => ⟨S1x8192x1024, .f32⟩
  | 94 => ⟨S1x8192x1024, .f32⟩
  | 95 => ⟨S1x8192x1024, .f32⟩
  | 96 => ⟨S1x8192x1024, .f32⟩
  | 97 => ⟨S_, .f32⟩
  | 98 => ⟨S1x8192x1024, .f32⟩
  | 99 => ⟨S1x8192x1024, .f32⟩
  | 100 => ⟨S_, .f32⟩
  | 101 => ⟨S1x8192x1024, .f32⟩
  | 102 => ⟨S1x8192x1024, .f32⟩
  | 103 => ⟨S1x8192x4x256, .f32⟩
  | 104 => ⟨S4x256x1x8192, .f32⟩
  | 105 => ⟨S1x8192x4x256, .f32⟩
  | 106 => ⟨S1x8192x1024, .f32⟩
  | 107 => ⟨S1x1x1024, .f32⟩
  | 108 => ⟨S1x8192x1024, .f32⟩
  | 109 => ⟨S1x8192x1024, .f32⟩
  | 110 => ⟨S1x8192x1024, .f32⟩
  | 111 => ⟨S1x8192x1024, .f32⟩
  | 112 => ⟨S_, .f32⟩
  | 113 => ⟨S1x8192x1024, .f32⟩
  | 114 => ⟨S1x8192x1024, .f32⟩
  | 115 => ⟨S_, .f32⟩
  | 116 => ⟨S1x8192x1024, .f32⟩
  | 117 => ⟨S1x8192x1024, .f32⟩
  | 118 => ⟨S_, .f32⟩
  | 119 => ⟨S1x8192x1024, .f32⟩
  | 120 => ⟨S1x8192x1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S1024, .f32⟩
  | 127 => ⟨S1024, .i1⟩
  | _ => ⟨S1x8192x7168, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1x1x1024, .f32⟩
  | 10 => ⟨S1x8192x1024, .f32⟩
  | 11 => ⟨S1x8192x1024, .f32⟩
  | 12 => ⟨S1x8192x1024, .f32⟩
  | 13 => ⟨S_, .f32⟩
  | 14 => ⟨S1x8192x1024, .f32⟩
  | 15 => ⟨S1x8192x1024, .f32⟩
  | 16 => ⟨S1x8192x1024, .f32⟩
  | 17 => ⟨S1x8192x1024, .f32⟩
  | 18 => ⟨S_, .f32⟩
  | 19 => ⟨S1x8192x1024, .f32⟩
  | 20 => ⟨S1x8192x1024, .f32⟩
  | 21 => ⟨S1x8192x1024, .f32⟩
  | 22 => ⟨S_, .i32⟩
  | 23 => ⟨S1, .i32⟩
  | 24 => ⟨S_, .f32⟩
  | 25 => ⟨S1x1024, .f32⟩
  | 26 => ⟨S1x8192x1024, .f32⟩
  | 27 => ⟨S1x8192x1024, .f32⟩
  | 28 => ⟨S1x8192x1024, .f32⟩
  | 29 => ⟨S1x1x1024, .f32⟩
  | 30 => ⟨S1x1024, .f32⟩
  | 31 => ⟨S_, .f32⟩
  | 32 => ⟨S1x1024, .f32⟩
  | 33 => ⟨S8192x1x1024, .f32⟩
  | 34 => ⟨S8192x1x1024, .f32⟩
  | 35 => ⟨S_, .f32⟩
  | 36 => ⟨S8192x1x1024, .f32⟩
  | 37 => ⟨S_, .i32⟩
  | 38 => ⟨S8192x1x1024, .f32⟩
  | 39 => ⟨S8192x1x1024, .f32⟩
  | 40 => ⟨S_, .i32⟩
  | 41 => ⟨S1x1024, .f32⟩
  | 42 => ⟨S8192x1x1024, .f32⟩
  | 43 => ⟨S_, .i32⟩
  | 44 => ⟨S_, .i1⟩
  | 45 => ⟨S_, .i32⟩
  | 46 => ⟨S_, .i32⟩
  | 47 => ⟨S1x1x1024, .f32⟩
  | 48 => ⟨S1x1024, .f32⟩
  | 49 => ⟨S_, .i32⟩
  | 50 => ⟨S_, .i32⟩
  | 51 => ⟨S1x1x1024, .f32⟩
  | 52 => ⟨S1x1024, .f32⟩
  | 53 => ⟨S1x1024, .f32⟩
  | 54 => ⟨S1x1024, .f32⟩
  | 55 => ⟨S1x1x1024, .f32⟩
  | 56 => ⟨S_, .i32⟩
  | 57 => ⟨S_, .i32⟩
  | 58 => ⟨S8192x1x1024, .f32⟩
  | 59 => ⟨S_, .i32⟩
  | 60 => ⟨S_, .i32⟩
  | 61 => ⟨S1x8192x1024, .f32⟩
  | 62 => ⟨S6x8192x1024, .f32⟩
  | 63 => ⟨S3x1024, .f32⟩
  | 64 => ⟨S4x1024, .f32⟩
  | 65 => ⟨S_, .f32⟩
  | 66 => ⟨S5x1024, .f32⟩
  | 67 => ⟨S16x1024, .f32⟩
  | 68 => ⟨S8192x7168, .f32⟩
  | 69 => ⟨S8192x7168, .bf16⟩
  | 70 => ⟨S8192x1024, .f32⟩
  | 71 => ⟨S8192x1024, .bf16⟩
  | 72 => ⟨S8192x1024, .f32⟩
  | 73 => ⟨S8192x1024, .bf16⟩
  | 74 => ⟨S4x256x256, .f32⟩
  | 75 => ⟨S4x256x256, .bf16⟩
  | 76 => ⟨S4x256x256, .f32⟩
  | 77 => ⟨S4x256x256, .bf16⟩
  | 78 => ⟨S8192x7168, .bf16⟩
  | 79 => ⟨S16x1024, .f32⟩
  | 80 => ⟨S4x256x256, .f32⟩
  | 81 => ⟨S4x256x256, .f32⟩
  | _ => ⟨S1x8192x7168, .f32⟩

abbrev hbmTy (i : Nat) : BufTy := match i / 128 with
  | 0 => hbmTy0_0 i
  | 1 => hbmTy0_1 i
  | _ => ⟨S1x8192x7168, .f32⟩

abbrev bufTy : (tb : Table) → Fin (tcTables nBuf tb) → BufTy
  | .hbm, ⟨i, _⟩ => hbmTy i
  | .local _ .vmem, ⟨0, _⟩ => ⟨S256x7168, .bf16⟩
  | .local _ .vmem, ⟨1, _⟩ => ⟨S256x7168, .bf16⟩
  | .local _ .vmem, ⟨2, _⟩ => ⟨S256x1024, .bf16⟩
  | .local _ .vmem, ⟨3, _⟩ => ⟨S256x1024, .bf16⟩
  | .local _ .vmem, ⟨4, _⟩ => ⟨S8x1024, .bf16⟩
  | .local _ .vmem, ⟨5, _⟩ => ⟨S8x1024, .bf16⟩
  | .local _ .vmem, ⟨6, _⟩ => ⟨S6x256x1024, .f32⟩
  | .local _ .vmem, ⟨7, _⟩ => ⟨S6x256x1024, .f32⟩
  | .local _ .vmem, ⟨8, _⟩ => ⟨S256x1024, .bf16⟩
  | .local _ .vmem, ⟨9, _⟩ => ⟨S256x1024, .bf16⟩
  | .local _ .vmem, ⟨10, _⟩ => ⟨S16x1024, .f32⟩
  | .local _ .vmem, ⟨11, _⟩ => ⟨S4x256x256, .bf16⟩
  | .local _ .vmem, ⟨12, _⟩ => ⟨S4x256x256, .bf16⟩
  | .local _ .vmem, ⟨13, _⟩ => ⟨S256x7168, .bf16⟩
  | .local _ .vmem, ⟨14, _⟩ => ⟨S256x7168, .bf16⟩
  | .local _ .vmem, ⟨15, _⟩ => ⟨S16x1024, .f32⟩
  | .local _ .vmem, ⟨16, _⟩ => ⟨S4x256x256, .f32⟩
  | .local _ .vmem, ⟨17, _⟩ => ⟨S4x256x256, .f32⟩
  | .local _ .vmem, ⟨18, _⟩ => ⟨S264x1024, .f32⟩
  | .local _ .vmem, ⟨19, _⟩ => ⟨S264x1024, .f32⟩
  | .local _ .vmem, ⟨20, _⟩ => ⟨S264x1024, .f32⟩
  | .local _ .vmem, ⟨21, _⟩ => ⟨S256x1024, .f32⟩
  | .local _ .vmem, ⟨22, _⟩ => ⟨S256x1024, .f32⟩
  | .local _ .vmem, ⟨23, _⟩ => ⟨S8x1024, .f32⟩
  | .local _ .vmem, ⟨24, _⟩ => ⟨S8x1024, .f32⟩
  | .local _ .vmem, ⟨25, _⟩ => ⟨S64x1024, .f32⟩
  | _, _ => ⟨S1x8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_3 : Ref sig .tc := ⟨.hbm, 97, rfl⟩
abbrev main_v83 : Ref sig .tc := ⟨.hbm, 98, rfl⟩
abbrev main_v84 : Ref sig .tc := ⟨.hbm, 99, rfl⟩
abbrev main_cst_4 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_5 : Ref sig .tc := ⟨.hbm, 112, rfl⟩
abbrev main_v96 : Ref sig .tc := ⟨.hbm, 113, rfl⟩
abbrev main_v97 : Ref sig .tc := ⟨.hbm, 114, rfl⟩
abbrev main_cst_6 : Ref sig .tc := ⟨.hbm, 115, rfl⟩
abbrev main_v98 : Ref sig .tc := ⟨.hbm, 116, rfl⟩
abbrev main_v99 : Ref sig .tc := ⟨.hbm, 117, rfl⟩
abbrev main_cst_7 : Ref sig .tc := ⟨.hbm, 118, rfl⟩
abbrev main_v100 : Ref sig .tc := ⟨.hbm, 119, rfl⟩
abbrev main_v101 : Ref sig .tc := ⟨.hbm, 120, rfl⟩
abbrev main_call0_v0 : Ref sig .tc := ⟨.hbm, 121, rfl⟩
abbrev main_call0_call0_cst : Ref sig .tc := ⟨.hbm, 122, rfl⟩
abbrev main_call0_call0_v0 : Ref sig .tc := ⟨.hbm, 123, rfl⟩
abbrev main_call0_call0_v1 : Ref sig .tc := ⟨.hbm, 124, rfl⟩
abbrev main_call0_call0_v2 : Ref sig .tc := ⟨.hbm, 125, rfl⟩
abbrev main_call0_call0_v3 : Ref sig .tc := ⟨.hbm, 126, rfl⟩
abbrev main_call0_call0_v4 : Ref sig .tc := ⟨.hbm, 127, rfl⟩
abbrev main_call0_call0_v5 : Ref sig .tc := ⟨.hbm, 128, rfl⟩
abbrev main_call0_call0_v6 : Ref sig .tc := ⟨.hbm, 129, rfl⟩
abbrev main_call0_call0_v7 : Ref sig .tc := ⟨.hbm, 130, rfl⟩
abbrev main_call0_call0_v8 : Ref sig .tc := ⟨.hbm, 131, rfl⟩
abbrev main_call0_call0_v9 : Ref sig .tc := ⟨.hbm, 132, rfl⟩
abbrev main_call0_call0_v10 : Ref sig .tc := ⟨.hbm, 133, rfl⟩
abbrev main_call0_call0_v11 : Ref sig .tc := ⟨.hbm, 134, rfl⟩
abbrev main_call0_v1 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_8 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_9 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c : Ref sig .tc := ⟨.hbm, 150, rfl⟩
abbrev main_v114 : Ref sig .tc := ⟨.hbm, 151, rfl⟩
abbrev main_cst_10 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_11 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_12 : Ref sig .tc := ⟨.hbm, 163, rfl⟩
abbrev main_v124 : Ref sig .tc := ⟨.hbm, 164, rfl⟩
abbrev main_c_13 : Ref sig .tc := ⟨.hbm, 165, rfl⟩
abbrev main_v125_0 : Ref sig .tc := ⟨.hbm, 166, rfl⟩
abbrev main_v125_1 : Ref sig .tc := ⟨.hbm, 167, rfl⟩
abbrev main_v125_2 : Ref sig .tc := ⟨.hbm, 168, rfl⟩
abbrev main_v125_3 : Ref sig .tc := ⟨.hbm, 169, rfl⟩
abbrev main_v125_4 : Ref sig .tc := ⟨.hbm, 170, rfl⟩
abbrev main_while0c_c_19 : Ref sig .tc := ⟨.hbm, 171, rfl⟩
abbrev main_while0c_v143 : Ref sig .tc := ⟨.hbm, 172, rfl⟩
abbrev main_while0b_call1_c : Ref sig .tc := ⟨.hbm, 173, rfl⟩
abbrev main_while0b_call1_c_0 : Ref sig .tc := ⟨.hbm, 174, rfl⟩
abbrev main_while0b_call1_v0 : Ref sig .tc := ⟨.hbm, 175, rfl⟩
abbrev main_while0b_v143 : Ref sig .tc := ⟨.hbm, 176, rfl⟩
abbrev main_while0b_call2_c : Ref sig .tc := ⟨.hbm, 177, rfl⟩
abbrev main_while0b_call2_c_0 : Ref sig .tc := ⟨.hbm, 178, rfl⟩
abbrev main_while0b_call2_v0 : Ref sig .tc := ⟨.hbm, 179, rfl⟩
abbrev main_while0b_v144 : Ref sig .tc := ⟨.hbm, 180, rfl⟩
abbrev main_while0b_v145 : Ref sig .tc := ⟨.hbm, 181, rfl⟩
abbrev main_while0b_v146 : Ref sig .tc := ⟨.hbm, 182, rfl⟩
abbrev main_while0b_call3_v0 : Ref sig .tc := ⟨.hbm, 183, rfl⟩
abbrev main_while0b_call3_c : Ref sig .tc := ⟨.hbm, 184, rfl⟩
abbrev main_while0b_call3_c_0 : Ref sig .tc := ⟨.hbm, 185, rfl⟩
abbrev main_while0b_v147 : Ref sig .tc := ⟨.hbm, 186, rfl⟩
abbrev main_while0b_c_19 : Ref sig .tc := ⟨.hbm, 187, rfl⟩
abbrev main_while0b_v148 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_14 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142_0 : Ref sig .tc := ⟨.hbm, 206, rfl⟩
abbrev main_v142_1 : Ref sig .tc := ⟨.hbm, 207, rfl⟩
abbrev main_v142_2 : Ref sig .tc := ⟨.hbm, 208, rfl⟩
abbrev main_v142_3 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev main_while0_count : Scf.Loop 32 := ⟨0#32, 8192#32, 1#32⟩

abbrev grid0 : Pipeline.Grid := ⟨1, ![32], ![false]⟩

@[reducible] def k0_t1_loop : Scf.Loop 32 :=
  let c0_i32_17 : BitVec 32 := 0#32
  let c16_i32 : BitVec 32 := 16#32
  let v49 : BitVec 32 := Scalar.addi c0_i32_17 c16_i32
  let c1_i32 : BitVec 32 := 1#32
  ⟨c0_i32_17, v49, c1_i32⟩
def k0_mult1 (k0_t1 : Fin k0_t1_loop.trips) : BitVec 32 :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  v273
def k0_off1 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v276 : Index := Scalar.indexCast v274
  let c0_202 : Index := 0#32
  ![v276.toNat, 0]
def k0_off2 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v280 : Index := Scalar.indexCast v274
  let c0_203 : Index := 0#32
  ![v280.toNat, 0]
def k0_off3 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v284 : Index := Scalar.indexCast v274
  let c4096 : Index := 4096#32
  ![v284.toNat, 4096]
def k0_off4 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v288 : Index := Scalar.indexCast v274
  let c5120 : Index := 5120#32
  ![v288.toNat, 5120]
def k0_off5 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v299 : Index := Scalar.indexCast v274
  let c6144 : Index := 6144#32
  ![v299.toNat, 6144]
def k0_off6 (k0_t1 : Fin k0_t1_loop.trips) : Fin 3 → Nat :=
  let c1_210 : Index := 1#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v310 : Index := Scalar.indexCast v274
  let c0_211 : Index := 0#32
  ![1, v310.toNat, 0]
def k0_off7 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let c8_i32 : BitVec 32 := 8#32
  let v313 : BitVec 32 := Scalar.addi v274 c8_i32
  let v314 : Index := Scalar.indexCast v313
  let c0_212 : Index := 0#32
  ![v314.toNat, 0]
def k0_off8 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v378 : Index := Scalar.indexCast v274
  let c0_230 : Index := 0#32
  ![v378.toNat, 0]
def k0_off9 (k0_t1 : Fin k0_t1_loop.trips) (c8_i32_238 : BitVec 32) : Fin 3 → Nat :=
  let c0_240 : Index := 0#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v395 : Index := Scalar.indexCast v388
  let c0_241 : Index := 0#32
  ![0, v395.toNat, 0]
def k0_off10 (k0_t1 : Fin k0_t1_loop.trips) (c8_i32_238 : BitVec 32) : Fin 3 → Nat :=
  let c2_242 : Index := 2#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v398 : Index := Scalar.indexCast v388
  let c0_243 : Index := 0#32
  ![2, v398.toNat, 0]
def k0_off11 (k0_t1 : Fin k0_t1_loop.trips) (c8_i32_238 : BitVec 32) : Fin 3 → Nat :=
  let c3_244 : Index := 3#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v401 : Index := Scalar.indexCast v388
  let c0_245 : Index := 0#32
  ![3, v401.toNat, 0]
def k0_off12 (k0_t1 : Fin k0_t1_loop.trips) (c8_i32_238 : BitVec 32) : Fin 3 → Nat :=
  let c4_246 : Index := 4#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v404 : Index := Scalar.indexCast v388
  let c0_247 : Index := 0#32
  ![4, v404.toNat, 0]
def k0_off13 (k0_t1 : Fin k0_t1_loop.trips) (c8_i32_238 : BitVec 32) : Fin 3 → Nat :=
  let c5_248 : Index := 5#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v407 : Index := Scalar.indexCast v388
  let c0_249 : Index := 0#32
  ![5, v407.toNat, 0]
def k0_off14 (k0_t1 : Fin k0_t1_loop.trips) (c8_i32_238 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let c8_i32_268 : BitVec 32 := 8#32
  let v464 : BitVec 32 := Scalar.addi v388 c8_i32_268
  let v465 : Index := Scalar.indexCast v464
  let c0_269 : Index := 0#32
  ![v465.toNat, 0]
def k0_off15 (k0_t1 : Fin k0_t1_loop.trips) (c8_i32_238 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v468 : Index := Scalar.indexCast v388
  let c0_271 : Index := 0#32
  ![v468.toNat, 0]
def k0_off16 (k0_t1 : Fin k0_t1_loop.trips) (c8_i32_238 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v388 : BitVec 32 := Scalar.addi v274 c8_i32_238
  let v508 : Index := Scalar.indexCast v388
  let c0_281 : Index := 0#32
  ![v508.toNat, 0]
def k0_off17 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v681 : Index := Scalar.indexCast v274
  let c256_352 : Index := 256#32
  ![v681.toNat, 256]
def k0_off18 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v685 : Index := Scalar.indexCast v274
  let c256_353 : Index := 256#32
  ![v685.toNat, 256]
def k0_off19 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v689 : Index := Scalar.indexCast v274
  let c4352 : Index := 4352#32
  ![v689.toNat, 4352]
def k0_off20 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v693 : Index := Scalar.indexCast v274
  let c5376 : Index := 5376#32
  ![v693.toNat, 5376]
def k0_off21 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v704 : Index := Scalar.indexCast v274
  let c6400 : Index := 6400#32
  ![v704.toNat, 6400]
def k0_off22 (k0_t1 : Fin k0_t1_loop.trips) : Fin 3 → Nat :=
  let c1_360 : Index := 1#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v715 : Index := Scalar.indexCast v274
  let c256_361 : Index := 256#32
  ![1, v715.toNat, 256]
def k0_off23 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let c8_i32_362 : BitVec 32 := 8#32
  let v718 : BitVec 32 := Scalar.addi v274 c8_i32_362
  let v719 : Index := Scalar.indexCast v718
  let c256_363 : Index := 256#32
  ![v719.toNat, 256]
def k0_off24 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v783 : Index := Scalar.indexCast v274
  let c256_381 : Index := 256#32
  ![v783.toNat, 256]
def k0_off25 (k0_t1 : Fin k0_t1_loop.trips) (c8_i32_389 : BitVec 32) : Fin 3 → Nat :=
  let c0_392 : Index := 0#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v800 : Index := Scalar.indexCast v793
  let c256_393 : Index := 256#32
  ![0, v800.toNat, 256]
def k0_off26 (k0_t1 : Fin k0_t1_loop.trips) (c8_i32_389 : BitVec 32) : Fin 3 → Nat :=
  let c2_394 : Index := 2#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v803 : Index := Scalar.indexCast v793
  let c256_395 : Index := 256#32
  ![2, v803.toNat, 256]
def k0_off27 (k0_t1 : Fin k0_t1_loop.trips) (c8_i32_389 : BitVec 32) : Fin 3 → Nat :=
  let c3_396 : Index := 3#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v806 : Index := Scalar.indexCast v793
  let c256_397 : Index := 256#32
  ![3, v806.toNat, 256]
def k0_off28 (k0_t1 : Fin k0_t1_loop.trips) (c8_i32_389 : BitVec 32) : Fin 3 → Nat :=
  let c4_398 : Index := 4#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v809 : Index := Scalar.indexCast v793
  let c256_399 : Index := 256#32
  ![4, v809.toNat, 256]
def k0_off29 (k0_t1 : Fin k0_t1_loop.trips) (c8_i32_389 : BitVec 32) : Fin 3 → Nat :=
  let c5_400 : Index := 5#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v812 : Index := Scalar.indexCast v793
  let c256_401 : Index := 256#32
  ![5, v812.toNat, 256]
def k0_off30 (k0_t1 : Fin k0_t1_loop.trips) (c8_i32_389 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let c8_i32_423 : BitVec 32 := 8#32
  let v869 : BitVec 32 := Scalar.addi v793 c8_i32_423
  let v870 : Index := Scalar.indexCast v869
  let c256_424 : Index := 256#32
  ![v870.toNat, 256]
def k0_off31 (k0_t1 : Fin k0_t1_loop.trips) (c8_i32_389 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v873 : Index := Scalar.indexCast v793
  let c256_426 : Index := 256#32
  ![v873.toNat, 256]
def k0_off32 (k0_t1 : Fin k0_t1_loop.trips) (c8_i32_389 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v793 : BitVec 32 := Scalar.addi v274 c8_i32_389
  let v913 : Index := Scalar.indexCast v793
  let c256_436 : Index := 256#32
  ![v913.toNat, 256]
def k0_off33 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1086 : Index := Scalar.indexCast v274
  let c512_508 : Index := 512#32
  ![v1086.toNat, 512]
def k0_off34 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1090 : Index := Scalar.indexCast v274
  let c512_509 : Index := 512#32
  ![v1090.toNat, 512]
def k0_off35 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1094 : Index := Scalar.indexCast v274
  let c4608 : Index := 4608#32
  ![v1094.toNat, 4608]
def k0_off36 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1098 : Index := Scalar.indexCast v274
  let c5632 : Index := 5632#32
  ![v1098.toNat, 5632]
def k0_off37 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1109 : Index := Scalar.indexCast v274
  let c6656 : Index := 6656#32
  ![v1109.toNat, 6656]
def k0_off38 (k0_t1 : Fin k0_t1_loop.trips) : Fin 3 → Nat :=
  let c1_516 : Index := 1#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1120 : Index := Scalar.indexCast v274
  let c512_517 : Index := 512#32
  ![1, v1120.toNat, 512]
def k0_off39 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let c8_i32_518 : BitVec 32 := 8#32
  let v1123 : BitVec 32 := Scalar.addi v274 c8_i32_518
  let v1124 : Index := Scalar.indexCast v1123
  let c512_519 : Index := 512#32
  ![v1124.toNat, 512]
def k0_off40 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1188 : Index := Scalar.indexCast v274
  let c512_537 : Index := 512#32
  ![v1188.toNat, 512]
def k0_off41 (k0_t1 : Fin k0_t1_loop.trips) (c8_i32_545 : BitVec 32) : Fin 3 → Nat :=
  let c0_548 : Index := 0#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1205 : Index := Scalar.indexCast v1198
  let c512_549 : Index := 512#32
  ![0, v1205.toNat, 512]
def k0_off42 (k0_t1 : Fin k0_t1_loop.trips) (c8_i32_545 : BitVec 32) : Fin 3 → Nat :=
  let c2_550 : Index := 2#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1208 : Index := Scalar.indexCast v1198
  let c512_551 : Index := 512#32
  ![2, v1208.toNat, 512]
def k0_off43 (k0_t1 : Fin k0_t1_loop.trips) (c8_i32_545 : BitVec 32) : Fin 3 → Nat :=
  let c3_552 : Index := 3#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1211 : Index := Scalar.indexCast v1198
  let c512_553 : Index := 512#32
  ![3, v1211.toNat, 512]
def k0_off44 (k0_t1 : Fin k0_t1_loop.trips) (c8_i32_545 : BitVec 32) : Fin 3 → Nat :=
  let c4_554 : Index := 4#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1214 : Index := Scalar.indexCast v1198
  let c512_555 : Index := 512#32
  ![4, v1214.toNat, 512]
def k0_off45 (k0_t1 : Fin k0_t1_loop.trips) (c8_i32_545 : BitVec 32) : Fin 3 → Nat :=
  let c5_556 : Index := 5#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1217 : Index := Scalar.indexCast v1198
  let c512_557 : Index := 512#32
  ![5, v1217.toNat, 512]
def k0_off46 (k0_t1 : Fin k0_t1_loop.trips) (c8_i32_545 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let c8_i32_579 : BitVec 32 := 8#32
  let v1274 : BitVec 32 := Scalar.addi v1198 c8_i32_579
  let v1275 : Index := Scalar.indexCast v1274
  let c512_580 : Index := 512#32
  ![v1275.toNat, 512]
def k0_off47 (k0_t1 : Fin k0_t1_loop.trips) (c8_i32_545 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1278 : Index := Scalar.indexCast v1198
  let c512_582 : Index := 512#32
  ![v1278.toNat, 512]
def k0_off48 (k0_t1 : Fin k0_t1_loop.trips) (c8_i32_545 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1198 : BitVec 32 := Scalar.addi v274 c8_i32_545
  let v1318 : Index := Scalar.indexCast v1198
  let c512_592 : Index := 512#32
  ![v1318.toNat, 512]
def k0_off49 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1491 : Index := Scalar.indexCast v274
  let c768_664 : Index := 768#32
  ![v1491.toNat, 768]
def k0_off50 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1495 : Index := Scalar.indexCast v274
  let c768_665 : Index := 768#32
  ![v1495.toNat, 768]
def k0_off51 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1499 : Index := Scalar.indexCast v274
  let c4864 : Index := 4864#32
  ![v1499.toNat, 4864]
def k0_off52 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1503 : Index := Scalar.indexCast v274
  let c5888 : Index := 5888#32
  ![v1503.toNat, 5888]
def k0_off53 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1514 : Index := Scalar.indexCast v274
  let c6912 : Index := 6912#32
  ![v1514.toNat, 6912]
def k0_off54 (k0_t1 : Fin k0_t1_loop.trips) : Fin 3 → Nat :=
  let c1_672 : Index := 1#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1525 : Index := Scalar.indexCast v274
  let c768_673 : Index := 768#32
  ![1, v1525.toNat, 768]
def k0_off55 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let c8_i32_674 : BitVec 32 := 8#32
  let v1528 : BitVec 32 := Scalar.addi v274 c8_i32_674
  let v1529 : Index := Scalar.indexCast v1528
  let c768_675 : Index := 768#32
  ![v1529.toNat, 768]
def k0_off56 (k0_t1 : Fin k0_t1_loop.trips) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1593 : Index := Scalar.indexCast v274
  let c768_693 : Index := 768#32
  ![v1593.toNat, 768]
def k0_off57 (k0_t1 : Fin k0_t1_loop.trips) (c8_i32_701 : BitVec 32) : Fin 3 → Nat :=
  let c0_704 : Index := 0#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1610 : Index := Scalar.indexCast v1603
  let c768_705 : Index := 768#32
  ![0, v1610.toNat, 768]
def k0_off58 (k0_t1 : Fin k0_t1_loop.trips) (c8_i32_701 : BitVec 32) : Fin 3 → Nat :=
  let c2_706 : Index := 2#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1613 : Index := Scalar.indexCast v1603
  let c768_707 : Index := 768#32
  ![2, v1613.toNat, 768]
def k0_off59 (k0_t1 : Fin k0_t1_loop.trips) (c8_i32_701 : BitVec 32) : Fin 3 → Nat :=
  let c3_708 : Index := 3#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1616 : Index := Scalar.indexCast v1603
  let c768_709 : Index := 768#32
  ![3, v1616.toNat, 768]
def k0_off60 (k0_t1 : Fin k0_t1_loop.trips) (c8_i32_701 : BitVec 32) : Fin 3 → Nat :=
  let c4_710 : Index := 4#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1619 : Index := Scalar.indexCast v1603
  let c768_711 : Index := 768#32
  ![4, v1619.toNat, 768]
def k0_off61 (k0_t1 : Fin k0_t1_loop.trips) (c8_i32_701 : BitVec 32) : Fin 3 → Nat :=
  let c5_712 : Index := 5#32
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1622 : Index := Scalar.indexCast v1603
  let c768_713 : Index := 768#32
  ![5, v1622.toNat, 768]
def k0_off62 (k0_t1 : Fin k0_t1_loop.trips) (c8_i32_701 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let c8_i32_735 : BitVec 32 := 8#32
  let v1679 : BitVec 32 := Scalar.addi v1603 c8_i32_735
  let v1680 : Index := Scalar.indexCast v1679
  let c768_736 : Index := 768#32
  ![v1680.toNat, 768]
def k0_off63 (k0_t1 : Fin k0_t1_loop.trips) (c8_i32_701 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1683 : Index := Scalar.indexCast v1603
  let c768_738 : Index := 768#32
  ![v1683.toNat, 768]
def k0_off64 (k0_t1 : Fin k0_t1_loop.trips) (c8_i32_701 : BitVec 32) : Fin 2 → Nat :=
  let c15_i32 : BitVec 32 := 15#32
  let c0_i32_17 : BitVec 32 := 0#32
  let c1_i32 : BitVec 32 := 1#32
  let arg21 : BitVec 32 := Scf.iv c0_i32_17 c1_i32 k0_t1
  let v272 : BitVec 32 := Scalar.subi c15_i32 arg21
  let c16_i32_201 : BitVec 32 := 16#32
  let v273 : BitVec 32 := Scalar.muli v272 c16_i32_201
  let v274 : BitVec 32 := v273
  let v1603 : BitVec 32 := Scalar.addi v274 c8_i32_701
  let v1723 : Index := Scalar.indexCast v1603
  let c768_748 : Index := 768#32
  ![v1723.toNat, 768]
@[reducible] def k0_t2_loop : Scf.Loop 32 :=
  let c0_i32_138 : BitVec 32 := 0#32
  let c16_i32_139 : BitVec 32 := 16#32
  let v204 : BitVec 32 := Scalar.addi c0_i32_138 c16_i32_139
  let c1_i32_140 : BitVec 32 := 1#32
  ⟨c0_i32_138, v204, c1_i32_140⟩
def k0_mult2 (k0_t2 : Fin k0_t2_loop.trips) : BitVec 32 :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  v272
def k0_off65 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v274 : Index := Scalar.indexCast v273
  let c0_202 : Index := 0#32
  ![v274.toNat, 0]
def k0_off66 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let c16_i32_203 : BitVec 32 := 16#32
  let v276 : BitVec 32 := Scalar.addi v273 c16_i32_203
  let v277 : Index := Scalar.indexCast v276
  let c0_204 : Index := 0#32
  ![v277.toNat, 0]
def k0_off67 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v284 : Index := Scalar.indexCast v273
  let c1024 : Index := 1024#32
  ![v284.toNat, 1024]
def k0_off68 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v288 : Index := Scalar.indexCast v273
  let c2048 : Index := 2048#32
  ![v288.toNat, 2048]
def k0_off69 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v292 : Index := Scalar.indexCast v273
  let c3072 : Index := 3072#32
  ![v292.toNat, 3072]
def k0_off70 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v484 : Index := Scalar.indexCast v273
  let c256_270 : Index := 256#32
  ![v484.toNat, 256]
def k0_off71 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let c16_i32_271 : BitVec 32 := 16#32
  let v486 : BitVec 32 := Scalar.addi v273 c16_i32_271
  let v487 : Index := Scalar.indexCast v486
  let c256_272 : Index := 256#32
  ![v487.toNat, 256]
def k0_off72 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v494 : Index := Scalar.indexCast v273
  let c1280 : Index := 1280#32
  ![v494.toNat, 1280]
def k0_off73 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v498 : Index := Scalar.indexCast v273
  let c2304 : Index := 2304#32
  ![v498.toNat, 2304]
def k0_off74 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v502 : Index := Scalar.indexCast v273
  let c3328 : Index := 3328#32
  ![v502.toNat, 3328]
def k0_off75 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v694 : Index := Scalar.indexCast v273
  let c512_341 : Index := 512#32
  ![v694.toNat, 512]
def k0_off76 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let c16_i32_342 : BitVec 32 := 16#32
  let v696 : BitVec 32 := Scalar.addi v273 c16_i32_342
  let v697 : Index := Scalar.indexCast v696
  let c512_343 : Index := 512#32
  ![v697.toNat, 512]
def k0_off77 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v704 : Index := Scalar.indexCast v273
  let c1536 : Index := 1536#32
  ![v704.toNat, 1536]
def k0_off78 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v708 : Index := Scalar.indexCast v273
  let c2560 : Index := 2560#32
  ![v708.toNat, 2560]
def k0_off79 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v712 : Index := Scalar.indexCast v273
  let c3584 : Index := 3584#32
  ![v712.toNat, 3584]
def k0_off80 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v904 : Index := Scalar.indexCast v273
  let c768_412 : Index := 768#32
  ![v904.toNat, 768]
def k0_off81 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let c16_i32_413 : BitVec 32 := 16#32
  let v906 : BitVec 32 := Scalar.addi v273 c16_i32_413
  let v907 : Index := Scalar.indexCast v906
  let c768_414 : Index := 768#32
  ![v907.toNat, 768]
def k0_off82 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v914 : Index := Scalar.indexCast v273
  let c1792 : Index := 1792#32
  ![v914.toNat, 1792]
def k0_off83 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v918 : Index := Scalar.indexCast v273
  let c2816 : Index := 2816#32
  ![v918.toNat, 2816]
def k0_off84 (k0_t2 : Fin k0_t2_loop.trips) : Fin 2 → Nat :=
  let c0_i32_138 : BitVec 32 := 0#32
  let c1_i32_140 : BitVec 32 := 1#32
  let arg21 : BitVec 32 := Scf.iv c0_i32_138 c1_i32_140 k0_t2
  let c16_i32_201 : BitVec 32 := 16#32
  let v272 : BitVec 32 := Scalar.muli arg21 c16_i32_201
  let v273 : BitVec 32 := v272
  let v922 : Index := Scalar.indexCast v273
  let c3840 : Index := 3840#32
  ![v922.toNat, 3840]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixerBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixerRefIdeal.lean ====
abbrev S1x8192x7168 : Shape := ⟨3, ![1, 8192, 7168]⟩
abbrev S1x3x1024 : Shape := ⟨3, ![1, 3, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S1x8192x1024 : Shape := ⟨3, ![1, 8192, 1024]⟩
abbrev S3x1024 : Shape := ⟨2, ![3, 1024]⟩
abbrev S_ : Shape := ⟨0, ![]⟩
abbrev S1x2x1024 : Shape := ⟨3, ![1, 2, 1024]⟩
abbrev S1x8194x1024 : Shape := ⟨3, ![1, 8194, 1024]⟩
abbrev S1024 : Shape := ⟨1, ![1024]⟩
abbrev S1x1x1024 : Shape := ⟨3, ![1, 1, 1024]⟩
abbrev S4x1024 : Shape := ⟨2, ![4, 1024]⟩
abbrev S1x8195x1024 : Shape := ⟨3, ![1, 8195, 1024]⟩
abbrev S4x256x256 : Shape := ⟨3, ![4, 256, 256]⟩
abbrev S1x8192x4x256 : Shape := ⟨4, ![1, 8192, 4, 256]⟩
abbrev S4x256x1x8192 : Shape := ⟨4, ![4, 256, 1, 8192]⟩
abbrev S1 : Shape := ⟨1, ![1]⟩
abbrev S8192x1x1024 : Shape := ⟨3, ![8192, 1, 1024]⟩
abbrev S4x1x8192x256 : Shape := ⟨4, ![4, 1, 8192, 256]⟩
abbrev S8192x7168 : Shape := ⟨2, ![8192, 7168]⟩
abbrev S5x1024 : Shape := ⟨2, ![5, 1024]⟩
abbrev S16x1024 : Shape := ⟨2, ![16, 1024]⟩

abbrev nBuf : Space → Nat
  | .hbm => 583
  | .vmem => 0
  | .smem => 0
  | _ => 0

abbrev hbmTy0_0 (i : Nat) : BufTy := match i % 128 with
  | 0 => ⟨S1x8192x7168, .f32⟩
  | 1 => ⟨S1x3x1024, .f32⟩
  | 2 => ⟨S1x4x1024, .f32⟩
  | 3 => ⟨S1x1024, .f32⟩
  | 4 => ⟨S1x4x256x256, .f32⟩
  | 5 => ⟨S1x1024, .f32⟩
  | 6 => ⟨S1x4x256x256, .f32⟩
  | 7 => ⟨S1x1024, .f32⟩
  | 8 => ⟨S1x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x8192x1024, .f32⟩
  | 16 => ⟨S1x8192x1024, .f32⟩
  | 17 => ⟨S1x8192x1024, .f32⟩
  | 18 => ⟨S3x1024, .f32⟩
  | 19 => ⟨S_, .f32⟩
  | 20 => ⟨S1x2x1024, .f32⟩
  | 21 => ⟨S1x8194x1024, .f32⟩
  | 22 => ⟨S_, .f32⟩
  | 23 => ⟨S1x2x1024, .f32⟩
  | 24 => ⟨S1x1024, .f32⟩
  | 25 => ⟨S1024, .f32⟩
  | 26 => ⟨S1x8192x1024, .f32⟩
  | 27 => ⟨S1x1x1024, .f32⟩
  | 28 => ⟨S1x8192x1024, .f32⟩
  | 29 => ⟨S1x8192x1024, .f32⟩
  | 30 => ⟨S_, .f32⟩
  | 31 => ⟨S1x8192x1024, .f32⟩
  | 32 => ⟨S1x8192x1024, .f32⟩
  | 33 => ⟨S1x1024, .f32⟩
  | 34 => ⟨S1024, .f32⟩
  | 35 => ⟨S1x8192x1024, .f32⟩
  | 36 => ⟨S1x1x1024, .f32⟩
  | 37 => ⟨S1x8192x1024, .f32⟩
  | 38 => ⟨S1x8192x1024, .f32⟩
  | 39 => ⟨S1x8192x1024, .f32⟩
  | 40 => ⟨S1x1024, .f32⟩
  | 41 => ⟨S1024, .f32⟩
  | 42 => ⟨S1x8192x1024, .f32⟩
  | 43 => ⟨S1x1x1024, .f32⟩
  | 44 => ⟨S1x8192x1024, .f32⟩
  | 45 => ⟨S1x8192x1024, .f32⟩
  | 46 => ⟨S1x8192x1024, .f32⟩
  | 47 => ⟨S1x8192x1024, .f32⟩
  | 48 => ⟨S4x1024, .f32⟩
  | 49 => ⟨S_, .f32⟩
  | 50 => ⟨S1x3x1024, .f32⟩
  | 51 => ⟨S1x8195x1024, .f32⟩
  | 52 => ⟨S_, .f32⟩
  | 53 => ⟨S1x3x1024, .f32⟩
  | 54 => ⟨S1x1024, .f32⟩
  | 55 => ⟨S1024, .f32⟩
  | 56 => ⟨S1x8192x1024, .f32⟩
  | 57 => ⟨S1x1x1024, .f32⟩
  | 58 => ⟨S1x8192x1024, .f32⟩
  | 59 => ⟨S1x8192x1024, .f32⟩
  | 60 => ⟨S_, .f32⟩
  | 61 => ⟨S1x8192x1024, .f32⟩
  | 62 => ⟨S1x8192x1024, .f32⟩
  | 63 => ⟨S1x1024, .f32⟩
  | 64 => ⟨S1024, .f32⟩
  | 65 => ⟨S1x8192x1024, .f32⟩
  | 66 => ⟨S1x1x1024, .f32⟩
  | 67 => ⟨S1x8192x1024, .f32⟩
  | 68 => ⟨S1x8192x1024, .f32⟩
  | 69 => ⟨S1x8192x1024, .f32⟩
  | 70 => ⟨S1x1024, .f32⟩
  | 71 => ⟨S1024, .f32⟩
  | 72 => ⟨S1x8192x1024, .f32⟩
  | 73 => ⟨S1x1x1024, .f32⟩
  | 74 => ⟨S1x8192x1024, .f32⟩
  | 75 => ⟨S1x8192x1024, .f32⟩
  | 76 => ⟨S1x8192x1024, .f32⟩
  | 77 => ⟨S1x1024, .f32⟩
  | 78 => ⟨S1024, .f32⟩
  | 79 => ⟨S1x8192x1024, .f32⟩
  | 80 => ⟨S1x1x1024, .f32⟩
  | 81 => ⟨S1x8192x1024, .f32⟩
  | 82 => ⟨S1x8192x1024, .f32⟩
  | 83 => ⟨S1x8192x1024, .f32⟩
  | 84 => ⟨S1024, .f32⟩
  | 85 => ⟨S1x1x1024, .f32⟩
  | 86 => ⟨S1x8192x1024, .f32⟩
  | 87 => ⟨S1x8192x1024, .f32⟩
  | 88 => ⟨S4x256x256, .f32⟩
  | 89 => ⟨S1024, .f32⟩
  | 90 => ⟨S4x256x256, .f32⟩
  | 91 => ⟨S1024, .f32⟩
  | 92 => ⟨S1024, .f32⟩
  | 93 => ⟨S1x8192x4x256, .f32⟩
  | 94 => ⟨S4x256x1x8192, .f32⟩
  | 95 => ⟨S1x8192x4x256, .f32⟩
  | 96 => ⟨S1x8192x1024, .f32⟩
  | 97 => ⟨S1x1x1024, .f32⟩
  | 98 => ⟨S1x8192x1024, .f32⟩
  | 99 => ⟨S1x8192x1024, .f32⟩
  | 100 => ⟨S1x8192x1024, .f32⟩
  | 101 => ⟨S1x8192x1024, .f32⟩
  | 102 => ⟨S_, .f32⟩
  | 103 => ⟨S1x8192x1024, .f32⟩
  | 104 => ⟨S1x8192x1024, .f32⟩
  | 105 => ⟨S_, .f32⟩
  | 106 => ⟨S1x8192x1024, .f32⟩
  | 107 => ⟨S1x8192x1024, .f32⟩
  | 108 => ⟨S_, .f32⟩
  | 109 => ⟨S1x8192x1024, .f32⟩
  | 110 => ⟨S1x8192x1024, .f32⟩
  | 111 => ⟨S1x8192x1024, .f32⟩
  | 112 => ⟨S1x8192x4x256, .f32⟩
  | 113 => ⟨S4x256x1x8192, .f32⟩
  | 114 => ⟨S1x8192x4x256, .f32⟩
  | 115 => ⟨S1x8192x1024, .f32⟩
  | 116 => ⟨S1x1x1024, .f32⟩
  | 117 => ⟨S1x8192x1024, .f32⟩
  | 118 => ⟨S1x8192x1024, .f32⟩
  | 119 => ⟨S1x8192x1024, .f32⟩
  | 120 => ⟨S1x8192x1024, .f32⟩
  | 121 => ⟨S_, .f32⟩
  | 122 => ⟨S1x8192x1024, .f32⟩
  | 123 => ⟨S1x8192x1024, .f32⟩
  | 124 => ⟨S_, .f32⟩
  | 125 => ⟨S1x8192x1024, .f32⟩
  | 126 => ⟨S1x8192x1024, .f32⟩
  | 127 => ⟨S_, .f32⟩
  | _ => ⟨S1x8192x7168, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S_, .f32⟩
  | 4 => ⟨S1x8192x1024, .f32⟩
  | 5 => ⟨S1x8192x1024, .f32⟩
  | 6 => ⟨S1024, .f32⟩
  | 7 => ⟨S_, .f32⟩
  | 8 => ⟨S1024, .f32⟩
  | 9 => ⟨S1024, .f32⟩
  | 10 => ⟨S1024, .f32⟩
  | 11 => ⟨S1024, .f32⟩
  | 12 => ⟨S1024, .i1⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .i1⟩
  | 24 => ⟨S_, .f32⟩
  | 25 => ⟨S1024, .f32⟩
  | 26 => ⟨S1024, .f32⟩
  | 27 => ⟨S_, .f32⟩
  | 28 => ⟨S1024, .f32⟩
  | 29 => ⟨S1024, .i1⟩
  | 30 => ⟨S_, .f32⟩
  | 31 => ⟨S1024, .f32⟩
  | 32 => ⟨S1024, .f32⟩
  | 33 => ⟨S1024, .f32⟩
  | 34 => ⟨S1024, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S_, .f32⟩
  | 42 => ⟨S1024, .f32⟩
  | 43 => ⟨S1024, .i1⟩
  | 44 => ⟨S_, .f32⟩
  | 45 => ⟨S1024, .f32⟩
  | 46 => ⟨S1024, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S1x1x1024, .f32⟩
  | 55 => ⟨S1x8192x1024, .f32⟩
  | 56 => ⟨S1x8192x1024, .f32⟩
  | 57 => ⟨S1x8192x1024, .f32⟩
  | 58 => ⟨S_, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S_, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .i1⟩
  | 70 => ⟨S_, .f32⟩
  | 71 => ⟨S1x8192x1024, .f32⟩
  | 72 => ⟨S1x8192x1024, .i1⟩
  | 73 => ⟨S_, .f32⟩
  | 74 => ⟨S1x8192x1024, .f32⟩
  | 75 => ⟨S_, .f32⟩
  | 76 => ⟨S1x8192x1024, .f32⟩
  | 77 => ⟨S_, .f32⟩
  | 78 => ⟨S1x8192x1024, .f32⟩
  | 79 => ⟨S1x8192x1024, .f32⟩
  | 80 => ⟨S1x8192x1024, .f32⟩
  | 81 => ⟨S1x8192x1024, .f32⟩
  | 82 => ⟨S_, .f32⟩
  | 83 => ⟨S1x8192x1024, .f32⟩
  | 84 => ⟨S1x8192x1024, .f32⟩
  | 85 => ⟨S_, .i32⟩
  | 86 => ⟨S1, .i32⟩
  | 87 => ⟨S_, .f32⟩
  | 88 => ⟨S1x1024, .f32⟩
  | 89 => ⟨S_, .f32⟩
  | 90 => ⟨S1x1024, .f32⟩
  | 91 => ⟨S1x8192x1024, .f32⟩
  | 92 => ⟨S1x8192x1024, .f32⟩
  | 93 => ⟨S1x8192x1024, .f32⟩
  | 94 => ⟨S1x1x1024, .f32⟩
  | 95 => ⟨S1x1024, .f32⟩
  | 96 => ⟨S_, .f32⟩
  | 97 => ⟨S1x1024, .f32⟩
  | 98 => ⟨S8192x1x1024, .f32⟩
  | 99 => ⟨S8192x1x1024, .f32⟩
  | 100 => ⟨S_, .f32⟩
  | 101 => ⟨S8192x1x1024, .f32⟩
  | 102 => ⟨S_, .f32⟩
  | 103 => ⟨S8192x1x1024, .f32⟩
  | 104 => ⟨S_, .i32⟩
  | 105 => ⟨S8192x1x1024, .f32⟩
  | 106 => ⟨S8192x1x1024, .f32⟩
  | 107 => ⟨S_, .i32⟩
  | 108 => ⟨S1x1024, .f32⟩
  | 109 => ⟨S8192x1x1024, .f32⟩
  | 110 => ⟨S8192x1x1024, .f32⟩
  | 111 => ⟨S_, .i32⟩
  | 112 => ⟨S_, .i1⟩
  | 113 => ⟨S_, .i32⟩
  | 114 => ⟨S_, .i32⟩
  | 115 => ⟨S1x1x1024, .f32⟩
  | 116 => ⟨S1x1024, .f32⟩
  | 117 => ⟨S_, .i32⟩
  | 118 => ⟨S_, .i32⟩
  | 119 => ⟨S1x1x1024, .f32⟩
  | 120 => ⟨S1x1024, .f32⟩
  | 121 => ⟨S1x1024, .f32⟩
  | 122 => ⟨S1x1024, .f32⟩
  | 123 => ⟨S1x1x1024, .f32⟩
  | 124 => ⟨S_, .i32⟩
  | 125 => ⟨S_, .i32⟩
  | 126 => ⟨S8192x1x1024, .f32⟩
  | 127 => ⟨S1x1x1024, .f32⟩
  | _ => ⟨S1x8192x7168, .f32⟩

abbrev hbmTy0_2 (i : Nat) : BufTy := match i % 128 with
  | 0 => ⟨S_, .i32⟩
  | 1 => ⟨S_, .i32⟩
  | 2 => ⟨S8192x1x1024, .f32⟩
  | 3 => ⟨S_, .i32⟩
  | 4 => ⟨S_, .i32⟩
  | 5 => ⟨S1x8192x1024, .f32⟩
  | 6 => ⟨S1x8192x1024, .f32⟩
  | 7 => ⟨S1x8192x1024, .f32⟩
  | 8 => ⟨S1x8192x1024, .f32⟩
  | 9 => ⟨S_, .f32⟩
  | 10 => ⟨S1x8192x1024, .f32⟩
  | 11 => ⟨S1x8192x1024, .f32⟩
  | 12 => ⟨S_, .f32⟩
  | 13 => ⟨S1x8192x1024, .f32⟩
  | 14 => ⟨S1x8192x1024, .f32⟩
  | 15 => ⟨S1x8192x1024, .f32⟩
  | 16 => ⟨S_, .f32⟩
  | 17 => ⟨S1x8192x1024, .f32⟩
  | 18 => ⟨S1x8192x1024, .f32⟩
  | 19 => ⟨S1x8192x1024, .f32⟩
  | 20 => ⟨S_, .f32⟩
  | 21 => ⟨S1x8192x1024, .f32⟩
  | 22 => ⟨S1x8192x1024, .f32⟩
  | 23 => ⟨S_, .f32⟩
  | 24 => ⟨S1x8192x1024, .f32⟩
  | 25 => ⟨S1x8192x1024, .f32⟩
  | 26 => ⟨S1x8192x1024, .f32⟩
  | 27 => ⟨S_, .f32⟩
  | 28 => ⟨S1x8192x1024, .f32⟩
  | 29 => ⟨S1x8192x1024, .f32⟩
  | 30 => ⟨S_, .f32⟩
  | 31 => ⟨S1x8192x1024, .f32⟩
  | 32 => ⟨S1x8192x1024, .f32⟩
  | 33 => ⟨S1x8192x1024, .f32⟩
  | 34 => ⟨S1x8192x1024, .f32⟩
  | 35 => ⟨S1x8192x1024, .f32⟩
  | 36 => ⟨S1x8192x1024, .f32⟩
  | 37 => ⟨S_, .f32⟩
  | 38 => ⟨S1x8192x1024, .f32⟩
  | 39 => ⟨S1x8192x1024, .f32⟩
  | 40 => ⟨S_, .f32⟩
  | 41 => ⟨S1x8192x1024, .f32⟩
  | 42 => ⟨S1x8192x1024, .f32⟩
  | 43 => ⟨S_, .f32⟩
  | 44 => ⟨S1x8192x1024, .f32⟩
  | 45 => ⟨S1x8192x1024, .f32⟩
  | 46 => ⟨S1x8192x1024, .f32⟩
  | 47 => ⟨S1x8192x1024, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S_, .f32⟩
  | 54 => ⟨S1x8192x1024, .f32⟩
  | 55 => ⟨S1x8192x1024, .f32⟩
  | 56 => ⟨S_, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S_, .f32⟩
  | 63 => ⟨S1x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S_, .f32⟩
  | 77 => ⟨S1x8192x1024, .f32⟩
  | 78 => ⟨S1x8192x1024, .f32⟩
  | 79 => ⟨S1x8192x1024, .f32⟩
  | 80 => ⟨S_, .f32⟩
  | 81 => ⟨S1x8192x1024, .f32⟩
  | 82 => ⟨S1x8192x1024, .f32⟩
  | 83 => ⟨S1x8192x1024, .f32⟩
  | 84 => ⟨S_, .f32⟩
  | 85 => ⟨S1x8192x1024, .f32⟩
  | 86 => ⟨S1x8192x1024, .f32⟩
  | 87 => ⟨S1x8192x1024, .f32⟩
  | 88 => ⟨S1x8192x1024, .f32⟩
  | 89 => ⟨S8192x1x1024, .f32⟩
  | 90 => ⟨S_, .f32⟩
  | 91 => ⟨S1x1024, .f32⟩
  | 92 => ⟨S_, .f32⟩
  | 93 => ⟨S8192x1x1024, .f32⟩
  | 94 => ⟨S_, .f32⟩
  | 95 => ⟨S8192x1x1024, .f32⟩
  | 96 => ⟨S_, .i32⟩
  | 97 => ⟨S8192x1x1024, .f32⟩
  | 98 => ⟨S8192x1x1024, .f32⟩
  | 99 => ⟨S8192x1x1024, .f32⟩
  | 100 => ⟨S_, .i32⟩
  | 101 => ⟨S1x1024, .f32⟩
  | 102 => ⟨S8192x1x1024, .f32⟩
  | 103 => ⟨S8192x1x1024, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S1x1x1024, .f32⟩
  | 113 => ⟨S1x1024, .f32⟩
  | 114 => ⟨S_, .i32⟩
  | 115 => ⟨S_, .i32⟩
  | 116 => ⟨S1x1x1024, .f32⟩
  | 117 => ⟨S1x1024, .f32⟩
  | 118 => ⟨S_, .i32⟩
  | 119 => ⟨S_, .i32⟩
  | 120 => ⟨S1x1x1024, .f32⟩
  | 121 => ⟨S1x1024, .f32⟩
  | 122 => ⟨S1x1024, .f32⟩
  | 123 => ⟨S1x1024, .f32⟩
  | 124 => ⟨S1x1024, .f32⟩
  | 125 => ⟨S1x1x1024, .f32⟩
  | 126 => ⟨S_, .i32⟩
  | 127 => ⟨S_, .i32⟩
  | _ => ⟨S1x8192x7168, .f32⟩

abbrev hbmTy0_3 (i : Nat) : BufTy := match i % 128 with
  | 0 => ⟨S8192x1x1024, .f32⟩
  | 1 => ⟨S1x1x1024, .f32⟩
  | 2 => ⟨S_, .i32⟩
  | 3 => ⟨S_, .i32⟩
  | 4 => ⟨S8192x1x1024, .f32⟩
  | 5 => ⟨S_, .i32⟩
  | 6 => ⟨S_, .i32⟩
  | 7 => ⟨S1x8192x1024, .f32⟩
  | 8 => ⟨S1x8192x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S_, .f32⟩
  | 14 => ⟨S1x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S_, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S_, .f32⟩
  | 27 => ⟨S1x1024, .f32⟩
  | 28 => ⟨S1x1x1024, .f32⟩
  | 29 => ⟨S1x8192x1024, .f32⟩
  | 30 => ⟨S1x8192x1024, .f32⟩
  | 31 => ⟨S_, .f32⟩
  | 32 => ⟨S1024, .f32⟩
  | 33 => ⟨S1024, .f32⟩
  | 34 => ⟨S1024, .f32⟩
  | 35 => ⟨S1024, .f32⟩
  | 36 => ⟨S_, .f32⟩
  | 37 => ⟨S1x8192x1024, .f32⟩
  | 38 => ⟨S1x8192x1024, .f32⟩
  | 39 => ⟨S1x8192x1024, .f32⟩
  | 40 => ⟨S_, .f32⟩
  | 41 => ⟨S1x1024, .f32⟩
  | 42 => ⟨S1x1x1024, .f32⟩
  | 43 => ⟨S_, .f32⟩
  | 44 => ⟨S1024, .f32⟩
  | 45 => ⟨S1x8192x4x256, .f32⟩
  | 46 => ⟨S4x256x1x8192, .f32⟩
  | 47 => ⟨S4x1x8192x256, .f32⟩
  | 48 => ⟨S1x8192x4x256, .f32⟩
  | 49 => ⟨S4x256x256, .f32⟩
  | 50 => ⟨S4x256x256, .f32⟩
  | 51 => ⟨S1x8192x1024, .f32⟩
  | 52 => ⟨S1x8192x1024, .f32⟩
  | 53 => ⟨S1x8192x1024, .f32⟩
  | 54 => ⟨S_, .f32⟩
  | 55 => ⟨S1x1024, .f32⟩
  | 56 => ⟨S1x1x1024, .f32⟩
  | 57 => ⟨S_, .f32⟩
  | 58 => ⟨S1024, .f32⟩
  | 59 => ⟨S1x8192x4x256, .f32⟩
  | 60 => ⟨S4x256x1x8192, .f32⟩
  | 61 => ⟨S4x1x8192x256, .f32⟩
  | 62 => ⟨S1x8192x4x256, .f32⟩
  | 63 => ⟨S4x256x256, .f32⟩
  | 64 => ⟨S4x256x256, .f32⟩
  | 65 => ⟨S1x8192x1024, .f32⟩
  | 66 => ⟨S1x8192x1024, .f32⟩
  | 67 => ⟨S1x1024, .f32⟩
  | 68 => ⟨S1x1024, .f32⟩
  | 69 => ⟨S1x4x256x256, .f32⟩
  | 70 => ⟨S1x1024, .f32⟩
  | 71 => ⟨S1x4x256x256, .f32⟩
  | 72 => ⟨S_, .f32⟩
  | 73 => ⟨S1x1024, .f32⟩
  | 74 => ⟨S1x1x1024, .f32⟩
  | 75 => ⟨S_, .f32⟩
  | 76 => ⟨S1024, .f32⟩
  | 77 => ⟨S1x1024, .f32⟩
  | 78 => ⟨S1x8192x1024, .f32⟩
  | 79 => ⟨S1x8192x1024, .f32⟩
  | 80 => ⟨S1x8192x1024, .f32⟩
  | 81 => ⟨S_, .f32⟩
  | 82 => ⟨S1x1024, .f32⟩
  | 83 => ⟨S1x1x1024, .f32⟩
  | 84 => ⟨S_, .f32⟩
  | 85 => ⟨S1024, .f32⟩
  | 86 => ⟨S_, .f32⟩
  | 87 => ⟨S1x8195x1024, .f32⟩
  | 88 => ⟨S1x1024, .f32⟩
  | 89 => ⟨S_, .f32⟩
  | 90 => ⟨S4x1024, .f32⟩
  | 91 => ⟨S1x8192x1024, .f32⟩
  | 92 => ⟨S1x8192x1024, .f32⟩
  | 93 => ⟨S1x8192x1024, .f32⟩
  | 94 => ⟨S_, .f32⟩
  | 95 => ⟨S1x1024, .f32⟩
  | 96 => ⟨S1x1x1024, .f32⟩
  | 97 => ⟨S_, .f32⟩
  | 98 => ⟨S1024, .f32⟩
  | 99 => ⟨S_, .f32⟩
  | 100 => ⟨S1x8195x1024, .f32⟩
  | 101 => ⟨S1x8195x1024, .f32⟩
  | 102 => ⟨S1x1024, .f32⟩
  | 103 => ⟨S_, .f32⟩
  | 104 => ⟨S4x1024, .f32⟩
  | 105 => ⟨S4x1024, .f32⟩
  | 106 => ⟨S1x8192x1024, .f32⟩
  | 107 => ⟨S1x8192x1024, .f32⟩
  | 108 => ⟨S1x8192x1024, .f32⟩
  | 109 => ⟨S_, .f32⟩
  | 110 => ⟨S1x1024, .f32⟩
  | 111 => ⟨S1x1x1024, .f32⟩
  | 112 => ⟨S_, .f32⟩
  | 113 => ⟨S1024, .f32⟩
  | 114 => ⟨S_, .f32⟩
  | 115 => ⟨S1x8195x1024, .f32⟩
  | 116 => ⟨S1x8195x1024, .f32⟩
  | 117 => ⟨S1x1024, .f32⟩
  | 118 => ⟨S_, .f32⟩
  | 119 => ⟨S4x1024, .f32⟩
  | 120 => ⟨S4x1024, .f32⟩
  | 121 => ⟨S1x8192x1024, .f32⟩
  | 122 => ⟨S1x8192x1024, .f32⟩
  | 123 => ⟨S1x8192x1024, .f32⟩
  | 124 => ⟨S_, .f32⟩
  | 125 => ⟨S1x1024, .f32⟩
  | 126 => ⟨S1x1x1024, .f32⟩
  | 127 => ⟨S_, .f32⟩
  | _ => ⟨S1x8192x7168, .f32⟩

abbrev hbmTy0_4 (i : Nat) : BufTy := match i % 128 with
  | 0 => ⟨S1024, .f32⟩
  | 1 => ⟨S_, .f32⟩
  | 2 => ⟨S1x8195x1024, .f32⟩
  | 3 => ⟨S1x8195x1024, .f32⟩
  | 4 => ⟨S1x1024, .f32⟩
  | 5 => ⟨S_, .f32⟩
  | 6 => ⟨S4x1024, .f32⟩
  | 7 => ⟨S4x1024, .f32⟩
  | 8 => ⟨S1x3x1024, .f32⟩
  | 9 => ⟨S1x8192x1024, .f32⟩
  | 10 => ⟨S1x4x1024, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x8192x1024, .f32⟩
  | 16 => ⟨S_, .f32⟩
  | 17 => ⟨S1x1024, .f32⟩
  | 18 => ⟨S1x1x1024, .f32⟩
  | 19 => ⟨S_, .f32⟩
  | 20 => ⟨S1024, .f32⟩
  | 21 => ⟨S_, .f32⟩
  | 22 => ⟨S1x8194x1024, .f32⟩
  | 23 => ⟨S1x1024, .f32⟩
  | 24 => ⟨S_, .f32⟩
  | 25 => ⟨S3x1024, .f32⟩
  | 26 => ⟨S1x8192x1024, .f32⟩
  | 27 => ⟨S1x8192x1024, .f32⟩
  | 28 => ⟨S1x8192x1024, .f32⟩
  | 29 => ⟨S_, .f32⟩
  | 30 => ⟨S1x1024, .f32⟩
  | 31 => ⟨S1x1x1024, .f32⟩
  | 32 => ⟨S_, .f32⟩
  | 33 => ⟨S1024, .f32⟩
  | 34 => ⟨S_, .f32⟩
  | 35 => ⟨S1x8194x1024, .f32⟩
  | 36 => ⟨S1x8194x1024, .f32⟩
  | 37 => ⟨S1x1024, .f32⟩
  | 38 => ⟨S_, .f32⟩
  | 39 => ⟨S3x1024, .f32⟩
  | 40 => ⟨S3x1024, .f32⟩
  | 41 => ⟨S1x8192x1024, .f32⟩
  | 42 => ⟨S1x8192x1024, .f32⟩
  | 43 => ⟨S1x8192x1024, .f32⟩
  | 44 => ⟨S_, .f32⟩
  | 45 => ⟨S1x1024, .f32⟩
  | 46 => ⟨S1x1x1024, .f32⟩
  | 47 => ⟨S_, .f32⟩
  | 48 => ⟨S1024, .f32⟩
  | 49 => ⟨S_, .f32⟩
  | 50 => ⟨S1x8194x1024, .f32⟩
  | 51 => ⟨S1x8194x1024, .f32⟩
  | 52 => ⟨S1x1024, .f32⟩
  | 53 => ⟨S_, .f32⟩
  | 54 => ⟨S3x1024, .f32⟩
  | 55 => ⟨S3x1024, .f32⟩
  | 56 => ⟨S1x2x1024, .f32⟩
  | 57 => ⟨S1x8192x1024, .f32⟩
  | 58 => ⟨S1x3x1024, .f32⟩
  | 59 => ⟨S1x8192x1024, .f32⟩
  | 60 => ⟨S1x8192x1024, .f32⟩
  | 61 => ⟨S1x8192x7168, .f32⟩
  | 62 => ⟨S8192x7168, .f32⟩
  | 63 => ⟨S8192x7168, .bf16⟩
  | 64 => ⟨S3x1024, .f32⟩
  | 65 => ⟨S4x1024, .f32⟩
  | 66 => ⟨S_, .f32⟩
  | 67 => ⟨S5x1024, .f32⟩
  | 68 => ⟨S16x1024, .f32⟩
  | 69 => ⟨S4x256x256, .f32⟩
  | 70 => ⟨S4x256x256, .f32⟩
  | _ => ⟨S1x8192x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x8192x7168, .f32⟩

abbrev bufTy : (tb : Table) → Fin (tcTables nBuf tb) → BufTy
  | .hbm, ⟨i, _⟩ => hbmTy i
  | _, _ => ⟨S1x8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_5 : Ref sig .tc := ⟨.hbm, 102, rfl⟩
abbrev main_v86 : Ref sig .tc := ⟨.hbm, 103, rfl⟩
abbrev main_v87 : Ref sig .tc := ⟨.hbm, 104, rfl⟩
abbrev main_cst_6 : Ref sig .tc := ⟨.hbm, 105, rfl⟩
abbrev main_v88 : Ref sig .tc := ⟨.hbm, 106, rfl⟩
abbrev main_v89 : Ref sig .tc := ⟨.hbm, 107, rfl⟩
abbrev main_cst_7 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_8 : Ref sig .tc := ⟨.hbm, 121, rfl⟩
abbrev main_v102 : Ref sig .tc := ⟨.hbm, 122, rfl⟩
abbrev main_v103 : Ref sig .tc := ⟨.hbm, 123, rfl⟩
abbrev main_cst_9 : Ref sig .tc := ⟨.hbm, 124, rfl⟩
abbrev main_v104 : Ref sig .tc := ⟨.hbm, 125, rfl⟩
abbrev main_v105 : Ref sig .tc := ⟨.hbm, 126, rfl⟩
abbrev main_cst_10 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_11 : Ref sig .tc := ⟨.hbm, 131, rfl⟩
abbrev main_v109 : Ref sig .tc := ⟨.hbm, 132, rfl⟩
abbrev main_v110 : Ref sig .tc := ⟨.hbm, 133, rfl⟩
abbrev main_call0_v0 : Ref sig .tc := ⟨.hbm, 134, rfl⟩
abbrev main_call0_call0_cst : Ref sig .tc := ⟨.hbm, 135, rfl⟩
abbrev main_call0_call0_v0 : Ref sig .tc := ⟨.hbm, 136, rfl⟩
abbrev main_call0_call0_v1 : Ref sig .tc := ⟨.hbm, 137, rfl⟩
abbrev main_call0_call0_v2 : Ref sig .tc := ⟨.hbm, 138, rfl⟩
abbrev main_call0_call0_v3 : Ref sig .tc := ⟨.hbm, 139, rfl⟩
abbrev main_call0_call0_v4 : Ref sig .tc := ⟨.hbm, 140, rfl⟩
abbrev main_call0_call0_v5 : Ref sig .tc := ⟨.hbm, 141, rfl⟩
abbrev main_call0_call0_v6 : Ref sig .tc := ⟨.hbm, 142, rfl⟩
abbrev main_call0_call0_v7 : Ref sig .tc := ⟨.hbm, 143, rfl⟩
abbrev main_call0_call0_v8 : Ref sig .tc := ⟨.hbm, 144, rfl⟩
abbrev main_call0_call0_v9 : Ref sig .tc := ⟨.hbm, 145, rfl⟩
abbrev main_call0_call0_v10 : Ref sig .tc := ⟨.hbm, 146, rfl⟩
abbrev main_call0_call0_v11 : Ref sig .tc := ⟨.hbm, 147, rfl⟩
abbrev main_call0_v1_0 : Ref sig .tc := ⟨.hbm, 148, rfl⟩
abbrev main_call0_call0_cst_0 : Ref sig .tc := ⟨.hbm, 149, rfl⟩
abbrev main_call0_call0_v13 : Ref sig .tc := ⟨.hbm, 150, rfl⟩
abbrev main_call0_call0_v14 : Ref sig .tc := ⟨.hbm, 151, rfl⟩
abbrev main_call0_call0_cst_1 : Ref sig .tc := ⟨.hbm, 152, rfl⟩
abbrev main_call0_call0_v15 : Ref sig .tc := ⟨.hbm, 153, rfl⟩
abbrev main_call0_call0_v16 : Ref sig .tc := ⟨.hbm, 154, rfl⟩
abbrev main_call0_call0_cst_2 : Ref sig .tc := ⟨.hbm, 155, rfl⟩
abbrev main_call0_call0_v17 : Ref sig .tc := ⟨.hbm, 156, rfl⟩
abbrev main_call0_call0_v18 : Ref sig .tc := ⟨.hbm, 157, rfl⟩
abbrev main_call0_call0_cst_3 : Ref sig .tc := ⟨.hbm, 158, rfl⟩
abbrev main_call0_call0_v19 : Ref sig .tc := ⟨.hbm, 159, rfl⟩
abbrev main_call0_call0_v20 : Ref sig .tc := ⟨.hbm, 160, rfl⟩
abbrev main_call0_call0_v21 : Ref sig .tc := ⟨.hbm, 161, rfl⟩
abbrev main_v111_1 : Ref sig .tc := ⟨.hbm, 162, rfl⟩
abbrev main_call0_call0_cst_4 : Ref sig .tc := ⟨.hbm, 163, rfl⟩
abbrev main_call0_call0_cst_5 : Ref sig .tc := ⟨.hbm, 164, rfl⟩
abbrev main_call0_call0_v23 : Ref sig .tc := ⟨.hbm, 165, rfl⟩
abbrev main_call0_call0_cst_6 : Ref sig .tc := ⟨.hbm, 166, rfl⟩
abbrev main_call0_call0_cst_7 : Ref sig .tc := ⟨.hbm, 167, rfl⟩
abbrev main_call0_call0_v24 : Ref sig .tc := ⟨.hbm, 168, rfl⟩
abbrev main_call0_call0_cst_8 : Ref sig .tc := ⟨.hbm, 169, rfl⟩
abbrev main_call0_call0_v25 : Ref sig .tc := ⟨.hbm, 170, rfl⟩
abbrev main_call0_call0_v26 : Ref sig .tc := ⟨.hbm, 171, rfl⟩
abbrev main_call0_call0_cst_9 : Ref sig .tc := ⟨.hbm, 172, rfl⟩
abbrev main_call0_call0_v27 : Ref sig .tc := ⟨.hbm, 173, rfl⟩
abbrev main_call0_call0_v28 : Ref sig .tc := ⟨.hbm, 174, rfl⟩
abbrev main_call0_call0_v29 : Ref sig .tc := ⟨.hbm, 175, rfl⟩
abbrev main_call0_call0_v30 : Ref sig .tc := ⟨.hbm, 176, rfl⟩
abbrev main_call0_call0_v31 : Ref sig .tc := ⟨.hbm, 177, rfl⟩
abbrev main_call0_call0_cst_10 : Ref sig .tc := ⟨.hbm, 178, rfl⟩
abbrev main_call0_call0_v32 : Ref sig .tc := ⟨.hbm, 179, rfl⟩
abbrev main_v111_2 : Ref sig .tc := ⟨.hbm, 180, rfl⟩
abbrev main_v111_0 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_cst_12 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_13 : Ref sig .tc := ⟨.hbm, 192, rfl⟩
abbrev main_v121 : Ref sig .tc := ⟨.hbm, 193, rfl⟩
abbrev main_v122 : Ref sig .tc := ⟨.hbm, 194, rfl⟩
abbrev main_cst_14 : Ref sig .tc := ⟨.hbm, 195, rfl⟩
abbrev main_v123 : Ref sig .tc := ⟨.hbm, 196, rfl⟩
abbrev main_v124 : Ref sig .tc := ⟨.hbm, 197, rfl⟩
abbrev main_cst_15 : Ref sig .tc := ⟨.hbm, 198, rfl⟩
abbrev main_v125 : Ref sig .tc := ⟨.hbm, 199, rfl⟩
abbrev main_v126 : Ref sig .tc := ⟨.hbm, 200, rfl⟩
abbrev main_cst_16 : Ref sig .tc := ⟨.hbm, 201, rfl⟩
abbrev main_v127 : Ref sig .tc := ⟨.hbm, 202, rfl⟩
abbrev main_cst_17 : Ref sig .tc := ⟨.hbm, 203, rfl⟩
abbrev main_v128 : Ref sig .tc := ⟨.hbm, 204, rfl⟩
abbrev main_cst_18 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_cst_19 : Ref sig .tc := ⟨.hbm, 210, rfl⟩
abbrev main_v133 : Ref sig .tc := ⟨.hbm, 211, rfl⟩
abbrev main_v134 : Ref sig .tc := ⟨.hbm, 212, rfl⟩
abbrev main_c : Ref sig .tc := ⟨.hbm, 213, rfl⟩
abbrev main_v135 : Ref sig .tc := ⟨.hbm, 214, rfl⟩
abbrev main_cst_20 : Ref sig .tc := ⟨.hbm, 215, rfl⟩
abbrev main_v136 : Ref sig .tc := ⟨.hbm, 216, rfl⟩
abbrev main_cst_21 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_22 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_cst_23 : Ref sig .tc := ⟨.hbm, 228, rfl⟩
abbrev main_v146 : Ref sig .tc := ⟨.hbm, 229, rfl⟩
abbrev main_cst_24 : Ref sig .tc := ⟨.hbm, 230, rfl⟩
abbrev main_v147 : Ref sig .tc := ⟨.hbm, 231, rfl⟩
abbrev main_c_25 : Ref sig .tc := ⟨.hbm, 232, rfl⟩
abbrev main_v148_0 : Ref sig .tc := ⟨.hbm, 233, rfl⟩
abbrev main_v148_1 : Ref sig .tc := ⟨.hbm, 234, rfl⟩
abbrev main_v148_2 : Ref sig .tc := ⟨.hbm, 235, rfl⟩
abbrev main_v148_3 : Ref sig .tc := ⟨.hbm, 236, rfl⟩
abbrev main_v148_4 : Ref sig .tc := ⟨.hbm, 237, rfl⟩
abbrev main_v148_5 : Ref sig .tc := ⟨.hbm, 238, rfl⟩
abbrev main_while0c_c_92 : Ref sig .tc := ⟨.hbm, 239, rfl⟩
abbrev main_while0c_v371 : Ref sig .tc := ⟨.hbm, 240, rfl⟩
abbrev main_while0b_call1_c : Ref sig .tc := ⟨.hbm, 241, rfl⟩
abbrev main_while0b_call1_c_0 : Ref sig .tc := ⟨.hbm, 242, rfl⟩
abbrev main_while0b_call1_v0 : Ref sig .tc := ⟨.hbm, 243, rfl⟩
abbrev main_while0b_v371 : Ref sig .tc := ⟨.hbm, 244, rfl⟩
abbrev main_while0b_call2_c : Ref sig .tc := ⟨.hbm, 245, rfl⟩
abbrev main_while0b_call2_c_0 : Ref sig .tc := ⟨.hbm, 246, rfl⟩
abbrev main_while0b_call2_v0 : Ref sig .tc := ⟨.hbm, 247, rfl⟩
abbrev main_while0b_v372 : Ref sig .tc := ⟨.hbm, 248, rfl⟩
abbrev main_while0b_v373 : Ref sig .tc := ⟨.hbm, 249, rfl⟩
abbrev main_while0b_v374 : Ref sig .tc := ⟨.hbm, 250, rfl⟩
abbrev main_while0b_call3_v0 : Ref sig .tc := ⟨.hbm, 251, rfl⟩
abbrev main_while0b_call3_c : Ref sig .tc := ⟨.hbm, 252, rfl⟩
abbrev main_while0b_call3_c_0 : Ref sig .tc := ⟨.hbm, 253, rfl⟩
abbrev main_while0b_v375 : Ref sig .tc := ⟨.hbm, 254, rfl⟩
abbrev main_while0b_call4_v0 : Ref sig .tc := ⟨.hbm, 255, rfl⟩
abbrev main_while0b_call4_c : Ref sig .tc := ⟨.hbm, 256, rfl⟩
abbrev main_while0b_call4_c_0 : Ref sig .tc := ⟨.hbm, 257, rfl⟩
abbrev main_while0b_v376 : Ref sig .tc := ⟨.hbm, 258, rfl⟩
abbrev main_while0b_c_92 : Ref sig .tc := ⟨.hbm, 259, rfl⟩
abbrev main_while0b_v377 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_cst_26 : Ref sig .tc := ⟨.hbm, 265, rfl⟩
abbrev main_v153 : Ref sig .tc := ⟨.hbm, 266, rfl⟩
abbrev main_v154 : Ref sig .tc := ⟨.hbm, 267, rfl⟩
abbrev main_cst_27 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_cst_28 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_cst_29 : Ref sig .tc := ⟨.hbm, 276, rfl⟩
abbrev main_v161 : Ref sig .tc := ⟨.hbm, 277, rfl⟩
abbrev main_v162 : Ref sig .tc := ⟨.hbm, 278, rfl⟩
abbrev main_cst_30 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_cst_31 : Ref sig .tc := ⟨.hbm, 283, rfl⟩
abbrev main_v166 : Ref sig .tc := ⟨.hbm, 284, rfl⟩
abbrev main_v167 : Ref sig .tc := ⟨.hbm, 285, rfl⟩
abbrev main_cst_32 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_cst_33 : Ref sig .tc := ⟨.hbm, 293, rfl⟩
abbrev main_v174 : Ref sig .tc := ⟨.hbm, 294, rfl⟩
abbrev main_v175 : Ref sig .tc := ⟨.hbm, 295, rfl⟩
abbrev main_cst_34 : Ref sig .tc := ⟨.hbm, 296, rfl⟩
abbrev main_v176 : Ref sig .tc := ⟨.hbm, 297, rfl⟩
abbrev main_v177 : Ref sig .tc := ⟨.hbm, 298, rfl⟩
abbrev main_cst_35 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_36 : Ref sig .tc := ⟨.hbm, 306, rfl⟩
abbrev main_v184 : Ref sig .tc := ⟨.hbm, 307, rfl⟩
abbrev main_v185 : Ref sig .tc := ⟨.hbm, 308, rfl⟩
abbrev main_cst_37 : Ref sig .tc := ⟨.hbm, 309, rfl⟩
abbrev main_v186 : Ref sig .tc := ⟨.hbm, 310, rfl⟩
abbrev main_v187 : Ref sig .tc := ⟨.hbm, 311, rfl⟩
abbrev main_cst_38 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_cst_39 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_cst_40 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_cst_41 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_cst_42 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_cst_43 : Ref sig .tc := ⟨.hbm, 346, rfl⟩
abbrev main_v217 : Ref sig .tc := ⟨.hbm, 347, rfl⟩
abbrev main_cst_44 : Ref sig .tc := ⟨.hbm, 348, rfl⟩
abbrev main_v218 : Ref sig .tc := ⟨.hbm, 349, rfl⟩
abbrev main_cst_45 : Ref sig .tc := ⟨.hbm, 350, rfl⟩
abbrev main_v219 : Ref sig .tc := ⟨.hbm, 351, rfl⟩
abbrev main_c_46 : Ref sig .tc := ⟨.hbm, 352, rfl⟩
abbrev main_v220_0 : Ref sig .tc := ⟨.hbm, 353, rfl⟩
abbrev main_v220_1 : Ref sig .tc := ⟨.hbm, 354, rfl⟩
abbrev main_v220_2 : Ref sig .tc := ⟨.hbm, 355, rfl⟩
abbrev main_v220_3 : Ref sig .tc := ⟨.hbm, 356, rfl⟩
abbrev main_v220_4 : Ref sig .tc := ⟨.hbm, 357, rfl⟩
abbrev main_v220_5 : Ref sig .tc := ⟨.hbm, 358, rfl⟩
abbrev main_v220_6 : Ref sig .tc := ⟨.hbm, 359, rfl⟩
abbrev main_while1c_c_93 : Ref sig .tc := ⟨.hbm, 360, rfl⟩
abbrev main_while1c_v371 : Ref sig .tc := ⟨.hbm, 361, rfl⟩
abbrev main_while1b_c_93 : Ref sig .tc := ⟨.hbm, 362, rfl⟩
abbrev main_while1b_v371 : Ref sig .tc := ⟨.hbm, 363, rfl⟩
abbrev main_while1b_c_94 : Ref sig .tc := ⟨.hbm, 364, rfl⟩
abbrev main_while1b_v372 : Ref sig .tc := ⟨.hbm, 365, rfl⟩
abbrev main_while1b_call5_c : Ref sig .tc := ⟨.hbm, 366, rfl⟩
abbrev main_while1b_call5_c_0 : Ref sig .tc := ⟨.hbm, 367, rfl⟩
abbrev main_while1b_call5_v0 : Ref sig .tc := ⟨.hbm, 368, rfl⟩
abbrev main_while1b_v373 : Ref sig .tc := ⟨.hbm, 369, rfl⟩
abbrev main_while1b_call6_c : Ref sig .tc := ⟨.hbm, 370, rfl⟩
abbrev main_while1b_call6_c_0 : Ref sig .tc := ⟨.hbm, 371, rfl⟩
abbrev main_while1b_call6_v0 : Ref sig .tc := ⟨.hbm, 372, rfl⟩
abbrev main_while1b_v374 : Ref sig .tc := ⟨.hbm, 373, rfl⟩
abbrev main_while1b_call7_c : Ref sig .tc := ⟨.hbm, 374, rfl⟩
abbrev main_while1b_call7_c_0 : Ref sig .tc := ⟨.hbm, 375, rfl⟩
abbrev main_while1b_call7_v0 : Ref sig .tc := ⟨.hbm, 376, rfl⟩
abbrev main_while1b_v375 : Ref sig .tc := ⟨.hbm, 377, rfl⟩
abbrev main_while1b_v376 : Ref sig .tc := ⟨.hbm, 378, rfl⟩
abbrev main_while1b_v377 : Ref sig .tc := ⟨.hbm, 379, rfl⟩
abbrev main_while1b_v378 : Ref sig .tc := ⟨.hbm, 380, rfl⟩
abbrev main_while1b_call8_v0 : Ref sig .tc := ⟨.hbm, 381, rfl⟩
abbrev main_while1b_call8_c : Ref sig .tc := ⟨.hbm, 382, rfl⟩
abbrev main_while1b_call8_c_0 : Ref sig .tc := ⟨.hbm, 383, rfl⟩
abbrev main_while1b_v379 : Ref sig .tc := ⟨.hbm, 384, rfl⟩
abbrev main_while1b_call9_v0 : Ref sig .tc := ⟨.hbm, 385, rfl⟩
abbrev main_while1b_call9_c : Ref sig .tc := ⟨.hbm, 386, rfl⟩
abbrev main_while1b_call9_c_0 : Ref sig .tc := ⟨.hbm, 387, rfl⟩
abbrev main_while1b_v380 : Ref sig .tc := ⟨.hbm, 388, rfl⟩
abbrev main_while1b_c_95 : Ref sig .tc := ⟨.hbm, 389, rfl⟩
abbrev main_while1b_v381 : Ref sig .tc := ⟨.hbm, 390, rfl⟩
abbrev main_v221 : Ref sig .tc := ⟨.hbm, 391, rfl⟩
abbrev main_v222 : Ref sig .tc := ⟨.hbm, 392, rfl⟩
abbrev main_v223 : Ref sig .tc := ⟨.hbm, 393, rfl⟩
abbrev main_v224 : Ref sig .tc := ⟨.hbm, 394, rfl⟩
abbrev main_v225 : Ref sig .tc := ⟨.hbm, 395, rfl⟩
abbrev main_v226 : Ref sig .tc := ⟨.hbm, 396, rfl⟩
abbrev main_cst_47 : Ref sig .tc := ⟨.hbm, 397, rfl⟩
abbrev main_v227 : Ref sig .tc := ⟨.hbm, 398, rfl⟩
abbrev main_v228 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_v232 : Ref sig .tc := ⟨.hbm, 403, rfl⟩
abbrev main_cst_48 : Ref sig .tc := ⟨.hbm, 404, rfl⟩
abbrev main_v233 : Ref sig .tc := ⟨.hbm, 405, rfl⟩
abbrev main_v234 : Ref sig .tc := ⟨.hbm, 406, rfl⟩
abbrev main_v235 : Ref sig .tc := ⟨.hbm, 407, rfl⟩
abbrev main_v236 : Ref sig .tc := ⟨.hbm, 408, rfl⟩
abbrev main_v237 : Ref sig .tc := ⟨.hbm, 409, rfl⟩
abbrev main_cst_49 : Ref sig .tc := ⟨.hbm, 410, rfl⟩
abbrev main_v238 : Ref sig .tc := ⟨.hbm, 411, rfl⟩
abbrev main_v239 : Ref sig .tc := ⟨.hbm, 412, rfl⟩
abbrev main_v240 : Ref sig .tc := ⟨.hbm, 413, rfl⟩
abbrev main_v241 : Ref sig .tc := ⟨.hbm, 414, rfl⟩
abbrev main_cst_50 : Ref sig .tc := ⟨.hbm, 415, rfl⟩
abbrev main_v242 : Ref sig .tc := ⟨.hbm, 416, rfl⟩
abbrev main_call10_v0 : Ref sig .tc := ⟨.hbm, 417, rfl⟩
abbrev main_call10_v1 : Ref sig .tc := ⟨.hbm, 418, rfl⟩
abbrev main_v243 : Ref sig .tc := ⟨.hbm, 419, rfl⟩
abbrev main_cst_51 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_cst_52 : Ref sig .tc := ⟨.hbm, 424, rfl⟩
abbrev main_v247 : Ref sig .tc := ⟨.hbm, 425, rfl⟩
abbrev main_v248 : Ref sig .tc := ⟨.hbm, 426, rfl⟩
abbrev main_cst_53 : Ref sig .tc := ⟨.hbm, 427, rfl⟩
abbrev main_v249 : Ref sig .tc := ⟨.hbm, 428, rfl⟩
abbrev main_v250 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_v256 : Ref sig .tc := ⟨.hbm, 435, rfl⟩
abbrev main_v257 : Ref sig .tc := ⟨.hbm, 436, rfl⟩
abbrev main_v258 : Ref sig .tc := ⟨.hbm, 437, rfl⟩
abbrev main_cst_54 : Ref sig .tc := ⟨.hbm, 438, rfl⟩
abbrev main_v259 : Ref sig .tc := ⟨.hbm, 439, rfl⟩
abbrev main_v260 : Ref sig .tc := ⟨.hbm, 440, rfl⟩
abbrev main_cst_55 : Ref sig .tc := ⟨.hbm, 441, rfl⟩
abbrev main_v261 : Ref sig .tc := ⟨.hbm, 442, rfl⟩
abbrev main_v262 : Ref sig .tc := ⟨.hbm, 443, rfl⟩
abbrev main_v263 : Ref sig .tc := ⟨.hbm, 444, rfl⟩
abbrev main_v264 : Ref sig .tc := ⟨.hbm, 445, rfl⟩
abbrev main_v265 : Ref sig .tc := ⟨.hbm, 446, rfl⟩
abbrev main_v266 : Ref sig .tc := ⟨.hbm, 447, rfl⟩
abbrev main_v267 : Ref sig .tc := ⟨.hbm, 448, rfl⟩
abbrev main_v268 : Ref sig .tc := ⟨.hbm, 449, rfl⟩
abbrev main_v269 : Ref sig .tc := ⟨.hbm, 450, rfl⟩
abbrev main_v270 : Ref sig .tc := ⟨.hbm, 451, rfl⟩
abbrev main_v271 : Ref sig .tc := ⟨.hbm, 452, rfl⟩
abbrev main_v272 : Ref sig .tc := ⟨.hbm, 453, rfl⟩
abbrev main_v273 : Ref sig .tc := ⟨.hbm, 454, rfl⟩
abbrev main_v274 : Ref sig .tc := ⟨.hbm, 455, rfl⟩
abbrev main_cst_56 : Ref sig .tc := ⟨.hbm, 456, rfl⟩
abbrev main_v275 : Ref sig .tc := ⟨.hbm, 457, rfl⟩
abbrev main_v276 : Ref sig .tc := ⟨.hbm, 458, rfl⟩
abbrev main_cst_57 : Ref sig .tc := ⟨.hbm, 459, rfl⟩
abbrev main_v277 : Ref sig .tc := ⟨.hbm, 460, rfl⟩
abbrev main_v278 : Ref sig .tc := ⟨.hbm, 461, rfl⟩
abbrev main_v279 : Ref sig .tc := ⟨.hbm, 462, rfl⟩
abbrev main_v280 : Ref sig .tc := ⟨.hbm, 463, rfl⟩
abbrev main_v281 : Ref sig .tc := ⟨.hbm, 464, rfl⟩
abbrev main_cst_58 : Ref sig .tc := ⟨.hbm, 465, rfl⟩
abbrev main_v282 : Ref sig .tc := ⟨.hbm, 466, rfl⟩
abbrev main_v283 : Ref sig .tc := ⟨.hbm, 467, rfl⟩
abbrev main_cst_59 : Ref sig .tc := ⟨.hbm, 468, rfl⟩
abbrev main_v284 : Ref sig .tc := ⟨.hbm, 469, rfl⟩
abbrev main_cst_60 : Ref sig .tc := ⟨.hbm, 470, rfl⟩
abbrev main_v285 : Ref sig .tc := ⟨.hbm, 471, rfl⟩
abbrev main_v286 : Ref sig .tc := ⟨.hbm, 472, rfl⟩
abbrev main_cst_61 : Ref sig .tc := ⟨.hbm, 473, rfl⟩
abbrev main_v287 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_cst_62 : Ref sig .tc := ⟨.hbm, 478, rfl⟩
abbrev main_v291 : Ref sig .tc := ⟨.hbm, 479, rfl⟩
abbrev main_v292 : Ref sig .tc := ⟨.hbm, 480, rfl⟩
abbrev main_cst_63 : Ref sig .tc := ⟨.hbm, 481, rfl⟩
abbrev main_v293 : Ref sig .tc := ⟨.hbm, 482, rfl⟩
abbrev main_cst_64 : Ref sig .tc := ⟨.hbm, 483, rfl⟩
abbrev main_v294 : Ref sig .tc := ⟨.hbm, 484, rfl⟩
abbrev main_v295 : Ref sig .tc := ⟨.hbm, 485, rfl⟩
abbrev main_v296 : Ref sig .tc := ⟨.hbm, 486, rfl⟩
abbrev main_cst_65 : Ref sig .tc := ⟨.hbm, 487, rfl⟩
abbrev main_v297 : Ref sig .tc := ⟨.hbm, 488, rfl⟩
abbrev main_v298 : Ref sig .tc := ⟨.hbm, 489, rfl⟩
abbrev main_v299 : Ref sig .tc := ⟨.hbm, 490, rfl⟩
abbrev main_v300 : Ref sig .tc := ⟨.hbm, 491, rfl⟩
abbrev main_v301 : Ref sig .tc := ⟨.hbm, 492, rfl⟩
abbrev main_cst_66 : Ref sig .tc := ⟨.hbm, 493, rfl⟩
abbrev main_v302 : Ref sig .tc := ⟨.hbm, 494, rfl⟩
abbrev main_v303 : Ref sig .tc := ⟨.hbm, 495, rfl⟩
abbrev main_cst_67 : Ref sig .tc := ⟨.hbm, 496, rfl⟩
abbrev main_v304 : Ref sig .tc := ⟨.hbm, 497, rfl⟩
abbrev main_cst_68 : Ref sig .tc := ⟨.hbm, 498, rfl⟩
abbrev main_v305 : Ref sig .tc := ⟨.hbm, 499, rfl⟩
abbrev main_v306 : Ref sig .tc := ⟨.hbm, 500, rfl⟩
abbrev main_v307 : Ref sig .tc := ⟨.hbm, 501, rfl⟩
abbrev main_cst_69 : Ref sig .tc := ⟨.hbm, 502, rfl⟩
abbrev main_v308 : Ref sig .tc := ⟨.hbm, 503, rfl⟩
abbrev main_v309 : Ref sig .tc := ⟨.hbm, 504, rfl⟩
abbrev main_v310 : Ref sig .tc := ⟨.hbm, 505, rfl⟩
abbrev main_v311 : Ref sig .tc := ⟨.hbm, 506, rfl⟩
abbrev main_v312 : Ref sig .tc := ⟨.hbm, 507, rfl⟩
abbrev main_cst_70 : Ref sig .tc := ⟨.hbm, 508, rfl⟩
abbrev main_v313 : Ref sig .tc := ⟨.hbm, 509, rfl⟩
abbrev main_v314 : Ref sig .tc := ⟨.hbm, 510, rfl⟩
abbrev main_cst_71 : Ref sig .tc := ⟨.hbm, 511, rfl⟩
abbrev main_v315 : Ref sig .tc := ⟨.hbm, 512, rfl⟩
abbrev main_cst_72 : Ref sig .tc := ⟨.hbm, 513, rfl⟩
abbrev main_v316 : Ref sig .tc := ⟨.hbm, 514, rfl⟩
abbrev main_v317 : Ref sig .tc := ⟨.hbm, 515, rfl⟩
abbrev main_v318 : Ref sig .tc := ⟨.hbm, 516, rfl⟩
abbrev main_cst_73 : Ref sig .tc := ⟨.hbm, 517, rfl⟩
abbrev main_v319 : Ref sig .tc := ⟨.hbm, 518, rfl⟩
abbrev main_v320 : Ref sig .tc := ⟨.hbm, 519, rfl⟩
abbrev main_v321 : Ref sig .tc := ⟨.hbm, 520, rfl⟩
abbrev main_v322 : Ref sig .tc := ⟨.hbm, 521, rfl⟩
abbrev main_v323 : Ref sig .tc := ⟨.hbm, 522, rfl⟩
abbrev main_v324 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_v328 : Ref sig .tc := ⟨.hbm, 527, rfl⟩
abbrev main_cst_74 : Ref sig .tc := ⟨.hbm, 528, rfl⟩
abbrev main_v329 : Ref sig .tc := ⟨.hbm, 529, rfl⟩
abbrev main_v330 : Ref sig .tc := ⟨.hbm, 530, rfl⟩
abbrev main_cst_75 : Ref sig .tc := ⟨.hbm, 531, rfl⟩
abbrev main_v331 : Ref sig .tc := ⟨.hbm, 532, rfl⟩
abbrev main_cst_76 : Ref sig .tc := ⟨.hbm, 533, rfl⟩
abbrev main_v332 : Ref sig .tc := ⟨.hbm, 534, rfl⟩
abbrev main_v333 : Ref sig .tc := ⟨.hbm, 535, rfl⟩
abbrev main_cst_77 : Ref sig .tc := ⟨.hbm, 536, rfl⟩
abbrev main_v334 : Ref sig .tc := ⟨.hbm, 537, rfl⟩
abbrev main_v335 : Ref sig .tc := ⟨.hbm, 538, rfl⟩
abbrev main_v336 : Ref sig .tc := ⟨.hbm, 539, rfl⟩
abbrev main_v337 : Ref sig .tc := ⟨.hbm, 540, rfl⟩
abbrev main_cst_78 : Ref sig .tc := ⟨.hbm, 541, rfl⟩
abbrev main_v338 : Ref sig .tc := ⟨.hbm, 542, rfl⟩
abbrev main_v339 : Ref sig .tc := ⟨.hbm, 543, rfl⟩
abbrev main_cst_79 : Ref sig .tc := ⟨.hbm, 544, rfl⟩
abbrev main_v340 : Ref sig .tc := ⟨.hbm, 545, rfl⟩
abbrev main_cst_80 : Ref sig .tc := ⟨.hbm, 546, rfl⟩
abbrev main_v341 : Ref sig .tc := ⟨.hbm, 547, rfl⟩
abbrev main_v342 : Ref sig .tc := ⟨.hbm, 548, rfl⟩
abbrev main_v343 : Ref sig .tc := ⟨.hbm, 549, rfl⟩
abbrev main_cst_81 : Ref sig .tc := ⟨.hbm, 550, rfl⟩
abbrev main_v344 : Ref sig .tc := ⟨.hbm, 551, rfl⟩
abbrev main_v345 : Ref sig .tc := ⟨.hbm, 552, rfl⟩
abbrev main_v346 : Ref sig .tc := ⟨.hbm, 553, rfl⟩
abbrev main_v347 : Ref sig .tc := ⟨.hbm, 554, rfl⟩
abbrev main_v348 : Ref sig .tc := ⟨.hbm, 555, rfl⟩
abbrev main_cst_82 : Ref sig .tc := ⟨.hbm, 556, rfl⟩
abbrev main_v349 : Ref sig .tc := ⟨.hbm, 557, rfl⟩
abbrev main_v350 : Ref sig .tc := ⟨.hbm, 558, rfl⟩
abbrev main_cst_83 : Ref sig .tc := ⟨.hbm, 559, rfl⟩
abbrev main_v351 : Ref sig .tc := ⟨.hbm, 560, rfl⟩
abbrev main_cst_84 : Ref sig .tc := ⟨.hbm, 561, rfl⟩
abbrev main_v352 : Ref sig .tc := ⟨.hbm, 562, rfl⟩
abbrev main_v353 : Ref sig .tc := ⟨.hbm, 563, rfl⟩
abbrev main_v354 : Ref sig .tc := ⟨.hbm, 564, rfl⟩
abbrev main_cst_85 : Ref sig .tc := ⟨.hbm, 565, rfl⟩
abbrev main_v355 : Ref sig .tc := ⟨.hbm, 566, rfl⟩
abbrev main_v356 : Ref sig .tc := ⟨.hbm, 567, rfl⟩
abbrev main_v357 : Ref sig .tc := ⟨.hbm, 568, rfl⟩
abbrev main_v358 : Ref sig .tc := ⟨.hbm, 569, rfl⟩
abbrev main_v359 : Ref sig .tc := ⟨.hbm, 570, rfl⟩
abbrev main_v360 : Ref sig .tc := ⟨.hbm, 571, rfl⟩
abbrev main_v361 : Ref sig .tc := ⟨.hbm, 572, rfl⟩
abbrev main_v362 : Ref sig .tc := ⟨.hbm, 573, rfl⟩
abbrev main_v363 : Ref sig .tc := ⟨.hbm, 574, rfl⟩
abbrev main_v364 : Ref sig .tc := ⟨.hbm, 575, rfl⟩
abbrev main_v365 : Ref sig .tc := ⟨.hbm, 576, rfl⟩
abbrev main_v366 : Ref sig .tc := ⟨.hbm, 577, rfl⟩
abbrev main_cst_86 : Ref sig .tc := ⟨.hbm, 578, rfl⟩
abbrev main_v367 : Ref sig .tc := ⟨.hbm, 579, rfl⟩
abbrev main_v368 : Ref sig .tc := ⟨.hbm, 580, rfl⟩
abbrev main_v369 : Ref sig .tc := ⟨.hbm, 581, rfl⟩
abbrev main_v370 : Ref sig .tc := ⟨.hbm, 582, rfl⟩

abbrev nD : Nat := 1
abbrev τ : Topo := Topo.v7x

variable {F : FTy → Type} [FloatOps F]

def κ : String → Option EReal := fun
  | "gelu_c" => some ((8943 / 200000 : ℝ) : EReal)
  | _ => none

abbrev main_while0_count : Scf.Loop 32 := ⟨0#32, 8192#32, 1#32⟩

abbrev main_while1_count : Scf.Loop 32 := ⟨0#32, 8192#32, 1#32⟩
-- ==== FfnBwd.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S1024x1024 : Shape := ⟨2, ![1024, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1024x5632 : Shape := ⟨2, ![1024, 5632]⟩
abbrev S1x8192x5632 : Shape := ⟨3, ![1, 8192, 5632]⟩
abbrev S8192x5632 : Shape := ⟨2, ![8192, 5632]⟩
abbrev S8192x2x4x704 : Shape := ⟨4, ![8192, 2, 4, 704]⟩
abbrev S2x4x8192x704 : Shape := ⟨4, ![2, 4, 8192, 704]⟩
abbrev S6x1024 : Shape := ⟨2, ![6, 1024]⟩
abbrev S2x1024 : Shape := ⟨2, ![2, 1024]⟩
abbrev S8x1024 : Shape := ⟨2, ![8, 1024]⟩
abbrev S1x5632x1024 : Shape := ⟨3, ![1, 5632, 1024]⟩
abbrev S5632x1024 : Shape := ⟨2, ![5632, 1024]⟩
abbrev S2x4x704x1024 : Shape := ⟨4, ![2, 4, 704, 1024]⟩
abbrev S8192x1024 : Shape := ⟨2, ![8192, 1024]⟩
abbrev S2816x1024 : Shape := ⟨2, ![2816, 1024]⟩
abbrev S4x8192x704 : Shape := ⟨3, ![4, 8192, 704]⟩
abbrev S256x1024 : Shape := ⟨2, ![256, 1024]⟩
abbrev S2x4x256x704 : Shape := ⟨4, ![2, 4, 256, 704]⟩
abbrev S4x256x704 : Shape := ⟨3, ![4, 256, 704]⟩
abbrev S2x256x704 : Shape := ⟨3, ![2, 256, 704]⟩
abbrev S704x1024 : Shape := ⟨2, ![704, 1024]⟩
abbrev S256x704 : Shape := ⟨2, ![256, 704]⟩
abbrev S1x256x704 : Shape := ⟨3, ![1, 256, 704]⟩
abbrev S1x16x704 : Shape := ⟨3, ![1, 16, 704]⟩
abbrev S16x704 : Shape := ⟨2, ![16, 704]⟩
abbrev S1x1x16x704 : Shape := ⟨4, ![1, 1, 16, 704]⟩
abbrev S1x1x256x704 : Shape := ⟨4, ![1, 1, 256, 704]⟩
abbrev S1x1x704x1024 : Shape := ⟨4, ![1, 1, 704, 1024]⟩
abbrev S16x1024 : Shape := ⟨2, ![16, 1024]⟩
abbrev S16 : Shape := ⟨1, ![16]⟩
abbrev S16x1 : Shape := ⟨2, ![16, 1]⟩
abbrev S128x1024 : Shape := ⟨2, ![128, 1024]⟩

abbrev nBuf : Space → Nat
  | .hbm => 72
  | .vmem => 25
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x6144, .f32⟩
  | .hbm, ⟨3, _⟩ => ⟨S1x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x8192x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1x1024, .f32⟩
  | .hbm, ⟨15, _⟩ => ⟨S1024x1024, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S1x8192x1024, .f32⟩
  | .hbm, ⟨20, _⟩ => ⟨S1024, .f32⟩
  | .hbm, ⟨21, _⟩ => ⟨S1x8192x1024, .f32⟩
  | .hbm, ⟨22, _⟩ => ⟨S_, .f32⟩
  | .hbm, ⟨23, _⟩ => ⟨S1x8192, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S_, .f32⟩
  | .hbm, ⟨29, _⟩ => ⟨S1x8192x1, .f32⟩
  | .hbm, ⟨30, _⟩ => ⟨S1x8192x1, .f32⟩
  | .hbm, ⟨31, _⟩ => ⟨S1x8192x1, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1x1x1024, .f32⟩
  | .hbm, ⟨38, _⟩ => ⟨S_, .f32⟩
  | .hbm, ⟨39, _⟩ => ⟨S1x1x1024, .f32⟩
  | .hbm, ⟨40, _⟩ => ⟨S1x1x1024, .f32⟩
  | .hbm, ⟨41, _⟩ => ⟨S1x8192x1024, .f32⟩
  | .hbm, ⟨42, _⟩ => ⟨S1x8192x1024, .f32⟩
  | .hbm, ⟨43, _⟩ => ⟨S1x1x1024, .f32⟩
  | .hbm, ⟨44, _⟩ => ⟨S1x8192x1024, .f32⟩
  | .hbm, ⟨45, _⟩ => ⟨S1x8192x1024, .f32⟩
  | .hbm, ⟨46, _⟩ => ⟨S1024x5632, .f32⟩
  | .hbm, ⟨47, _⟩ => ⟨S1x8192x5632, .f32⟩
  | .hbm, ⟨48, _⟩ => ⟨S8192x5632, .f32⟩
  | .hbm, ⟨49, _⟩ => ⟨S8192x2x4x704, .f32⟩
  | .hbm, ⟨50, _⟩ => ⟨S2x4x8192x704, .f32⟩
  | .hbm, ⟨51, _⟩ => ⟨S2x4x8192x704, .bf16⟩
  | .hbm, ⟨52, _⟩ => ⟨S6x1024, .f32⟩
  | .hbm, ⟨53, _⟩ => ⟨S_, .f32⟩
  | .hbm, ⟨54, _⟩ => ⟨S2x1024, .f32⟩
  | .hbm, ⟨55, _⟩ => ⟨S8x1024, .f32⟩
  | .hbm, ⟨56, _⟩ => ⟨S1x5632x1024, .f32⟩
  | .hbm, ⟨57, _⟩ => ⟨S5632x1024, .f32⟩
  | .hbm, ⟨58, _⟩ => ⟨S5632x1024, .bf16⟩
  | .hbm, ⟨59, _⟩ => ⟨S2x4x704x1024, .bf16⟩
  | .hbm, ⟨60, _⟩ => ⟨S8192x1024, .f32⟩
  | .hbm, ⟨61, _⟩ => ⟨S8192x1024, .f32⟩
  | .hbm, ⟨62, _⟩ => ⟨S2816x1024, .f32⟩
  | .hbm, ⟨63, _⟩ => ⟨S2816x1024, .bf16⟩
  | .hbm, ⟨64, _⟩ => ⟨S1024x1024, .f32⟩
  | .hbm, ⟨65, _⟩ => ⟨S1024x1024, .bf16⟩
  | .hbm, ⟨66, _⟩ => ⟨S2x4x8192x704, .bf16⟩
  | .hbm, ⟨67, _⟩ => ⟨S4x8192x704, .bf16⟩
  | .hbm, ⟨68, _⟩ => ⟨S8192x1024, .f32⟩
  | .hbm, ⟨69, _⟩ => ⟨S8192x1024, .bf16⟩
  | .hbm, ⟨70, _⟩ => ⟨S8192x1024, .bf16⟩
  | .hbm, ⟨71, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S2x4x256x704, .bf16⟩
  | .local _ .vmem, ⟨3, _⟩ => ⟨S2x4x256x704, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S1x1024, .f32⟩
  | .local _ .vmem, ⟨8, _⟩ => ⟨S2x4x704x1024, .bf16⟩
  | .local _ .vmem, ⟨9, _⟩ => ⟨S2816x1024, .bf16⟩
  | .local _ .vmem, ⟨10, _⟩ => ⟨S1024x1024, .bf16⟩
  | .local _ .vmem, ⟨11, _⟩ => ⟨S2x4x256x704, .bf16⟩
  | .local _ .vmem, ⟨12, _⟩ => ⟨S2x4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | .local _ .vmem, ⟨22, _⟩ => ⟨S256x1024, .f32⟩
  | .local _ .vmem, ⟨23, _⟩ => ⟨S256x1024, .bf16⟩
  | .local _ .vmem, ⟨24, _⟩ => ⟨S2x256x704, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev main_v53_2 : Ref sig .tc := ⟨.hbm, 68, rfl⟩
abbrev main_v53_3 : Ref sig .tc := ⟨.hbm, 69, rfl⟩
abbrev main_v53_4 : Ref sig .tc := ⟨.hbm, 70, rfl⟩
abbrev main_v53_5 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S_ : Shape := ⟨0, ![]⟩
abbrev S1x8192x5632 : Shape := ⟨3, ![1, 8192, 5632]⟩
abbrev S1x1x1024 : Shape := ⟨3, ![1, 1, 1024]⟩
abbrev S1024x1024 : Shape := ⟨2, ![1024, 1024]⟩
abbrev S1024 : Shape := ⟨1, ![1024]⟩
abbrev S1x8192 : Shape := ⟨2, ![1, 8192]⟩
abbrev S1x8192x1 : Shape := ⟨3, ![1, 8192, 1]⟩
abbrev S1024x5632 : Shape := ⟨2, ![1024, 5632]⟩
abbrev S1x8192x2816 : Shape := ⟨3, ![1, 8192, 2816]⟩
abbrev S2816x1024 : Shape := ⟨2, ![2816, 1024]⟩
abbrev S8192 : Shape := ⟨1, ![8192]⟩
abbrev S8192x5632 : Shape := ⟨2, ![8192, 5632]⟩
abbrev S8192x2x4x704 : Shape := ⟨4, ![8192, 2, 4, 704]⟩
abbrev S2x4x8192x704 : Shape := ⟨4, ![2, 4, 8192, 704]⟩
abbrev S8192x2816 : Shape := ⟨2, ![8192, 2816]⟩
abbrev S8192x4x704 : Shape := ⟨3, ![8192, 4, 704]⟩
abbrev S4x8192x704 : Shape := ⟨3, ![4, 8192, 704]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 152
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x6144, .f32⟩
  | 3 => ⟨S1x1024, .f32⟩
  | 4 => ⟨S1x1024x1024, .f32⟩
  | 5 => ⟨S1x1024x5632, .f32⟩
  | 6 => ⟨S1x2816x1024, .f32⟩
  | 7 => ⟨S1x8192x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S_, .f32⟩
  | 15 => ⟨S1x8192x5632, .f32⟩
  | 16 => ⟨S1x1x1024, .f32⟩
  | 17 => ⟨S1024x1024, .f32⟩
  | 18 => ⟨S1x8192x1024, .f32⟩
  | 19 => ⟨S1x8192x1024, .f32⟩
  | 20 => ⟨S1x8192x1024, .f32⟩
  | 21 => ⟨S1x8192x1024, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S1x8192x1, .f32⟩
  | 32 => ⟨S1x8192x1, .f32⟩
  | 33 => ⟨S1x8192x1, .f32⟩
  | 34 => ⟨S1x8192x1, .f32⟩
  | 35 => ⟨S_, .f32⟩
  | 36 => ⟨S1x8192x1, .f32⟩
  | 37 => ⟨S1x8192x1, .f32⟩
  | 38 => ⟨S1x8192x1024, .f32⟩
  | 39 => ⟨S1x8192x1024, .f32⟩
  | 40 => ⟨S1x1x1024, .f32⟩
  | 41 => ⟨S1x8192x1024, .f32⟩
  | 42 => ⟨S1x8192x1024, .f32⟩
  | 43 => ⟨S1x1x1024, .f32⟩
  | 44 => ⟨S_, .f32⟩
  | 45 => ⟨S1x1x1024, .f32⟩
  | 46 => ⟨S1x1x1024, .f32⟩
  | 47 => ⟨S1x8192x1024, .f32⟩
  | 48 => ⟨S1x8192x1024, .f32⟩
  | 49 => ⟨S1x1x1024, .f32⟩
  | 50 => ⟨S1x8192x1024, .f32⟩
  | 51 => ⟨S1x8192x1024, .f32⟩
  | 52 => ⟨S1024x5632, .f32⟩
  | 53 => ⟨S1x8192x5632, .f32⟩
  | 54 => ⟨S1x8192x5632, .f32⟩
  | 55 => ⟨S1x8192x2816, .f32⟩
  | 56 => ⟨S1x8192x2816, .f32⟩
  | 57 => ⟨S1x8192x2816, .f32⟩
  | 58 => ⟨S1x8192x2816, .f32⟩
  | 59 => ⟨S_, .f32⟩
  | 60 => ⟨S1x8192x2816, .f32⟩
  | 61 => ⟨S1x8192x2816, .f32⟩
  | 62 => ⟨S_, .f32⟩
  | 63 => ⟨S1x8192x2816, .f32⟩
  | 64 => ⟨S1x8192x2816, .f32⟩
  | 65 => ⟨S_, .f32⟩
  | 66 => ⟨S1x8192x2816, .f32⟩
  | 67 => ⟨S1x8192x2816, .f32⟩
  | 68 => ⟨S1x8192x2816, .f32⟩
  | 69 => ⟨S1x8192x2816, .f32⟩
  | 70 => ⟨S1x8192x2816, .f32⟩
  | 71 => ⟨S1x1x1024, .f32⟩
  | 72 => ⟨S2816x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S1x8192x1024, .f32⟩
  | 80 => ⟨S1x8192x1024, .f32⟩
  | 81 => ⟨S1x8192x2816, .f32⟩
  | 82 => ⟨S1x8192x2816, .f32⟩
  | 83 => ⟨S1x8192x2816, .f32⟩
  | 84 => ⟨S1x8192x2816, .f32⟩
  | 85 => ⟨S1x8192x2816, .f32⟩
  | 86 => ⟨S1x8192x2816, .f32⟩
  | 87 => ⟨S1x8192x2816, .f32⟩
  | 88 => ⟨S1x8192x5632, .f32⟩
  | 89 => ⟨S1x8192x1024, .f32⟩
  | 90 => ⟨S_, .f32⟩
  | 91 => ⟨S1x1024, .f32⟩
  | 92 => ⟨S1x1x1024, .f32⟩
  | 93 => ⟨S_, .f32⟩
  | 94 => ⟨S1024, .f32⟩
  | 95 => ⟨S1x1024, .f32⟩
  | 96 => ⟨S1x8192x1024, .f32⟩
  | 97 => ⟨S_, .f32⟩
  | 98 => ⟨S1x1024, .f32⟩
  | 99 => ⟨S1x1x1024, .f32⟩
  | 100 => ⟨S1x8192x1024, .f32⟩
  | 101 => ⟨S1x8192x1024, .f32⟩
  | 102 => ⟨S_, .f32⟩
  | 103 => ⟨S1024, .f32⟩
  | 104 => ⟨S1x1024, .f32⟩
  | 105 => ⟨S1x8192x1024, .f32⟩
  | 106 => ⟨S_, .f32⟩
  | 107 => ⟨S1x1024, .f32⟩
  | 108 => ⟨S1x1x1024, .f32⟩
  | 109 => ⟨S1x8192x1024, .f32⟩
  | 110 => ⟨S1x8192x1024, .f32⟩
  | 111 => ⟨S_, .f32⟩
  | 112 => ⟨S1024, .f32⟩
  | 113 => ⟨S1x8192x1024, .f32⟩
  | 114 => ⟨S_, .f32⟩
  | 115 => ⟨S1x8192, .f32⟩
  | 116 => ⟨S1x8192x1, .f32⟩
  | 117 => ⟨S1x8192x1024, .f32⟩
  | 118 => ⟨S1x8192x1024, .f32⟩
  | 119 => ⟨S1x8192x1024, .f32⟩
  | 120 => ⟨S1x8192x1, .f32⟩
  | 121 => ⟨S_, .f32⟩
  | 122 => ⟨S1x8192x1, .f32⟩
  | 123 => ⟨S1x8192x1, .f32⟩
  | 124 => ⟨S_, .f32⟩
  | 125 => ⟨S8192, .f32⟩
  | 126 => ⟨S1x8192, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1x8192x1024, .f32⟩
  | 4 => ⟨S1x1024, .f32⟩
  | 5 => ⟨S1x8192x1024, .f32⟩
  | 6 => ⟨S1x8192x1024, .f32⟩
  | 7 => ⟨S1x8192x1024, .f32⟩
  | 8 => ⟨S8192x5632, .f32⟩
  | 9 => ⟨S8192x2x4x704, .f32⟩
  | 10 => ⟨S2x4x8192x704, .f32⟩
  | 11 => ⟨S2x4x8192x704, .bf16⟩
  | 12 => ⟨S8192x2816, .f32⟩
  | 13 => ⟨S8192x4x704, .f32⟩
  | 14 => ⟨S4x8192x704, .f32⟩
  | 15 => ⟨S4x8192x704, .bf16⟩
  | 16 => ⟨S8192x1024, .f32⟩
  | 17 => ⟨S8192x1024, .f32⟩
  | 18 => ⟨S8192x1024, .bf16⟩
  | 19 => ⟨S8192x1024, .f32⟩
  | 20 => ⟨S8192x1024, .bf16⟩
  | 21 => ⟨S_, .f32⟩
  | 22 => ⟨S5x1024, .f32⟩
  | 23 => ⟨S8x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v43_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v43_1 : Ref sig .tc := ⟨.hbm, 68, rfl⟩
abbrev main_v43_0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_5 : Ref sig .tc := ⟨.hbm, 90, rfl⟩
abbrev main_v61 : Ref sig .tc := ⟨.hbm, 91, rfl⟩
abbrev main_v62 : Ref sig .tc := ⟨.hbm, 92, rfl⟩
abbrev main_cst_6 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_7 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_9 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_v86 : Ref sig .tc := ⟨.hbm, 123, rfl⟩
abbrev main_cst_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_14 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]
-- ==== FfnFwd.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S1x1x1024 : Shape := ⟨3, ![1, 1, 1024]⟩
abbrev S1024x1024 : Shape := ⟨2, ![1024, 1024]⟩
abbrev S_ : Shape := ⟨0, ![]⟩
abbrev S1x8192 : Shape := ⟨2, ![1, 8192]⟩
abbrev S1x8192x1 : Shape := ⟨3, ![1, 8192, 1]⟩
abbrev S6x1024 : Shape := ⟨2, ![6, 1024]⟩
abbrev S2x1024 : Shape := ⟨2, ![2, 1024]⟩
abbrev S8x1024 : Shape := ⟨2, ![8, 1024]⟩
abbrev S1x5632x1024 : Shape := ⟨3, ![1, 5632, 1024]⟩
abbrev S5632x1024 : Shape := ⟨2, ![5632, 1024]⟩
abbrev S2x4x704x1024 : Shape := ⟨4, ![2, 4, 704, 1024]⟩
abbrev S8192x1024 : Shape := ⟨2, ![8192, 1024]⟩
abbrev S2816x1024 : Shape := ⟨2, ![2816, 1024]⟩
abbrev S2x4x8192x704 : Shape := ⟨4, ![2, 4, 8192, 704]⟩
abbrev S1x128 : Shape := ⟨2, ![1, 128]⟩
abbrev S256x1024 : Shape := ⟨2, ![256, 1024]⟩
abbrev S2x4x256x704 : Shape := ⟨4, ![2, 4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x1x256x704 : Shape := ⟨4, ![1, 1, 256, 704]⟩
abbrev S16x1024 : Shape := ⟨2, ![16, 1024]⟩
abbrev S16 : Shape := ⟨1, ![16]⟩
abbrev S16x1 : Shape := ⟨2, ![16, 1]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 67
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x6144, .f32⟩
  | .hbm, ⟨3, _⟩ => ⟨S1x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1x8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1x1024, .f32⟩
  | .hbm, ⟨16, _⟩ => ⟨S1024x1024, .f32⟩
  | .hbm, ⟨17, _⟩ => ⟨S1x8192x1024, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S1024, .f32⟩
  | .hbm, ⟨22, _⟩ => ⟨S1x8192x1024, .f32⟩
  | .hbm, ⟨23, _⟩ => ⟨S_, .f32⟩
  | .hbm, ⟨24, _⟩ => ⟨S1x8192, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S_, .f32⟩
  | .hbm, ⟨30, _⟩ => ⟨S1x8192x1, .f32⟩
  | .hbm, ⟨31, _⟩ => ⟨S1x8192x1, .f32⟩
  | .hbm, ⟨32, _⟩ => ⟨S1x8192x1, .f32⟩
  | .hbm, ⟨33, _⟩ => ⟨S1x8192x1024, .f32⟩
  | .hbm, ⟨34, _⟩ => ⟨S1x8192x1024, .f32⟩
  | .hbm, ⟨35, _⟩ => ⟨S1x1x1024, .f32⟩
  | .hbm, ⟨36, _⟩ => ⟨S1x8192x1024, .f32⟩
  | .hbm, ⟨37, _⟩ => ⟨S1x8192x1024, .f32⟩
  | .hbm, ⟨38, _⟩ => ⟨S1x1x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S1x8192x1024, .f32⟩
  | .hbm, ⟨43, _⟩ => ⟨S1x8192x1024, .f32⟩
  | .hbm, ⟨44, _⟩ => ⟨S1x1x1024, .f32⟩
  | .hbm, ⟨45, _⟩ => ⟨S1x8192x1024, .f32⟩
  | .hbm, ⟨46, _⟩ => ⟨S1x8192x1024, .f32⟩
  | .hbm, ⟨47, _⟩ => ⟨S6x1024, .f32⟩
  | .hbm, ⟨48, _⟩ => ⟨S_, .f32⟩
  | .hbm, ⟨49, _⟩ => ⟨S2x1024, .f32⟩
  | .hbm, ⟨50, _⟩ => ⟨S8x1024, .f32⟩
  | .hbm, ⟨51, _⟩ => ⟨S1x5632x1024, .f32⟩
  | .hbm, ⟨52, _⟩ => ⟨S5632x1024, .f32⟩
  | .hbm, ⟨53, _⟩ => ⟨S5632x1024, .bf16⟩
  | .hbm, ⟨54, _⟩ => ⟨S2x4x704x1024, .bf16⟩
  | .hbm, ⟨55, _⟩ => ⟨S8192x1024, .f32⟩
  | .hbm, ⟨56, _⟩ => ⟨S8192x1024, .bf16⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S2816x1024, .f32⟩
  | .hbm, ⟨61, _⟩ => ⟨S2816x1024, .bf16⟩
  | .hbm, ⟨62, _⟩ => ⟨S2x4x8192x704, .bf16⟩
  | .hbm, ⟨63, _⟩ => ⟨S8192x1024, .f32⟩
  | .hbm, ⟨64, _⟩ => ⟨S8192x1024, .bf16⟩
  | .hbm, ⟨65, _⟩ => ⟨S1x128, .f32⟩
  | .hbm, ⟨66, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S1x1024, .f32⟩
  | .local _ .vmem, ⟨8, _⟩ => ⟨S2x4x704x1024, .bf16⟩
  | .local _ .vmem, ⟨9, _⟩ => ⟨S2816x1024, .bf16⟩
  | .local _ .vmem, ⟨10, _⟩ => ⟨S2x4x256x704, .bf16⟩
  | .local _ .vmem, ⟨11, _⟩ => ⟨S2x4x256x704, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x128, .f32⟩
  | .local _ .vmem, ⟨17, _⟩ => ⟨S1x1024, .f32⟩
  | .local _ .vmem, ⟨18, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev main_v48_3 : Ref sig .tc := ⟨.hbm, 65, rfl⟩
abbrev main_v48_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadRefIdeal.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S1x1x1024 : Shape := ⟨3, ![1, 1, 1024]⟩
abbrev S1024x1024 : Shape := ⟨2, ![1024, 1024]⟩
abbrev S_ : Shape := ⟨0, ![]⟩
abbrev S1x8192 : Shape := ⟨2, ![1, 8192]⟩
abbrev S1x8192x1 : Shape := ⟨3, ![1, 8192, 1]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S2816x1024 : Shape := ⟨2, ![2816, 1024]⟩
abbrev S8192 : Shape := ⟨1, ![8192]⟩
abbrev S8192x5632 : Shape := ⟨2, ![8192, 5632]⟩
abbrev S8192x2x4x704 : Shape := ⟨4, ![8192, 2, 4, 704]⟩
abbrev S2x4x8192x704 : Shape := ⟨4, ![2, 4, 8192, 704]⟩
abbrev S8192x1024 : Shape := ⟨2, ![8192, 1024]⟩
abbrev S1x128 : Shape := ⟨2, ![1, 128]⟩

abbrev nBuf : Space → Nat
  | .hbm => 145
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x6144, .f32⟩
  | 3 => ⟨S1x1024, .f32⟩
  | 4 => ⟨S1x1024x1024, .f32⟩
  | 5 => ⟨S1x1024x5632, .f32⟩
  | 6 => ⟨S1x2816x1024, .f32⟩
  | 7 => ⟨S1024, .f32⟩
  | 8 => ⟨S1x8192x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1x1024, .f32⟩
  | 16 => ⟨S1024x1024, .f32⟩
  | 17 => ⟨S1x8192x1024, .f32⟩
  | 18 => ⟨S1x8192x1024, .f32⟩
  | 19 => ⟨S1x8192x1024, .f32⟩
  | 20 => ⟨S1x8192x1024, .f32⟩
  | 21 => ⟨S1024, .f32⟩
  | 22 => ⟨S1x8192x1024, .f32⟩
  | 23 => ⟨S_, .f32⟩
  | 24 => ⟨S1x8192, .f32⟩
  | 25 => ⟨S1x8192x1, .f32⟩
  | 26 => ⟨S_, .f32⟩
  | 27 => ⟨S1x8192x1, .f32⟩
  | 28 => ⟨S1x8192x1, .f32⟩
  | 29 => ⟨S_, .f32⟩
  | 30 => ⟨S1x8192x1, .f32⟩
  | 31 => ⟨S1x8192x1, .f32⟩
  | 32 => ⟨S1x8192x1, .f32⟩
  | 33 => ⟨S1x8192x1024, .f32⟩
  | 34 => ⟨S1x8192x1024, .f32⟩
  | 35 => ⟨S1x1x1024, .f32⟩
  | 36 => ⟨S1x8192x1024, .f32⟩
  | 37 => ⟨S1x8192x1024, .f32⟩
  | 38 => ⟨S1x1x1024, .f32⟩
  | 39 => ⟨S_, .f32⟩
  | 40 => ⟨S1x1x1024, .f32⟩
  | 41 => ⟨S1x1x1024, .f32⟩
  | 42 => ⟨S1x8192x1024, .f32⟩
  | 43 => ⟨S1x8192x1024, .f32⟩
  | 44 => ⟨S1x1x1024, .f32⟩
  | 45 => ⟨S1x8192x1024, .f32⟩
  | 46 => ⟨S1x8192x1024, .f32⟩
  | 47 => ⟨S1024x5632, .f32⟩
  | 48 => ⟨S1x8192x5632, .f32⟩
  | 49 => ⟨S1x8192x2816, .f32⟩
  | 50 => ⟨S1x8192x2816, .f32⟩
  | 51 => ⟨S1x1x1024, .f32⟩
  | 52 => ⟨S1x8192x2816, .f32⟩
  | 53 => ⟨S1x8192x2816, .f32⟩
  | 54 => ⟨S_, .f32⟩
  | 55 => ⟨S1x8192x2816, .f32⟩
  | 56 => ⟨S1x8192x2816, .f32⟩
  | 57 => ⟨S_, .f32⟩
  | 58 => ⟨S1x8192x2816, .f32⟩
  | 59 => ⟨S1x8192x2816, .f32⟩
  | 60 => ⟨S1x8192x2816, .f32⟩
  | 61 => ⟨S1x8192x2816, .f32⟩
  | 62 => ⟨S2816x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S_, .f32⟩
  | 69 => ⟨S1x8192, .f32⟩
  | 70 => ⟨S1x8192x1, .f32⟩
  | 71 => ⟨S_, .f32⟩
  | 72 => ⟨S1x8192x1, .f32⟩
  | 73 => ⟨S1x8192x1, .f32⟩
  | 74 => ⟨S_, .f32⟩
  | 75 => ⟨S1x8192x1, .f32⟩
  | 76 => ⟨S1x8192x1, .f32⟩
  | 77 => ⟨S1x8192x1, .f32⟩
  | 78 => ⟨S1x8192x1, .f32⟩
  | 79 => ⟨S_, .f32⟩
  | 80 => ⟨S1x8192x1, .f32⟩
  | 81 => ⟨S1x8192x1, .f32⟩
  | 82 => ⟨S1x8192x1024, .f32⟩
  | 83 => ⟨S1x8192x1024, .f32⟩
  | 84 => ⟨S1x1x1024, .f32⟩
  | 85 => ⟨S1x8192x1024, .f32⟩
  | 86 => ⟨S1x8192x1024, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S_, .f32⟩
  | 93 => ⟨S1x8192, .f32⟩
  | 94 => ⟨S_, .f32⟩
  | 95 => ⟨S1x8192, .f32⟩
  | 96 => ⟨S1x8192, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1x8192, .f32⟩
  | 105 => ⟨S_, .f32⟩
  | 106 => ⟨S1x8192, .f32⟩
  | 107 => ⟨S1x8192, .f32⟩
  | 108 => ⟨S1x8192x1024, .f32⟩
  | 109 => ⟨S1x8192x1024, .f32⟩
  | 110 => ⟨S1x8192x1024, .f32⟩
  | 111 => ⟨S_, .f32⟩
  | 112 => ⟨S1x1024, .f32⟩
  | 113 => ⟨S1x1x1024, .f32⟩
  | 114 => ⟨S1x8192x1024, .f32⟩
  | 115 => ⟨S1x8192x1024, .f32⟩
  | 116 => ⟨S_, .f32⟩
  | 117 => ⟨S1024, .f32⟩
  | 118 => ⟨S1x8192x1024, .f32⟩
  | 119 => ⟨S_, .f32⟩
  | 120 => ⟨S1x8192, .f32⟩
  | 121 => ⟨S1x8192x1, .f32⟩
  | 122 => ⟨S1x8192x1024, .f32⟩
  | 123 => ⟨S1x8192x1024, .f32⟩
  | 124 => ⟨S1x8192x1, .f32⟩
  | 125 => ⟨S_, .f32⟩
  | 126 => ⟨S1x8192x1, .f32⟩
  | 127 => ⟨S1x8192x1, .f32⟩
  | _ => ⟨S1x8192x1024, .f32⟩

abbrev hbmTy0_1 (i : Nat) : BufTy := match i % 128 with
  | 0 => ⟨S_, .f32⟩
  | 1 => ⟨S8192, .f32⟩
  | 2 => ⟨S1x8192, .f32⟩
  | 3 => ⟨S1x8192x1024, .f32⟩
  | 4 => ⟨S1x8192x1024, .f32⟩
  | 5 => ⟨S1x8192x1024, .f32⟩
  | 6 => ⟨S1x8192x1024, .f32⟩
  | 7 => ⟨S1x8192x1024, .f32⟩
  | 8 => ⟨S8192x5632, .f32⟩
  | 9 => ⟨S8192x2x4x704, .f32⟩
  | 10 => ⟨S2x4x8192x704, .f32⟩
  | 11 => ⟨S2x4x8192x704, .bf16⟩
  | 12 => ⟨S8192x1024, .f32⟩
  | 13 => ⟨S8192x1024, .f32⟩
  | 14 => ⟨S8192x1024, .bf16⟩
  | 15 => ⟨S1x128, .f32⟩
  | 16 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_cst_10 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_cst_12 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== OutWgrad.lean ====
abbrev S1x8192x1024 : Shape := ⟨3, ![1, 8192, 1024]⟩
abbrev S1x6144 : Shape := ⟨2, ![1, 6144]⟩
abbrev S1x1024x1024 : Shape := ⟨3, ![1, 1024, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S8192x1024 : Shape := ⟨2, ![8192, 1024]⟩
abbrev S1024x1024 : Shape := ⟨2, ![1024, 1024]⟩
abbrev S4x2x128x1024 : Shape := ⟨4, ![4, 2, 128, 1024]⟩
abbrev S2048x256 : Shape := ⟨2, ![2048, 256]⟩
abbrev S2048x1024 : Shape := ⟨2, ![2048, 1024]⟩
abbrev S256x1024 : Shape := ⟨2, ![256, 1024]⟩
abbrev S1x2x128x1024 : Shape := ⟨4, ![1, 2, 128, 1024]⟩
abbrev S1x1024 : Shape := ⟨2, ![1, 1024]⟩
abbrev S1024 : Shape := ⟨1, ![1024]⟩
abbrev S128x1024 : Shape := ⟨2, ![128, 1024]⟩
abbrev S1x1x128x1024 : Shape := ⟨4, ![1, 1, 128, 1024]⟩

abbrev nBuf : Space → Nat
  | .hbm => 16
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024x1024, .f32⟩
  | .hbm, ⟨3, _⟩ => ⟨S1x8192x1024, .f32⟩
  | .hbm, ⟨4, _⟩ => ⟨S6x1024, .f32⟩
  | .hbm, ⟨5, _⟩ => ⟨S_, .f32⟩
  | .hbm, ⟨6, _⟩ => ⟨S2x1024, .f32⟩
  | .hbm, ⟨7, _⟩ => ⟨S8x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S1024x1024, .f32⟩
  | .hbm, ⟨13, _⟩ => ⟨S1024x1024, .bf16⟩
  | .hbm, ⟨14, _⟩ => ⟨S4x2x128x1024, .bf16⟩
  | .hbm, ⟨15, _⟩ => ⟨S8x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S1x2x128x1024, .bf16⟩
  | .local _ .vmem, ⟨8, _⟩ => ⟨S1x2x128x1024, .bf16⟩
  | .local _ .vmem, ⟨9, _⟩ => ⟨S8x1024, .f32⟩
  | .local _ .vmem, ⟨10, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== OutRefIdeal.lean ====
abbrev S1x8192x1024 : Shape := ⟨3, ![1, 8192, 1024]⟩
abbrev S1x6144 : Shape := ⟨2, ![1, 6144]⟩
abbrev S1x1024x1024 : Shape := ⟨3, ![1, 1024, 1024]⟩
abbrev S1x1024 : Shape := ⟨2, ![1, 1024]⟩
abbrev S1x1x1024 : Shape := ⟨3, ![1, 1, 1024]⟩
abbrev S1024x1024 : Shape := ⟨2, ![1024, 1024]⟩
abbrev S_ : Shape := ⟨0, ![]⟩
abbrev S1024 : Shape := ⟨1, ![1024]⟩
abbrev S4x2x128x1024 : Shape := ⟨4, ![4, 2, 128, 1024]⟩
abbrev S7x1024 : Shape := ⟨2, ![7, 1024]⟩
abbrev S8x1024 : Shape := ⟨2, ![8, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024x1024, .f32⟩
  | .hbm, ⟨3, _⟩ => ⟨S1x8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1x1024, .f32⟩
  | .hbm, ⟨11, _⟩ => ⟨S1024x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S1x8192x1024, .f32⟩
  | .hbm, ⟨17, _⟩ => ⟨S1x8192x1024, .f32⟩
  | .hbm, ⟨18, _⟩ => ⟨S_, .f32⟩
  | .hbm, ⟨19, _⟩ => ⟨S1x1024, .f32⟩
  | .hbm, ⟨20, _⟩ => ⟨S1x1x1024, .f32⟩
  | .hbm, ⟨21, _⟩ => ⟨S1024x1024, .f32⟩
  | .hbm, ⟨22, _⟩ => ⟨S1024x1024, .f32⟩
  | .hbm, ⟨23, _⟩ => ⟨S1x1024x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x1024, .f32⟩
  | .hbm, ⟨28, _⟩ => ⟨S4x2x128x1024, .f32⟩
  | .hbm, ⟨29, _⟩ => ⟨S4x2x128x1024, .bf16⟩
  | .hbm, ⟨30, _⟩ => ⟨S_, .f32⟩
  | .hbm, ⟨31, _⟩ => ⟨S7x1024, .f32⟩
  | .hbm, ⟨32, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== OutProj.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S8192x1024 : Shape := ⟨2, ![8192, 1024]⟩
abbrev S1024x1024 : Shape := ⟨2, ![1024, 1024]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩

abbrev nBuf : Space → Nat
  | .hbm => 16
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x6144, .f32⟩
  | .hbm, ⟨3, _⟩ => ⟨S1x1024, .f32⟩
  | .hbm, ⟨4, _⟩ => ⟨S1x1024x1024, .f32⟩
  | .hbm, ⟨5, _⟩ => ⟨S6x1024, .f32⟩
  | .hbm, ⟨6, _⟩ => ⟨S_, .f32⟩
  | .hbm, ⟨7, _⟩ => ⟨S2x1024, .f32⟩
  | .hbm, ⟨8, _⟩ => ⟨S8x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S1024x1024, .f32⟩
  | .hbm, ⟨13, _⟩ => ⟨S1024x1024, .bf16⟩
  | .hbm, ⟨14, _⟩ => ⟨S8192x1024, .f32⟩
  | .hbm, ⟨15, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S1x8192x1024 : Shape := ⟨3, ![1, 8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x6144, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1x1024, .f32⟩
  | .hbm, ⟨12, _⟩ => ⟨S1024x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S1x8192x1024, .f32⟩
  | .hbm, ⟨17, _⟩ => ⟨S8192x1024, .f32⟩
  | .hbm, ⟨18, _⟩ => ⟨S1024, .f32⟩
  | .hbm, ⟨19, _⟩ => ⟨S1x8192x1024, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1024, .f32⟩
  | .hbm, ⟨31, _⟩ => ⟨S1x8192x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S1x1x1024, .f32⟩
  | .hbm, ⟨36, _⟩ => ⟨S_, .f32⟩
  | .hbm, ⟨37, _⟩ => ⟨S1x1x1024, .f32⟩
  | .hbm, ⟨38, _⟩ => ⟨S1x1x1024, .f32⟩
  | .hbm, ⟨39, _⟩ => ⟨S1x8192x1024, .f32⟩
  | .hbm, ⟨40, _⟩ => ⟨S1x8192x1024, .f32⟩
  | .hbm, ⟨41, _⟩ => ⟨S1x1x1024, .f32⟩
  | .hbm, ⟨42, _⟩ => ⟨S1x8192x1024, .f32⟩
  | .hbm, ⟨43, _⟩ => ⟨S1x8192x1024, .f32⟩
  | .hbm, ⟨44, _⟩ => ⟨S8192x1024, .f32⟩
  | .hbm, ⟨45, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== AdaBwd.lean ====
abbrev S8x1024 : Shape := ⟨2, ![8, 1024]⟩
abbrev S1x1024x768 : Shape := ⟨3, ![1, 1024, 768]⟩
abbrev S8x768 : Shape := ⟨2, ![8, 768]⟩
abbrev S_ : Shape := ⟨0, ![]⟩
abbrev S16x1024 : Shape := ⟨2, ![16, 1024]⟩
abbrev S16x768 : Shape := ⟨2, ![16, 768]⟩
abbrev S1024x768 : Shape := ⟨2, ![1024, 768]⟩
abbrev S16x256 : Shape := ⟨2, ![16, 256]⟩
abbrev S256x768 : Shape := ⟨2, ![256, 768]⟩

abbrev nBuf : Space → Nat
  | .hbm => 18
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S8x768, .f32⟩
  | .hbm, ⟨3, _⟩ => ⟨S1x1024x768, .f32⟩
  | .hbm, ⟨4, _⟩ => ⟨S1x1024x768, .f32⟩
  | .hbm, ⟨5, _⟩ => ⟨S_, .f32⟩
  | .hbm, ⟨6, _⟩ => ⟨S8x1024, .f32⟩
  | .hbm, ⟨7, _⟩ => ⟨S16x1024, .f32⟩
  | .hbm, ⟨8, _⟩ => ⟨S_, .f32⟩
  | .hbm, ⟨9, _⟩ => ⟨S8x768, .f32⟩
  | .hbm, ⟨10, _⟩ => ⟨S16x768, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S1024x768, .f32⟩
  | .local _ .vmem, ⟨0, _⟩ => ⟨S16x256, .f32⟩
  | .local _ .vmem, ⟨1, _⟩ => ⟨S16x256, .f32⟩
  | .local _ .vmem, ⟨2, _⟩ => ⟨S16x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaRefIdeal.lean ====
abbrev S8x1024 : Shape := ⟨2, ![8, 1024]⟩
abbrev S1x1024x768 : Shape := ⟨3, ![1, 1024, 768]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S8x768, .f32⟩
  | .hbm, ⟨3, _⟩ => ⟨S1x1024x768, .f32⟩
  | .hbm, ⟨4, _⟩ => ⟨S1x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x768, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | .hbm, ⟨40, _⟩ => ⟨S1x1024x768, .f32⟩
  | .hbm, ⟨41, _⟩ => ⟨S_, .f32⟩
  | .hbm, ⟨42, _⟩ => ⟨S1x1024x768, .f32⟩
  | .hbm, ⟨43, _⟩ => ⟨S1x1024x768, .f32⟩
  | .hbm, ⟨44, _⟩ => ⟨S1x1024x768, .f32⟩
  | .hbm, ⟨45, _⟩ => ⟨S_, .f32⟩
  | .hbm, ⟨46, _⟩ => ⟨S1x1024x768, .f32⟩
  | .hbm, ⟨47, _⟩ => ⟨S1x1024x768, .f32⟩
  | .hbm, ⟨48, _⟩ => ⟨S1x1024x768, .f32⟩
  | .hbm, ⟨49, _⟩ => ⟨S_, .f32⟩
  | .hbm, ⟨50, _⟩ => ⟨S1x1024x768, .f32⟩
  | .hbm, ⟨51, _⟩ => ⟨S1x1024x768, .f32⟩
  | .hbm, ⟨52, _⟩ => ⟨S1024x768, .f32⟩
  | .hbm, ⟨53, _⟩ => ⟨S1024x768, .f32⟩
  | .hbm, ⟨54, _⟩ => ⟨S1024x768, .f32⟩
  | .hbm, ⟨55, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Adam.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S4x128x1024 : Shape := ⟨3, ![4, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== GuWgrad.lean ====
abbrev S1x8192x1024 : Shape := ⟨3, ![1, 8192, 1024]⟩
abbrev S1x1024x5632 : Shape := ⟨3, ![1, 1024, 5632]⟩
abbrev S1x8192x5632 : Shape := ⟨3, ![1, 8192, 5632]⟩
abbrev S8192x5632 : Shape := ⟨2, ![8192, 5632]⟩
abbrev S8192x2x4x704 : Shape := ⟨4, ![8192, 2, 4, 704]⟩
abbrev S2x4x8192x704 : Shape := ⟨4, ![2, 4, 8192, 704]⟩
abbrev S8192x1024 : Shape := ⟨2, ![8192, 1024]⟩
abbrev S4x2x8192x704 : Shape := ⟨4, ![4, 2, 8192, 704]⟩
abbrev S4x2x704x1024 : Shape := ⟨4, ![4, 2, 704, 1024]⟩
abbrev S2048x1024 : Shape := ⟨2, ![2048, 1024]⟩
abbrev S1x2x2048x704 : Shape := ⟨4, ![1, 2, 2048, 704]⟩
abbrev S1x2x704x1024 : Shape := ⟨4, ![1, 2, 704, 1024]⟩
abbrev S2x704x1024 : Shape := ⟨3, ![2, 704, 1024]⟩
abbrev S1x704x1024 : Shape := ⟨3, ![1, 704, 1024]⟩
abbrev S704x1024 : Shape := ⟨2, ![704, 1024]⟩
abbrev S1x1x2048x704 : Shape := ⟨4, ![1, 1, 2048, 704]⟩
abbrev S2048x704 : Shape := ⟨2, ![2048, 704]⟩

abbrev nBuf : Space → Nat
  | .hbm => 11
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x1024x5632, .f32⟩
  | .hbm, ⟨2, _⟩ => ⟨S1x8192x5632, .f32⟩
  | .hbm, ⟨3, _⟩ => ⟨S8192x5632, .f32⟩
  | .hbm, ⟨4, _⟩ => ⟨S8192x2x4x704, .f32⟩
  | .hbm, ⟨5, _⟩ => ⟨S2x4x8192x704, .f32⟩
  | .hbm, ⟨6, _⟩ => ⟨S8192x1024, .f32⟩
  | .hbm, ⟨7, _⟩ => ⟨S8192x1024, .bf16⟩
  | .hbm, ⟨8, _⟩ => ⟨S2x4x8192x704, .bf16⟩
  | .hbm, ⟨9, _⟩ => ⟨S4x2x8192x704, .bf16⟩
  | .hbm, ⟨10, _⟩ => ⟨S4x2x704x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2x2048x704, .bf16⟩
  | .local _ .vmem, ⟨3, _⟩ => ⟨S1x2x2048x704, .bf16⟩
  | .local _ .vmem, ⟨4, _⟩ => ⟨S1x2x704x1024, .bf16⟩
  | .local _ .vmem, ⟨5, _⟩ => ⟨S1x2x704x1024, .bf16⟩
  | .local _ .vmem, ⟨6, _⟩ => ⟨S2x704x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_22 : BitVec 32 := 0#32
  let v25 : BitVec 1 := Scalar.cmpi .ne v24 c0_i32_22
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GuRefIdeal.lean ====
abbrev S1x8192x1024 : Shape := ⟨3, ![1, 8192, 1024]⟩
abbrev S1x1024x5632 : Shape := ⟨3, ![1, 1024, 5632]⟩
abbrev S1x8192x5632 : Shape := ⟨3, ![1, 8192, 5632]⟩
abbrev S1024x5632 : Shape := ⟨2, ![1024, 5632]⟩
abbrev S5632x1024 : Shape := ⟨2, ![5632, 1024]⟩
abbrev S4x2x704x1024 : Shape := ⟨4, ![4, 2, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x5632, .f32⟩
  | .hbm, ⟨2, _⟩ => ⟨S1x8192x5632, .f32⟩
  | .hbm, ⟨3, _⟩ => ⟨S1024x5632, .f32⟩
  | .hbm, ⟨4, _⟩ => ⟨S1x8192x5632, .f32⟩
  | .hbm, ⟨5, _⟩ => ⟨S5632x1024, .f32⟩
  | .hbm, ⟨6, _⟩ => ⟨S1024x5632, .f32⟩
  | .hbm, ⟨7, _⟩ => ⟨S1x1024x5632, .f32⟩
  | .hbm, ⟨8, _⟩ => ⟨S1024x5632, .f32⟩
  | .hbm, ⟨9, _⟩ => ⟨S5632x1024, .f32⟩
  | .hbm, ⟨10, _⟩ => ⟨S4x2x704x1024, .f32⟩
  | .hbm, ⟨11, _⟩ => ⟨S4x2x704x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Blocks.lean ====
/- What one grid step of the kernel leaves in its two output blocks, as families over the 32 row groups of 16 rows. -/
module
public import proofs.«01_k».proof.Proof.Gen.KernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Blocks
open Cert.KernelIdeal Cert.KernelIdeal.Gen
variable {F : FTy → Type} [FloatOps F]

/-- The 16 rows of row group `n`. -/
def rws (n : ℕ) : Rect S512x1024 :=
  Rect.unit ![16 * (n % 32), 0] S16x1024.size (Fin.forall_fin_two.mpr ⟨by
    show 16 * (n % 32) + 16 ≤ 512
    omega, Nat.le_refl 1024⟩)

/-- A block's rows of group `n`. -/
def grp (X : Vec F S512x1024 .f32) (n : ℕ) : Vec F S16x1024 .f32 := View.ld X (rws n)

def piece0 (X0 : Vec F S512x7168 .bf16) (X1 : Vec F S1024x7168 .bf16) : View.Piece (Elt F) S512x1024 .f32 :=
  ⟨Rect.unit ![0, 0] S256x1024.size inb_S512x1024_S256x1024_0_0,
    k0_pay4 (View.ld X0 (Rect.unit ![0, 0] S256x7168.size inb_S512x7168_S256x7168_0_0)) X1⟩

def piece1 (X0 : Vec F S512x7168 .bf16) (X1 : Vec F S1024x7168 .bf16) : View.Piece (Elt F) S512x1024 .f32 :=
  ⟨Rect.unit ![256, 0] S256x1024.size inb_S512x1024_S256x1024_256_0,
    k0_pay4 (View.ld X0 (Rect.unit ![256, 0] S256x7168.size inb_S512x7168_S256x7168_256_0)) X1⟩

/-- The product's rows of group `n` as the kernel loads them back. -/
def dh (X0 : Vec F S512x7168 .bf16) (X1 : Vec F S1024x7168 .bf16) (n : ℕ) : Vec F S16x1024 .f32 :=
  if n % 32 < 16 then (View.whole cc0_scratch0).readCov [piece0 X0 X1] (rws n).toLoadRect
  else (View.whole cc0_scratch0).readCov [piece1 X0 X1, piece0 X0 X1] (rws n).toLoadRect

section
variable (X0 : Vec F S512x7168 .bf16) (X1 : Vec F S1024x7168 .bf16) (X2 X3 : Vec F S512x1024 .f32)
  (V12 V14 : Vec F S1x1024 .f32)

/-- The stores of the first `n` row groups into the gradient's block, last first. -/
def rowPieces : ℕ → List (View.Piece (Elt F) S512x1024 .f32)
  | 0 => []
  | n + 1 => ⟨rws n, k0_pay11 (k0_pay7 (grp X2 n)) (k0_pay8 (grp X2 n)) (k0_pay10 V12 V14 (dh X0 X1 n)) (grp X3 n)⟩
      :: rowPieces n

def sumSh : ℕ → FVec F S8x1024 .f32
  | 0 => k0_pay3
  | n + 1 => k0_pay12 (sumSh n) (dh X0 X1 n)

def sumSc : ℕ → FVec F S8x1024 .f32
  | 0 => k0_pay3
  | n + 1 => k0_pay13 (sumSc n) V14 (dh X0 X1 n) (k0_pay8 (grp X2 n))

def sumG : ℕ → FVec F S8x1024 .f32
  | 0 => k0_pay3
  | n + 1 => k0_pay14 (sumG n) (k0_pay8 (grp X2 n)) (k0_pay9 V12 (dh X0 X1 n))
end

variable (m : (ℓ : Loc nD τ sig) → Buf (Elt F) ℓ)

/-- The scale's row of the packed modulation. -/
def scaleRow (X4 : Vec F S8x1024 .f32) : Vec F S1x1024 .f32 :=
  View.ld X4 (Rect.unit ![1, 0] S1x1024.size inb_S8x1024_S1x1024_1_0)

/-- Row `k` of the sums' block. -/
def sumsRow (k : ℕ) (hk : k < 8) : Rect S8x1024 :=
  Rect.unit ![k, 0] S1x1024.size (Fin.forall_fin_two.mpr ⟨hk, Nat.le_refl 1024⟩)

theorem out6 (c : Dev nD) (t : Fin cfg0.N) :
    (outsAt0 m c t.val t.isLt).1 = View.canon (rowPieces (iblk m c 0 t) (iblk m c 1 t) (iblk m c 2 t) (iblk m c 3 t)
      (scaleRow (iblk m c 4 t)) (iblk m c 5 t) 32) := by
  by_cases h : t.val % 16 = 0
  · rw [outsAt0_A m c t h]
    frame_out
    refine congrArg View.canon ?_
    sl_kernel_rfl
  · rw [outsAt0_B m c t h]
    frame_out
    refine congrArg View.canon ?_
    sl_kernel_rfl

/-- One row of the sums' block added to: the row is loaded, the eight partial sums are summed and the row is stored. -/
def addRow (v : View sig .tc .vmem S8x1024 .f32) (k : ℕ) (hk : k < 8) (S : FVec F S8x1024 .f32)
    (L : List (View.Piece (Elt F) S8x1024 .f32)) : List (View.Piece (Elt F) S8x1024 .f32) :=
  ⟨sumsRow k hk, k0_pay1 S (v.readCov L (sumsRow k hk).toLoadRect)⟩ :: L

/-- The same for a block that held `X`. -/
def addRow' (X : Vec F S8x1024 .f32) (k : ℕ) (hk : k < 8) (S : FVec F S8x1024 .f32)
    (L : List (View.Piece (Elt F) S8x1024 .f32)) : List (View.Piece (Elt F) S8x1024 .f32) :=
  ⟨sumsRow k hk, k0_pay1 S (View.ld X (sumsRow k hk))⟩ :: L

theorem out7_A (c : Dev nD) (t : Fin cfg0.N) (h : t.val % 16 = 0) :
    ∃ v : View sig .tc .vmem S8x1024 .f32, (outsAt0 m c t.val t.isLt).2 = View.canon
      (addRow v 2 (by decide) (sumG (iblk m c 0 t) (iblk m c 1 t) (iblk m c 2 t) (scaleRow (iblk m c 4 t)) 32)
      (addRow v 1 (by decide) (sumSc (iblk m c 0 t) (iblk m c 1 t) (iblk m c 2 t) (iblk m c 5 t) 32)
      (addRow v 0 (by decide) (sumSh (iblk m c 0 t) (iblk m c 1 t) 32)
        [⟨Rect.unit ![0, 0] S8x1024.size inb_S8x1024_S8x1024_0_0, k0_pay2⟩]))) := by
  refine ⟨(ms0_7 t).view, ?_⟩
  rw [outsAt0_A m c t h]
  frame_out
  refine congrArg View.canon ?_
  sl_kernel_rfl

theorem out7_B (c : Dev nD) (t : Fin cfg0.N) (h : ¬ t.val % 16 = 0) :
    ∃ (v : View sig .tc .vmem S8x1024 .f32) (f : v.ty.Contents (Elt F)),
      v.read (Elt F) f = (outsAt0 m c (t.val - 1) (by omega)).2 ∧
      (outsAt0 m c t.val t.isLt).2 = v.read (Elt F) (v.writes (Elt F) f
      (addRow' (outsAt0 m c (t.val - 1) (by omega)).2 2 (by decide) (sumG (iblk m c 0 t) (iblk m c 1 t) (iblk m c 2 t) (scaleRow (iblk m c 4 t)) 32)
      (addRow' (outsAt0 m c (t.val - 1) (by omega)).2 1 (by decide) (sumSc (iblk m c 0 t) (iblk m c 1 t) (iblk m c 2 t) (iblk m c 5 t) 32)
      (addRow' (outsAt0 m c (t.val - 1) (by omega)).2 0 (by decide) (sumSh (iblk m c 0 t) (iblk m c 1 t) 32) [])))) := by
  refine ⟨(ms0_7 t).view, (hs0_7 t).unread (outsAt0 m c (t.val - 1) (by omega)).2, (hs0_7 t).read_unread _, ?_⟩
  rw [outsAt0_B m c t h]
  frame_out
  refine congrArg (fun L => View.read (Elt F) (ms0_7 t).view ((ms0_7 t).view.writes (Elt F) _ L)) ?_
  sl_kernel_rfl
end Cert.KernelIdeal.Blocks
-- ==== Proof.Rows.lean ====
/- Stores of whole rows read back, and a host sum over axes of size one. -/
module
public import Idealize.ShloMosaic.Lib.Pipeline.ValueKit
public import Idealize.ShloMosaic.Lib.Pointwise
@[expose] public section
noncomputable section
open Idealize.ShloMosaic Idealize.SL.Sem
namespace Cert.Rows

section
variable {Val : EltTy → Type} [∀ e, Nonempty (Val e)] {e : EltTy} {m n k o : ℕ}

/-- Row `o + p` of an array whose newest store is the `k` rows from row `o` is that store's row `p`. -/
theorem canon_rows (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val (⟨2, ![m, n]⟩ : Shape) e)) (i : Fin m) (p : Fin k)
    (j : Fin n) (h : i.val = o + p.val) :
    View.canon ((⟨Rect.unit (s := ⟨2, ![m, n]⟩) ![o, 0] (⟨2, ![k, n]⟩ : Shape).size inb, w⟩
      : View.Piece Val (⟨2, ![m, n]⟩ : Shape) e) :: L) (ix2 i j) = w (ix2 p j) := by
  have e : (ix2 i j : (⟨2, ![m, n]⟩ : Shape).Idx)
      = (Rect.unit (s := ⟨2, ![m, n]⟩) ![o, 0] (⟨2, ![k, n]⟩ : Shape).size inb).emb (ix2 p j) := by
    funext a
    apply Fin.ext
    match a with
    | ⟨0, _⟩ => show i.val = o + 1 * p.val; omega
    | ⟨1, _⟩ => show j.val = 0 + 1 * j.val; omega
  rw [e]
  exact View.canon_cons_emb _ _ _ _

/-- A row outside the newest store's rows is what the earlier stores left. -/
theorem canon_rows_ne (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val (⟨2, ![m, n]⟩ : Shape) e)) (i : Fin m)
    (j : Fin n) (h : i.val < o ∨ o + k ≤ i.val) :
    View.canon ((⟨Rect.unit (s := ⟨2, ![m, n]⟩) ![o, 0] (⟨2, ![k, n]⟩ : Shape).size inb, w⟩
      : View.Piece Val (⟨2, ![m, n]⟩ : Shape) e) :: L) (ix2 i j) = View.canon L (ix2 i j) := by
  refine View.canon_cons_of_not_mem _ _ fun hm => ?_
  obtain ⟨x, hx⟩ := (Rect.unit (s := ⟨2, ![m, n]⟩) ![o, 0] (⟨2, ![k, n]⟩ : Shape).size inb).exists_idx_of_mem hm
  have h0 : o + 1 * (x 0).val = i.val := congrArg (fun f : (⟨2, ![m, n]⟩ : Shape).Idx => (f 0).val) hx
  have h1 : (x 0).val < k := (x 0).isLt
  omega

/-- A load of the `k` rows from row `o` reads row `o + p` at its row `p`. -/
theorem ld_rows (inb : ∀ a, (![o, 0] : Fin 2 → ℕ) a + (⟨2, ![k, n]⟩ : Shape).size a ≤ (⟨2, ![m, n]⟩ : Shape).size a)
    (X : (⟨2, ![m, n]⟩ : Shape).Idx → Val e) (i : Fin m) (p : Fin k) (j : Fin n) (h : i.val = o + p.val) :
    View.ld X (Rect.unit (s := ⟨2, ![m, n]⟩) ![o, 0] (⟨2, ![k, n]⟩ : Shape).size inb) (ix2 p j) = X (ix2 i j) := by
  refine congrArg X ?_
  funext a
  apply Fin.ext
  match a with
  | ⟨0, _⟩ => show o + 1 * p.val = i.val; omega
  | ⟨1, _⟩ => show 0 + 1 * j.val = j.val; omega

/-- A covered load of the `k` rows from row `o` likewise reads what the stores left. -/
theorem readCov_rows {sig : RefSig} {κ : Kind} {sp : Space} (v : View sig κ sp (⟨2, ![m, n]⟩ : Shape) e)
    (L : List (View.Piece Val (⟨2, ![m, n]⟩ : Shape) e))
    (inb : ∀ a, (![o, 0] : Fin 2 → ℕ) a + (⟨2, ![k, n]⟩ : Shape).size a ≤ (⟨2, ![m, n]⟩ : Shape).size a)
    (i : Fin m) (p : Fin k) (j : Fin n) (h : i.val = o + p.val) :
    v.readCov L (Rect.unit (s := ⟨2, ![m, n]⟩) ![o, 0] (⟨2, ![k, n]⟩ : Shape).size inb).toLoadRect (ix2 p j)
      = View.canon L (ix2 i j) := by
  rw [View.readCov_eq_canon']
  exact ld_rows inb (View.canon L) i p j h
end

section
variable {Val : EltTy → Type} [∀ e, Nonempty (Val e)] {e : EltTy} {s : Shape} {off size : Fin s.rank → ℕ}
  (inb : ∀ a, off a + size a ≤ s.size a)

/-- The same for a block of unit strides at any rank. -/
theorem canon_hit (w : (Rect.unit off size inb).shape.Idx → Val e) (L : List (View.Piece Val s e)) (i : s.Idx)
    (p : (Rect.unit off size inb).shape.Idx) (h : ∀ a, (i a).val = off a + (p a).val) :
    View.canon ((⟨Rect.unit off size inb, w⟩ : View.Piece Val s e) :: L) i = w p := by
  rw [show i = (Rect.unit off size inb).emb p from funext fun a => Fin.ext (by
    show (i a).val = off a + 1 * (p a).val
    rw [one_mul]
    exact h a)]
  exact View.canon_cons_emb _ _ _ _

theorem canon_miss (w : (Rect.unit off size inb).shape.Idx → Val e) (L : List (View.Piece Val s e)) (i : s.Idx)
    (a : Fin s.rank) (h : (i a).val < off a ∨ off a + size a ≤ (i a).val) :
    View.canon ((⟨Rect.unit off size inb, w⟩ : View.Piece Val s e) :: L) i = View.canon L i := by
  refine View.canon_cons_of_not_mem _ _ fun hm => ?_
  obtain ⟨x, hx⟩ := (Rect.unit off size inb).exists_idx_of_mem hm
  have h0 : off a + 1 * (x a).val = (i a).val := congrArg (fun f : s.Idx => (f a).val) hx
  have h1 : (x a).val < size a := (x a).isLt
  omega

theorem ld_hit (X : s.Idx → Val e) (i : s.Idx) (p : (Rect.unit off size inb).shape.Idx)
    (h : ∀ a, (i a).val = off a + (p a).val) : View.ld X (Rect.unit off size inb) p = X i := by
  refine congrArg X (funext fun a => Fin.ext ?_)
  show off a + 1 * (p a).val = (i a).val
  rw [one_mul]
  exact (h a).symm

theorem readCov_hit {sig : RefSig} {κ : Kind} {sp : Space} (v : View sig κ sp s e) (L : List (View.Piece Val s e))
    (i : s.Idx) (p : (Rect.unit off size inb).shape.Idx) (h : ∀ a, (i a).val = off a + (p a).val) :
    v.readCov L (Rect.unit off size inb).toLoadRect p = View.canon L i := by
  rw [View.readCov_eq_canon']
  exact ld_hit inb (View.canon L) i p h
end

/-- The eight running sums of a column over the rows of `n` row groups hold all these rows' terms. -/
theorem fold_rows (N : ℕ) {M : ℕ} (hM : M = 16 * N) (T : Fin M → EReal) (S : ℕ → Fin 8 → EReal) (h0 : ∀ q, S 0 q = 0)
    (hs : ∀ n (hn : n < N) (q : Fin 8), S (n + 1) q = S n q + (T ⟨16 * n + q.val, by omega⟩ + T ⟨16 * n + (8 + q.val), by omega⟩)) :
    ∑ q, S N q = ∑ i, T i := by
  have key : ∀ n ≤ N, ∑ q, S n q = ∑ i ∈ Finset.range (16 * n), if h : i < M then T ⟨i, h⟩ else 0 := by
    intro n hn
    induction n with
    | zero => simp [h0]
    | succ n ih =>
      rw [show 16 * (n + 1) = 16 * n + 16 by ring, Finset.sum_range_add, ← ih (by omega)]
      simp only [hs n (by omega), Finset.sum_add_distrib]
      refine congrArg (_ + ·) ?_
      refine .trans ?_ (Finset.sum_range_add (fun x => if h : 16 * n + x < M then T ⟨16 * n + x, h⟩ else 0) 8 8).symm
      rw [Finset.sum_range, Finset.sum_range]
      refine congrArg₂ (· + ·) (Finset.sum_congr rfl fun q _ => ?_) (Finset.sum_congr rfl fun q _ => ?_)
      · rw [dif_pos (by omega)]
      · rw [dif_pos (by omega)]
  rw [key N (le_refl _), ← hM, Finset.sum_range]
  exact Finset.sum_congr rfl fun i _ => dif_pos i.isLt

/-- The rows of 32 blocks of 256 rows are the 8192 rows. -/
theorem block_rows {N : ℕ} (hN : N = 32) (G : Fin N → Fin 256 → EReal) (T : Fin 8192 → EReal)
    (h : ∀ t r, G t r = T ⟨256 * t.val + r.val, by omega⟩) : ∑ t, ∑ r, G t r = ∑ i, T i := by
  refine Fin.sum_mul_add_congr (hL := by rw [hN]) fun t r hl => ?_
  rw [h]
  exact congrArg T (Fin.ext (by show 256 * t.val + r.val = t.val * 256 + r.val; omega))

/-- A host sum at an index to which one operand element alone reduces. -/
theorem hostReduceAdd_one {s t : Shape} {axes : List (Fin s.rank)} (h : s.ReducesTo axes t) (x : s.Idx → EReal) (init : EReal)
    (j : t.Idx) (i₀ : s.Idx) (h₀ : h.drop i₀ = j) (hu : ∀ i, h.drop i = j → i = i₀) :
    Ideal.hostReduceAdd h x init j = init + x i₀ := by
  unfold Ideal.hostReduceAdd
  rw [Finset.sum_eq_single_of_mem i₀ (Finset.mem_filter.mpr ⟨Finset.mem_univ _, h₀⟩) fun i hi hne =>
    absurd (hu i (Finset.mem_filter.mp hi).2) hne]

end Cert.Rows
-- ==== Proof.NormMath.lean ====
/- The gradient of a normalised row, written two ways, over the real numbers. -/
module
public import Idealize.ShloMosaic.PureOps.Ideal
public import Idealize.ShloMosaic.Lib.ValueIdx
@[expose] public section
noncomputable section
open Idealize.ShloMosaic
namespace Cert.Norm

abbrev cN : EReal := Ideal.ofBits .f32 1149239296#32
abbrev cEps : EReal := Ideal.ofBits .f32 897988541#32
abbrev cHalf : EReal := Ideal.ofBits .f32 3204448256#32

theorem cN_eq : cN = ((1024 : ℝ) : EReal) := by
  simp [Ideal.ofBits, Ideal.ieee, -EReal.coe_mul]
  norm_num
theorem cEps_eq : cEps = ((8796093 / 2 ^ 43 : ℝ) : EReal) := by
  simp [Ideal.ofBits, Ideal.ieee, -EReal.coe_mul]
  norm_num
theorem cHalf_eq : cHalf = ((-1 / 2 : ℝ) : EReal) := by
  simp [Ideal.ofBits, Ideal.ieee, -EReal.coe_mul]
  norm_num

/-- The mean square of a row, with the small constant added. -/
def ms (x : Fin 1024 → EReal) : EReal := Ideal.div (∑ k, x k * x k) cN + cEps

/-- The reciprocal root mean square of a row. -/
def rms (x : Fin 1024 → EReal) : EReal := Ideal.rsqrt (ms x)

/-- The gradient that reaches a row of `x` from the gradient `a` of its normalised row. -/
def rowGrad (x a : Fin 1024 → EReal) (j : Fin 1024) : EReal :=
  rms x * (a j - x j * rms x * Ideal.div (∑ k, a k * (x k * rms x)) cN)

/-- The gradient that arrives at the mean square of a row. -/
def msGrad (x a : Fin 1024 → EReal) : EReal :=
  Ideal.div ((∑ k, x k * a k) * (cHalf * Ideal.div (rms x) (ms x))) cN

theorem coe_sum (f : Fin 1024 → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

theorem div_real (a b : ℝ) (h : b ≠ 0) : Ideal.div (a : EReal) (b : EReal) = ((a / b : ℝ) : EReal) := by
  rw [Ideal.div_coe h, ← EReal.coe_mul, mul_one_div]

theorem ms_real (x : Fin 1024 → ℝ) :
    ms (fun k => (x k : EReal)) = (((∑ k, x k * x k) / 1024 + 8796093 / 2 ^ 43 : ℝ) : EReal) := by
  unfold ms
  rw [cN_eq, cEps_eq]
  simp only [← EReal.coe_mul]
  rw [coe_sum, div_real _ _ (by norm_num), ← EReal.coe_add]

theorem rsqrt_real (v : ℝ) (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr h.le), if_neg h.ne']

theorem ms_pos (x : Fin 1024 → ℝ) : 0 < (∑ k, x k * x k) / 1024 + 8796093 / 2 ^ 43 := by
  have : 0 ≤ ∑ k, x k * x k := Finset.sum_nonneg fun k _ => mul_self_nonneg (x k)
  positivity

theorem rms_real (x : Fin 1024 → ℝ) : rms (fun k => (x k : EReal))
    = (((Real.sqrt ((∑ k, x k * x k) / 1024 + 8796093 / 2 ^ 43))⁻¹ : ℝ) : EReal) := by
  unfold rms
  rw [ms_real, rsqrt_real _ (ms_pos x)]

/-- Both forms of the row's gradient agree on real rows. -/
theorem rowGrad_eq (x a : Fin 1024 → ℝ) (j : Fin 1024) :
    rowGrad (fun k => (x k : EReal)) (fun k => (a k : EReal)) j
      = (a j : EReal) * rms (fun k => (x k : EReal))
        + ((x j : EReal) * msGrad (fun k => (x k : EReal)) (fun k => (a k : EReal))
          + msGrad (fun k => (x k : EReal)) (fun k => (a k : EReal)) * (x j : EReal)) := by
  unfold rowGrad msGrad
  rw [ms_real, rms_real, cN_eq, cHalf_eq]
  have hv := ms_pos x
  generalize (∑ k, x k * x k) / 1024 + 8796093 / 2 ^ 43 = v at hv
  have hR : (Real.sqrt v)⁻¹ * (Real.sqrt v)⁻¹ = v⁻¹ := by
    rw [← mul_inv, Real.mul_self_sqrt hv.le]
  generalize (Real.sqrt v)⁻¹ = R at hR
  simp only [← EReal.coe_mul]
  rw [coe_sum, coe_sum, div_real _ _ (by norm_num), div_real _ _ hv.ne']
  simp only [← EReal.coe_mul]
  rw [div_real _ _ (by norm_num)]
  simp only [← EReal.coe_mul, ← EReal.coe_sub, ← EReal.coe_add]
  refine congrArg _ ?_
  have hs : ∑ k, a k * (x k * R) = R * ∑ k, x k * a k := by
    rw [Finset.mul_sum]
    exact Finset.sum_congr rfl fun k _ => by ring
  rw [hs]
  have h3 : R / v = R * (R * R) := by rw [hR, div_eq_mul_inv]
  rw [h3]
  ring

/-- A sum of rows whose every term is finite is finite. -/
theorem real_of_finite {ι : Type} (f : ι → EReal) (h : ∀ i, ∃ r : ℝ, f i = r) : ∃ g : ι → ℝ, f = fun i => (g i : EReal) :=
  ⟨fun i => (h i).choose, funext fun i => (h i).choose_spec⟩

/-- The two forms with what is added to the gradient, for rows every entry of which is real. -/
theorem add_rowGrad (x a : Fin 1024 → EReal) (hx : ∀ k, ∃ r : ℝ, x k = r) (ha : ∀ k, ∃ r : ℝ, a k = r) (res : EReal) (j : Fin 1024) :
    res + rowGrad x a j = res + a j * rms x + x j * msGrad x a + msGrad x a * x j := by
  obtain ⟨x', rfl⟩ := real_of_finite x hx
  obtain ⟨a', rfl⟩ := real_of_finite a ha
  rw [rowGrad_eq, add_assoc (res + _), add_assoc res]

end Cert.Norm
-- ==== Proof.BlockValues.lean ====
/- The two output blocks of one grid step read at an index, over the extended reals. -/
module
public import proofs.«01_k».proof.Proof.Blocks
public import proofs.«01_k».proof.Proof.Rows
public import proofs.«01_k».proof.Proof.NormMath
public import Idealize.ShloMosaic.Lib.WritesUnit
@[expose] public section
set_option maxRecDepth 16384
noncomputable section
open Idealize.ShloMosaic Idealize.ShloMosaic.TcCoe Idealize.SL.Sem
namespace Cert.KernelIdeal.Blocks
open Cert.KernelIdeal Cert.KernelIdeal.Gen Cert.Rows Cert.Norm

/-- Row `i`, column `k` of the product of a block with the transposed weights. -/
def prod (X0 : Vec Ideal S512x7168 .bf16) (X1 : Vec Ideal S1024x7168 .bf16) (i : Fin 512) (k : Fin 1024) : EReal :=
  ∑ x, (X0 (ix2 i x) : EReal) * X1 (ix2 k x)

theorem pay4 (X : Vec Ideal S256x7168 .bf16) (V : Vec Ideal S1024x7168 .bf16) (p : Fin 256) (j : Fin 1024) :
    k0_pay4 X V (ix2 p j) = ∑ x, (X (ix2 p x) : EReal) * V (ix2 j x) := by pointwise [k0_pay4]

theorem dh_apply (X0 : Vec Ideal S512x7168 .bf16) (X1 : Vec Ideal S1024x7168 .bf16) (n : ℕ) (hn : n < 32) (p : Fin 16)
    (j : Fin 1024) : dh X0 X1 n (ix2 p j) = prod X0 X1 ⟨16 * n + p.val, by omega⟩ j := by
  have hm : n % 32 = n := Nat.mod_eq_of_lt hn
  have hp := p.isLt
  by_cases h : n % 32 < 16
  · rw [show dh X0 X1 n = _ from if_pos h]
    refine (readCov_rows _ _ _ (⟨16 * n + p.val, by omega⟩ : Fin 512) p j (by show 16 * n + p.val = 16 * (n % 32) + p.val; omega)).trans ?_
    refine (canon_rows _ _ _ (⟨16 * n + p.val, by omega⟩ : Fin 512) (⟨16 * n + p.val, by omega⟩ : Fin 256) j (by show 16 * n + p.val = 0 + (16 * n + p.val); omega)).trans ?_
    refine (pay4 _ _ _ _).trans ?_
    show (∑ x, (_ : EReal) * _ : EReal) = ∑ x, _
    refine Finset.sum_congr rfl fun x _ => congrArg (· * (X1 (ix2 j x) : EReal)) ?_
    exact ld_rows _ X0 _ _ _ (by show 16 * n + p.val = 0 + (16 * n + p.val); omega)
  · rw [show dh X0 X1 n = _ from if_neg h]
    refine (readCov_rows _ _ _ (⟨16 * n + p.val, by omega⟩ : Fin 512) p j (by show 16 * n + p.val = 16 * (n % 32) + p.val; omega)).trans ?_
    refine (canon_rows _ _ _ (⟨16 * n + p.val, by omega⟩ : Fin 512) (⟨16 * n + p.val - 256, by omega⟩ : Fin 256) j (by show 16 * n + p.val = 256 + (16 * n + p.val - 256); omega)).trans ?_
    refine (pay4 _ _ _ _).trans ?_
    show (∑ x, (_ : EReal) * _ : EReal) = ∑ x, _
    refine Finset.sum_congr rfl fun x _ => congrArg (· * (X1 (ix2 j x) : EReal)) ?_
    exact ld_rows _ X0 _ _ _ (by show 16 * n + p.val = 256 + (16 * n + p.val - 256); omega)

theorem grp_apply (X : Vec Ideal S512x1024 .f32) (n : ℕ) (hn : n < 32) (p : Fin 16) (j : Fin 1024) :
    grp X n (ix2 p j) = X (ix2 (⟨16 * n + p.val, by omega⟩ : Fin 512) j) :=
  ld_rows _ X _ _ _ (by show 16 * n + p.val = 16 * (n % 32) + p.val; rw [Nat.mod_eq_of_lt hn])

section
variable (X0 : Vec Ideal S512x7168 .bf16) (X1 : Vec Ideal S1024x7168 .bf16) (X2 X3 : Vec Ideal S512x1024 .f32)
  (V12 V14 : Vec Ideal S1x1024 .f32)

theorem pay11 (X : Vec Ideal S16x1024 .f32) (d r : Vec Ideal S16x1024 .f32) (p : Fin 16) (j : Fin 1024) :
    k0_pay11 (k0_pay7 X) (k0_pay8 X) (k0_pay10 V12 V14 d) r (ix2 p j)
      = (r (ix2 p j) : EReal) + rowGrad (fun k => X (ix2 p k))
          (fun k => (d (ix2 p k) : EReal) * (1 + V12 (ix2 0 k)) * V14 (ix2 0 k)) j := by
  pointwise [k0_pay11, k0_pay7, k0_pay8, k0_pay10, k0_pay9, k0_pay6, k0_pay5]
  rfl

theorem rowPieces_apply (n : ℕ) (hn : n ≤ 32) (i : Fin 512) (hi : i.val < 16 * n) (j : Fin 1024) :
    View.canon (rowPieces X0 X1 X2 X3 V12 V14 n) (ix2 i j)
      = (X3 (ix2 i j) : EReal) + rowGrad (fun k => X2 (ix2 i k))
          (fun k => prod X0 X1 i k * (1 + V12 (ix2 0 k)) * V14 (ix2 0 k)) j := by
  induction n with
  | zero => exact absurd hi (by omega)
  | succ n ih =>
    have hm : n % 32 = n := Nat.mod_eq_of_lt (by omega)
    by_cases h : i.val < 16 * n
    · exact (canon_rows_ne _ _ _ i j (Or.inl (by show i.val < 16 * (n % 32); omega))).trans (ih (by omega) h)
    · have hp : i.val - 16 * n < 16 := by omega
      refine (canon_rows _ _ _ i ⟨i.val - 16 * n, hp⟩ j (by show i.val = 16 * (n % 32) + (i.val - 16 * n); omega)).trans ?_
      have e : (⟨16 * n + (⟨i.val - 16 * n, hp⟩ : Fin 16).val, by omega⟩ : Fin 512) = i := Fin.ext (by show 16 * n + (i.val - 16 * n) = i.val; omega)
      rw [pay11]
      simp only [grp_apply _ n (by omega : n < 32), dh_apply _ _ n (by omega : n < 32), e]

/-- What row `i` of the block adds to each of the three sums. -/
def shTerm (i : Fin 512) (j : Fin 1024) : EReal := prod X0 X1 i j
def scTerm (i : Fin 512) (j : Fin 1024) : EReal :=
  prod X0 X1 i j * (X2 (ix2 i j) * rms (fun k => X2 (ix2 i k)) * V14 (ix2 0 j))
def gTerm (i : Fin 512) (j : Fin 1024) : EReal :=
  prod X0 X1 i j * (1 + V12 (ix2 0 j)) * (X2 (ix2 i j) * rms (fun k => X2 (ix2 i k)))

theorem pay3 (p : Fin 8) (j : Fin 1024) : k0_pay3 (F := Ideal) (ix2 p j) = 0 := by pointwise [k0_pay3]

theorem pay12 (S : FVec Ideal S8x1024 .f32) (d : Vec Ideal S16x1024 .f32) (q : Fin 8) (j : Fin 1024) :
    k0_pay12 S d (ix2 q j) = S (ix2 q j) + ((d (ix2 ⟨q.val, by omega⟩ j) : EReal) + d (ix2 ⟨8 + q.val, by omega⟩ j)) := by
  pointwise [k0_pay12]

theorem pay13 (S : FVec Ideal S8x1024 .f32) (d X : Vec Ideal S16x1024 .f32) (q : Fin 8) (j : Fin 1024) :
    k0_pay13 S V14 d (k0_pay8 X) (ix2 q j) = S (ix2 q j)
      + ((d (ix2 ⟨q.val, by omega⟩ j) : EReal) * (X (ix2 ⟨q.val, by omega⟩ j) * rms (fun k => X (ix2 ⟨q.val, by omega⟩ k)) * V14 (ix2 0 j))
        + d (ix2 ⟨8 + q.val, by omega⟩ j) * (X (ix2 ⟨8 + q.val, by omega⟩ j) * rms (fun k => X (ix2 ⟨8 + q.val, by omega⟩ k)) * V14 (ix2 0 j))) := by
  pointwise [k0_pay13, k0_pay8, k0_pay7, k0_pay6]
  rfl

theorem pay14 (S : FVec Ideal S8x1024 .f32) (d X : Vec Ideal S16x1024 .f32) (q : Fin 8) (j : Fin 1024) :
    k0_pay14 S (k0_pay8 X) (k0_pay9 V12 d) (ix2 q j) = S (ix2 q j)
      + ((d (ix2 ⟨q.val, by omega⟩ j) : EReal) * (1 + V12 (ix2 0 j)) * (X (ix2 ⟨q.val, by omega⟩ j) * rms (fun k => X (ix2 ⟨q.val, by omega⟩ k)))
        + d (ix2 ⟨8 + q.val, by omega⟩ j) * (1 + V12 (ix2 0 j)) * (X (ix2 ⟨8 + q.val, by omega⟩ j) * rms (fun k => X (ix2 ⟨8 + q.val, by omega⟩ k)))) := by
  pointwise [k0_pay14, k0_pay9, k0_pay8, k0_pay7, k0_pay6, k0_pay5]
  rfl

theorem sumSh_total (j : Fin 1024) : ∑ q, sumSh X0 X1 32 (ix2 q j) = ∑ i, shTerm X0 X1 i j := by
  refine fold_rows 32 rfl (fun i => shTerm X0 X1 i j) (fun n q => sumSh X0 X1 n (ix2 q j)) (fun q => pay3 q j) fun n hn q => ?_
  show k0_pay12 _ _ _ = _
  rw [pay12, dh_apply _ _ n hn, dh_apply _ _ n hn]
  rfl

theorem sumSc_total (j : Fin 1024) : ∑ q, sumSc X0 X1 X2 V14 32 (ix2 q j) = ∑ i, scTerm X0 X1 X2 V14 i j := by
  refine fold_rows 32 rfl (fun i => scTerm X0 X1 X2 V14 i j) (fun n q => sumSc X0 X1 X2 V14 n (ix2 q j)) (fun q => pay3 q j) fun n hn q => ?_
  show k0_pay13 _ _ _ _ _ = _
  rw [pay13, dh_apply _ _ n hn, dh_apply _ _ n hn]
  simp only [grp_apply _ n hn]
  rfl

theorem sumG_total (j : Fin 1024) : ∑ q, sumG X0 X1 X2 V12 32 (ix2 q j) = ∑ i, gTerm X0 X1 X2 V12 i j := by
  refine fold_rows 32 rfl (fun i => gTerm X0 X1 X2 V12 i j) (fun n q => sumG X0 X1 X2 V12 n (ix2 q j)) (fun q => pay3 q j) fun n hn q => ?_
  show k0_pay14 _ _ _ _ = _
  rw [pay14, dh_apply _ _ n hn, dh_apply _ _ n hn]
  simp only [grp_apply _ n hn]
  rfl
end

/-- Adding to row `k` changes that row by the column sums of the eight partial sums. -/
theorem addRow_apply (v : View sig .tc .vmem S8x1024 .f32) (k : ℕ) (hk : k < 8) (S : FVec Ideal S8x1024 .f32)
    (L : List (View.Piece (Elt Ideal) S8x1024 .f32)) (i : Fin 8) (j : Fin 1024) :
    (View.canon (addRow v k hk S L) (ix2 i j) : EReal)
      = View.canon L (ix2 i j) + if i.val = k then ∑ q, S (ix2 q j) else (0 : EReal) := by
  have p1 : ∀ V : Vec Ideal S1x1024 .f32, k0_pay1 S V (ix2 (0 : Fin 1) j) = (V (ix2 (0 : Fin 1) j) : EReal) + ∑ q, S (ix2 q j) := by
    intro V; pointwise [k0_pay1]
  split
  · rename_i h
    refine (canon_rows _ _ _ i (0 : Fin 1) j (by show i.val = k + 0; omega)).trans ?_
    refine (p1 _).trans (congrArg (· + _) ?_)
    exact readCov_rows v L _ i (0 : Fin 1) j (by show i.val = k + 0; omega)
  · rename_i h
    rw [add_zero]
    exact canon_rows_ne _ _ _ i j (by omega)

/-- What one grid step adds to the sums' block. -/
def stepSums (X0 : Vec Ideal S512x7168 .bf16) (X1 : Vec Ideal S1024x7168 .bf16) (X2 : Vec Ideal S512x1024 .f32)
    (V12 V14 : Vec Ideal S1x1024 .f32) (i : Fin 8) (j : Fin 1024) : EReal :=
  (if i.val = 0 then ∑ r, shTerm X0 X1 r j else 0) + (if i.val = 1 then ∑ r, scTerm X0 X1 X2 V14 r j else 0)
    + (if i.val = 2 then ∑ r, gTerm X0 X1 X2 V12 r j else 0)

variable (m : (ℓ : Loc nD τ sig) → Buf (Elt Ideal) ℓ)

theorem first_sums (c : Dev nD) (t : Fin cfg0.N) (h : t.val % 16 = 0) (i : Fin 8) (j : Fin 1024) :
    ((outsAt0 m c t.val t.isLt).2 (ix2 i j) : EReal)
      = stepSums (iblk m c 0 t) (iblk m c 1 t) (iblk m c 2 t) (scaleRow (iblk m c 4 t)) (iblk m c 5 t) i j := by
  obtain ⟨v, e⟩ := out7_A m c t h
  rw [e, addRow_apply, addRow_apply, addRow_apply, sumSh_total, sumSc_total, sumG_total]
  refine congrArg (· + _) (congrArg (· + _) ?_)
  refine (congrArg (· + _) ?_).trans (zero_add _)
  refine (canon_rows _ _ _ i i j (by show i.val = 0 + i.val; omega)).trans ?_
  pointwise [k0_pay2]

theorem later_sums (c : Dev nD) (t : Fin cfg0.N) (h : ¬ t.val % 16 = 0) (i : Fin 8) (j : Fin 1024) :
    ((outsAt0 m c t.val t.isLt).2 (ix2 i j) : EReal)
      = (outsAt0 m c (t.val - 1) (by omega)).2 (ix2 i j)
        + stepSums (iblk m c 0 t) (iblk m c 1 t) (iblk m c 2 t) (scaleRow (iblk m c 4 t)) (iblk m c 5 t) i j := by
  obtain ⟨v, f, hf, e⟩ := out7_B m c t h
  rw [e]
  generalize (outsAt0 m c (t.val - 1) (by omega)).2 = X at hf
  have step : ∀ (k : ℕ) (hk : k < 8) (S : FVec Ideal S8x1024 .f32) (L : List (View.Piece (Elt Ideal) S8x1024 .f32)),
      (v.read (Elt Ideal) (v.writes (Elt Ideal) f (addRow' X k hk S L)) (ix2 i j) : EReal)
        = if i.val = k then (X (ix2 i j) : EReal) + ∑ q, S (ix2 q j) else v.read (Elt Ideal) (v.writes (Elt Ideal) f L) (ix2 i j) := by
    intro k hk S L
    have p1 : ∀ V : Vec Ideal S1x1024 .f32, k0_pay1 S V (ix2 (0 : Fin 1) j) = (V (ix2 (0 : Fin 1) j) : EReal) + ∑ q, S (ix2 q j) := by
      intro V; pointwise [k0_pay1]
    split
    · rename_i h
      refine (View.read_writes_cons_rows_of_mem v f _ _ L (ix2 i j) (ix2 (0 : Fin 1) j) rfl (by show i.val = k + 0; omega) rfl).trans ?_
      refine (p1 _).trans (congrArg (· + _) ?_)
      exact ld_rows _ X i (0 : Fin 1) j (by show i.val = k + 0; omega)
    · rename_i h
      exact View.read_writes_cons_rows_of_not_mem v f _ _ L (ix2 i j) rfl (W := 1) rfl (by show i.val < k ∨ k + 1 ≤ i.val; omega)
  rw [step, step, step, sumSh_total, sumSc_total, sumG_total, View.writes_nil, hf]
  unfold stepSums
  by_cases h0 : i.val = 0
  · simp [h0]
  · by_cases h1 : i.val = 1
    · simp [h1]
    · by_cases h2 : i.val = 2
      · simp [h2]
      · simp [h0, h1, h2]

end Cert.KernelIdeal.Blocks
-- ==== Proof.Result.lean ====
/- The kernel's two results as functions of its arguments. -/
module
public import proofs.«01_k».proof.Proof.BlockValues
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Blocks
open Cert.KernelIdeal Cert.KernelIdeal.Gen Cert.Rows Cert.Norm

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] := (by decide +kernel : ∀ t : Fin grid0.N, _)

theorem lt16 (t : Fin cfg0.N) : t.val < 16 := lt_of_lt_of_eq t.isLt N_0

variable (m : (ℓ : Loc nD τ sig) → Buf (Elt Ideal) ℓ)

theorem blk0 (c : Dev nD) (t : Fin cfg0.N) (i : Fin 512) (x : Fin 7168) :
    (iblk m c 0 t (ix2 i x) : EReal) = m ((c : Thread nD τ).loc main_arg5) (ix3 (0 : Fin 1) (⟨512 * t.val + i.val, by have := lt16 t; omega⟩ : Fin 8192) x) := by
  unfold iblk
  entry_read
  blk_simp
  pointwise
  blk_ext [idx t]
theorem blk1 (c : Dev nD) (t : Fin cfg0.N) (k : Fin 1024) (x : Fin 7168) :
    (iblk m c 1 t (ix2 k x) : EReal) = m ((c : Thread nD τ).loc main_arg3) (ix3 (0 : Fin 1) k x) := by
  unfold iblk
  entry_read
  blk_simp
  pointwise
  blk_ext [idx t]
theorem blk2 (c : Dev nD) (t : Fin cfg0.N) (i : Fin 512) (x : Fin 1024) :
    (iblk m c 2 t (ix2 i x) : EReal) = m ((c : Thread nD τ).loc main_arg0) (ix3 (0 : Fin 1) (⟨512 * t.val + i.val, by have := lt16 t; omega⟩ : Fin 8192) x) := by
  unfold iblk
  entry_read
  blk_simp
  pointwise
  blk_ext [idx t]
theorem blk3 (c : Dev nD) (t : Fin cfg0.N) (i : Fin 512) (x : Fin 1024) :
    (iblk m c 3 t (ix2 i x) : EReal) = m ((c : Thread nD τ).loc main_arg4) (ix3 (0 : Fin 1) (⟨512 * t.val + i.val, by have := lt16 t; omega⟩ : Fin 8192) x) := by
  unfold iblk
  entry_read
  blk_simp
  pointwise
  blk_ext [idx t]
theorem packed (a : FVec Ideal S1x6144 .f32) (z : FVec Ideal S2x1024 .f32) (j : Fin 1024) :
    concatenate S8x1024 0 [⟨S6x1024, shapeCast S6x1024 a shapeCasts_S1x6144_S6x1024⟩, ⟨S2x1024, z⟩]
      concatenates_S6x1024_S2x1024_S8x1024_d0 (ix2 (1 : Fin 8) j) = a (ix2 (0 : Fin 1) (⟨1024 + j.val, by omega⟩ : Fin 6144)) := by
  pointwise

theorem blk4 (c : Dev nD) (t : Fin cfg0.N) (j : Fin 1024) :
    (scaleRow (iblk m c 4 t) (ix2 (0 : Fin 1) j) : EReal) = m ((c : Thread nD τ).loc main_arg1) (ix2 (0 : Fin 1) (⟨1024 + j.val, by omega⟩ : Fin 6144)) := by
  refine (ld_rows _ _ (1 : Fin 8) (0 : Fin 1) j rfl).trans ?_
  have e : (iblk m c 4 t (ix2 (1 : Fin 8) j) : EReal) = V m c main_v2 (ix2 (1 : Fin 8) j) := by
    blk_ext [iblk, idx t]
  refine e.trans ?_
  entry_read
  exact packed _ _ j
theorem blk5 (c : Dev nD) (t : Fin cfg0.N) (j : Fin 1024) :
    (iblk m c 5 t (ix2 (0 : Fin 1) j) : EReal) = m ((c : Thread nD τ).loc main_arg2) (ix2 (0 : Fin 1) j) := by
  blk_ext [iblk, V, idx t]

/-- The arguments' types as arrays of extended reals. -/
abbrev Arr (s : Shape) : Type := s.Idx → EReal

section
variable (x : Arr S1x8192x1024) (md : Arr S1x6144) (g : Arr S1x1024) (w : Arr S1x1024x7168) (cx : Arr S1x8192x1024)
  (cp : Arr S1x8192x7168)

/-- The gradient that reaches the modulated row `i`. -/
def dmod (i : Fin 8192) (k : Fin 1024) : EReal := ∑ o, cp (ix3 (0 : Fin 1) i o) * w (ix3 (0 : Fin 1) k o)

/-- One plus the modulation's scale. -/
def scl (k : Fin 1024) : EReal := 1 + md (ix2 (0 : Fin 1) (⟨1024 + k.val, by omega⟩ : Fin 6144))

/-- Row `i` of the input. -/
def rowOf (i : Fin 8192) (k : Fin 1024) : EReal := x (ix3 (0 : Fin 1) i k)

def gradX (i : Fin 8192) (j : Fin 1024) : EReal :=
  cx (ix3 (0 : Fin 1) i j) + rowGrad (rowOf x i) (fun k => dmod w cp i k * scl md k * g (ix2 (0 : Fin 1) k)) j

def gradSh (j : Fin 1024) : EReal := ∑ i, dmod w cp i j
def gradSc (j : Fin 1024) : EReal := ∑ i, dmod w cp i j * (rowOf x i j * rms (rowOf x i) * g (ix2 (0 : Fin 1) j))
def gradG (j : Fin 1024) : EReal := ∑ i, dmod w cp i j * scl md j * (rowOf x i j * rms (rowOf x i))

def sums (i : Fin 8) (j : Fin 1024) : EReal :=
  (if i.val = 0 then gradSh w cp j else 0) + (if i.val = 1 then gradSc x g w cp j else 0)
    + (if i.val = 2 then gradG x md w cp j else 0)
end

theorem final6 (c : Dev nD) : (dats m 0 c).arrAt 6 cfg0.N = (fun i => gradX (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) : Arr S8192x1024) := by
  refine (dats m 0 c).arrAt_eq_of_covers 6 _ (by decide +kernel) fun t hf y => ?_
  blk_simp
  rw [after0_6, out6]
  idx_vars y
  refine (rowPieces_apply _ _ _ _ _ _ 32 (le_refl _) _ (by omega) _).trans ?_
  have e0 : ((View.whole main_v9_0).slice (win0_6.rect t)).emb (ix2 y0 y1) 0 = (⟨512 * t.val + y0.val, by have := lt16 t; omega⟩ : Fin 8192) := by
    apply Fin.ext
    blk_simp [idx t]
    show t.val * 512 + y0.val = 512 * t.val + y0.val
    omega
  have e1 : ((View.whole main_v9_0).slice (win0_6.rect t)).emb (ix2 y0 y1) 1 = y1 := by
    apply Fin.ext
    blk_simp [idx t] <;> try omega
  unfold gradX
  rw [e0, e1]
  simp only [blk2, blk3, blk4, blk5, prod, blk0, blk1]
  rfl

/-- The rows of the 16 grid steps are the 8192 rows. -/
theorem points_rows (c : Dev nD) (G : Fin cfg0.N → Fin 512 → EReal) (f : Fin 8192 → EReal)
    (h : ∀ (t : Fin cfg0.N) (r : Fin 512), G t r = f ⟨512 * t.val + r.val, by have := lt16 t; omega⟩) :
    ∑ t, ∑ r, G t r = ∑ i, f i := by
  have hN : cfg0.N = 16 := N_0
  refine Fin.sum_mul_add_congr fun t r hl => ?_
  rw [h]
  exact congrArg f (Fin.ext (by show 512 * t.val + r.val = t.val * 512 + r.val; omega))

theorem sums_points (c : Dev nD) (i : Fin 8) (j : Fin 1024) :
    ∑ t : Fin cfg0.N, stepSums (iblk m c 0 t) (iblk m c 1 t) (iblk m c 2 t) (scaleRow (iblk m c 4 t)) (iblk m c 5 t) i j
      = sums (m ((c : Thread nD τ).loc main_arg0)) (m ((c : Thread nD τ).loc main_arg1)) (m ((c : Thread nD τ).loc main_arg2))
        (m ((c : Thread nD τ).loc main_arg3)) (m ((c : Thread nD τ).loc main_arg5)) i j := by
  have pull : ∀ (p : Prop) [Decidable p] (S : Fin cfg0.N → EReal), (∑ t, if p then S t else 0) = if p then ∑ t, S t else 0 := by
    intro p _ S
    split <;> simp
  unfold stepSums sums
  rw [Finset.sum_add_distrib, Finset.sum_add_distrib, pull, pull, pull]
  refine congrArg₂ (· + ·) (congrArg₂ (· + ·) ?_ ?_) ?_
  · refine if_congr Iff.rfl (points_rows c _ _ fun t r => ?_) rfl
    simp only [shTerm, prod, blk0, blk1]
    rfl
  · refine if_congr Iff.rfl (points_rows c _ _ fun t r => ?_) rfl
    simp only [scTerm, prod, blk0, blk1, blk2, blk5]
    rfl
  · refine if_congr Iff.rfl (points_rows c _ _ fun t r => ?_) rfl
    simp only [gTerm, prod, blk0, blk1, blk2, blk4]
    rfl

theorem final7 (c : Dev nD) : (dats m 0 c).arrAt 7 cfg0.N = (fun i => sums (m ((c : Thread nD τ).loc main_arg0))
    (m ((c : Thread nD τ).loc main_arg1)) (m ((c : Thread nD τ).loc main_arg2)) (m ((c : Thread nD τ).loc main_arg3))
    (m ((c : Thread nD τ).loc main_arg5)) (i 0) (i 1) : Arr S8x1024) := by
  refine (dats m 0 c).arrAt_eq_of_after_last 7 t0_15 (by decide +kernel) _ fun j => ?_
  blk_simp
  idx_vars j
  rw [after0_7, Pipeline.eq_sum_fin_of_reset_step_apply_last (fun n h => (outsAt0 m c n h).2) 16 (fun _ => 0)
    (fun t y => stepSums (iblk m c 0 t) (iblk m c 1 t) (iblk m c 2 t) (scaleRow (iblk m c 4 t)) (iblk m c 5 t) (y 0) (y 1))
    (fun t h y => by idx_vars y; exact (first_sums m c t h _ _).trans (zero_add _).symm)
    (fun t h y => by idx_vars y; exact later_sums m c t h _ _)
    (le_of_eq N_0) t0_15 rfl _, zero_add]
  exact sums_points m c j0 j1
end Cert.KernelIdeal.Blocks
-- ==== Proof.RefResult.lean ====
/- The reference's two results at an index, over the arguments. -/
module
public import proofs.«01_k».proof.Proof.Gen.ReferenceIdeal.Read
public import proofs.«01_k».proof.Proof.Rows
public import proofs.«01_k».proof.Proof.NormMath
public import Idealize.ShloMosaic.Lib.Pointwise
@[expose] public section
set_option maxRecDepth 16384
noncomputable section
open Idealize.ShloMosaic Idealize.ShloMosaic.TcCoe Idealize.SL.Sem
namespace Cert.ReferenceIdeal.Values
open Cert.ReferenceIdeal Cert.ReferenceIdeal.Gen Cert.ReferenceIdeal.Read Cert.Rows Cert.Norm

abbrev Arr (s : Shape) : Type := s.Idx → EReal
variable (x : Arr S1x8192x1024) (md : Arr S1x6144) (g : Arr S1x1024) (w : Arr S1x1024x7168) (cx : Arr S1x8192x1024)
  (cp : Arr S1x8192x7168)

def dmod (i : Fin 8192) (k : Fin 1024) : EReal := ∑ p, cp (ix3 (0 : Fin 1) i p) * w (ix3 (0 : Fin 1) k p)
def scl (k : Fin 1024) : EReal := 1 + md (ix2 (0 : Fin 1) (⟨1024 + k.val, by omega⟩ : Fin 6144))
def rowOf (i : Fin 8192) (k : Fin 1024) : EReal := x (ix3 (0 : Fin 1) i k)
def dn (i : Fin 8192) (k : Fin 1024) : EReal := dmod w cp i k * scl md k * g (ix2 (0 : Fin 1) k)
theorem v33_at (i : Fin 8192) (k : Fin 1024) : (val_main_v33 (F := Ideal) w cp (ix3 (0 : Fin 1) i k) : EReal) = dmod w cp i k := by
  rw [val_main_v33_apply]
  refine Finset.sum_congr rfl fun p _ => ?_
  rw [val_main_v31_apply]
  refine congrArg₂ (· * ·) (congrArg cp ?_) (congrArg w ?_)
  · funext a
    match a with | ⟨0, _⟩ => rfl | ⟨1, _⟩ => rfl | ⟨2, _⟩ => rfl
  · funext a
    apply Fin.ext
    match a with
    | ⟨0, _⟩ => rfl
    | ⟨1, _⟩ => show (k.val * 7168 + p.val) / 7168 % 1024 = k.val; omega
    | ⟨2, _⟩ => show (k.val * 7168 + p.val) % 7168 = p.val; omega

theorem v13_at (i : Fin 8192) : (val_main_v13 (F := Ideal) x (ix3 (0 : Fin 1) i (0 : Fin 1)) : EReal) = ms (rowOf x i) := by
  pointwise [val_main_v13, val_main_v11, val_main_v12, val_main_cst_1, val_main_v10, val_main_cst_0, val_main_v9]
  rw [val_main_v8_apply]
  unfold ms
  refine congrArg (fun s => Ideal.div s _ + _) ?_
  refine (congrArg₂ (· + ·) (?_ : _ = (0 : EReal)) (Finset.sum_congr rfl fun k _ => ?_)).trans (zero_add _)
  · pointwise [val_main_cst]
  · rw [val_main_v7_apply]
    refine congrArg (fun q => q * q) (congrArg x ?_)
    funext a
    match a with | ⟨0, _⟩ => rfl | ⟨1, _⟩ => rfl | ⟨2, _⟩ => rfl
theorem v17_at (i : Fin 8192) : (val_main_v17 (F := Ideal) x (ix3 (0 : Fin 1) i (0 : Fin 1)) : EReal) = cHalf * Ideal.div (rms (rowOf x i)) (ms (rowOf x i)) := by
  have h := v13_at x i
  unfold val_main_v17 val_main_v15 val_main_v14
  generalize val_main_v13 (F := Ideal) x = y at h ⊢
  pointwise [val_main_v16, val_main_cst_2]
  rw [h]
  rfl
theorem v19_at (i : Fin 8192) (k : Fin 1024) :
    (val_main_v19 (F := Ideal) x (ix3 (0 : Fin 1) i k) : EReal) = rowOf x i k * rms (rowOf x i) := by
  have h := v13_at x i
  unfold val_main_v19 val_main_v18 val_main_v14
  generalize val_main_v13 (F := Ideal) x = y at h ⊢
  pointwise
  rw [h]
  rfl
theorem v42_at (i : Fin 8192) (k : Fin 1024) :
    (val_main_v42 (F := Ideal) md w cp (ix3 (0 : Fin 1) i k) : EReal) = dmod w cp i k * scl md k := by
  have h := v33_at w cp i k
  unfold val_main_v42
  generalize val_main_v33 (F := Ideal) w cp = y at h ⊢
  pointwise [val_main_v41, val_main_v25, val_main_v24, val_main_cst_3, val_main_v23, val_main_v1]
  rw [h]
  rfl
theorem v49_at (i : Fin 8192) (k : Fin 1024) :
    (val_main_v49 (F := Ideal) md g w cp (ix3 (0 : Fin 1) i k) : EReal) = dn md g w cp i k := by
  have h := v42_at md w cp i k
  unfold val_main_v49
  generalize val_main_v42 (F := Ideal) md w cp = y at h ⊢
  pointwise [val_main_v48, val_main_v20, val_main_v6]
  rw [h]
  rfl

theorem drop_col (y : Arr S1x8192x1) (init : EReal) (p : Fin 8192) :
    Ideal.hostReduceAdd reducesTo_S1x8192x1_S8192_d0_2 y init (ix1 p) = init + y (ix3 (0 : Fin 1) p (0 : Fin 1)) := by
  refine hostReduceAdd_one _ y init _ _ ?_ fun i hi => ?_
  · funext a
    apply Fin.ext
    match a with | ⟨0, _⟩ => rfl
  · have h : (i 1).val = p.val := congrArg (fun f : S8192.Idx => (f 0).val) hi
    funext a
    apply Fin.ext
    match a with
    | ⟨0, _⟩ => have : (i 0).val < 1 := (i 0).isLt; show (i 0).val = 0; omega
    | ⟨1, _⟩ => exact h
    | ⟨2, _⟩ => have : (i 2).val < 1 := (i 2).isLt; show (i 2).val = 0; omega

theorem drop_row (y : Arr S1x1x1024) (init : EReal) (p : Fin 1024) :
    Ideal.hostReduceAdd reducesTo_S1x1x1024_S1024_d0_1 y init (ix1 p) = init + y (ix3 (0 : Fin 1) (0 : Fin 1) p) := by
  refine hostReduceAdd_one _ y init _ _ ?_ fun i hi => ?_
  · funext a
    apply Fin.ext
    match a with | ⟨0, _⟩ => rfl
  · have h : (i 2).val = p.val := congrArg (fun f : S1024.Idx => (f 0).val) hi
    funext a
    apply Fin.ext
    match a with
    | ⟨0, _⟩ => have : (i 0).val < 1 := (i 0).isLt; show (i 0).val = 0; omega
    | ⟨1, _⟩ => have : (i 1).val < 1 := (i 1).isLt; show (i 1).val = 0; omega
    | ⟨2, _⟩ => exact h

theorem v59_at (i : Fin 8192) :
    (val_main_v59 (F := Ideal) x md g w cp (ix3 (0 : Fin 1) i (0 : Fin 1)) : EReal) = msGrad (rowOf x i) (dn md g w cp i) := by
  have h : (val_main_v52 (F := Ideal) x md g w cp (ix2 (0 : Fin 1) i) : EReal) = ∑ k, rowOf x i k * dn md g w cp i k := by
    rw [val_main_v52_apply]
    refine (congrArg₂ (· + ·) (?_ : _ = (0 : EReal)) (Finset.sum_congr rfl fun k _ => ?_)).trans (zero_add _)
    · pointwise [val_main_cst_10]
    · rw [show idx_main_v52 (ix2 (0 : Fin 1) i) k = ix3 (0 : Fin 1) i k from funext fun a => by
        match a with | ⟨0, _⟩ => rfl | ⟨1, _⟩ => rfl | ⟨2, _⟩ => rfl]
      rw [val_main_v51_apply]
      exact congrArg (rowOf x i k * ·) (v49_at md g w cp i k)
  have h' := v17_at x i
  unfold val_main_v59 val_main_v57 val_main_v53
  generalize val_main_v52 (F := Ideal) x md g w cp = y at h ⊢
  generalize val_main_v17 (F := Ideal) x = z at h' ⊢
  pointwise [val_main_v58, val_main_cst_11]
  rw [h, h']
  rfl

theorem v62_at (i : Fin 8192) (j : Fin 1024) :
    (val_main_v62 (F := Ideal) x md g w cp (ix3 (0 : Fin 1) i j) : EReal) = msGrad (rowOf x i) (dn md g w cp i) := by
  have h := v59_at x md g w cp i
  unfold val_main_v62 val_main_v61 val_main_v60
  generalize val_main_v59 (F := Ideal) x md g w cp = y at h ⊢
  pointwise [val_main_cst_12]
  rw [drop_col, h, zero_add]

def refX (i : Fin 8192) (j : Fin 1024) : EReal :=
  cx (ix3 (0 : Fin 1) i j) + dn md g w cp i j * rms (rowOf x i) + rowOf x i j * msGrad (rowOf x i) (dn md g w cp i)
    + msGrad (rowOf x i) (dn md g w cp i) * rowOf x i j

theorem gx_at (i : Fin 8192) (j : Fin 1024) :
    (val_main_v68 (F := Ideal) x md g w cx cp (ix2 i j) : EReal) = refX x md g w cx cp i j := by
  have h := v62_at x md g w cp i j
  have h1 := v13_at x i
  have h2 := v49_at md g w cp i j
  unfold val_main_v68 val_main_v66 val_main_v65 val_main_v64 val_main_v63 val_main_v56 val_main_v55 val_main_v54 val_main_v14
  generalize val_main_v62 (F := Ideal) x md g w cp = y at h ⊢
  generalize val_main_v13 (F := Ideal) x = z at h1 ⊢
  generalize val_main_v49 (F := Ideal) md g w cp = a at h2 ⊢
  pointwise
  rw [h, h1, h2]
  rfl

theorem sh_at (j : Fin 1024) : (val_main_v37 (F := Ideal) w cp (ix2 (0 : Fin 1) j) : EReal) = ∑ i, dmod w cp i j := by
  have h : (val_main_v34 (F := Ideal) w cp (ix2 (0 : Fin 1) j) : EReal) = ∑ i, dmod w cp i j := by
    rw [val_main_v34_apply]
    refine (congrArg₂ (· + ·) (?_ : _ = (0 : EReal)) (Finset.sum_congr rfl fun k _ => ?_)).trans (zero_add _)
    · pointwise [val_main_cst_4]
    · refine (congrArg _ (funext fun a => ?_)).trans (v33_at w cp k j)
      match a with | ⟨0, _⟩ => rfl | ⟨1, _⟩ => rfl | ⟨2, _⟩ => rfl
  unfold val_main_v37 val_main_v36 val_main_v35
  generalize val_main_v34 (F := Ideal) w cp = y at h ⊢
  pointwise [val_main_cst_5]
  rw [drop_row, zero_add, ← h]
  pointwise

theorem sc_at (j : Fin 1024) : (val_main_v44 (F := Ideal) x g w cp (ix2 (0 : Fin 1) j) : EReal)
    = ∑ i, rowOf x i j * rms (rowOf x i) * g (ix2 (0 : Fin 1) j) * dmod w cp i j := by
  have h : (val_main_v39 (F := Ideal) x g w cp (ix2 (0 : Fin 1) j) : EReal)
      = ∑ i, rowOf x i j * rms (rowOf x i) * g (ix2 (0 : Fin 1) j) * dmod w cp i j := by
    rw [val_main_v39_apply]
    refine (congrArg₂ (· + ·) (?_ : _ = (0 : EReal)) (Finset.sum_congr rfl fun k _ => ?_)).trans (zero_add _)
    · pointwise [val_main_cst_6]
    · rw [show idx_main_v39 (ix2 (0 : Fin 1) j) k = ix3 (0 : Fin 1) k j from funext fun a => by
        match a with | ⟨0, _⟩ => rfl | ⟨1, _⟩ => rfl | ⟨2, _⟩ => rfl]
      have h1 := v19_at x k j
      have h2 := v33_at w cp k j
      unfold val_main_v38 val_main_v22
      generalize val_main_v19 (F := Ideal) x = y at h1 ⊢
      generalize val_main_v33 (F := Ideal) w cp = z at h2 ⊢
      pointwise [val_main_v21, val_main_v20, val_main_v6]
      rw [h1, h2]
  unfold val_main_v44 val_main_v43 val_main_v40
  generalize val_main_v39 (F := Ideal) x g w cp = y at h ⊢
  pointwise [val_main_cst_7]
  rw [drop_row, zero_add, ← h]
  pointwise

theorem g_at (j : Fin 1024) : (val_main_v67 (F := Ideal) x md w cp (ix2 (0 : Fin 1) j) : EReal)
    = ∑ i, rowOf x i j * rms (rowOf x i) * (dmod w cp i j * scl md j) := by
  have h : (val_main_v46 (F := Ideal) x md w cp (ix2 (0 : Fin 1) j) : EReal)
      = ∑ i, rowOf x i j * rms (rowOf x i) * (dmod w cp i j * scl md j) := by
    rw [val_main_v46_apply]
    refine (congrArg₂ (· + ·) (?_ : _ = (0 : EReal)) (Finset.sum_congr rfl fun k _ => ?_)).trans (zero_add _)
    · pointwise [val_main_cst_8]
    · rw [show idx_main_v46 (ix2 (0 : Fin 1) j) k = ix3 (0 : Fin 1) k j from funext fun a => by
        match a with | ⟨0, _⟩ => rfl | ⟨1, _⟩ => rfl | ⟨2, _⟩ => rfl]
      rw [val_main_v45_apply]
      exact congrArg₂ (· * ·) (v19_at x k j) (v42_at md w cp k j)
  unfold val_main_v67 val_main_v50 val_main_v47
  generalize val_main_v46 (F := Ideal) x md w cp = y at h ⊢
  pointwise [val_main_cst_9]
  rw [drop_row, zero_add, ← h]
  pointwise

def refSums (i : Fin 8) (j : Fin 1024) : EReal :=
  if i.val = 0 then ∑ p, dmod w cp p j
  else if i.val = 1 then ∑ p, rowOf x p j * rms (rowOf x p) * g (ix2 (0 : Fin 1) j) * dmod w cp p j
  else if i.val = 2 then ∑ p, rowOf x p j * rms (rowOf x p) * (dmod w cp p j * scl md j)
  else 0

theorem sums_at (i : Fin 8) (j : Fin 1024) :
    (val_main_v70 (F := Ideal) x md g w cp (ix2 i j) : EReal) = refSums x md g w cp i j := by
  have h0 := sh_at w cp j
  have h1 := sc_at x g w cp j
  have h2 := g_at x md w cp j
  unfold val_main_v70 refSums
  generalize val_main_v37 (F := Ideal) w cp = a at h0 ⊢
  generalize val_main_v44 (F := Ideal) x g w cp = b at h1 ⊢
  generalize val_main_v67 (F := Ideal) x md w cp = d at h2 ⊢
  rw [← h0, ← h1, ← h2]
  pointwise [val_main_v69, val_main_cst_13]
  match i with
  | ⟨0, _⟩ => rfl
  | ⟨1, _⟩ => rfl
  | ⟨2, _⟩ => rfl
  | ⟨n + 3, h⟩ => simp

end Cert.ReferenceIdeal.Values
-- ==== Proof.Finite.lean ====
/- Arrays whose entries are all real: what a precondition on absolute values says, and sums and products of such entries. -/
module
public import Idealize.ShloMosaic.PureOps.Ideal
public import Idealize.ShloMosaic.Lib.ValueIdx
@[expose] public section
noncomputable section
open Idealize.ShloMosaic
namespace Cert.Finite

theorem pinf : Ideal.ofBits .f32 2139095040#32 = ⊤ := by
  simp [Ideal.ofBits, Ideal.ieee]

/-- An extended real whose absolute value compares below the largest is a real. -/
theorem real_of_abs (v : EReal) (h : max v (-v) < ⊤) : ∃ r : ℝ, v = r := by
  induction v with
  | bot => simp at h
  | top => simp at h
  | coe r => exact ⟨r, rfl⟩

/-- One array's part of the precondition: all its entries are real. -/
theorem real_all {s : Shape} (x : FVec Ideal s .f32) (y : FVec Ideal s .f32) (hy : ∀ i, y i = (⊤ : EReal))
    (h : cmpf .olt (Host.absf x) y = fun _ => 1#1) (i : s.Idx) : ∃ r : ℝ, (x i : EReal) = r := by
  refine real_of_abs _ (not_not.mp fun hn => ?_)
  have h1 : BitVec.ofBool (decide (max (x i : EReal) (-x i) < y i)) = 1#1 := congrFun h i
  rw [hy, decide_eq_false hn] at h1
  exact absurd h1 (by decide)

theorem real_mul {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩
theorem real_add {a b : EReal} (ha : ∃ r : ℝ, a = r) (hb : ∃ r : ℝ, b = r) : ∃ r : ℝ, a + b = r := by
  obtain ⟨r, rfl⟩ := ha
  obtain ⟨q, rfl⟩ := hb
  exact ⟨r + q, (EReal.coe_add r q).symm⟩
theorem real_sum {ι : Type} (s : Finset ι) (f : ι → EReal) (h : ∀ i, ∃ r : ℝ, f i = r) : ∃ r : ℝ, ∑ i ∈ s, f i = r :=
  Finset.sum_induction f (fun v => ∃ r : ℝ, v = r) (fun _ _ => real_add) ⟨0, rfl⟩ fun i _ => h i

/-- Every entry of an array is real. -/
def AllReal {s : Shape} (x : s.Idx → EReal) : Prop := ∀ i, ∃ r : ℝ, x i = r

end Cert.Finite
-- ==== Proof.Algebraic.lean ====
/- The two programs' results are the same arrays. -/
module
public import proofs.«01_k».proof.Proof.Result
public import proofs.«01_k».proof.Proof.RefResult
public import proofs.«01_k».proof.Proof.Finite
public import proofs.«01_k».proof.Proof.Gen.Pre_finite
public import proofs.«01_k».proof.Proof.Gen.ReferenceIdeal.Run
public import proofs.«01_k».proof.Proof.Gen.KernelIdeal.Value
public import proofs.«01_k».proof.Defs
public import Idealize.ShloMosaic.Lib.Claim
@[expose] public section
set_option maxRecDepth 16384
noncomputable section
open Idealize.ShloMosaic Idealize.ShloMosaic.TcCoe Idealize.SL.Sem
namespace Cert.InProj
open Cert.KernelIdeal Cert.Norm Cert.Finite

section
variable (x : S1x8192x1024.Idx → EReal) (md : S1x6144.Idx → EReal) (g : S1x1024.Idx → EReal) (w : S1x1024x7168.Idx → EReal)
  (cx : S1x8192x1024.Idx → EReal) (cp : S1x8192x7168.Idx → EReal)

/-- The gradient of `x` is the same in both programs, when all but what is added to it is real. -/
theorem gradX_eq (hx : ∀ i, ∃ r : ℝ, x i = r) (hm : ∀ i, ∃ r : ℝ, md i = r) (hg : ∀ i, ∃ r : ℝ, g i = r)
    (hw : ∀ i, ∃ r : ℝ, w i = r) (hp : ∀ i, ∃ r : ℝ, cp i = r) (i : Fin 8192) (j : Fin 1024) :
    KernelIdeal.Blocks.gradX x md g w cx cp i j = ReferenceIdeal.Values.refX x md g w cx cp i j :=
  add_rowGrad _ _ (fun k => hx _)
    (fun k => real_mul (real_mul (real_sum _ _ fun _ => real_mul (hp _) (hw _)) (real_add ⟨1, rfl⟩ (hm _))) (hg _)) _ j

/-- The three rows of sums, and the rows of zeros, are the same in both programs. -/
theorem sums_eq (i : Fin 8) (j : Fin 1024) :
    KernelIdeal.Blocks.sums x md g w cp i j = ReferenceIdeal.Values.refSums x md g w cp i j := by
  unfold KernelIdeal.Blocks.sums ReferenceIdeal.Values.refSums
  by_cases h0 : i.val = 0
  · rw [if_pos h0, if_pos h0, if_neg (by omega), if_neg (by omega), add_zero, add_zero]
    rfl
  · rw [if_neg h0, if_neg h0]
    by_cases h1 : i.val = 1
    · rw [if_pos h1, if_pos h1, if_neg (by omega), add_zero, zero_add]
      exact Finset.sum_congr rfl fun p _ => mul_comm _ _
    · rw [if_neg h1, if_neg h1, add_zero, zero_add]
      by_cases h2 : i.val = 2
      · rw [if_pos h2, if_pos h2]
        exact Finset.sum_congr rfl fun p _ => mul_comm _ _
      · rw [if_neg h2, if_neg h2]
end

/-- Every entry of the five arrays the precondition names is real. -/
theorem reals [Cert.Pre_finite.Facts] (m : (ℓ : Loc nD τ sig) → Buf (Elt Ideal) ℓ) (h : Cert.Pre_KernelIdeal_finite m) (c : Dev nD) :
    AllReal (s := S1x8192x1024) (m ((c : Thread nD τ).loc main_arg0)) ∧ AllReal (s := S1x6144) (m ((c : Thread nD τ).loc main_arg1))
      ∧ AllReal (s := S1x1024) (m ((c : Thread nD τ).loc main_arg2)) ∧ AllReal (s := S1x1024x7168) (m ((c : Thread nD τ).loc main_arg3))
      ∧ AllReal (s := S1x8192x7168) (m ((c : Thread nD τ).loc main_arg5)) := by
  obtain ⟨h0, h1, h2, h3, h5⟩ := h c
  exact ⟨real_all _ _ (fun i => pinf) h0, real_all _ _ (fun i => pinf) h1, real_all _ _ (fun i => pinf) h2,
    real_all _ _ (fun i => pinf) h3, real_all _ _ (fun i => pinf) h5⟩

/-- The reference ends with its arguments unchanged and every counter at zero: it declares none. -/
theorem ref_frame : Cert.quiescent_ReferenceIdeal := fun m ρ _ =>
  (θ_run _ _ _).mono (fun r h => ⟨fun c => (h c).2.2, sem_eq_zero_of_no_sems (by decide) r.2⟩) (ReferenceIdeal.Value.run m ρ)

theorem algebraic [Cert.Pre_finite.Facts] : Cert.algebraic_KernelIdeal_ReferenceIdeal_pre_finite := by
  intro m g m' g' hpre hagree
  refine ⟨_, _, Cert.KernelIdeal.Value.run_blocks m g, (θ_run _ _ _).mono (fun r h c => ?_) (Cert.ReferenceIdeal.Value.run m' g')⟩
  obtain ⟨e0, e1, hargs⟩ := h c
  obtain ⟨a0, a1, a2, a3, a4, a5⟩ := hagree c
  obtain ⟨r0, r1, r2, r3, r5⟩ := reals m hpre c
  refine ⟨(e0.trans (Cert.ReferenceIdeal.Read.val_main_v68_eq m' c)).trans ?_, (e1.trans (Cert.ReferenceIdeal.Read.val_main_v70_eq _ _ _ _ _)).trans ?_, hargs⟩
  · rw [a0, a1, a2, a3, a4, a5]
    refine Eq.trans (funext fun i => ?_) (KernelIdeal.Blocks.final6 m c).symm
    idx_vars i
    exact (ReferenceIdeal.Values.gx_at _ _ _ _ _ _ _ _).trans (gradX_eq _ _ _ _ _ _ r0 r1 r2 r3 r5 _ _).symm
  · rw [a0, a1, a2, a3, a5]
    refine Eq.trans (funext fun i => ?_) (KernelIdeal.Blocks.final7 m c).symm
    idx_vars i
    exact (ReferenceIdeal.Values.sums_at _ _ _ _ _ _ _).trans (sums_eq _ _ _ _ _ _ _).symm

end Cert.InProj
-- ==== Proof.MixerTrip.lean ====
/- One trip of the mixer backward kernel's first counted loop (the gates, the reverse recurrence and the sums over rows,
   sixteen rows at a time), and the loop's invariant: each written buffer holds what the trips so far leave in it. -/
module

public import proofs.«01_k».proof.Proof.Gen.MixerBwdIdeal.Loops

@[expose] public section

set_option maxRecDepth 16384

noncomputable section

namespace Cert.MixerBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixerBwdIdeal.Gen

variable {F : FTy → Type} [FloatOps F] [Named F]

/-- The resource algebra of the runs. -/
local notation "𝕄G" => MT nD τ sig Unit (Elt F) ℕ (UR sig nD τ) ℕ

/-- What the eight buffers the loop writes hold. -/
structure St (F : FTy → Type) [FloatOps F] (arg9 : Memref sig .tc .vmem S256x7168 .bf16) (arg10 : Memref sig .tc .vmem S16x1024 .f32) (arg14 : Memref sig .tc .vmem S264x1024 .f32) (arg15 : Memref sig .tc .vmem S264x1024 .f32) (arg16 : Memref sig .tc .vmem S256x1024 .f32) (arg17 : Memref sig .tc .vmem S256x1024 .f32) (arg18 : Memref sig .tc .vmem S8x1024 .f32) (arg19 : Memref sig .tc .vmem S8x1024 .f32) where
  c9 : BufTy.Contents (Elt F) arg9.view.ty
  c10 : BufTy.Contents (Elt F) arg10.view.ty
  c14 : BufTy.Contents (Elt F) arg14.view.ty
  c15 : BufTy.Contents (Elt F) arg15.view.ty
  c16 : BufTy.Contents (Elt F) arg16.view.ty
  c17 : BufTy.Contents (Elt F) arg17.view.ty
  c18 : BufTy.Contents (Elt F) arg18.view.ty
  c19 : BufTy.Contents (Elt F) arg19.view.ty

/-- What the loop reads and does not write. -/
structure Rd (F : FTy → Type) [FloatOps F] (arg1 : Memref sig .tc .vmem S256x7168 .bf16) (arg4 : Memref sig .tc .vmem S6x256x1024 .f32) (arg5 : Memref sig .tc .vmem S256x1024 .bf16) (arg13 : Memref sig .tc .vmem S264x1024 .f32) where
  c1 : BufTy.Contents (Elt F) arg1.view.ty
  c4 : BufTy.Contents (Elt F) arg4.view.ty
  c5 : BufTy.Contents (Elt F) arg5.view.ty
  c13 : BufTy.Contents (Elt F) arg13.view.ty

/-- The loop's buffers, the read ones at `X`, the written ones at `s`. -/
abbrev Trip (c : Dev nD) (arg1 : Memref sig .tc .vmem S256x7168 .bf16) (arg4 : Memref sig .tc .vmem S6x256x1024 .f32) (arg5 : Memref sig .tc .vmem S256x1024 .bf16) (arg13 : Memref sig .tc .vmem S264x1024 .f32) (arg9 : Memref sig .tc .vmem S256x7168 .bf16) (arg10 : Memref sig .tc .vmem S16x1024 .f32) (arg14 : Memref sig .tc .vmem S264x1024 .f32) (arg15 : Memref sig .tc .vmem S264x1024 .f32) (arg16 : Memref sig .tc .vmem S256x1024 .f32) (arg17 : Memref sig .tc .vmem S256x1024 .f32) (arg18 : Memref sig .tc .vmem S8x1024 .f32) (arg19 : Memref sig .tc .vmem S8x1024 .f32) (X : Rd F arg1 arg4 arg5 arg13) (s : St F arg9 arg10 arg14 arg15 arg16 arg17 arg18 arg19) : sProp 𝕄G :=
  iprop((arg1.view.loc (c : Thread nD τ) ↦[arg1.view.set]{fullShare} X.c1) ∗ (arg4.view.loc (c : Thread nD τ) ↦[arg4.view.set]{fullShare} X.c4) ∗ (arg5.view.loc (c : Thread nD τ) ↦[arg5.view.set]{fullShare} X.c5) ∗ (arg13.view.loc (c : Thread nD τ) ↦[arg13.view.set]{fullShare} X.c13) ∗ (arg9.view.loc (c : Thread nD τ) ↦[arg9.view.set]{fullShare} s.c9) ∗ (arg10.view.loc (c : Thread nD τ) ↦[arg10.view.set]{fullShare} s.c10) ∗ (arg14.view.loc (c : Thread nD τ) ↦[arg14.view.set]{fullShare} s.c14) ∗ (arg15.view.loc (c : Thread nD τ) ↦[arg15.view.set]{fullShare} s.c15) ∗ (arg16.view.loc (c : Thread nD τ) ↦[arg16.view.set]{fullShare} s.c16) ∗ (arg17.view.loc (c : Thread nD τ) ↦[arg17.view.set]{fullShare} s.c17) ∗ (arg18.view.loc (c : Thread nD τ) ↦[arg18.view.set]{fullShare} s.c18) ∗ (arg19.view.loc (c : Thread nD τ) ↦[arg19.view.set]{fullShare} s.c19))

/-- ONE TRIP: its stores are what the run finds. -/
@[irreducible] def trip (𝒱 : Variants) (c : Dev nD) (bd : Option 𝒱.V) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X : Rd F arg1 arg4 arg5 arg13) (k : Fin k0_t1_loop.trips) :
    Σ' (L9 : St F arg9 arg10 arg14 arg15 arg16 arg17 arg18 arg19 → List (View.Piece (Elt F) S256x7168 .bf16))  , Σ'  (L10 : St F arg9 arg10 arg14 arg15 arg16 arg17 arg18 arg19 → List (View.Piece (Elt F) S16x1024 .f32))  , Σ'  (L14 : St F arg9 arg10 arg14 arg15 arg16 arg17 arg18 arg19 → List (View.Piece (Elt F) S264x1024 .f32))  , Σ'  (L15 : St F arg9 arg10 arg14 arg15 arg16 arg17 arg18 arg19 → List (View.Piece (Elt F) S264x1024 .f32))  , Σ'  (L16 : St F arg9 arg10 arg14 arg15 arg16 arg17 arg18 arg19 → List (View.Piece (Elt F) S256x1024 .f32))  , Σ'  (L17 : St F arg9 arg10 arg14 arg15 arg16 arg17 arg18 arg19 → List (View.Piece (Elt F) S256x1024 .f32))  , Σ'  (L18 : St F arg9 arg10 arg14 arg15 arg16 arg17 arg18 arg19 → List (View.Piece (Elt F) S8x1024 .f32)) , { L19 : St F arg9 arg10 arg14 arg15 arg16 arg17 arg18 arg19 → List (View.Piece (Elt F) S8x1024 .f32) // ∀ (E : Set ℕ) (s : St F arg9 arg10 arg14 arg15 arg16 arg17 arg18 arg19),
      Trip c arg1 arg4 arg5 arg13 arg9 arg10 arg14 arg15 arg16 arg17 arg18 arg19 X s
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 k PUnit.unit)
          (fun _ => Trip c arg1 arg4 arg5 arg13 arg9 arg10 arg14 arg15 arg16 arg17 arg18 arg19 X { c9 := arg9.view.writes (Elt F) s.c9 (L9 s), c10 := arg10.view.writes (Elt F) s.c10 (L10 s), c14 := arg14.view.writes (Elt F) s.c14 (L14 s), c15 := arg15.view.writes (Elt F) s.c15 (L15 s), c16 := arg16.view.writes (Elt F) s.c16 (L16 s), c17 := arg17.view.writes (Elt F) s.c17 (L17 s), c18 := arg18.view.writes (Elt F) s.c18 (L18 s), c19 := arg19.view.writes (Elt F) s.c19 (L19 s) }) } := by
  have hk : k.val < 16 := Nat.lt_of_lt_of_le k.isLt k0_t1_abs.2.1
  refine ⟨?_, ?_, ?_, ?_, ?_, ?_, ?_, ?_, fun E s => ?run⟩
  case run =>
    unfold k0_t1_body
    iintro ⟨H1, H4, H5, H13, H9, H10, H14, H15, H16, H17, H18, H19⟩
    sl_exec
    sl_step
    sl_close

/-- What trip `k` leaves of a state. -/
def tripOut (𝒱 : Variants) (c : Dev nD) (bd : Option 𝒱.V) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X : Rd F arg1 arg4 arg5 arg13) (k : Fin k0_t1_loop.trips) (s : St F arg9 arg10 arg14 arg15 arg16 arg17 arg18 arg19) : St F arg9 arg10 arg14 arg15 arg16 arg17 arg18 arg19 where
  c9 := arg9.view.writes (Elt F) s.c9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).1 s)
  c10 := arg10.view.writes (Elt F) s.c10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.1 s)
  c14 := arg14.view.writes (Elt F) s.c14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.1 s)
  c15 := arg15.view.writes (Elt F) s.c15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.2.1 s)
  c16 := arg16.view.writes (Elt F) s.c16 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.2.2.1 s)
  c17 := arg17.view.writes (Elt F) s.c17 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.2.2.2.1 s)
  c18 := arg18.view.writes (Elt F) s.c18 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.2.2.2.2.1 s)
  c19 := arg19.view.writes (Elt F) s.c19 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.2.2.2.2.2.1 s)

theorem trip_run (𝒱 : Variants) (c : Dev nD) (bd : Option 𝒱.V) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X : Rd F arg1 arg4 arg5 arg13) (k : Fin k0_t1_loop.trips) (E : Set ℕ) (s : St F arg9 arg10 arg14 arg15 arg16 arg17 arg18 arg19) :
    Trip c arg1 arg4 arg5 arg13 arg9 arg10 arg14 arg15 arg16 arg17 arg18 arg19 X s
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 k PUnit.unit)
          (fun _ => Trip c arg1 arg4 arg5 arg13 arg9 arg10 arg14 arg15 arg16 arg17 arg18 arg19 X (tripOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k s)) :=
  (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k).2.2.2.2.2.2.2.2 E s

/-- What the trips before `n` leave of the state `s` the loop starts from. -/
def stAt (𝒱 : Variants) (c : Dev nD) (bd : Option 𝒱.V) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X : Rd F arg1 arg4 arg5 arg13) (s : St F arg9 arg10 arg14 arg15 arg16 arg17 arg18 arg19) : ℕ → St F arg9 arg10 arg14 arg15 arg16 arg17 arg18 arg19
  | 0 => s
  | n + 1 => if h : n < k0_t1_loop.trips then tripOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X ⟨n, h⟩ (stAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X s n) else stAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X s n
theorem stAt_succ (𝒱 : Variants) (c : Dev nD) (bd : Option 𝒱.V) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X : Rd F arg1 arg4 arg5 arg13) (s : St F arg9 arg10 arg14 arg15 arg16 arg17 arg18 arg19) (k : Fin k0_t1_loop.trips) :
    stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X s (k.val + 1) = tripOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X k (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X s k.val) := by
  rw [stAt]; exact dif_pos k.isLt

/-- Before trip `k`. -/
abbrev inv (𝒱 : Variants) (c : Dev nD) (bd : Option 𝒱.V) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X1 : BufTy.Contents (Elt F) arg1.view.ty) (X4 : BufTy.Contents (Elt F) arg4.view.ty) (X5 : BufTy.Contents (Elt F) arg5.view.ty) (X13 : BufTy.Contents (Elt F) arg13.view.ty) (G9 : BufTy.Contents (Elt F) arg9.view.ty) (G10 : BufTy.Contents (Elt F) arg10.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (k : ℕ) (_u : PUnit) : sProp 𝕄G :=
  iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg13.view.loc (c : Thread nD τ) ↦[arg13.view.set]{fullShare} X13) ∗ (∃ f, (arg9.view.loc (c : Thread nD τ) ↦[arg9.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c9⌝) ∗ (∃ f, (arg10.view.loc (c : Thread nD τ) ↦[arg10.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c10⌝) ∗ (∃ f, (arg14.view.loc (c : Thread nD τ) ↦[arg14.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c14⌝) ∗ (∃ f, (arg15.view.loc (c : Thread nD τ) ↦[arg15.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c15⌝) ∗ (∃ f, (arg16.view.loc (c : Thread nD τ) ↦[arg16.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c16⌝) ∗ (∃ f, (arg17.view.loc (c : Thread nD τ) ↦[arg17.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c17⌝) ∗ (∃ f, (arg18.view.loc (c : Thread nD τ) ↦[arg18.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c18⌝) ∗ (∃ f, (arg19.view.loc (c : Thread nD τ) ↦[arg19.view.set]{fullShare} f) ∗ ⌜f = (stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k).c19⌝))

set_option warn.classDefReducibility false in
/-- The loop by its invariant. -/
@[sl_loop] def loopInv_k0_t1 (𝒱 : Variants) (c : Dev nD) (bd : Option 𝒱.V) (E : Set ℕ) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) (v0 : BitVec 32) (v22 : FVec F S1x1024 .f32) (v26 : FVec F S1x1024 .f32) (v30 : FVec F S1x1024 .f32) (v32 : IVec S1x1024 1) (v33 : FVec F S1x1024 .f32) (v35 : IVec S1x1024 1) (cst_13 : F .f32) (v48 : IVec S8x256 32) (X1 : BufTy.Contents (Elt F) arg1.view.ty) (X4 : BufTy.Contents (Elt F) arg4.view.ty) (X5 : BufTy.Contents (Elt F) arg5.view.ty) (X13 : BufTy.Contents (Elt F) arg13.view.ty) (G9 : BufTy.Contents (Elt F) arg9.view.ty) (G10 : BufTy.Contents (Elt F) arg10.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 X1 X4 X5 X13 G9 G10 G14 G15 G16 G17 G18 G19
  step k acc := by
    iintro ⟨H1, H4, H5, H13, ⟨%f9, H9, %h9⟩, ⟨%f10, H10, %h10⟩, ⟨%f14, H14, %h14⟩, ⟨%f15, H15, %h15⟩, ⟨%f16, H16, %h16⟩, ⟨%f17, H17, %h17⟩, ⟨%f18, H18, %h18⟩, ⟨%f19, H19, %h19⟩⟩
    iapply (wp_wand_r Idealize.ShloMosaic.frame (wpE (defs₀ (F := F)) 𝒱 (c : Thread nD τ) bd) E)
    isplitl [H1 H4 H5 H13 H9 H10 H14 H15 H16 H17 H18 H19]
    · iapply (trip_run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ k E ⟨f9, f10, f14, f15, f16, f17, f18, f19⟩)
      isplitl [H1]; · iexact H1
      isplitl [H4]; · iexact H4
      isplitl [H5]; · iexact H5
      isplitl [H13]; · iexact H13
      isplitl [H9]; · iexact H9
      isplitl [H10]; · iexact H10
      isplitl [H14]; · iexact H14
      isplitl [H15]; · iexact H15
      isplitl [H16]; · iexact H16
      isplitl [H17]; · iexact H17
      isplitl [H18]; · iexact H18
      iexact H19
    · iintro %_ ⟨H1, H4, H5, H13, H9, H10, H14, H15, H16, H17, H18, H19⟩
      isplitl [H1]; · iexact H1
      isplitl [H4]; · iexact H4
      isplitl [H5]; · iexact H5
      isplitl [H13]; · iexact H13
      rw [stAt_succ]
      have e : (⟨f9, f10, f14, f15, f16, f17, f18, f19⟩ : St F arg9 arg10 arg14 arg15 arg16 arg17 arg18 arg19) = stAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v22 v26 v30 v32 v33 v35 cst_13 v48 ⟨X1, X4, X5, X13⟩ ⟨G9, G10, G14, G15, G16, G17, G18, G19⟩ k.val := by
        rw [h9, h10, h14, h15, h16, h17, h18, h19]
      rw [← e]
      isplitl [H9]
      · iexists _; isplitl [H9]; · iexact H9
        ipureintro; rfl
      isplitl [H10]
      · iexists _; isplitl [H10]; · iexact H10
        ipureintro; rfl
      isplitl [H14]
      · iexists _; isplitl [H14]; · iexact H14
        ipureintro; rfl
      isplitl [H15]
      · iexists _; isplitl [H15]; · iexact H15
        ipureintro; rfl
      isplitl [H16]
      · iexists _; isplitl [H16]; · iexact H16
        ipureintro; rfl
      isplitl [H17]
      · iexists _; isplitl [H17]; · iexact H17
        ipureintro; rfl
      isplitl [H18]
      · iexists _; isplitl [H18]; · iexact H18
        ipureintro; rfl
      iexists _; isplitl [H19]; · iexact H19
      ipureintro; rfl

end Cert.MixerBwdIdeal.Hand

end
-- ==== Proof.MixerBody.lean ====
/- One grid point of the mixer backward kernel: what its body leaves of its outputs and its scratch buffers, as functions
   of what it finds. -/
module

public import proofs.«01_k».proof.Proof.MixerTrip

@[expose] public section

set_option maxRecDepth 16384

noncomputable section

namespace Cert.MixerBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixerBwdIdeal.Gen

variable {F : FTy → Type} [FloatOps F] [Named F]

/-- The resource algebra of the runs. -/
local notation "𝕄G" => MT nD τ sig Unit (Elt F) ℕ (UR sig nD τ) ℕ

/-- What the outputs and the scratch buffers hold. -/
structure KSt (F : FTy → Type) [FloatOps F] (arg9 : Memref sig .tc .vmem S256x7168 .bf16) (arg10 : Memref sig .tc .vmem S16x1024 .f32) (arg11 : Memref sig .tc .vmem S4x256x256 .f32) (arg12 : Memref sig .tc .vmem S4x256x256 .f32) (arg13 : Memref sig .tc .vmem S264x1024 .f32) (arg14 : Memref sig .tc .vmem S264x1024 .f32) (arg15 : Memref sig .tc .vmem S264x1024 .f32) (arg16 : Memref sig .tc .vmem S256x1024 .f32) (arg17 : Memref sig .tc .vmem S256x1024 .f32) (arg18 : Memref sig .tc .vmem S8x1024 .f32) (arg19 : Memref sig .tc .vmem S8x1024 .f32) (arg20 : Memref sig .tc .vmem S64x1024 .f32) where
  c9 : BufTy.Contents (Elt F) arg9.view.ty
  c10 : BufTy.Contents (Elt F) arg10.view.ty
  c11 : BufTy.Contents (Elt F) arg11.view.ty
  c12 : BufTy.Contents (Elt F) arg12.view.ty
  c13 : BufTy.Contents (Elt F) arg13.view.ty
  c14 : BufTy.Contents (Elt F) arg14.view.ty
  c15 : BufTy.Contents (Elt F) arg15.view.ty
  c16 : BufTy.Contents (Elt F) arg16.view.ty
  c17 : BufTy.Contents (Elt F) arg17.view.ty
  c18 : BufTy.Contents (Elt F) arg18.view.ty
  c19 : BufTy.Contents (Elt F) arg19.view.ty
  c20 : BufTy.Contents (Elt F) arg20.view.ty

/-- What the inputs hold. -/
structure KRd (F : FTy → Type) [FloatOps F] (arg1 : Memref sig .tc .vmem S256x7168 .bf16) (arg2 : Memref sig .tc .vmem S256x1024 .bf16) (arg3 : Memref sig .tc .vmem S8x1024 .bf16) (arg4 : Memref sig .tc .vmem S6x256x1024 .f32) (arg5 : Memref sig .tc .vmem S256x1024 .bf16) (arg6 : Memref sig .tc .vmem S16x1024 .f32) (arg7 : Memref sig .tc .vmem S4x256x256 .bf16) (arg8 : Memref sig .tc .vmem S4x256x256 .bf16) where
  c1 : BufTy.Contents (Elt F) arg1.view.ty
  c2 : BufTy.Contents (Elt F) arg2.view.ty
  c3 : BufTy.Contents (Elt F) arg3.view.ty
  c4 : BufTy.Contents (Elt F) arg4.view.ty
  c5 : BufTy.Contents (Elt F) arg5.view.ty
  c6 : BufTy.Contents (Elt F) arg6.view.ty
  c7 : BufTy.Contents (Elt F) arg7.view.ty
  c8 : BufTy.Contents (Elt F) arg8.view.ty

/-- The body's buffers, the inputs at `X`, the others at `s`. -/
abbrev Held (c : Dev nD) (arg1 : Memref sig .tc .vmem S256x7168 .bf16) (arg2 : Memref sig .tc .vmem S256x1024 .bf16) (arg3 : Memref sig .tc .vmem S8x1024 .bf16) (arg4 : Memref sig .tc .vmem S6x256x1024 .f32) (arg5 : Memref sig .tc .vmem S256x1024 .bf16) (arg6 : Memref sig .tc .vmem S16x1024 .f32) (arg7 : Memref sig .tc .vmem S4x256x256 .bf16) (arg8 : Memref sig .tc .vmem S4x256x256 .bf16) (arg9 : Memref sig .tc .vmem S256x7168 .bf16) (arg10 : Memref sig .tc .vmem S16x1024 .f32) (arg11 : Memref sig .tc .vmem S4x256x256 .f32) (arg12 : Memref sig .tc .vmem S4x256x256 .f32) (arg13 : Memref sig .tc .vmem S264x1024 .f32) (arg14 : Memref sig .tc .vmem S264x1024 .f32) (arg15 : Memref sig .tc .vmem S264x1024 .f32) (arg16 : Memref sig .tc .vmem S256x1024 .f32) (arg17 : Memref sig .tc .vmem S256x1024 .f32) (arg18 : Memref sig .tc .vmem S8x1024 .f32) (arg19 : Memref sig .tc .vmem S8x1024 .f32) (arg20 : Memref sig .tc .vmem S64x1024 .f32) (X : KRd F arg1 arg2 arg3 arg4 arg5 arg6 arg7 arg8) (s : KSt F arg9 arg10 arg11 arg12 arg13 arg14 arg15 arg16 arg17 arg18 arg19 arg20) : sProp 𝕄G :=
  iprop((arg1.view.loc (c : Thread nD τ) ↦[arg1.view.set]{fullShare} X.c1) ∗ (arg2.view.loc (c : Thread nD τ) ↦[arg2.view.set]{fullShare} X.c2) ∗ (arg3.view.loc (c : Thread nD τ) ↦[arg3.view.set]{fullShare} X.c3) ∗ (arg4.view.loc (c : Thread nD τ) ↦[arg4.view.set]{fullShare} X.c4) ∗ (arg5.view.loc (c : Thread nD τ) ↦[arg5.view.set]{fullShare} X.c5) ∗ (arg6.view.loc (c : Thread nD τ) ↦[arg6.view.set]{fullShare} X.c6) ∗ (arg7.view.loc (c : Thread nD τ) ↦[arg7.view.set]{fullShare} X.c7) ∗ (arg8.view.loc (c : Thread nD τ) ↦[arg8.view.set]{fullShare} X.c8) ∗ (arg9.view.loc (c : Thread nD τ) ↦[arg9.view.set]{fullShare} s.c9) ∗ (arg10.view.loc (c : Thread nD τ) ↦[arg10.view.set]{fullShare} s.c10) ∗ (arg11.view.loc (c : Thread nD τ) ↦[arg11.view.set]{fullShare} s.c11) ∗ (arg12.view.loc (c : Thread nD τ) ↦[arg12.view.set]{fullShare} s.c12) ∗ (arg13.view.loc (c : Thread nD τ) ↦[arg13.view.set]{fullShare} s.c13) ∗ (arg14.view.loc (c : Thread nD τ) ↦[arg14.view.set]{fullShare} s.c14) ∗ (arg15.view.loc (c : Thread nD τ) ↦[arg15.view.set]{fullShare} s.c15) ∗ (arg16.view.loc (c : Thread nD τ) ↦[arg16.view.set]{fullShare} s.c16) ∗ (arg17.view.loc (c : Thread nD τ) ↦[arg17.view.set]{fullShare} s.c17) ∗ (arg18.view.loc (c : Thread nD τ) ↦[arg18.view.set]{fullShare} s.c18) ∗ (arg19.view.loc (c : Thread nD τ) ↦[arg19.view.set]{fullShare} s.c19) ∗ (arg20.view.loc (c : Thread nD τ) ↦[arg20.view.set]{fullShare} s.c20))

abbrev isFirst (i : grid0.Coords) : Prop := Scalar.cmpi .ne (Scalar.extui (Scalar.cmpi .eq (BitVec.ofNat 32 (i 0).val) 0#32) : BitVec 32) 0#32 = 1#1
abbrev isLast (i : grid0.Coords) : Prop := Scalar.cmpi .ne (Scalar.extui (Scalar.cmpi .eq (BitVec.ofNat 32 (i 0).val) 31#32) : BitVec 32) 0#32 = 1#1

theorem join {κ : Type} {E : Set ℕ} {c : Dev nD} {cd : Prop} [Decidable cd] {P P' : sProp 𝕄G} {Q : PUnit → sProp 𝕄G}
    {J : Prog (TpuEff nD τ sig (Elt F) Λ₀ .tc) κ} {A : cd → Prog (TpuEff nD τ sig (Elt F) Λ₀ .tc) κ} {R : κ → Prog (TpuEff nD τ sig (Elt F) Λ₀ .tc) PUnit}
    (hJ : P' ⊢ wp frame (wpE (defs₀ (F := F)) Variants.none (c : Thread nD τ) none) E (J >>= R) Q)
    (hA : ∀ (h : cd) (R : κ → Prog (TpuEff nD τ sig (Elt F) Λ₀ .tc) PUnit) (Q : PUnit → sProp 𝕄G), (P' ⊢ wp frame (wpE (defs₀ (F := F)) Variants.none (c : Thread nD τ) none) E (J >>= R) Q) →
      P ⊢ wp frame (wpE (defs₀ (F := F)) Variants.none (c : Thread nD τ) none) E (A h >>= R) Q)
    (hB : ¬ cd → P ⊢ P') :
    P ⊢ wp frame (wpE (defs₀ (F := F)) Variants.none (c : Thread nD τ) none) E ((if h : cd then A h else J) >>= R) Q := by
  by_cases h : cd
  · rw [dif_pos h]; exact hA h R Q hJ
  · rw [dif_neg h]; exact (hB h).trans hJ

/-- The buffers the first point resets. -/
abbrev mkZ {arg9 : Memref sig .tc .vmem S256x7168 .bf16} {arg10 : Memref sig .tc .vmem S16x1024 .f32} {arg11 : Memref sig .tc .vmem S4x256x256 .f32} {arg12 : Memref sig .tc .vmem S4x256x256 .f32} {arg13 : Memref sig .tc .vmem S264x1024 .f32} {arg14 : Memref sig .tc .vmem S264x1024 .f32} {arg15 : Memref sig .tc .vmem S264x1024 .f32} {arg16 : Memref sig .tc .vmem S256x1024 .f32} {arg17 : Memref sig .tc .vmem S256x1024 .f32} {arg18 : Memref sig .tc .vmem S8x1024 .f32} {arg19 : Memref sig .tc .vmem S8x1024 .f32} {arg20 : Memref sig .tc .vmem S64x1024 .f32} (s : KSt F arg9 arg10 arg11 arg12 arg13 arg14 arg15 arg16 arg17 arg18 arg19 arg20) (z10 : BufTy.Contents (Elt F) arg10.view.ty) (z11 : BufTy.Contents (Elt F) arg11.view.ty) (z12 : BufTy.Contents (Elt F) arg12.view.ty) (z14 : BufTy.Contents (Elt F) arg14.view.ty) (z15 : BufTy.Contents (Elt F) arg15.view.ty) (z18 : BufTy.Contents (Elt F) arg18.view.ty) (z19 : BufTy.Contents (Elt F) arg19.view.ty) : KSt F arg9 arg10 arg11 arg12 arg13 arg14 arg15 arg16 arg17 arg18 arg19 arg20 :=
  { s with c10 := z10, c11 := z11, c12 := z12, c14 := z14, c15 := z15, c18 := z18, c19 := z19 }

set_option maxHeartbeats 1600000 in
/-- ONE POINT: `Z` is what the first point's resets leave, `M` what the rest of the body leaves of what it finds. -/
@[irreducible] def body (c : Dev nD) (i : grid0.Coords) (arg1 : Memref sig .tc .vmem S256x7168 .bf16) (harg1 : arg1.IsWhole) (arg2 : Memref sig .tc .vmem S256x1024 .bf16) (harg2 : arg2.IsWhole) (arg3 : Memref sig .tc .vmem S8x1024 .bf16) (harg3 : arg3.IsWhole) (arg4 : Memref sig .tc .vmem S6x256x1024 .f32) (harg4 : arg4.IsWhole) (arg5 : Memref sig .tc .vmem S256x1024 .bf16) (harg5 : arg5.IsWhole) (arg6 : Memref sig .tc .vmem S16x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S256x7168 .bf16) (harg9 : arg9.IsWhole) (arg10 : Memref sig .tc .vmem S16x1024 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S264x1024 .f32) (harg13 : arg13.IsWhole) (arg14 : Memref sig .tc .vmem S264x1024 .f32) (harg14 : arg14.IsWhole) (arg15 : Memref sig .tc .vmem S264x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S64x1024 .f32) (harg20 : arg20.IsWhole) :
    Σ' (Z10 : KRd F arg1 arg2 arg3 arg4 arg5 arg6 arg7 arg8 → KSt F arg9 arg10 arg11 arg12 arg13 arg14 arg15 arg16 arg17 arg18 arg19 arg20 → BufTy.Contents (Elt F) arg10.view.ty) , Σ' (Z11 : KRd F arg1 arg2 arg3 arg4 arg5 arg6 arg7 arg8 → KSt F arg9 arg10 arg11 arg12 arg13 arg14 arg15 arg16 arg17 arg18 arg19 arg20 → BufTy.Contents (Elt F) arg11.view.ty) , Σ' (Z12 : KRd F arg1 arg2 arg3 arg4 arg5 arg6 arg7 arg8 → KSt F arg9 arg10 arg11 arg12 arg13 arg14 arg15 arg16 arg17 arg18 arg19 arg20 → BufTy.Contents (Elt F) arg12.view.ty) , Σ' (Z14 : KRd F arg1 arg2 arg3 arg4 arg5 arg6 arg7 arg8 → KSt F arg9 arg10 arg11 arg12 arg13 arg14 arg15 arg16 arg17 arg18 arg19 arg20 → BufTy.Contents (Elt F) arg14.view.ty) , Σ' (Z15 : KRd F arg1 arg2 arg3 arg4 arg5 arg6 arg7 arg8 → KSt F arg9 arg10 arg11 arg12 arg13 arg14 arg15 arg16 arg17 arg18 arg19 arg20 → BufTy.Contents (Elt F) arg15.view.ty) , Σ' (Z18 : KRd F arg1 arg2 arg3 arg4 arg5 arg6 arg7 arg8 → KSt F arg9 arg10 arg11 arg12 arg13 arg14 arg15 arg16 arg17 arg18 arg19 arg20 → BufTy.Contents (Elt F) arg18.view.ty) , Σ' (Z19 : KRd F arg1 arg2 arg3 arg4 arg5 arg6 arg7 arg8 → KSt F arg9 arg10 arg11 arg12 arg13 arg14 arg15 arg16 arg17 arg18 arg19 arg20 → BufTy.Contents (Elt F) arg19.view.ty) , Σ' (M9 : KRd F arg1 arg2 arg3 arg4 arg5 arg6 arg7 arg8 → KSt F arg9 arg10 arg11 arg12 arg13 arg14 arg15 arg16 arg17 arg18 arg19 arg20 → BufTy.Contents (Elt F) arg9.view.ty) , Σ' (M10 : KRd F arg1 arg2 arg3 arg4 arg5 arg6 arg7 arg8 → KSt F arg9 arg10 arg11 arg12 arg13 arg14 arg15 arg16 arg17 arg18 arg19 arg20 → BufTy.Contents (Elt F) arg10.view.ty) , Σ' (M11 : KRd F arg1 arg2 arg3 arg4 arg5 arg6 arg7 arg8 → KSt F arg9 arg10 arg11 arg12 arg13 arg14 arg15 arg16 arg17 arg18 arg19 arg20 → BufTy.Contents (Elt F) arg11.view.ty) , Σ' (M12 : KRd F arg1 arg2 arg3 arg4 arg5 arg6 arg7 arg8 → KSt F arg9 arg10 arg11 arg12 arg13 arg14 arg15 arg16 arg17 arg18 arg19 arg20 → BufTy.Contents (Elt F) arg12.view.ty) , Σ' (M13 : KRd F arg1 arg2 arg3 arg4 arg5 arg6 arg7 arg8 → KSt F arg9 arg10 arg11 arg12 arg13 arg14 arg15 arg16 arg17 arg18 arg19 arg20 → BufTy.Contents (Elt F) arg13.view.ty) , Σ' (M14 : KRd F arg1 arg2 arg3 arg4 arg5 arg6 arg7 arg8 → KSt F arg9 arg10 arg11 arg12 arg13 arg14 arg15 arg16 arg17 arg18 arg19 arg20 → BufTy.Contents (Elt F) arg14.view.ty) , Σ' (M15 : KRd F arg1 arg2 arg3 arg4 arg5 arg6 arg7 arg8 → KSt F arg9 arg10 arg11 arg12 arg13 arg14 arg15 arg16 arg17 arg18 arg19 arg20 → BufTy.Contents (Elt F) arg15.view.ty) , Σ' (M16 : KRd F arg1 arg2 arg3 arg4 arg5 arg6 arg7 arg8 → KSt F arg9 arg10 arg11 arg12 arg13 arg14 arg15 arg16 arg17 arg18 arg19 arg20 → BufTy.Contents (Elt F) arg16.view.ty) , Σ' (M17 : KRd F arg1 arg2 arg3 arg4 arg5 arg6 arg7 arg8 → KSt F arg9 arg10 arg11 arg12 arg13 arg14 arg15 arg16 arg17 arg18 arg19 arg20 → BufTy.Contents (Elt F) arg17.view.ty) , Σ' (M18 : KRd F arg1 arg2 arg3 arg4 arg5 arg6 arg7 arg8 → KSt F arg9 arg10 arg11 arg12 arg13 arg14 arg15 arg16 arg17 arg18 arg19 arg20 → BufTy.Contents (Elt F) arg18.view.ty) , Σ' (M19 : KRd F arg1 arg2 arg3 arg4 arg5 arg6 arg7 arg8 → KSt F arg9 arg10 arg11 arg12 arg13 arg14 arg15 arg16 arg17 arg18 arg19 arg20 → BufTy.Contents (Elt F) arg19.view.ty) , { M20 : KRd F arg1 arg2 arg3 arg4 arg5 arg6 arg7 arg8 → KSt F arg9 arg10 arg11 arg12 arg13 arg14 arg15 arg16 arg17 arg18 arg19 arg20 → BufTy.Contents (Elt F) arg20.view.ty // ∀ (E : Set ℕ) (X : KRd F arg1 arg2 arg3 arg4 arg5 arg6 arg7 arg8) (s s' : KSt F arg9 arg10 arg11 arg12 arg13 arg14 arg15 arg16 arg17 arg18 arg19 arg20),
      (s' = if isFirst i then mkZ s (Z10 X s) (Z11 X s) (Z12 X s) (Z14 X s) (Z15 X s) (Z18 X s) (Z19 X s) else s) →
      Held c arg1 arg2 arg3 arg4 arg5 arg6 arg7 arg8 arg9 arg10 arg11 arg12 arg13 arg14 arg15 arg16 arg17 arg18 arg19 arg20 X s
      ⊢ wp frame (wpE (defs₀ (F := F)) Variants.none (c : Thread nD τ) none) E (cc0_mixer_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => Held c arg1 arg2 arg3 arg4 arg5 arg6 arg7 arg8 arg9 arg10 arg11 arg12 arg13 arg14 arg15 arg16 arg17 arg18 arg19 arg20 X { c9 := M9 X s', c10 := M10 X s', c11 := M11 X s', c12 := M12 X s', c13 := M13 X s', c14 := M14 X s', c15 := M15 X s', c16 := M16 X s', c17 := M17 X s', c18 := M18 X s', c19 := M19 X s', c20 := M20 X s' }) } := by
  refine ⟨?_, ?_, ?_, ?_, ?_, ?_, ?_, ?_, ?_, ?_, ?_, ?_, ?_, ?_, ?_, ?_, ?_, ?_, ?_, fun E X s s' hs => ?run⟩
  case run =>
    simp only [cc0_mixer_bwd_eq_skeleton]; unfold cc0_mixer_bwd_skel
    simp only [k0_part60_eq_skeleton, k0_part61_eq_skeleton, k0_part62_eq_skeleton, k0_part63_eq_skeleton, k0_part64_eq_skeleton, k0_part65_eq_skeleton, k0_part66_eq_skeleton, k0_part67_eq_skeleton]
    unfold k0_part60_skel
    extract_lets a0 v0 v1 v2 v3 cst jp
    refine join (P' := Held c arg1 arg2 arg3 arg4 arg5 arg6 arg7 arg8 arg9 arg10 arg11 arg12 arg13 arg14 arg15 arg16 arg17 arg18 arg19 arg20 X s') (J := jp PUnit.unit) ?rest ?first (fun h => ?other)
    case other =>
      rw [if_neg h] at hs; subst hs; exact .rfl
    case first =>
      intro h R Q hJ
      rw [if_pos h] at hs; subst hs
      clear_value jp
      dsimp only [Held, mkZ] at hJ ⊢
      iintro ⟨H1, H2, H3, H4, H5, H6, H7, H8, H9, H10, H11, H12, H13, H14, H15, H16, H17, H18, H19, H20⟩
      sl_exec
      iapply hJ
      sl_close
    case rest =>
      clear hs
      unfold jp
      try unfold v3
      try unfold v2
      try unfold v1
      try unfold v0
      try unfold a0
      try unfold cst
      clear jp cst v3 v2 v1 v0 a0
      dsimp only [Held]
      iintro ⟨H1, H2, H3, H4, H5, H6, H7, H8, H9, H10, H11, H12, H13, H14, H15, H16, H17, H18, H19, H20⟩
      sl_exec
      sl_step
      sl_close

end Cert.MixerBwdIdeal.Hand

end
-- ==== Proof.MixerRegion.lean ====
/- The region of the mixer backward kernel's custom call over any entry contents: what holds of its outputs and of its scratch
   buffers between two points, given that one point keeps it. -/
module

public import proofs.«01_k».proof.Proof.MixerBody
public import proofs.«01_k».proof.Proof.Gen.MixerBwdIdeal.Launch
public import proofs.«01_k».proof.Proof.Gen.MixerBwdIdeal.Points
public import Idealize.ShloMosaic.Lib.Pipeline.RegionsForgetR
public import Idealize.ShloMosaic.Lib.Pipeline.FrameSuffix
public import Idealize.ShloMosaic.Lib.Pipeline.FrameBody

@[expose] public section

set_option maxRecDepth 16384

noncomputable section

namespace Cert.MixerBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat ucRefs arrRef withArrays)
open Cert.MixerBwdIdeal.Gen

variable {F : FTy → Type} [FloatOps F] [Named F]

local notation "𝕄G" => MT nD τ sig Unit (Elt F) ℕ (UR sig nD τ) ℕ

theorem hs0_0 (t : Fin cfg0.N) : (st0_0 t).IsWhole := hstage0_0 ((cfg0.slots t 0).cast nbuf0_0)
theorem hs0_1 (t : Fin cfg0.N) : (st0_1 t).IsWhole := hstage0_1 ((cfg0.slots t 1).cast nbuf0_1)
theorem hs0_2 (t : Fin cfg0.N) : (st0_2 t).IsWhole := hstage0_2 ((cfg0.slots t 2).cast nbuf0_2)
theorem hs0_3 (t : Fin cfg0.N) : (st0_3 t).IsWhole := hstage0_3 ((cfg0.slots t 3).cast nbuf0_3)
theorem hs0_4 (t : Fin cfg0.N) : (st0_4 t).IsWhole := hstage0_4 ((cfg0.slots t 4).cast nbuf0_4)
theorem hs0_5 (t : Fin cfg0.N) : (st0_5 t).IsWhole := hstage0_5 ((cfg0.slots t 5).cast nbuf0_5)
theorem hs0_6 (t : Fin cfg0.N) : (st0_6 t).IsWhole := hstage0_6 ((cfg0.slots t 6).cast nbuf0_6)
theorem hs0_7 (t : Fin cfg0.N) : (st0_7 t).IsWhole := hstage0_7 ((cfg0.slots t 7).cast nbuf0_7)
theorem hs0_8 (t : Fin cfg0.N) : (st0_8 t).IsWhole := hstage0_8 ((cfg0.slots t 8).cast nbuf0_8)
theorem hs0_9 (t : Fin cfg0.N) : (st0_9 t).IsWhole := hstage0_9 ((cfg0.slots t 9).cast nbuf0_9)
theorem hs0_10 (t : Fin cfg0.N) : (st0_10 t).IsWhole := hstage0_10 ((cfg0.slots t 10).cast nbuf0_10)
theorem hs0_11 (t : Fin cfg0.N) : (st0_11 t).IsWhole := hstage0_11 ((cfg0.slots t 11).cast nbuf0_11)

/-- What the inputs, and the outputs and scratch buffers, hold at point `t`. -/
abbrev RdAt (F : FTy → Type) [FloatOps F] (t : Fin cfg0.N) : Type := KRd F (st0_0 t) (st0_1 t) (st0_2 t) (st0_3 t) (st0_4 t) (st0_5 t) (st0_6 t) (st0_7 t)
abbrev StAt (F : FTy → Type) [FloatOps F] (t : Fin cfg0.N) : Type := KSt F (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)

/-- The body at point `t`. -/
abbrev bodyOf (c : Dev nD) (t : Fin cfg0.N) := body (F := F) c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) (st0_9 t) (hs0_9 t) (st0_10 t) (hs0_10 t) (st0_11 t) (hs0_11 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

/-- What a point leaves, of what it finds. -/
@[irreducible] def nextAt (c : Dev nD) (t : Fin cfg0.N) (X : RdAt F t) (s : StAt F t) : StAt F t :=
  let B := bodyOf (F := F) c t
  let s' := if isFirst (grid0.coords t) then mkZ s (B.1 X s) (B.2.1 X s) (B.2.2.1 X s) (B.2.2.2.1 X s) (B.2.2.2.2.1 X s) (B.2.2.2.2.2.1 X s) (B.2.2.2.2.2.2.1 X s) else s
  { c9 := B.2.2.2.2.2.2.2.1 X s', c10 := B.2.2.2.2.2.2.2.2.1 X s', c11 := B.2.2.2.2.2.2.2.2.2.1 X s', c12 := B.2.2.2.2.2.2.2.2.2.2.1 X s', c13 := B.2.2.2.2.2.2.2.2.2.2.2.1 X s', c14 := B.2.2.2.2.2.2.2.2.2.2.2.2.1 X s', c15 := B.2.2.2.2.2.2.2.2.2.2.2.2.2.1 X s', c16 := B.2.2.2.2.2.2.2.2.2.2.2.2.2.2.1 X s', c17 := B.2.2.2.2.2.2.2.2.2.2.2.2.2.2.2.1 X s', c18 := B.2.2.2.2.2.2.2.2.2.2.2.2.2.2.2.2.1 X s', c19 := B.2.2.2.2.2.2.2.2.2.2.2.2.2.2.2.2.2.1 X s', c20 := B.2.2.2.2.2.2.2.2.2.2.2.2.2.2.2.2.2.2.1 X s' }

/-- ONE POINT of the region. -/
theorem point_run (c : Dev nD) (t : Fin cfg0.N) (E : Set ℕ) (X : RdAt F t) (s : StAt F t) :
    Held c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) X s
      ⊢ wp frame (wpE (defs₀ (F := F)) Variants.none (c : Thread nD τ) none) E (bodyAt0 t) (fun _ => Held c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) X (nextAt c t X s)) := by
  unfold nextAt
  exact (bodyOf (F := F) c t).2.2.2.2.2.2.2.2.2.2.2.2.2.2.2.2.2.2.2 E X s _ rfl

/-- What a certificate says of the outputs' blocks and of the scratch buffers: after point `t` of the block written back
    there (`p8`), before point `k` of the rest. -/
structure Keeps (F : FTy → Type) [FloatOps F] (c : Dev nD) where
  p8 : Fin cfg0.N → ((cfg0.win 8).block.Idx → Elt F (cfg0.win 8).elt) → Prop
  p9 : ℕ → ((cfg0.win 9).block.Idx → Elt F (cfg0.win 9).elt) → Prop
  p10 : ℕ → ((cfg0.win 10).block.Idx → Elt F (cfg0.win 10).elt) → Prop
  p11 : ℕ → ((cfg0.win 11).block.Idx → Elt F (cfg0.win 11).elt) → Prop
  sc : ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Buf (Elt F) ((c : Thread nD τ).loc cc0_scratch4) → Buf (Elt F) ((c : Thread nD τ).loc cc0_scratch5) → Buf (Elt F) ((c : Thread nD τ).loc cc0_scratch6) → Buf (Elt F) ((c : Thread nD τ).loc cc0_scratch7) → Prop

/-- Nothing said. -/
def Keeps.none (c : Dev nD) : Keeps F c := ⟨fun _ _ => True, fun _ _ => True, fun _ _ => True, fun _ _ => True, fun _ _ _ _ _ _ _ _ _ => True⟩

variable (V : (c : Dev nD) → (b : Ref sig .tc) → Buf (Elt F) ((c : Thread nD τ).loc b))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (arrRef spec0 w))

/-- The inputs at point `t`. -/
def rdAt (c : Dev nD) (t : Fin cfg0.N) : RdAt F t :=
  ⟨Memref.IsWhole.unread (hs0_0 t) (blk V c 0 t), Memref.IsWhole.unread (hs0_1 t) (blk V c 1 t), Memref.IsWhole.unread (hs0_2 t) (blk V c 2 t), Memref.IsWhole.unread (hs0_3 t) (blk V c 3 t), Memref.IsWhole.unread (hs0_4 t) (blk V c 4 t), Memref.IsWhole.unread (hs0_5 t) (blk V c 5 t), Memref.IsWhole.unread (hs0_6 t) (blk V c 6 t), Memref.IsWhole.unread (hs0_7 t) (blk V c 7 t)⟩

/-- The outputs and scratch buffers at point `t`, the outputs' by block. -/
def stAt' (c : Dev nD) (t : Fin cfg0.N) (y8 : (cfg0.win 8).block.Idx → Elt F (cfg0.win 8).elt) (y9 : (cfg0.win 9).block.Idx → Elt F (cfg0.win 9).elt)
    (y10 : (cfg0.win 10).block.Idx → Elt F (cfg0.win 10).elt) (y11 : (cfg0.win 11).block.Idx → Elt F (cfg0.win 11).elt)
    (s0 : Buf (Elt F) ((c : Thread nD τ).loc cc0_scratch0)) (s1 : Buf (Elt F) ((c : Thread nD τ).loc cc0_scratch1)) (s2 : Buf (Elt F) ((c : Thread nD τ).loc cc0_scratch2)) (s3 : Buf (Elt F) ((c : Thread nD τ).loc cc0_scratch3)) (s4 : Buf (Elt F) ((c : Thread nD τ).loc cc0_scratch4)) (s5 : Buf (Elt F) ((c : Thread nD τ).loc cc0_scratch5)) (s6 : Buf (Elt F) ((c : Thread nD τ).loc cc0_scratch6)) (s7 : Buf (Elt F) ((c : Thread nD τ).loc cc0_scratch7)) : StAt F t :=
  ⟨Memref.IsWhole.unread (hs0_8 t) y8, Memref.IsWhole.unread (hs0_9 t) y9, Memref.IsWhole.unread (hs0_10 t) y10, Memref.IsWhole.unread (hs0_11 t) y11, s0, s1, s2, s3, s4, s5, s6, s7⟩

/-- A point keeps what `S` says. -/
def Keeps.Step {c : Dev nD} (S : Keeps F c) : Prop :=
  ∀ (t : Fin cfg0.N) y8 y9 y10 y11 s0 s1 s2 s3 s4 s5 s6 s7, (t.val ≠ 0 → S.p9 t.val y9 ∧ S.p10 t.val y10 ∧ S.p11 t.val y11) → S.sc t.val s0 s1 s2 s3 s4 s5 s6 s7 →
    let r := nextAt c t (rdAt V c t) (stAt' c t y8 y9 y10 y11 s0 s1 s2 s3 s4 s5 s6 s7)
    S.p8 t ((st0_8 t).view.read (Elt F) r.c9) ∧ S.p9 (t.val + 1) ((st0_9 t).view.read (Elt F) r.c10) ∧ S.p10 (t.val + 1) ((st0_10 t).view.read (Elt F) r.c11)
      ∧ S.p11 (t.val + 1) ((st0_11 t).view.read (Elt F) r.c12) ∧ S.sc (t.val + 1) r.c13 r.c14 r.c15 r.c16 r.c17 r.c18 r.c19 r.c20

/-- Nothing is kept by every point. -/
theorem Keeps.none_step (c : Dev nD) : (Keeps.none (F := F) c).Step V := fun _ _ _ _ _ _ _ _ _ _ _ _ _ _ _ => ⟨trivial, trivial, trivial, trivial, trivial⟩

/-- A whole view of a buffer holds what the buffer holds. -/
theorem whole_held {c : Dev nD} (b : Ref sig .tc) (f : Buf (Elt F) ((c : Thread nD τ).loc b)) :
    (View.loc (c : Thread nD τ) (View.whole b) ↦[(View.whole b).set]{fullShare} f : sProp 𝕄G) = (((c : Thread nD τ).loc b) ↦{fullShare} f) := by
  rw [View.set_whole]

/-- The scratch buffers before point `k`. -/
def Φk {c : Dev nD} (S : Keeps F c) (k : ℕ) : sProp 𝕄G :=
  iprop(∃ s0 : Buf (Elt F) ((c : Thread nD τ).loc cc0_scratch0), ∃ s1 : Buf (Elt F) ((c : Thread nD τ).loc cc0_scratch1), ∃ s2 : Buf (Elt F) ((c : Thread nD τ).loc cc0_scratch2), ∃ s3 : Buf (Elt F) ((c : Thread nD τ).loc cc0_scratch3), ∃ s4 : Buf (Elt F) ((c : Thread nD τ).loc cc0_scratch4), ∃ s5 : Buf (Elt F) ((c : Thread nD τ).loc cc0_scratch5), ∃ s6 : Buf (Elt F) ((c : Thread nD τ).loc cc0_scratch6), ∃ s7 : Buf (Elt F) ((c : Thread nD τ).loc cc0_scratch7), ⌜S.sc k s0 s1 s2 s3 s4 s5 s6 s7⌝ ∗ (View.loc (c : Thread nD τ) (View.whole cc0_scratch0) ↦[(View.whole cc0_scratch0).set]{fullShare} s0) ∗ (View.loc (c : Thread nD τ) (View.whole cc0_scratch1) ↦[(View.whole cc0_scratch1).set]{fullShare} s1) ∗ (View.loc (c : Thread nD τ) (View.whole cc0_scratch2) ↦[(View.whole cc0_scratch2).set]{fullShare} s2) ∗ (View.loc (c : Thread nD τ) (View.whole cc0_scratch3) ↦[(View.whole cc0_scratch3).set]{fullShare} s3) ∗ (View.loc (c : Thread nD τ) (View.whole cc0_scratch4) ↦[(View.whole cc0_scratch4).set]{fullShare} s4) ∗ (View.loc (c : Thread nD τ) (View.whole cc0_scratch5) ↦[(View.whole cc0_scratch5).set]{fullShare} s5) ∗ (View.loc (c : Thread nD τ) (View.whole cc0_scratch6) ↦[(View.whole cc0_scratch6).set]{fullShare} s6) ∗ (View.loc (c : Thread nD τ) (View.whole cc0_scratch7) ↦[(View.whole cc0_scratch7).set]{fullShare} s7))

/-- The region's relational data. -/
def rd {c : Dev nD} (S : Keeps F c) : RDat τ (Elt F) Unit ℕ (UR sig nD τ) ℕ cfg0 c where
  A w := V c (arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => S.p8 t X
    | ⟨9, _⟩ => S.p9 (t.val + 1) X
    | ⟨10, _⟩ => S.p10 (t.val + 1) X
    | ⟨11, _⟩ => S.p11 (t.val + 1) X
  Φ k := Φk S k.val
  q w := Pipeline.shareOf spec0 w
  owed _ := 0

theorem finds_in0 {c : Dev nD} (S : Keeps F c) (t : Fin cfg0.N) Y (h : (rd V S).Finds 0 t Y) : Y = blk V c 0 t := by
  obtain ⟨d, hd⟩ := (rd V S).finds_in_eq_fetched 0 rfl (fun _ _ _ => rfl) (fun _ _ _ h => h) t Y h
  rw [hd]; unfold RDat.fetched RDat.blockOf blk rd; rfl
theorem finds_in1 {c : Dev nD} (S : Keeps F c) (t : Fin cfg0.N) Y (h : (rd V S).Finds 1 t Y) : Y = blk V c 1 t := by
  obtain ⟨d, hd⟩ := (rd V S).finds_in_eq_fetched 1 rfl (fun _ _ _ => rfl) (fun _ _ _ h => h) t Y h
  rw [hd]; unfold RDat.fetched RDat.blockOf blk rd; rfl
theorem finds_in2 {c : Dev nD} (S : Keeps F c) (t : Fin cfg0.N) Y (h : (rd V S).Finds 2 t Y) : Y = blk V c 2 t := by
  obtain ⟨d, hd⟩ := (rd V S).finds_in_eq_fetched 2 rfl (fun _ _ _ => rfl) (fun _ _ _ h => h) t Y h
  rw [hd]; unfold RDat.fetched RDat.blockOf blk rd; rfl
theorem finds_in3 {c : Dev nD} (S : Keeps F c) (t : Fin cfg0.N) Y (h : (rd V S).Finds 3 t Y) : Y = blk V c 3 t := by
  obtain ⟨d, hd⟩ := (rd V S).finds_in_eq_fetched 3 rfl (fun _ _ _ => rfl) (fun _ _ _ h => h) t Y h
  rw [hd]; unfold RDat.fetched RDat.blockOf blk rd; rfl
theorem finds_in4 {c : Dev nD} (S : Keeps F c) (t : Fin cfg0.N) Y (h : (rd V S).Finds 4 t Y) : Y = blk V c 4 t := by
  obtain ⟨d, hd⟩ := (rd V S).finds_in_eq_fetched 4 rfl (fun _ _ _ => rfl) (fun _ _ _ h => h) t Y h
  rw [hd]; unfold RDat.fetched RDat.blockOf blk rd; rfl
theorem finds_in5 {c : Dev nD} (S : Keeps F c) (t : Fin cfg0.N) Y (h : (rd V S).Finds 5 t Y) : Y = blk V c 5 t := by
  obtain ⟨d, hd⟩ := (rd V S).finds_in_eq_fetched 5 rfl (fun _ _ _ => rfl) (fun _ _ _ h => h) t Y h
  rw [hd]; unfold RDat.fetched RDat.blockOf blk rd; rfl
theorem finds_in6 {c : Dev nD} (S : Keeps F c) (t : Fin cfg0.N) Y (h : (rd V S).Finds 6 t Y) : Y = blk V c 6 t := by
  obtain ⟨d, hd⟩ := (rd V S).finds_in_eq_fetched 6 rfl (fun _ _ _ => rfl) (fun _ _ _ h => h) t Y h
  rw [hd]; unfold RDat.fetched RDat.blockOf blk rd; rfl
theorem finds_in7 {c : Dev nD} (S : Keeps F c) (t : Fin cfg0.N) Y (h : (rd V S).Finds 7 t Y) : Y = blk V c 7 t := by
  obtain ⟨d, hd⟩ := (rd V S).finds_in_eq_fetched 7 rfl (fun _ _ _ => rfl) (fun _ _ _ h => h) t Y h
  rw [hd]; unfold RDat.fetched RDat.blockOf blk rd; rfl
theorem finds_out9 {c : Dev nD} (S : Keeps F c) (t : Fin cfg0.N) (ht : t.val ≠ 0) Y (h : (rd V S).Finds 9 t Y) : S.p9 t.val Y := by
  rcases ((rd V S).finds_of_pos (w := 9) rfl ht Y).mp h with hf | ⟨Y', -, hR⟩
  · have := (flush0_9 _).mp hf
    have hN : t.val < 32 := t.isLt.trans_eq N_0
    dsimp only at this; omega
  · have hR' : S.p9 (t.val - 1 + 1) Y := hR
    rwa [Nat.sub_add_cancel (Nat.pos_of_ne_zero ht)] at hR'
theorem finds_out10 {c : Dev nD} (S : Keeps F c) (t : Fin cfg0.N) (ht : t.val ≠ 0) Y (h : (rd V S).Finds 10 t Y) : S.p10 t.val Y := by
  rcases ((rd V S).finds_of_pos (w := 10) rfl ht Y).mp h with hf | ⟨Y', -, hR⟩
  · have := (flush0_10 _).mp hf
    have hN : t.val < 32 := t.isLt.trans_eq N_0
    dsimp only at this; omega
  · have hR' : S.p10 (t.val - 1 + 1) Y := hR
    rwa [Nat.sub_add_cancel (Nat.pos_of_ne_zero ht)] at hR'
theorem finds_out11 {c : Dev nD} (S : Keeps F c) (t : Fin cfg0.N) (ht : t.val ≠ 0) Y (h : (rd V S).Finds 11 t Y) : S.p11 t.val Y := by
  rcases ((rd V S).finds_of_pos (w := 11) rfl ht Y).mp h with hf | ⟨Y', -, hR⟩
  · have := (flush0_11 _).mp hf
    have hN : t.val < 32 := t.isLt.trans_eq N_0
    dsimp only at this; omega
  · have hR' : S.p11 (t.val - 1 + 1) Y := hR
    rwa [Nat.sub_add_cancel (Nat.pos_of_ne_zero ht)] at hR'

/-- The body table's row for the call. -/
theorem row_eq (t : Fin cfg0.N) : defs₀ (F := F) .tc cfg0.body (cfg0.bodyArgs t (cfg0.slots t)) = bodyAt0 t := by
  first | rfl | (unfold defs₀; rfl)

/-- A triple that hands its buffers through, over what the buffers are held as before and after. -/
theorem reheld {c : Dev nD} {t : Fin cfg0.N} {C D P R A0 A0' B0 B0' A1 A1' B1 B1' A2 A2' B2 B2' A3 A3' B3 B3' A4 A4' B4 B4' A5 A5' B5 B5' A6 A6' B6 B6' A7 A7' B7 B7' A8 A8' B8 B8' A9 A9' B9 B9' A10 A10' B10 B10' A11 A11' B11 B11' : sProp 𝕄G}
    (hA0 : A0' ⊢ A0) (hA1 : A1' ⊢ A1) (hA2 : A2' ⊢ A2) (hA3 : A3' ⊢ A3) (hA4 : A4' ⊢ A4) (hA5 : A5' ⊢ A5) (hA6 : A6' ⊢ A6) (hA7 : A7' ⊢ A7) (hA8 : A8' ⊢ A8) (hA9 : A9' ⊢ A9) (hA10 : A10' ⊢ A10) (hA11 : A11' ⊢ A11)
    (hp : iprop(A0 ∗ A1 ∗ A2 ∗ A3 ∗ A4 ∗ A5 ∗ A6 ∗ A7 ∗ A8 ∗ A9 ∗ A10 ∗ A11 ∗ C) ⊢ wp frame (wpE (defs₀ (F := F)) Variants.none (c : Thread nD τ) none) Set.univ (bodyAt0 t)
      (fun _ => iprop(B0 ∗ B1 ∗ B2 ∗ B3 ∗ B4 ∗ B5 ∗ B6 ∗ B7 ∗ B8 ∗ B9 ∗ B10 ∗ B11 ∗ D)))
    (hD : D ⊢ P) (hB0 : B0 ⊢ B0') (hB1 : B1 ⊢ B1') (hB2 : B2 ⊢ B2') (hB3 : B3 ⊢ B3') (hB4 : B4 ⊢ B4') (hB5 : B5 ⊢ B5') (hB6 : B6 ⊢ B6') (hB7 : B7 ⊢ B7') (hB8 : B8 ⊢ B8') (hB9 : B9 ⊢ B9') (hB10 : B10 ⊢ B10') (hB11 : B11 ⊢ B11') :
    iprop(C ∗ R ∗ A0' ∗ A1' ∗ A2' ∗ A3' ∗ A4' ∗ A5' ∗ A6' ∗ A7' ∗ A8' ∗ A9' ∗ A10' ∗ A11') ⊢ wp frame (wpE (defs₀ (F := F)) Variants.none (c : Thread nD τ) none) Set.univ (bodyAt0 t)
      (fun _ => iprop(P ∗ R ∗ B0' ∗ B1' ∗ B2' ∗ B3' ∗ B4' ∗ B5' ∗ B6' ∗ B7' ∗ B8' ∗ B9' ∗ B10' ∗ B11')) := by
  iintro ⟨HC, HR, H0, H1, H2, H3, H4, H5, H6, H7, H8, H9, H10, H11⟩
  iapply (hp.trans (wp_wand _ _ _)) $$ [HC H0 H1 H2 H3 H4 H5 H6 H7 H8 H9 H10 H11]
  · isplitl [H0]; · iapply hA0; iexact H0
    isplitl [H1]; · iapply hA1; iexact H1
    isplitl [H2]; · iapply hA2; iexact H2
    isplitl [H3]; · iapply hA3; iexact H3
    isplitl [H4]; · iapply hA4; iexact H4
    isplitl [H5]; · iapply hA5; iexact H5
    isplitl [H6]; · iapply hA6; iexact H6
    isplitl [H7]; · iapply hA7; iexact H7
    isplitl [H8]; · iapply hA8; iexact H8
    isplitl [H9]; · iapply hA9; iexact H9
    isplitl [H10]; · iapply hA10; iexact H10
    isplitl [H11]; · iapply hA11; iexact H11
    iexact HC
  iintro %_ ⟨H0, H1, H2, H3, H4, H5, H6, H7, H8, H9, H10, H11, HD⟩
  isplitl [HD]; · iapply hD; iexact HD
  isplitl [HR]; · iexact HR
  isplitl [H0]; · iapply hB0; iexact H0
  isplitl [H1]; · iapply hB1; iexact H1
  isplitl [H2]; · iapply hB2; iexact H2
  isplitl [H3]; · iapply hB3; iexact H3
  isplitl [H4]; · iapply hB4; iexact H4
  isplitl [H5]; · iapply hB5; iexact H5
  isplitl [H6]; · iapply hB6; iexact H6
  isplitl [H7]; · iapply hB7; iexact H7
  isplitl [H8]; · iapply hB8; iexact H8
  isplitl [H9]; · iapply hB9; iexact H9
  isplitl [H10]; · iapply hB10; iexact H10
  iapply hB11; iexact H11

/-- A whole buffer held by block is held at the block's contents. -/
theorem owns_unread {sp} {sh} {e} {c : Dev nD} {M : Memref sig .tc sp sh e} (h : M.IsWhole) (X : sh.Idx → Elt F e) :
    (owns (c : Thread nD τ) M fullShare X : sProp 𝕄G) ⊢ M.view.loc (c : Thread nD τ) ↦[M.view.set]{fullShare} h.unread X := by
  unfold owns
  iintro ⟨%f, %hf, H⟩
  rw [h.eq_unread hf]
  iexact H
/-- A buffer held at contents that read as wanted. -/
theorem owns_read {sp} {sh} {e} {c : Dev nD} {M : Memref sig .tc sp sh e} {P : (sh.Idx → Elt F e) → Prop} (f) (h : P (M.view.read (Elt F) f)) :
    (M.view.loc (c : Thread nD τ) ↦[M.view.set]{fullShare} f : sProp 𝕄G) ⊢ iprop(∃ X, ⌜P X⌝ ∗ owns (c : Thread nD τ) M fullShare X) := by
  unfold owns
  iintro H
  iexists M.view.read (Elt F) f
  isplitr; · ipureintro; exact h
  iexists f; isplitr; swap; (· iexact H); ipureintro; rfl

set_option maxHeartbeats 1600000 in
/-- The body's triple over the buffers by block. -/
theorem point_owns {c : Dev nD} (S : Keeps F c) (hS : S.Step V) (t : Fin cfg0.N) (R : sProp 𝕄G)
    (Y0 : (cfg0.win 0).block.Idx → Elt F (cfg0.win 0).elt) (Y1 : (cfg0.win 1).block.Idx → Elt F (cfg0.win 1).elt) (Y2 : (cfg0.win 2).block.Idx → Elt F (cfg0.win 2).elt) (Y3 : (cfg0.win 3).block.Idx → Elt F (cfg0.win 3).elt) (Y4 : (cfg0.win 4).block.Idx → Elt F (cfg0.win 4).elt) (Y5 : (cfg0.win 5).block.Idx → Elt F (cfg0.win 5).elt) (Y6 : (cfg0.win 6).block.Idx → Elt F (cfg0.win 6).elt) (Y7 : (cfg0.win 7).block.Idx → Elt F (cfg0.win 7).elt) (Y8 : (cfg0.win 8).block.Idx → Elt F (cfg0.win 8).elt) (Y9 : (cfg0.win 9).block.Idx → Elt F (cfg0.win 9).elt) (Y10 : (cfg0.win 10).block.Idx → Elt F (cfg0.win 10).elt) (Y11 : (cfg0.win 11).block.Idx → Elt F (cfg0.win 11).elt)
    (e0 : Y0 = blk V c 0 t) (e1 : Y1 = blk V c 1 t) (e2 : Y2 = blk V c 2 t) (e3 : Y3 = blk V c 3 t) (e4 : Y4 = blk V c 4 t) (e5 : Y5 = blk V c 5 t) (e6 : Y6 = blk V c 6 t) (e7 : Y7 = blk V c 7 t) (hk : t.val ≠ 0 → S.p9 t.val Y9 ∧ S.p10 t.val Y10 ∧ S.p11 t.val Y11) :
    iprop(Φk S t.val ∗ R ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ owns (c : Thread nD τ) (st0_9 t) fullShare Y9 ∗ owns (c : Thread nD τ) (st0_10 t) fullShare Y10 ∗ owns (c : Thread nD τ) (st0_11 t) fullShare Y11)
      ⊢ wp frame (wpE (defs₀ (F := F)) Variants.none (c : Thread nD τ) none) Set.univ (bodyAt0 t) (fun _ =>
        iprop(Φk S (t.val + 1) ∗ R ∗ (∃ X, ⌜X = Y0⌝ ∗ owns (c : Thread nD τ) (st0_0 t) fullShare X) ∗ (∃ X, ⌜X = Y1⌝ ∗ owns (c : Thread nD τ) (st0_1 t) fullShare X) ∗ (∃ X, ⌜X = Y2⌝ ∗ owns (c : Thread nD τ) (st0_2 t) fullShare X) ∗ (∃ X, ⌜X = Y3⌝ ∗ owns (c : Thread nD τ) (st0_3 t) fullShare X) ∗ (∃ X, ⌜X = Y4⌝ ∗ owns (c : Thread nD τ) (st0_4 t) fullShare X) ∗ (∃ X, ⌜X = Y5⌝ ∗ owns (c : Thread nD τ) (st0_5 t) fullShare X) ∗ (∃ X, ⌜X = Y6⌝ ∗ owns (c : Thread nD τ) (st0_6 t) fullShare X) ∗ (∃ X, ⌜X = Y7⌝ ∗ owns (c : Thread nD τ) (st0_7 t) fullShare X) ∗ (∃ X, ⌜S.p8 t X⌝ ∗ owns (c : Thread nD τ) (st0_8 t) fullShare X) ∗ (∃ X, ⌜S.p9 (t.val + 1) X⌝ ∗ owns (c : Thread nD τ) (st0_9 t) fullShare X) ∗ (∃ X, ⌜S.p10 (t.val + 1) X⌝ ∗ owns (c : Thread nD τ) (st0_10 t) fullShare X) ∗ (∃ X, ⌜S.p11 (t.val + 1) X⌝ ∗ owns (c : Thread nD τ) (st0_11 t) fullShare X))) := by
  have hr := fun s0 s1 s2 s3 s4 s5 s6 s7 (hsc : S.sc t.val s0 s1 s2 s3 s4 s5 s6 s7) => hS t Y8 Y9 Y10 Y11 s0 s1 s2 s3 s4 s5 s6 s7 hk hsc
  unfold Φk
  iintro ⟨⟨%s0, %s1, %s2, %s3, %s4, %s5, %s6, %s7, %hsc, HC⟩, HR⟩
  have hr' := hr s0 s1 s2 s3 s4 s5 s6 s7 hsc
  have hX : rdAt V c t = ⟨Memref.IsWhole.unread (hs0_0 t) Y0, Memref.IsWhole.unread (hs0_1 t) Y1, Memref.IsWhole.unread (hs0_2 t) Y2, Memref.IsWhole.unread (hs0_3 t) Y3, Memref.IsWhole.unread (hs0_4 t) Y4, Memref.IsWhole.unread (hs0_5 t) Y5, Memref.IsWhole.unread (hs0_6 t) Y6, Memref.IsWhole.unread (hs0_7 t) Y7⟩ := by
    unfold rdAt; rw [e0, e1, e2, e3, e4, e5, e6, e7]
  have hp := point_run (F := F) c t Set.univ (rdAt V c t) (stAt' c t Y8 Y9 Y10 Y11 s0 s1 s2 s3 s4 s5 s6 s7)
  generalize nextAt c t (rdAt V c t) (stAt' c t Y8 Y9 Y10 Y11 s0 s1 s2 s3 s4 s5 s6 s7) = r at hp hr'
  rw [hX] at hp
  unfold stAt' at hp
  dsimp only [Held] at hp
  iapply (reheld (P := Φk S (t.val + 1)) (owns_unread (hs0_0 t) Y0) (owns_unread (hs0_1 t) Y1) (owns_unread (hs0_2 t) Y2) (owns_unread (hs0_3 t) Y3) (owns_unread (hs0_4 t) Y4) (owns_unread (hs0_5 t) Y5) (owns_unread (hs0_6 t) Y6) (owns_unread (hs0_7 t) Y7) (owns_unread (hs0_8 t) Y8) (owns_unread (hs0_9 t) Y9) (owns_unread (hs0_10 t) Y10) (owns_unread (hs0_11 t) Y11) hp (by
    unfold Φk
    iintro H
    iexists r.c13; iexists r.c14; iexists r.c15; iexists r.c16; iexists r.c17; iexists r.c18; iexists r.c19; iexists r.c20
    isplitr; · ipureintro; exact hr'.2.2.2.2
    iexact H) (owns_read (P := fun X => X = Y0) _ (Memref.IsWhole.read_unread _ _)) (owns_read (P := fun X => X = Y1) _ (Memref.IsWhole.read_unread _ _)) (owns_read (P := fun X => X = Y2) _ (Memref.IsWhole.read_unread _ _)) (owns_read (P := fun X => X = Y3) _ (Memref.IsWhole.read_unread _ _)) (owns_read (P := fun X => X = Y4) _ (Memref.IsWhole.read_unread _ _)) (owns_read (P := fun X => X = Y5) _ (Memref.IsWhole.read_unread _ _)) (owns_read (P := fun X => X = Y6) _ (Memref.IsWhole.read_unread _ _)) (owns_read (P := fun X => X = Y7) _ (Memref.IsWhole.read_unread _ _)) (owns_read _ hr'.1) (owns_read _ hr'.2.1) (owns_read _ hr'.2.2.1) (owns_read _ hr'.2.2.2.1))
  isplitl [HC]; · iexact HC
  iexact HR

/-- The body obligation. -/
theorem body_obligation {c : Dev nD} (S : Keeps F c) (hS : S.Step V) : (rd V S).BodyObligation (defs₀ (F := F)) Variants.none () Set.univ := fun t Y hY => by
  rw [bigSep_W0, bigSep_W0, row_eq]
  exact point_owns V S hS t _ (Y 0) (Y 1) (Y 2) (Y 3) (Y 4) (Y 5) (Y 6) (Y 7) (Y 8) (Y 9) (Y 10) (Y 11) (finds_in0 V S t _ (hY 0)) (finds_in1 V S t _ (hY 1)) (finds_in2 V S t _ (hY 2)) (finds_in3 V S t _ (hY 3)) (finds_in4 V S t _ (hY 4)) (finds_in5 V S t _ (hY 5)) (finds_in6 V S t _ (hY 6)) (finds_in7 V S t _ (hY 7))
    fun h => ⟨finds_out9 V S t h _ (hY 9), finds_out10 V S t h _ (hY 10), finds_out11 V S t h _ (hY 11)⟩

end Cert.MixerBwdIdeal.Hand

end
-- ==== Proof.MixerLaunch.lean ====
/- The launch of the mixer backward kernel: the host lines, the counted recurrence that remakes the states, and the region, run to the end over
   every buffer's contents; the frame. -/
module

public import proofs.«01_k».proof.Proof.MixerRegion
public import Idealize.ShloMosaic.Lib.StableHlo.RunLoop
public import Idealize.ShloMosaic.Lib.Quiescent
public import Idealize.ShloMosaic.Lib.Scf.ExitTest

@[expose] public section

set_option maxRecDepth 16384

noncomputable section

namespace Cert.MixerBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (RDat ucRefs sub_ucRefs arrRef withArrays CSeg Ticket)
open Cert.MixerBwdIdeal.Gen

variable {F : FTy → Type} [FloatOps F] [Named F]

local notation "𝕄G" => MT nD τ sig Unit (Elt F) ℕ (UR sig nD τ) ℕ

/-- What the list writes, in order. -/
abbrev hostOps0_W : List (Ref sig .tc) :=
  [main_v0, main_v1, main_v2, main_v3, main_v4, main_v5, main_v6, main_v7, main_v8, main_cst, main_v9, main_v10, main_v11, main_v12, main_v13, main_v14, main_v15, main_v16, main_cst_0, main_v17, main_v18, main_v19, main_v20, main_v21, main_v22, main_v23, main_v24, main_v25, main_v26, main_v27, main_v28, main_v29, main_v30, main_v31, main_v32, main_v33, main_cst_1, main_v34, main_v35, main_v36, main_v37, main_v38, main_v39, main_v40, main_v41, main_cst_2, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_cst_3, main_v83, main_v84, main_cst_4, main_v85, main_v86, main_v87, main_v88, main_v89, main_v90, main_v91, main_v92, main_v93, main_v94, main_v95, main_cst_5, main_v96, main_v97, main_cst_6, main_v98, main_v99, main_cst_7, main_v100, main_v101]
set_option maxHeartbeats 4000000 in
theorem hostOps0_writes : (hostOps0 : List (HloOp τ sig (Elt F))).Forall fun op => op.writes ⊆ (hostOps0_W.map (Proc.devRef (τ := τ) .tc)).toFinset :=
  forall_writes_sub_of_map (by rfl)

/-- What the list writes, in order. -/
abbrev hostOps0_1_W : List (Ref sig .tc) :=
  [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v102]
set_option maxHeartbeats 4000000 in
theorem hostOps0_1_writes : (hostOps0_1 : List (HloOp τ sig (Elt F))).Forall fun op => op.writes ⊆ (hostOps0_1_W.map (Proc.devRef (τ := τ) .tc)).toFinset :=
  forall_writes_sub_of_map (by rfl)

/-- What the list writes, in order. -/
abbrev hostOps0_2_W : List (Ref sig .tc) :=
  [main_v103, main_v104, main_v105, main_v106, main_cst_8, main_v107, main_v108, main_v109, main_v110, main_cst_9, main_v111, main_v112, main_v113, main_c, main_v114, main_cst_10, main_v115, main_v116, main_v117, main_v118, main_v119, main_v120, main_cst_11, main_v121, main_v122, main_v123, main_cst_12, main_v124, main_c_13, main_v125_0, main_v125_1, main_v125_2, main_v125_3, main_v125_4]
set_option maxHeartbeats 4000000 in
theorem hostOps0_2_writes : (hostOps0_2 : List (HloOp τ sig (Elt F))).Forall fun op => op.writes ⊆ (hostOps0_2_W.map (Proc.devRef (τ := τ) .tc)).toFinset :=
  forall_writes_sub_of_map (by rfl)

/-- What the list writes, in order. -/
abbrev hostOps0_3_W : List (Ref sig .tc) :=
  [main_v126, main_v127, main_v128, main_v129, main_cst_14, main_v130, main_v131, main_v132, main_v133, main_v134, main_v135, main_v136, main_v137, main_v138, main_v139, main_v140, main_v141]
set_option maxHeartbeats 4000000 in
theorem hostOps0_3_writes : (hostOps0_3 : List (HloOp τ sig (Elt F))).Forall fun op => op.writes ⊆ (hostOps0_3_W.map (Proc.devRef (τ := τ) .tc)).toFinset :=
  forall_writes_sub_of_map (by rfl)

/-- What the list writes, in order. -/
abbrev while0Ops0_W : List (Ref sig .tc) :=
  [main_while0b_call1_c, main_while0b_call1_c_0, main_while0b_call1_v0, main_while0b_v143]
set_option maxHeartbeats 4000000 in
theorem while0Ops0_writes : (while0Ops0 : List (HloOp τ sig (Elt F))).Forall fun op => op.writes ⊆ (while0Ops0_W.map (Proc.devRef (τ := τ) .tc)).toFinset :=
  forall_writes_sub_of_map (by rfl)

/-- What the list writes, in order. -/
abbrev while0Ops0_1_W : List (Ref sig .tc) :=
  [main_while0b_call2_c, main_while0b_call2_c_0, main_while0b_call2_v0, main_while0b_v144]
set_option maxHeartbeats 4000000 in
theorem while0Ops0_1_writes : (while0Ops0_1 : List (HloOp τ sig (Elt F))).Forall fun op => op.writes ⊆ (while0Ops0_1_W.map (Proc.devRef (τ := τ) .tc)).toFinset :=
  forall_writes_sub_of_map (by rfl)

/-- What the list writes, in order. -/
abbrev while0Ops0_2_W : List (Ref sig .tc) :=
  [main_while0b_v145, main_while0b_v146]
set_option maxHeartbeats 4000000 in
theorem while0Ops0_2_writes : (while0Ops0_2 : List (HloOp τ sig (Elt F))).Forall fun op => op.writes ⊆ (while0Ops0_2_W.map (Proc.devRef (τ := τ) .tc)).toFinset :=
  forall_writes_sub_of_map (by rfl)

/-- What the list writes, in order. -/
abbrev while0Ops0_3_W : List (Ref sig .tc) :=
  [main_while0b_call3_v0, main_while0b_call3_c, main_while0b_call3_c_0, main_while0b_v147]
set_option maxHeartbeats 4000000 in
theorem while0Ops0_3_writes : (while0Ops0_3 : List (HloOp τ sig (Elt F))).Forall fun op => op.writes ⊆ (while0Ops0_3_W.map (Proc.devRef (τ := τ) .tc)).toFinset :=
  forall_writes_sub_of_map (by rfl)

/-- What the list writes, in order. -/
abbrev while0Ops0_4_W : List (Ref sig .tc) :=
  [main_while0b_c_19, main_while0b_v148, main_v125_2, main_v125_3, main_v125_4]
set_option maxHeartbeats 4000000 in
theorem while0Ops0_4_writes : (while0Ops0_4 : List (HloOp τ sig (Elt F))).Forall fun op => op.writes ⊆ (while0Ops0_4_W.map (Proc.devRef (τ := τ) .tc)).toFinset :=
  forall_writes_sub_of_map (by rfl)

/-- The condition's two operations. -/
abbrev condOps : List (HloOp τ sig (Elt F)) :=
  [ StableHlo.nullary main_while0c_c_19 (constantI S_ 32 8192#32),
    StableHlo.binary main_v125_2 main_while0c_c_19 main_while0c_v143 (cmpi .slt) ]
abbrev condOps_W : List (Ref sig .tc) := [main_while0c_c_19, main_while0c_v143]
theorem condOps_writes : (condOps : List (HloOp τ sig (Elt F))).Forall fun op => op.writes ⊆ (condOps_W.map (Proc.devRef (τ := τ) .tc)).toFinset :=
  forall_writes_sub_of_map (by rfl)

abbrev preI : List (List (HloOp τ sig (Elt F))) := [hostOps0, hostOps0_1, hostOps0_2]
abbrev bodyI : List (List (HloOp τ sig (Elt F))) := [while0Ops0, while0Ops0_1, while0Ops0_2, while0Ops0_3, while0Ops0_4]
abbrev nT : ℕ := 8192

theorem preI_plain : Plain (preI (F := F)) := Plain.cons hostOps0_sub (Plain.cons hostOps0_1_sub (Plain.cons hostOps0_2_sub Plain.nil))
theorem bodyI_plain : Plain (bodyI (F := F)) := Plain.cons while0Ops0_sub (Plain.cons while0Ops0_1_sub (Plain.cons while0Ops0_2_sub (Plain.cons while0Ops0_3_sub (Plain.cons while0Ops0_4_sub (Plain.nil)))))
theorem postI_plain : Plain [hostOps0_3 (F := F)] := Plain.cons hostOps0_3_sub Plain.nil

section Contents

variable (m : (ℓ : Loc nD τ sig) → Buf (Elt F) ℓ)

/-- The buffers where the recurrence is entered, before its `k`-th trip, and where the region is entered. -/
abbrev Wloop : Dev nD → Valuation τ sig (Elt F) := entryContents preI m
abbrev Wtrip : ℕ → Dev nD → Valuation τ sig (Elt F) := atTrip condOps bodyI (Wloop m)
abbrev Wreg (c : Dev nD) : Valuation τ sig (Elt F) := after hostOps0_3 (after condOps (Wtrip m nT c))
/-- The same, at the references. -/
abbrev Vreg (c : Dev nD) (b : Ref sig .tc) : Buf (Elt F) ((c : Thread nD τ).loc b) := Wreg m c (Proc.devRef .tc b)

/-- A buffer that neither the condition nor a trip writes keeps its contents through the recurrence. -/
theorem trip_keep (c : Dev nD) (b : Ref sig .tc) (hc : b ∉ condOps_W) (h0 : b ∉ while0Ops0_W) (h1 : b ∉ while0Ops0_1_W) (h2 : b ∉ while0Ops0_2_W) (h3 : b ∉ while0Ops0_3_W) (h4 : b ∉ while0Ops0_4_W) :
    ∀ k, Wtrip m k c (Proc.devRef .tc b) = Wloop m c (Proc.devRef .tc b)
  | 0 => rfl
  | k + 1 => by
    rw [show Wtrip m (k + 1) c = afterL bodyI (after condOps (Wtrip m k c)) from rfl]
    simp only [afterL_cons, afterL_nil]
    rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0, after_of_writes_sub condOps _ condOps_writes hc]
    exact trip_keep c b hc h0 h1 h2 h3 h4 k
/-- One that nothing before the region writes is as launched. -/
theorem reg_keep (c : Dev nD) (b : Ref sig .tc) (hc : b ∉ condOps_W) (h0 : b ∉ while0Ops0_W) (h1 : b ∉ while0Ops0_1_W) (h2 : b ∉ while0Ops0_2_W) (h3 : b ∉ while0Ops0_3_W) (h4 : b ∉ while0Ops0_4_W)
    (p0 : b ∉ hostOps0_W) (p1 : b ∉ hostOps0_1_W) (p2 : b ∉ hostOps0_2_W) (p3 : b ∉ hostOps0_3_W) :
    Wreg m c (Proc.devRef .tc b) = m ((c : Thread nD τ).loc b) := by
  unfold Wreg
  rw [after_of_writes_sub hostOps0_3 _ hostOps0_3_writes p3, after_of_writes_sub condOps _ condOps_writes hc, trip_keep m c b hc h0 h1 h2 h3 h4]
  unfold Wloop entryContents
  simp only [afterL_cons, afterL_nil]
  rw [after_of_writes_sub hostOps0_2 _ hostOps0_2_writes p2, after_of_writes_sub hostOps0_1 _ hostOps0_1_writes p1, after_of_writes_sub hostOps0 _ hostOps0_writes p0]

/-- The trip counter: zero at the entry, one more after each trip. -/
theorem ctr_step (X : Valuation τ sig (Elt F)) :
    after while0Ops0_4 X (Proc.devRef .tc main_v125_2) = addi (X (Proc.devRef .tc main_v125_2)) (constantI S_ 32 1#32) := by
  after_results
  first | rfl | done
theorem ctr_entry (c : Dev nD) : Wloop m c (Proc.devRef .tc main_v125_2) = fun _ => (0#32 : BitVec 32) := by
  unfold Wloop entryContents
  simp only [afterL_cons, afterL_nil]
  after_results
  rfl
theorem trip_ctr (c : Dev nD) : ∀ k, Wtrip m k c (Proc.devRef .tc main_v125_2) = fun _ => Scf.iv 0#32 1#32 k
  | 0 => by rw [show Wtrip m 0 c = Wloop m c from rfl, ctr_entry, Scf.iv_zero]
  | k + 1 => by
    rw [show Wtrip m (k + 1) c = afterL bodyI (after condOps (Wtrip m k c)) from rfl]
    simp only [afterL_cons, afterL_nil]
    rw [ctr_step, after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide), after_of_writes_sub condOps _ condOps_writes (by decide), trip_ctr c k, Scf.iv_succ]
    rfl

-- a rule stated for any thread applies at the TensorCore's only when unification may unfold plain definitions in a metavariable's type
set_option backward.isDefEq.respectTransparency.types false in
/-- The condition holds exactly below the trip count. -/
theorem cond_spec (Rc : Dev nD → sProp 𝕄G) : LoopCond (pcfgs (F := F)) defs₀ Variants.none loops Rc (main_while0_cond (F := F)) condOps bodyI (Wloop m) nT := by
  intro k hk c bd
  have hctr := trip_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wtrip m k c) main_v125_2 HostLoop.idx0)
        (HloOp.result _ (Wtrip m k c) main_while0c_c_19 HostLoop.idx0) = 1#1) (k < nT)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

end Contents

/-! ## The region -/

section Region

variable (Vv : Dev nD → Valuation τ sig (Elt F)) (S : (c : Dev nD) → Keeps F c)

abbrev adm : (p : Fin 1) → (pcfgs (F := F) p).Adm := fun q => (cfgs q).toPCfg_adm
abbrev lvls : GSem nD τ sig → Finset Unit := fun _ => ∅
abbrev lv : GSem nD τ sig → Unit → ℕ := fun _ _ => 0
/-- The region's data at an entry valuation. -/
abbrev rdv (c : Dev nD) : RDat τ (Elt F) Unit ℕ (UR sig nD τ) ℕ cfg0 c := rd (fun c b => Vv c (Proc.devRef .tc b)) (S c)
abbrev rds (p : Fin 1) (c : Dev nD) : RDat τ (Elt F) Unit ℕ (UR sig nD τ) ℕ (Pipeline.pin (pcfgs (F := F)) adm p) c := rdv Vv S c

/-- What rides beside the buffers: the core owes nothing. -/
abbrev Rw (c : Dev nD) : sProp 𝕄G := iprop(∃ W, owes (c : Thread nD τ) (0 : CellTallies nD τ sig Unit) W)

/-- What the region leaves: its arrays at contents the relation allows, everything else as at entry. -/
def Left (c : Dev nD) : sProp 𝕄G :=
  iprop(∃ A, ⌜∀ w, (rdv Vv S c).ArrAt w cfg0.N (A w)⌝ ∗ held (c : Thread nD τ) (ucRefs τ sig) (withArrays spec0 c (Vv c) A))

theorem arrays_open (c : Dev nD) : ((rdv Vv S c).arraysAt cfg0.N : sProp 𝕄G)
    ⊢ iprop(∃ A, ⌜∀ w, (rdv Vv S c).ArrAt w cfg0.N (A w)⌝ ∗ (rdv Vv S c).arrays A) := by
  unfold RDat.arraysAt
  iintro Ha
  ihave Ha' := (BI.bigSep_exists_pi Finset.univ (fun w G => iprop(⌜(rdv Vv S c).ArrAt w cfg0.N G⌝
      ∗ (cfg0.win w).arr.view.loc (c.tc : Thread nD τ) ↦[(cfg0.win w).arr.view.set]{(rdv Vv S c).share w} G))) $$ Ha
  icases Ha' with ⟨%A, Ha⟩
  ihave Ha2 := (BI.bigSep_pure_sep Finset.univ (fun w => (rdv Vv S c).ArrAt w cfg0.N (A w))
      (fun w => (cfg0.win w).arr.view.loc (c.tc : Thread nD τ) ↦[(cfg0.win w).arr.view.set]{(rdv Vv S c).share w} A w)) $$ Ha
  icases Ha2 with ⟨%hA, Ha⟩
  iexists A; isplitr; · ipureintro; exact fun w => hA w (Finset.mem_univ w)
  unfold RDat.arrays
  iexact Ha

theorem enter (c : Dev nD) : (held (c : Thread nD τ) (ucRefs τ sig) (Vv c) : sProp 𝕄G)
    ⊢ iprop((rdv Vv S c).arrays (rdv Vv S c).A ∗ Pipeline.unscopedRest spec0 c (fun b => Vv c (Proc.devRef .tc b))) := by
  rw [← Pipeline.unscopedBufs_held c (Vv c), Pipeline.unscopedBufs_split₀ cfgs 0 winFacts₀0.arr_unscoped c (fun b => Vv c (Proc.devRef .tc b))]
  exact sep_mono ((rdv Vv S c).arrays_split_shared sharedIn0 arr_whole0 (fun _ _ => rfl) _ _ (fun _ => rfl)) .rfl

theorem leave (c : Dev nD) (A) (hA : ∀ w, (rdv Vv S c).ArrAt w cfg0.N (A w)) :
    iprop((rdv Vv S c).arrays A ∗ Pipeline.unscopedRest spec0 c (fun b => Vv c (Proc.devRef .tc b)))
      ⊢ (held (c : Thread nD τ) (ucRefs τ sig) (withArrays spec0 c (Vv c) A) : sProp 𝕄G) := by
  have hAV := (rdv Vv S c).ArrAt_sharedIn sharedIn0 (Vv c) (fun _ => rfl) cfg0.N A hA
  rw [← Pipeline.unscopedBufs_held c (withArrays spec0 c (Vv c) A),
    Pipeline.unscopedBufs_split₀ cfgs 0 winFacts₀0.arr_unscoped c (fun b => withArrays spec0 c (Vv c) A (Proc.devRef .tc b)),
    (rdv Vv S c).arrBufs_eq_arrays sharedIn0 arr_whole0 (fun _ _ => rfl) (fun b => withArrays spec0 c (Vv c) A (Proc.devRef .tc b)) A
      (fun w => (Pipeline.withArrays_arr_shared spec0 c (Vv c) A hAV w).symm)]
  refine sep_mono .rfl (Entails.of_eq ?_)
  unfold Pipeline.unscopedRest
  refine Idealize.SL.BI.bigSep_congr fun b hb => ?_
  beta_reduce
  rw [Pipeline.withArrays_of_ne spec0 c (Vv c) A b fun w e => (Finset.mem_sdiff.mp hb).2 (Finset.mem_image.mpr ⟨w, Finset.mem_univ _, e⟩)]

/-- Eight contents out of their quantifiers and back, each held in two spellings. -/
theorem eight_in {X0 X1 X2 X3 X4 X5 X6 X7 : Type} (C : X0 → X1 → X2 → X3 → X4 → X5 → X6 → X7 → Prop) (hC : ∀ s0 s1 s2 s3 s4 s5 s6 s7, C s0 s1 s2 s3 s4 s5 s6 s7)
    (P0 : X0 → sProp 𝕄G) (P1 : X1 → sProp 𝕄G) (P2 : X2 → sProp 𝕄G) (P3 : X3 → sProp 𝕄G) (P4 : X4 → sProp 𝕄G) (P5 : X5 → sProp 𝕄G) (P6 : X6 → sProp 𝕄G) (P7 : X7 → sProp 𝕄G)
    (Q0 : X0 → sProp 𝕄G) (Q1 : X1 → sProp 𝕄G) (Q2 : X2 → sProp 𝕄G) (Q3 : X3 → sProp 𝕄G) (Q4 : X4 → sProp 𝕄G) (Q5 : X5 → sProp 𝕄G) (Q6 : X6 → sProp 𝕄G) (Q7 : X7 → sProp 𝕄G)
    (e0 : ∀ s, P0 s = Q0 s) (e1 : ∀ s, P1 s = Q1 s) (e2 : ∀ s, P2 s = Q2 s) (e3 : ∀ s, P3 s = Q3 s) (e4 : ∀ s, P4 s = Q4 s) (e5 : ∀ s, P5 s = Q5 s) (e6 : ∀ s, P6 s = Q6 s) (e7 : ∀ s, P7 s = Q7 s) :
    iprop((∃ s, P0 s) ∗ (∃ s, P1 s) ∗ (∃ s, P2 s) ∗ (∃ s, P3 s) ∗ (∃ s, P4 s) ∗ (∃ s, P5 s) ∗ (∃ s, P6 s) ∗ (∃ s, P7 s))
      ⊢ iprop(∃ s0, ∃ s1, ∃ s2, ∃ s3, ∃ s4, ∃ s5, ∃ s6, ∃ s7, ⌜C s0 s1 s2 s3 s4 s5 s6 s7⌝ ∗ Q0 s0 ∗ Q1 s1 ∗ Q2 s2 ∗ Q3 s3 ∗ Q4 s4 ∗ Q5 s5 ∗ Q6 s6 ∗ Q7 s7) := by
  obtain rfl := funext e0; obtain rfl := funext e1; obtain rfl := funext e2; obtain rfl := funext e3
  obtain rfl := funext e4; obtain rfl := funext e5; obtain rfl := funext e6; obtain rfl := funext e7
  iintro ⟨⟨%s0, H0⟩, ⟨%s1, H1⟩, ⟨%s2, H2⟩, ⟨%s3, H3⟩, ⟨%s4, H4⟩, ⟨%s5, H5⟩, ⟨%s6, H6⟩, ⟨%s7, H7⟩⟩
  iexists s0; iexists s1; iexists s2; iexists s3; iexists s4; iexists s5; iexists s6; iexists s7
  isplitr; · ipureintro; exact hC ..
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
theorem eight_out {X0 X1 X2 X3 X4 X5 X6 X7 : Type} (C : X0 → X1 → X2 → X3 → X4 → X5 → X6 → X7 → Prop)
    (P0 : X0 → sProp 𝕄G) (P1 : X1 → sProp 𝕄G) (P2 : X2 → sProp 𝕄G) (P3 : X3 → sProp 𝕄G) (P4 : X4 → sProp 𝕄G) (P5 : X5 → sProp 𝕄G) (P6 : X6 → sProp 𝕄G) (P7 : X7 → sProp 𝕄G)
    (Q0 : X0 → sProp 𝕄G) (Q1 : X1 → sProp 𝕄G) (Q2 : X2 → sProp 𝕄G) (Q3 : X3 → sProp 𝕄G) (Q4 : X4 → sProp 𝕄G) (Q5 : X5 → sProp 𝕄G) (Q6 : X6 → sProp 𝕄G) (Q7 : X7 → sProp 𝕄G)
    (e0 : ∀ s, P0 s = Q0 s) (e1 : ∀ s, P1 s = Q1 s) (e2 : ∀ s, P2 s = Q2 s) (e3 : ∀ s, P3 s = Q3 s) (e4 : ∀ s, P4 s = Q4 s) (e5 : ∀ s, P5 s = Q5 s) (e6 : ∀ s, P6 s = Q6 s) (e7 : ∀ s, P7 s = Q7 s) :
    iprop(∃ s0, ∃ s1, ∃ s2, ∃ s3, ∃ s4, ∃ s5, ∃ s6, ∃ s7, ⌜C s0 s1 s2 s3 s4 s5 s6 s7⌝ ∗ Q0 s0 ∗ Q1 s1 ∗ Q2 s2 ∗ Q3 s3 ∗ Q4 s4 ∗ Q5 s5 ∗ Q6 s6 ∗ Q7 s7)
      ⊢ iprop((∃ s, P0 s) ∗ (∃ s, P1 s) ∗ (∃ s, P2 s) ∗ (∃ s, P3 s) ∗ (∃ s, P4 s) ∗ (∃ s, P5 s) ∗ (∃ s, P6 s) ∗ (∃ s, P7 s)) := by
  obtain rfl := funext e0; obtain rfl := funext e1; obtain rfl := funext e2; obtain rfl := funext e3
  obtain rfl := funext e4; obtain rfl := funext e5; obtain rfl := funext e6; obtain rfl := funext e7
  iintro ⟨%s0, %s1, %s2, %s3, %s4, %s5, %s6, %s7, -, H0, H1, H2, H3, H4, H5, H6, H7⟩
  isplitl [H0]; · iexists s0; iexact H0
  isplitl [H1]; · iexists s1; iexact H1
  isplitl [H2]; · iexists s2; iexact H2
  isplitl [H3]; · iexists s3; iexact H3
  isplitl [H4]; · iexists s4; iexact H4
  isplitl [H5]; · iexists s5; iexact H5
  isplitl [H6]; · iexists s6; iexact H6
  iexists s7; iexact H7

/-- The scratch buffers at the region's entry and exit. -/
theorem scratch_in (c : Dev nD) (h0 : ∀ s0 s1 s2 s3 s4 s5 s6 s7, (S c).sc 0 s0 s1 s2 s3 s4 s5 s6 s7) :
    (Pipeline.scopedRest (Ix := Unit) (Name := ℕ) (U := UR sig nD τ) (Lvl := ℕ) (Val := Elt F) spec0 c : sProp 𝕄G) ⊢ Φk (S c) 0 := by
  rw [scopedRest0_eq]
  exact eight_in (F := F) (X0 := Buf (Elt F) ((c : Thread nD τ).loc cc0_scratch0)) (X1 := Buf (Elt F) ((c : Thread nD τ).loc cc0_scratch1)) (X2 := Buf (Elt F) ((c : Thread nD τ).loc cc0_scratch2)) (X3 := Buf (Elt F) ((c : Thread nD τ).loc cc0_scratch3)) (X4 := Buf (Elt F) ((c : Thread nD τ).loc cc0_scratch4)) (X5 := Buf (Elt F) ((c : Thread nD τ).loc cc0_scratch5)) (X6 := Buf (Elt F) ((c : Thread nD τ).loc cc0_scratch6)) (X7 := Buf (Elt F) ((c : Thread nD τ).loc cc0_scratch7)) ((S c).sc 0) h0 (fun s => ((c : Thread nD τ).loc cc0_scratch0) ↦{fullShare} s) (fun s => ((c : Thread nD τ).loc cc0_scratch1) ↦{fullShare} s) (fun s => ((c : Thread nD τ).loc cc0_scratch2) ↦{fullShare} s) (fun s => ((c : Thread nD τ).loc cc0_scratch3) ↦{fullShare} s) (fun s => ((c : Thread nD τ).loc cc0_scratch4) ↦{fullShare} s) (fun s => ((c : Thread nD τ).loc cc0_scratch5) ↦{fullShare} s) (fun s => ((c : Thread nD τ).loc cc0_scratch6) ↦{fullShare} s) (fun s => ((c : Thread nD τ).loc cc0_scratch7) ↦{fullShare} s)
    (fun s => View.loc (c : Thread nD τ) (View.whole cc0_scratch0) ↦[(View.whole cc0_scratch0).set]{fullShare} s) (fun s => View.loc (c : Thread nD τ) (View.whole cc0_scratch1) ↦[(View.whole cc0_scratch1).set]{fullShare} s) (fun s => View.loc (c : Thread nD τ) (View.whole cc0_scratch2) ↦[(View.whole cc0_scratch2).set]{fullShare} s) (fun s => View.loc (c : Thread nD τ) (View.whole cc0_scratch3) ↦[(View.whole cc0_scratch3).set]{fullShare} s) (fun s => View.loc (c : Thread nD τ) (View.whole cc0_scratch4) ↦[(View.whole cc0_scratch4).set]{fullShare} s) (fun s => View.loc (c : Thread nD τ) (View.whole cc0_scratch5) ↦[(View.whole cc0_scratch5).set]{fullShare} s) (fun s => View.loc (c : Thread nD τ) (View.whole cc0_scratch6) ↦[(View.whole cc0_scratch6).set]{fullShare} s) (fun s => View.loc (c : Thread nD τ) (View.whole cc0_scratch7) ↦[(View.whole cc0_scratch7).set]{fullShare} s)
    (fun s => (whole_held cc0_scratch0 s).symm) (fun s => (whole_held cc0_scratch1 s).symm) (fun s => (whole_held cc0_scratch2 s).symm) (fun s => (whole_held cc0_scratch3 s).symm) (fun s => (whole_held cc0_scratch4 s).symm) (fun s => (whole_held cc0_scratch5 s).symm) (fun s => (whole_held cc0_scratch6 s).symm) (fun s => (whole_held cc0_scratch7 s).symm)
theorem scratch_out (c : Dev nD) (k : ℕ) :
    (Φk (S c) k : sProp 𝕄G) ⊢ Pipeline.scopedRest (Ix := Unit) (Name := ℕ) (U := UR sig nD τ) (Lvl := ℕ) (Val := Elt F) spec0 c := by
  rw [scopedRest0_eq]
  exact eight_out (F := F) (X0 := Buf (Elt F) ((c : Thread nD τ).loc cc0_scratch0)) (X1 := Buf (Elt F) ((c : Thread nD τ).loc cc0_scratch1)) (X2 := Buf (Elt F) ((c : Thread nD τ).loc cc0_scratch2)) (X3 := Buf (Elt F) ((c : Thread nD τ).loc cc0_scratch3)) (X4 := Buf (Elt F) ((c : Thread nD τ).loc cc0_scratch4)) (X5 := Buf (Elt F) ((c : Thread nD τ).loc cc0_scratch5)) (X6 := Buf (Elt F) ((c : Thread nD τ).loc cc0_scratch6)) (X7 := Buf (Elt F) ((c : Thread nD τ).loc cc0_scratch7)) ((S c).sc k) (fun s => ((c : Thread nD τ).loc cc0_scratch0) ↦{fullShare} s) (fun s => ((c : Thread nD τ).loc cc0_scratch1) ↦{fullShare} s) (fun s => ((c : Thread nD τ).loc cc0_scratch2) ↦{fullShare} s) (fun s => ((c : Thread nD τ).loc cc0_scratch3) ↦{fullShare} s) (fun s => ((c : Thread nD τ).loc cc0_scratch4) ↦{fullShare} s) (fun s => ((c : Thread nD τ).loc cc0_scratch5) ↦{fullShare} s) (fun s => ((c : Thread nD τ).loc cc0_scratch6) ↦{fullShare} s) (fun s => ((c : Thread nD τ).loc cc0_scratch7) ↦{fullShare} s)
    (fun s => View.loc (c : Thread nD τ) (View.whole cc0_scratch0) ↦[(View.whole cc0_scratch0).set]{fullShare} s) (fun s => View.loc (c : Thread nD τ) (View.whole cc0_scratch1) ↦[(View.whole cc0_scratch1).set]{fullShare} s) (fun s => View.loc (c : Thread nD τ) (View.whole cc0_scratch2) ↦[(View.whole cc0_scratch2).set]{fullShare} s) (fun s => View.loc (c : Thread nD τ) (View.whole cc0_scratch3) ↦[(View.whole cc0_scratch3).set]{fullShare} s) (fun s => View.loc (c : Thread nD τ) (View.whole cc0_scratch4) ↦[(View.whole cc0_scratch4).set]{fullShare} s) (fun s => View.loc (c : Thread nD τ) (View.whole cc0_scratch5) ↦[(View.whole cc0_scratch5).set]{fullShare} s) (fun s => View.loc (c : Thread nD τ) (View.whole cc0_scratch6) ↦[(View.whole cc0_scratch6).set]{fullShare} s) (fun s => View.loc (c : Thread nD τ) (View.whole cc0_scratch7) ↦[(View.whole cc0_scratch7).set]{fullShare} s)
    (fun s => (whole_held cc0_scratch0 s).symm) (fun s => (whole_held cc0_scratch1 s).symm) (fun s => (whole_held cc0_scratch2 s).symm) (fun s => (whole_held cc0_scratch3 s).symm) (fun s => (whole_held cc0_scratch4 s).symm) (fun s => (whole_held cc0_scratch5 s).symm) (fun s => (whole_held cc0_scratch6 s).symm) (fun s => (whole_held cc0_scratch7 s).symm)

set_option backward.isDefEq.respectTransparency.types false in
/-- The region as a segment. -/
def reg (hS : ∀ c, (S c).Step (fun c b => Vv c (Proc.devRef .tc b))) (h0 : ∀ c s0 s1 s2 s3 s4 s5 s6 s7, (S c).sc 0 s0 s1 s2 s3 s4 s5 s6 s7) :
    RDat.RegionSeg (pcfgs (F := F)) adm (rds Vv S) () defs₀ Variants.none lvls lv 0 where
  win := winFacts₀0
  block_pos := block_pos0
  stage_whole := stage_whole0
  K := PEmpty
  osem k := k.elim
  ho := Pipeline.OwnSemFacts.none _
  hbody c := body_obligation _ (S c) (hS c)
  hwaits := RDat.hwaits_of_owed_zero _ _ _ _ lvls lv 0 fun _ _ => rfl
  pre c := iprop(held (c : Thread nD τ) (ucRefs τ sig) (Vv c) ∗ Rw c)
  post c := iprop(Left Vv S c ∗ Rw c)
  X _ := BI.emp
  Y _ := BI.emp
  Z c := Pipeline.unscopedRest (Ix := Unit) (Name := ℕ) (U := UR sig nD τ) (Lvl := ℕ) spec0 c (fun b => Vv c (Proc.devRef .tc b))
  hentry c := by
    rw [Pipeline.ownSems0_none]
    have hsplit := enter Vv S c
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    refine BIBase.Entails.trans ?_ (scratch_in S c (h0 c))
    iintro ⟨-, -, Hr⟩
    iexact Hr
  hout c := by
    rw [Pipeline.ownSems0_none]
    refine BIBase.Entails.trans (scratch_out S c cfg0.N) ?_
    iintro Hr
    isplitr; · iempintro
    isplitr; · iempintro
    iexact Hr
  hexit c := by
    have hl := leave Vv S c
    refine BIBase.Entails.trans (sep_mono_left (arrays_open Vv S c)) ?_
    iintro ⟨⟨%A, %hA, Ha⟩, HO, -, Hrest⟩
    imodintro
    isplitl [Ha Hrest]
    · unfold Left
      iexists A
      isplitr; · ipureintro; exact hA
      iapply (hl A hA); isplitl [Ha] <;> iassumption
    unfold RDat.owesAt Pipeline.owesWithin
    icases HO with ⟨%W, -, HO⟩; iexists W; iexact HO

end Region

/-! ## The run -/

section Run

variable (m : (ℓ : Loc nD τ sig) → Buf (Elt F) ℓ) (S : (c : Dev nD) → Keeps F c)

/-- The one ticket. -/
abbrev tk : Fin 1 → Ticket (Ix := Unit) (Name := ℕ) (U := UR sig nD τ) (Lvl := ℕ) (nD := nD) (τ := τ) (pcfgs (F := F)) adm := fun _ =>
  { p := 0, pdats := fun p c => { A _ := fun _ => Classical.arbitrary _, after _ _ := fun _ => Classical.arbitrary _, Φ _ := BI.emp, q _ := fullShare, owed _ := 0 }, EP := emb₁ }

variable (hS : ∀ c, (S c).Step (fun c b => Wreg m c (Proc.devRef .tc b))) (h0 : ∀ c s0 s1 s2 s3 s4 s5 s6 s7, (S c).sc 0 s0 s1 s2 s3 s4 s5 s6 s7)

/-- @main's segments. -/
def segs : List (CSeg (pcfgs (F := F)) adm defs₀ Variants.none lvls lv loops tk) :=
  segsOf _ _ _ _ _ _ _ _ Rw preI preI_plain (launchContents m)
    ++ loopSeg _ _ _ _ _ _ _ _ 0 main_while0_cond main_while0_body rfl condOps bodyI bodyI_plain while0_body_chain nT (Wloop m) Rw (cond_spec m Rw)
    :: (segsOf _ _ _ _ _ _ _ _ Rw [hostOps0_3] postI_plain (fun c => after condOps (atTrip condOps bodyI (Wloop m) nT c))
      ++ [CSeg.regionAtR _ _ () cellOf_inj _ _ _ _ _ _ 0 (rds (Wreg m) S) (reg (Wreg m) S hS h0)])

theorem segs_prog (c : Dev nD) : main (F := F) c = Pipeline.chain ((segs m S hS h0).map CSeg.prog) := by
  rw [main_chain c]
  unfold segs
  rw [List.map_append, List.map_cons, List.map_append, segsOf_prog, segsOf_prog]
  rfl

theorem segs_chains : CSeg.Chains (fun c => iprop(held (c : Thread nD τ) (ucRefs τ sig) (launchContents m c) ∗ Rw c)) (segs m S hS h0)
    (fun c => iprop(Left (Wreg m) S c ∗ Rw c)) :=
  CSeg.Chains.append (segsOf_chains _ _ _ _ _ _ _ _ Rw preI preI_plain (launchContents m))
    ⟨fun _ => .rfl, CSeg.Chains.append (segsOf_chains _ _ _ _ _ _ _ _ Rw [hostOps0_3] postI_plain (fun c => after condOps (atTrip condOps bodyI (Wloop m) nT c)))
      ⟨fun c => (show iprop(held (c : Thread nD τ) (ucRefs τ sig) (Wreg m c) ∗ Rw c) ⊢ _ from .rfl), fun _ => .rfl⟩⟩

theorem loop_T {n : ℕ} {W : Dev nD → Valuation τ sig (Elt F)} (h : LoopCond (pcfgs (F := F)) defs₀ Variants.none loops Rw (main_while0_cond (F := F)) condOps bodyI W n) :
    (loopSeg (pcfgs (F := F)) adm defs₀ Variants.none lvls lv loops tk 0 main_while0_cond main_while0_body rfl condOps bodyI bodyI_plain while0_body_chain n W Rw h).T = ∅ :=
  loopSeg_T ..

theorem segs_disjoint : (segs m S hS h0).Pairwise fun s s' => Disjoint s.T s'.T := by
  have hpost : ∀ s ∈ segsOf (pcfgs (F := F)) adm defs₀ Variants.none lvls lv loops tk Rw [hostOps0_3] postI_plain (fun c => after condOps (atTrip condOps bodyI (Wloop m) nT c)), s.T = ∅ :=
    fun s hs => (segsOf_M_T _ _ _ _ _ _ _ _ Rw _ _ _ s hs).2
  have hpre : ∀ s ∈ segsOf (pcfgs (F := F)) adm defs₀ Variants.none lvls lv loops tk Rw preI preI_plain (launchContents m), s.T = ∅ :=
    fun s hs => (segsOf_M_T _ _ _ _ _ _ _ _ Rw _ _ _ s hs).2
  have hloop := loop_T (cond_spec m (Rw (F := F)))
  unfold segs
  refine List.pairwise_append.mpr ⟨CSeg.pairwise_disjoint_of_T_empty _ hpre, List.pairwise_cons.mpr ⟨fun s' _ => by rw [hloop]; exact Finset.disjoint_empty_left _,
    List.pairwise_append.mpr ⟨CSeg.pairwise_disjoint_of_T_empty _ hpost, List.pairwise_singleton _ _, fun s hs s' _ => by rw [hpost s hs]; exact Finset.disjoint_empty_left _⟩⟩,
    fun s hs s' _ => by rw [hpre s hs]; exact Finset.disjoint_empty_left _⟩

include hS h0 in
/-- The run: the arrays' final contents satisfy the region's relation, every other buffer is as the host lines left it. -/
theorem run (ρ : Dev nD → PrngReg) : θ_run (defs (F := F)) (onTc (τ := τ) main) ⟨m, fun _ => 0, ρ⟩
    (fun r => (∀ c : Dev nD, ∃ A, (∀ w, (rdv (Wreg m) S c).ArrAt w cfg0.N (A w))
        ∧ ∀ b : Ref sig .tc, (Proc.devRef .tc b : DevRef τ sig).isScoped = false →
          r.2.mem ((c : Thread nD τ).loc b) = withArrays spec0 c (Wreg m c) A (Proc.devRef .tc b))
      ∧ r.2.sem = fun _ => 0) :=
  Pipeline.θ_run_regions_loop_kit_sems (Ix := Unit) (Name := ℕ) (U := UR sig nD τ) (Lvl := ℕ) (J := Fin 1) (P := Fin 1) (Val := Elt F)
    pcfgs adm cellOf_inj defs₀ Variants.none lvls lv loops tk m ρ main (segs m S hS h0)
    (fun c Q => by
      rw [segs_prog m S hS h0 c]
      exact .rfl)
    (segs_disjoint m S hS h0)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · rw [Finset.univ_unique, BI.bigSep_singleton]
        iapply (show (ownU _ : sProp 𝕄G) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(held (c : Thread nD τ) (ucRefs τ sig) (launchContents m c) ∗ Rw c))
    (Tₙ := fun c => Left (Wreg m) S c)
    (hch := segs_chains m S hS h0)
    (hinit := by
      refine Pipeline.initEach lvls lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∃ A, (∀ w, (rdv (Wreg m) S c).ArrAt w cfg0.N (A w)) ∧ ∀ b ∈ ucRefs τ sig, s.mem ((c : Dev nD), b) = withArrays spec0 c (Wreg m c) A b)
    (hfin := fun c s' => by
      unfold Left held
      iintro ⟨⟨%A, %hA, Hh⟩, HSI⟩
      ihave Hr := (pointsTo_read_all (ucRefs τ sig) (fun b => ((c : Dev nD), b)) (fun b => withArrays spec0 c (Wreg m c) A b) s') $$ [Hh HSI]
      · isplitl [Hh] <;> iassumption
      icases Hr with ⟨%h, HSI⟩
      imodintro
      isplitr; · ipureintro; exact ⟨A, hA, h⟩
      iexact HSI)
    (hQ := fun s h hs => ⟨fun c => by
      obtain ⟨A, hA, h⟩ := h c
      exact ⟨A, hA, fun b hb => h _ (devRef_mem_ucRefs b hb)⟩, sem_eq_zero_of_scoped (by decide) hs⟩)

end Run

end Cert.MixerBwdIdeal.Hand

end
-- ==== Proof.MixerFrame.lean ====
/- The frames of the two programs: one run, at the two element families. -/
module

public import proofs.«01_k».proof.Proof.MixerLaunch
public import proofs.«01_k».proof.Proof.Gen.MixerBwd
public import proofs.«01_k».proof.Defs

@[expose] public section

set_option maxRecDepth 16384

noncomputable section

namespace Cert.MixerBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (RDat ucRefs sub_ucRefs arrRef withArrays CSeg Ticket)
open Cert.MixerBwdIdeal.Gen

variable {F : FTy → Type} [FloatOps F] [Named F]

local notation "𝕄G" => MT nD τ sig Unit (Elt F) ℕ (UR sig nD τ) ℕ

/-- An argument is neither written by the host lines nor one of the region's arrays. -/
theorem arg_kept (m : (ℓ : Loc nD τ sig) → Buf (Elt F) ℓ) (c : Dev nD) (A) (b : Ref sig .tc) (hb : ∀ w, arrRef spec0 w ≠ b)
    (hw : b ∉ condOps_W ++ while0Ops0_W ++ while0Ops0_1_W ++ while0Ops0_2_W ++ while0Ops0_3_W ++ while0Ops0_4_W ++ hostOps0_W ++ hostOps0_1_W ++ hostOps0_2_W ++ hostOps0_3_W) :
    withArrays spec0 c (Wreg m c) A (Proc.devRef .tc b) = m ((c : Thread nD τ).loc b) := by
  simp only [List.mem_append, not_or] at hw
  obtain ⟨⟨⟨⟨⟨⟨⟨⟨⟨w0, w1⟩, w2⟩, w3⟩, w4⟩, w5⟩, w6⟩, w7⟩, w8⟩, w9⟩ := hw
  rw [Pipeline.withArrays_of_ne spec0 c (Wreg m c) A b hb, reg_keep m c b w0 w1 w2 w3 w4 w5 w6 w7 w8 w9]

theorem frame_of (m : (ℓ : Loc nD τ sig) → Buf (Elt F) ℓ) (ρ : Dev nD → PrngReg) :
    θ_run (Cert.MixerBwdIdeal.defs (F := F)) (onTc (τ := Cert.MixerBwdIdeal.τ) (Cert.MixerBwdIdeal.main (F := F))) ⟨m, fun _ => 0, ρ⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9))
      ∧ r.2.sem = fun _ => 0) :=
  (θ_run _ _ _).mono (fun r h => ⟨fun c => by
    obtain ⟨A, -, hA⟩ := h.1 c
    refine ⟨?_, ?_, ?_, ?_, ?_, ?_, ?_, ?_, ?_, ?_⟩ <;> exact (hA _ rfl).trans (arg_kept m c A _ (by decide) (by decide)), h.2⟩)
    (run m (fun c => Keeps.none c) (fun c => Keeps.none_step _ c) (fun _ _ _ _ _ _ _ _ _ => trivial) ρ)

/-- A named constant at the bit patterns is its literal. -/
instance : Named Bits where
  named _ _ {φ} b := FloatOps.ofBits φ b

theorem frame_ideal (m : (ℓ : Loc nD τ sig) → Buf (Elt Ideal) ℓ) (ρ : Dev nD → PrngReg) :
    θ_run (Cert.MixerBwdIdeal.defs (F := Ideal)) (onTc (τ := Cert.MixerBwdIdeal.τ) (Cert.MixerBwdIdeal.main (F := Ideal))) ⟨m, fun _ => 0, ρ⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9))
      ∧ r.2.sem = fun _ => 0) := frame_of m ρ

/-- The float program is the idealized one read at the bit patterns. -/
theorem bits_frame (m : (ℓ : Loc Cert.MixerBwd.nD Cert.MixerBwd.τ Cert.MixerBwd.sig) → Buf (Elt Bits) ℓ) (ρ : Dev Cert.MixerBwd.nD → PrngReg) :
    (θ_run (Cert.MixerBwd.defs (F := Bits)) (onTc (τ := Cert.MixerBwd.τ) (Cert.MixerBwd.main (F := Bits))) ⟨m, fun _ => 0, ρ⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8)
      ∧ r.2.mem ((c.tc : Thread Cert.MixerBwd.nD Cert.MixerBwd.τ).loc Cert.MixerBwd.main_arg9) = m ((c.tc : Thread Cert.MixerBwd.nD Cert.MixerBwd.τ).loc Cert.MixerBwd.main_arg9))
      ∧ r.2.sem = fun _ => 0))
    = (θ_run (Cert.MixerBwdIdeal.defs (F := Bits)) (onTc (τ := Cert.MixerBwdIdeal.τ) (Cert.MixerBwdIdeal.main (F := Bits))) ⟨m, fun _ => 0, ρ⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9))
      ∧ r.2.sem = fun _ => 0)) := by sl_kernel_rfl

theorem frame_bits (m : (ℓ : Loc Cert.MixerBwd.nD Cert.MixerBwd.τ Cert.MixerBwd.sig) → Buf (Elt Bits) ℓ) (ρ : Dev Cert.MixerBwd.nD → PrngReg) :
    θ_run (Cert.MixerBwd.defs (F := Bits)) (onTc (τ := Cert.MixerBwd.τ) (Cert.MixerBwd.main (F := Bits))) ⟨m, fun _ => 0, ρ⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8)
      ∧ r.2.mem ((c.tc : Thread Cert.MixerBwd.nD Cert.MixerBwd.τ).loc Cert.MixerBwd.main_arg9) = m ((c.tc : Thread Cert.MixerBwd.nD Cert.MixerBwd.τ).loc Cert.MixerBwd.main_arg9))
      ∧ r.2.sem = fun _ => 0) :=
  (bits_frame m ρ).mpr (frame_of (F := Bits) m ρ)

end Cert.MixerBwdIdeal.Hand

end
-- ==== Proof.MixerRefOps.lean ====
/- The recurrent block's reference as lists of host operations: each window of @main, and each host loop's condition and body, with what it writes. -/
module

public import proofs.«01_k».proof.Proof.Gen.MixerRefIdeal
public import proofs.«01_k».proof.MixerRefIdeal
public import Idealize.ShloMosaic.Lib.StableHlo.RunLoop
public import Idealize.ShloMosaic.Lib.StableHlo.RunHlo
public import Idealize.ShloMosaic.Lib.Scf.ExitTest
public import Idealize.ShloMosaic.Lib.Quiescent

@[expose] public section

set_option maxRecDepth 16384

noncomputable section

namespace Cert.MixerRefIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F] [Named F]

/-- The programs of @main's stretches. -/
abbrev HP (F : FTy → Type) : Type 1 := Prog (TpuEff nD τ sig (Elt F) (HostLoop.Sig (Pipeline.Sig Λ₀ (Fin 0) fun p => (pcfgs (F := F) p).Adm) 2) .tc) PUnit

/-- The program is the line of the operations, each with its result among `W`. -/
structure Reads (p : HP F) (ops : List (HloOp τ sig (Elt F))) (W : List (Ref sig .tc)) : Prop where
  eq : p = seq ops
  sub : ops.Forall fun op => op.bufs ⊆ tcRefs τ sig
  fresh : ∀ op ∈ ops, op.fresh = ∅
  writes : ops.Forall fun op => op.writes ⊆ (W.map (Proc.devRef (τ := τ) .tc)).toFinset

theorem Reads.nil : Reads (pure ⟨⟩ : HP F) [] [] where
  eq := rfl
  sub := trivial
  fresh := fun _ h => nomatch h
  writes := trivial

theorem Reads.cons {op : HloOp τ sig (Elt F)} {r : Ref sig .tc} {k : HP F} {ops : List (HloOp τ sig (Elt F))} {W : List (Ref sig .tc)}
    (hw : op.writes = {Proc.devRef .tc r}) (hb : op.bufs ⊆ tcRefs τ sig) (hf : op.fresh = ∅)
    (h : Reads k ops W) : Reads ((hlo rfl op fun _ => .ret (⟨⟩ : PUnit)) >>= fun _ => k) (op :: ops) (r :: W) where
  eq := by rw [h.eq]; rfl
  sub := List.forall_iff_forall_mem.mpr fun o ho => by
    rcases List.mem_cons.mp ho with rfl | ho
    · exact hb
    · exact List.forall_iff_forall_mem.mp h.sub o ho
  fresh o ho := by
    rcases List.mem_cons.mp ho with rfl | ho
    · exact hf
    · exact h.fresh o ho
  writes := List.forall_iff_forall_mem.mpr fun o ho => by
    rw [List.map_cons, List.toFinset_cons]
    rcases List.mem_cons.mp ho with rfl | ho
    · rw [hw]; exact Finset.singleton_subset_iff.mpr (Finset.mem_insert_self _ _)
    · exact (List.forall_iff_forall_mem.mp h.writes o ho).trans (Finset.subset_insert _ _)

theorem Reads.last {op : HloOp τ sig (Elt F)} {r : Ref sig .tc}
    (hw : op.writes = {Proc.devRef .tc r}) (hb : op.bufs ⊆ tcRefs τ sig) (hf : op.fresh = ∅) :
    Reads (hlo rfl op fun _ => .ret (⟨⟩ : PUnit) : HP F) [op] [r] where
  eq := rfl
  sub := hb
  fresh o ho := by rcases List.mem_singleton.mp ho with rfl; exact hf
  writes := show op.writes ⊆ _ by rw [hw]; exact Finset.singleton_subset_iff.mpr (by simp)

/-- A program with the line it is. -/
def Reads.pack {p : Dev nD → HP F} {ops : List (HloOp τ sig (Elt F))} {W : List (Ref sig .tc)} (h : ∀ d, Reads (p d) ops W) :
    { q : List (HloOp τ sig (Elt F)) × List (Ref sig .tc) // ∀ d, Reads (p d) q.1 q.2 } := ⟨(ops, W), h⟩

theorem Reads.append {p k : HP F} {ops ops' : List (HloOp τ sig (Elt F))} {W W' : List (Ref sig .tc)}
    (h : Reads p ops W) (h' : Reads k ops' W') : Reads (p >>= fun _ => k) (ops ++ ops') (W ++ W') where
  eq := by rw [h.eq, h'.eq, seq_append]
  sub := List.forall_append.mpr ⟨h.sub, h'.sub⟩
  fresh o ho := (List.mem_append.mp ho).elim (h.fresh o) (h'.fresh o)
  writes := by
    rw [List.map_append, List.toFinset_append]
    exact List.forall_append.mpr ⟨h.writes.imp fun _ hs => hs.trans Finset.subset_union_left, h'.writes.imp fun _ hs => hs.trans Finset.subset_union_right⟩

/-- A line, a host loop, a line. -/
structure Around (p : HP F) (ops : List (HloOp τ sig (Elt F))) (W : List (Ref sig .tc)) (l : Fin 2) (k : HP F) : Prop where
  eq : p = (seq ops >>= fun _ => HostLoop.enter l >>= fun _ => k)
  sub : ops.Forall fun op => op.bufs ⊆ tcRefs τ sig
  fresh : ∀ op ∈ ops, op.fresh = ∅
  writes : ops.Forall fun op => op.writes ⊆ (W.map (Proc.devRef (τ := τ) .tc)).toFinset

theorem Around.here {l : Fin 2} {k : HP F} : Around (HostLoop.enter l >>= fun _ => k : HP F) [] [] l k where
  eq := rfl
  sub := trivial
  fresh := fun _ h => nomatch h
  writes := trivial

theorem Around.cons {op : HloOp τ sig (Elt F)} {r : Ref sig .tc} {k k' : HP F} {l : Fin 2} {ops : List (HloOp τ sig (Elt F))} {W : List (Ref sig .tc)}
    (hw : op.writes = {Proc.devRef .tc r}) (hb : op.bufs ⊆ tcRefs τ sig) (hf : op.fresh = ∅)
    (h : Around k ops W l k') : Around ((hlo rfl op fun _ => .ret (⟨⟩ : PUnit)) >>= fun _ => k) (op :: ops) (r :: W) l k' :=
  have hr := Reads.cons (k := seq ops) hw hb hf ⟨rfl, h.sub, h.fresh, h.writes⟩
  ⟨by rw [h.eq]; rfl, hr.sub, hr.fresh, hr.writes⟩

/-- A line, a host loop, a line, with what each line writes. -/
inductive Cut (p : HP F) (l : Fin 2) (ops : List (HloOp τ sig (Elt F))) (W : List (Ref sig .tc)) (ops' : List (HloOp τ sig (Elt F))) (W' : List (Ref sig .tc)) : Prop where
  | mk {k : HP F} (a : Around p ops W l k) (r : Reads k ops' W') : Cut p l ops W ops' W'

/-- A program with the two lines it is. -/
def Cut.pack {p : Dev nD → HP F} {l : Fin 2} {ops ops' : List (HloOp τ sig (Elt F))} {W W' : List (Ref sig .tc)} (h : ∀ d, Cut (p d) l ops W ops' W') :
    { q : (List (HloOp τ sig (Elt F)) × List (Ref sig .tc)) × (List (HloOp τ sig (Elt F)) × List (Ref sig .tc)) // ∀ d, Cut (p d) l q.1.1 q.1.2 q.2.1 q.2.2 } := ⟨((ops, W), (ops', W')), h⟩

set_option maxHeartbeats 4000000 in
/-- `main_while0_body`, read. -/
def body0 : { q : List (HloOp τ sig (Elt F)) × List (Ref sig .tc) // ∀ d : Dev nD, Reads (main_while0_body (F := F)) q.1 q.2 } := by
  apply Reads.pack
  intro d
  unfold main_while0_body
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | unfold fn_dynamic_index_in_dim.body
    | unfold fn_dynamic_update_index_in_dim.body
    | (with_reducible apply Reads.append)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_while1_body`, read. -/
def body1 : { q : List (HloOp τ sig (Elt F)) × List (Ref sig .tc) // ∀ d : Dev nD, Reads (main_while1_body (F := F)) q.1 q.2 } := by
  apply Reads.pack
  intro d
  unfold main_while1_body
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | unfold fn_dynamic_index_in_dim.body
    | unfold fn_dynamic_update_index_in_dim.body
    | (with_reducible apply Reads.append)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part0`, read. -/
def part0 : { q : List (HloOp τ sig (Elt F)) × List (Ref sig .tc) // ∀ d : Dev nD, Reads (main_part0 (F := F) d) q.1 q.2 } := by
  apply Reads.pack
  intro d
  unfold main_part0
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part1`, read. -/
def part1 : { q : List (HloOp τ sig (Elt F)) × List (Ref sig .tc) // ∀ d : Dev nD, Reads (main_part1 (F := F) d) q.1 q.2 } := by
  apply Reads.pack
  intro d
  unfold main_part1
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part2`, read. -/
def part2 : { q : List (HloOp τ sig (Elt F)) × List (Ref sig .tc) // ∀ d : Dev nD, Reads (main_part2 (F := F) d) q.1 q.2 } := by
  apply Reads.pack
  intro d
  unfold main_part2
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | unfold fn_log_sigmoid.body
    | unfold fn_softplus.body
    | (with_reducible apply Reads.append)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part3`, read. -/
def part3 : { q : (List (HloOp τ sig (Elt F)) × List (Ref sig .tc)) × (List (HloOp τ sig (Elt F)) × List (Ref sig .tc)) //
    ∀ d : Dev nD, Cut (main_part3 (F := F) d) 0 q.1.1 q.1.2 q.2.1 q.2.2 } := by
  apply Cut.pack
  intro d
  unfold main_part3
  constructor
  repeat (first
    | ((with_reducible apply Around.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Around.here))
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part4`, read. -/
def part4 : { q : (List (HloOp τ sig (Elt F)) × List (Ref sig .tc)) × (List (HloOp τ sig (Elt F)) × List (Ref sig .tc)) //
    ∀ d : Dev nD, Cut (main_part4 (F := F) d) 1 q.1.1 q.1.2 q.2.1 q.2.2 } := by
  apply Cut.pack
  intro d
  unfold main_part4
  constructor
  repeat (first
    | ((with_reducible apply Around.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Around.here))
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part5`, read. -/
def part5 : { q : List (HloOp τ sig (Elt F)) × List (Ref sig .tc) // ∀ d : Dev nD, Reads (main_part5 (F := F) d) q.1 q.2 } := by
  apply Reads.pack
  intro d
  unfold main_part5
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | unfold fn_log_sigmoid_0.body
    | unfold fn_softplus_1.body
    | (with_reducible apply Reads.append)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part6`, read. -/
def part6 : { q : List (HloOp τ sig (Elt F)) × List (Ref sig .tc) // ∀ d : Dev nD, Reads (main_part6 (F := F) d) q.1 q.2 } := by
  apply Reads.pack
  intro d
  unfold main_part6
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

set_option maxHeartbeats 4000000 in
/-- `main_part7`, read. -/
def part7 : { q : List (HloOp τ sig (Elt F)) × List (Ref sig .tc) // ∀ d : Dev nD, Reads (main_part7 (F := F) d) q.1 q.2 } := by
  apply Reads.pack
  intro d
  unfold main_part7
  repeat (first
    | ((with_reducible apply Reads.cons); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl)
    | (with_reducible exact Reads.nil)
    | ((with_reducible apply Reads.last); exact rfl; (first | with_reducible exact nullary_bufs_sub .. | with_reducible exact unary_bufs_sub .. | with_reducible exact binary_bufs_sub .. | with_reducible exact ternary_bufs_sub .. | with_reducible exact reshape_bufs_sub .. | with_reducible exact nary_bufs_sub .. | with_reducible exact unaryIndexed_bufs_sub .. | with_reducible exact binaryIndexed_bufs_sub .. | exact nullary_bufs_sub .. | exact unary_bufs_sub .. | exact binary_bufs_sub .. | exact ternary_bufs_sub .. | exact reshape_bufs_sub .. | exact nary_bufs_sub .. | exact unaryIndexed_bufs_sub .. | exact binaryIndexed_bufs_sub ..); exact rfl))

end Cert.MixerRefIdeal.Hand
end
-- ==== Proof.MixerRefRun.lean ====
/- The run of the recurrent block's reference: host lines, the forward scan, host lines, the backward scan, host lines. -/
module

public import proofs.«01_k».proof.Proof.MixerRefOps
public import Idealize.ShloMosaic.Lib.StableHlo.RunLoop
public import Idealize.ShloMosaic.Lib.StableHlo.RunHlo
public import Idealize.ShloMosaic.Lib.Scf.ExitTest
public import Idealize.ShloMosaic.Lib.Quiescent

@[expose] public section

set_option maxRecDepth 16384

noncomputable section

namespace Cert.MixerRefIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F] [Named F]

local notation "𝕄R" => MT nD τ sig Unit (Elt F) ℕ (Option PUnit) ℕ

theorem bind_pure_comp_unit (p : HP F) : (p >>= fun _ => (pure ⟨⟩ : HP F)) = p := bind_pure p

theorem Reads.plain {p : HP F} {ops : List (HloOp τ sig (Elt F))} {W : List (Ref sig .tc)} (h : Reads p ops W) {rest : List (List (HloOp τ sig (Elt F)))} (hr : Plain rest) :
    Plain (ops :: rest) := Plain.cons h.sub hr h.fresh

theorem Cut.first {p : HP F} {l : Fin 2} {ops ops' : List (HloOp τ sig (Elt F))} {W W' : List (Ref sig .tc)} (h : Cut p l ops W ops' W') : Reads (seq ops) ops W := by
  obtain ⟨a, -⟩ := h; exact ⟨rfl, a.sub, a.fresh, a.writes⟩
theorem Cut.second {p : HP F} {l : Fin 2} {ops ops' : List (HloOp τ sig (Elt F))} {W W' : List (Ref sig .tc)} (h : Cut p l ops W ops' W') : Reads (seq ops') ops' W' := by
  obtain ⟨-, r⟩ := h; exact ⟨rfl, r.sub, r.fresh, r.writes⟩
theorem Cut.eq {p : HP F} {l : Fin 2} {ops ops' : List (HloOp τ sig (Elt F))} {W W' : List (Ref sig .tc)} (h : Cut p l ops W ops' W') :
    p = (seq ops >>= fun _ => HostLoop.enter l >>= fun _ => seq ops') := by
  obtain ⟨a, r⟩ := h; rw [a.eq, r.eq]

abbrev nT : ℕ := 8192
abbrev Rw (c : Dev nD) : sProp 𝕄R := iprop(∃ W, owes (c : Thread nD τ) (0 : CellTallies nD τ sig Unit) W)

/-- The condition's two operations. -/
abbrev cond0 : List (HloOp τ sig (Elt F)) :=
  [ StableHlo.nullary main_while0c_c_92 (constantI S_ 32 8192#32), StableHlo.binary main_v148_2 main_while0c_c_92 main_while0c_v371 (cmpi .slt) ]
abbrev cond0_W : List (Ref sig .tc) := [main_while0c_c_92, main_while0c_v371]
theorem cond0_writes : (cond0 : List (HloOp τ sig (Elt F))).Forall fun op => op.writes ⊆ (cond0_W.map (Proc.devRef (τ := τ) .tc)).toFinset :=
  forall_writes_sub_of_map (by rfl)
theorem body0_chain : main_while0_body (F := F) = Pipeline.chain ([body0.1.1].map fun ops => (seq ops : HP F)) :=
  (body0.2 default).eq.trans (bind_pure_comp_unit _).symm

/-- The condition's two operations. -/
abbrev cond1 : List (HloOp τ sig (Elt F)) :=
  [ StableHlo.nullary main_while1c_c_93 (constantI S_ 32 8192#32), StableHlo.binary main_v220_3 main_while1c_c_93 main_while1c_v371 (cmpi .slt) ]
abbrev cond1_W : List (Ref sig .tc) := [main_while1c_c_93, main_while1c_v371]
theorem cond1_writes : (cond1 : List (HloOp τ sig (Elt F))).Forall fun op => op.writes ⊆ (cond1_W.map (Proc.devRef (τ := τ) .tc)).toFinset :=
  forall_writes_sub_of_map (by rfl)
theorem body1_chain : main_while1_body (F := F) = Pipeline.chain ([body1.1.1].map fun ops => (seq ops : HP F)) :=
  (body1.2 default).eq.trans (bind_pure_comp_unit _).symm

/-- The host lines before the forward scan, between the scans, and after the backward one. -/
abbrev linesA : List (List (HloOp τ sig (Elt F))) := [part0.1.1, part1.1.1, part2.1.1, part3.1.1.1]
abbrev linesB : List (List (HloOp τ sig (Elt F))) := [part3.1.2.1, part4.1.1.1]
abbrev linesC : List (List (HloOp τ sig (Elt F))) := [part4.1.2.1, part5.1.1, part6.1.1, part7.1.1]

theorem plainA : Plain (linesA (F := F)) :=
  (part0.2 default).plain ((part1.2 default).plain ((part2.2 default).plain ((part3.2 default).first.plain Plain.nil)))
theorem plainB : Plain (linesB (F := F)) := (part3.2 default).second.plain ((part4.2 default).first.plain Plain.nil)
theorem plainC : Plain (linesC (F := F)) :=
  (part4.2 default).second.plain ((part5.2 default).plain ((part6.2 default).plain ((part7.2 default).plain Plain.nil)))
theorem body0_plain : Plain [(body0 (F := F)).1.1] := (body0.2 default).plain Plain.nil
theorem body1_plain : Plain [(body1 (F := F)).1.1] := (body1.2 default).plain Plain.nil

section Contents

variable (m : (ℓ : Loc nD τ sig) → Buf (Elt F) ℓ)

/-- The buffers where each scan is entered and before its `k`-th trip, and at the end. -/
abbrev W0 : Dev nD → Valuation τ sig (Elt F) := entryContents linesA m
abbrev T0 : ℕ → Dev nD → Valuation τ sig (Elt F) := atTrip cond0 [body0.1.1] (W0 m)
abbrev W1 (c : Dev nD) : Valuation τ sig (Elt F) := afterL linesB (after cond0 (T0 m nT c))
abbrev T1 : ℕ → Dev nD → Valuation τ sig (Elt F) := atTrip cond1 [body1.1.1] (W1 m)
abbrev W2 (c : Dev nD) : Valuation τ sig (Elt F) := afterL linesC (after cond1 (T1 m nT c))

theorem entry0 (c : Dev nD) : W0 m c (Proc.devRef .tc main_v148_2) = fun _ => (0#32 : BitVec 32) := by
  unfold W0 entryContents
  simp only [afterL_cons, afterL_nil]
  dsimp only [part2, part3, Reads.pack, Cut.pack]
  after_results
  rfl
theorem entry1 (c : Dev nD) : W1 m c (Proc.devRef .tc main_v220_3) = fun _ => (0#32 : BitVec 32) := by
  unfold W1
  simp only [afterL_cons, afterL_nil]
  dsimp only [part3, part4, Reads.pack, Cut.pack]
  after_results
  rfl

/-- A buffer that neither the condition nor a trip writes keeps its contents through the loop. -/
theorem keep0 (c : Dev nD) (b : Ref sig .tc) (hc : b ∉ cond0_W) (hb : b ∉ (body0 (F := F)).1.2) :
    ∀ k, T0 m k c (Proc.devRef .tc b) = W0 m c (Proc.devRef .tc b)
  | 0 => rfl
  | k + 1 => by
    rw [show T0 m (k + 1) c = after body0.1.1 (after cond0 (T0 m k c)) from rfl,
      after_of_writes_sub _ _ (body0.2 c).writes hb, after_of_writes_sub _ _ cond0_writes hc]
    exact keep0 c b hc hb k
theorem step0 (X : Valuation τ sig (Elt F)) :
    after body0.1.1 X (Proc.devRef .tc main_v148_2) = addi (X (Proc.devRef .tc main_v148_2)) (constantI S_ 32 1#32) := by
  dsimp only [body0, Reads.pack]
  simp only [List.cons_append, List.nil_append]
  after_results
  first | rfl | done
theorem ctr0 (c : Dev nD) : ∀ k, T0 m k c (Proc.devRef .tc main_v148_2) = fun _ => Scf.iv 0#32 1#32 k
  | 0 => by rw [show T0 m 0 c = W0 m c from rfl, entry0, Scf.iv_zero]
  | k + 1 => by
    rw [show T0 m (k + 1) c = after body0.1.1 (after cond0 (T0 m k c)) from rfl, step0, after_of_writes_sub _ _ cond0_writes (by decide), ctr0 c k, Scf.iv_succ]
    rfl

/-- A buffer that neither the condition nor a trip writes keeps its contents through the loop. -/
theorem keep1 (c : Dev nD) (b : Ref sig .tc) (hc : b ∉ cond1_W) (hb : b ∉ (body1 (F := F)).1.2) :
    ∀ k, T1 m k c (Proc.devRef .tc b) = W1 m c (Proc.devRef .tc b)
  | 0 => rfl
  | k + 1 => by
    rw [show T1 m (k + 1) c = after body1.1.1 (after cond1 (T1 m k c)) from rfl,
      after_of_writes_sub _ _ (body1.2 c).writes hb, after_of_writes_sub _ _ cond1_writes hc]
    exact keep1 c b hc hb k
theorem step1 (X : Valuation τ sig (Elt F)) :
    after body1.1.1 X (Proc.devRef .tc main_v220_3) = addi (X (Proc.devRef .tc main_v220_3)) (constantI S_ 32 1#32) := by
  dsimp only [body1, Reads.pack]
  after_results
  first | rfl | done
theorem ctr1 (c : Dev nD) : ∀ k, T1 m k c (Proc.devRef .tc main_v220_3) = fun _ => Scf.iv 0#32 1#32 k
  | 0 => by rw [show T1 m 0 c = W1 m c from rfl, entry1, Scf.iv_zero]
  | k + 1 => by
    rw [show T1 m (k + 1) c = after body1.1.1 (after cond1 (T1 m k c)) from rfl, step1, after_of_writes_sub _ _ cond1_writes (by decide), ctr1 c k, Scf.iv_succ]
    rfl

set_option backward.isDefEq.respectTransparency.types false in
/-- The condition holds exactly below the trip count. -/
theorem cond0_spec : LoopCond (pcfgs (F := F)) defs₀ Variants.none loops Rw (main_while0_cond (F := F)) cond0 [body0.1.1] (W0 m) nT := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v148_2 HostLoop.idx0)
        (HloOp.result _ (T0 m k c) main_while0c_c_92 HostLoop.idx0) = 1#1) (k < nT)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

set_option backward.isDefEq.respectTransparency.types false in
/-- The condition holds exactly below the trip count. -/
theorem cond1_spec : LoopCond (pcfgs (F := F)) defs₀ Variants.none loops Rw (main_while1_cond (F := F)) cond1 [body1.1.1] (W1 m) nT := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v220_3 HostLoop.idx0)
        (HloOp.result _ (T1 m k c) main_while1c_c_93 HostLoop.idx0) = 1#1) (k < nT)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

end Contents

/-! ## The run -/

section Run

variable (m : (ℓ : Loc nD τ sig) → Buf (Elt F) ℓ)

abbrev adm : (p : Fin 0) → (pcfgs (F := F) p).Adm := fun p => p.elim0
abbrev lvls : GSem nD τ sig → Finset Unit := fun _ => ∅
abbrev lv : GSem nD τ sig → Unit → ℕ := fun _ _ => 0
abbrev tk : Fin 0 → Ticket (Ix := Unit) (Name := ℕ) (U := Option PUnit) (Lvl := ℕ) (nD := nD) (τ := τ) (pcfgs (F := F)) adm := fun j => j.elim0

/-- @main's segments. -/
def segs : List (CSeg (pcfgs (F := F)) adm defs₀ Variants.none lvls lv loops tk) :=
  segsOf _ _ _ _ _ _ _ _ Rw linesA plainA (launchContents m)
    ++ loopSeg _ _ _ _ _ _ _ _ 0 main_while0_cond main_while0_body rfl cond0 [body0.1.1] body0_plain body0_chain nT (W0 m) Rw (cond0_spec m)
    :: (segsOf _ _ _ _ _ _ _ _ Rw linesB plainB (fun c => after cond0 (T0 m nT c))
      ++ loopSeg _ _ _ _ _ _ _ _ 1 main_while1_cond main_while1_body rfl cond1 [body1.1.1] body1_plain body1_chain nT (W1 m) Rw (cond1_spec m)
      :: segsOf _ _ _ _ _ _ _ _ Rw linesC plainC (fun c => after cond1 (T1 m nT c)))

theorem segs_prog (c : Dev nD) : main (F := F) c = Pipeline.chain ((segs m).map CSeg.prog) := by
  unfold segs
  rw [List.map_append, List.map_cons, List.map_append, List.map_cons, segsOf_prog, segsOf_prog, segsOf_prog]
  show (main (F := F) c : HP F) = (seq part0.1.1 >>= fun _ => seq part1.1.1 >>= fun _ => seq part2.1.1 >>= fun _ => seq part3.1.1.1 >>= fun _ => HostLoop.enter 0
    >>= fun _ => seq part3.1.2.1 >>= fun _ => seq part4.1.1.1 >>= fun _ => HostLoop.enter 1
    >>= fun _ => seq part4.1.2.1 >>= fun _ => seq part5.1.1 >>= fun _ => seq part6.1.1 >>= fun _ => seq part7.1.1 >>= fun _ => pure ⟨⟩)
  unfold main
  rw [(part0.2 c).eq, (part1.2 c).eq, (part2.2 c).eq, (part3.2 c).eq, (part4.2 c).eq, (part5.2 c).eq, (part6.2 c).eq, (part7.2 c).eq]
  simp only [bind_assoc, bind_pure_comp_unit]

theorem segs_chains : CSeg.Chains (fun c => iprop(held (c : Thread nD τ) (ucRefs τ sig) (launchContents m c) ∗ Rw c)) (segs m)
    (fun c => iprop(held (c : Thread nD τ) (ucRefs τ sig) (W2 m c) ∗ Rw c)) :=
  CSeg.Chains.append (segsOf_chains _ _ _ _ _ _ _ _ Rw linesA plainA (launchContents m))
    ⟨fun _ => .rfl, CSeg.Chains.append (segsOf_chains _ _ _ _ _ _ _ _ Rw linesB plainB (fun c => after cond0 (T0 m nT c)))
      ⟨fun _ => .rfl, segsOf_chains _ _ _ _ _ _ _ _ Rw linesC plainC (fun c => after cond1 (T1 m nT c))⟩⟩

theorem run (ρ : Dev nD → PrngReg) : θ_run (defs (F := F)) (onTc (τ := τ) main) ⟨m, fun _ => 0, ρ⟩
    (fun r => ∀ (c : Dev nD) (b : Ref sig .tc), (Proc.devRef .tc b : DevRef τ sig).isScoped = false →
          r.2.mem ((c : Thread nD τ).loc b) = W2 m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none lvls lv loops tk m ρ main (segs m)
    (fun c Q => by
      rw [segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      iapply (show (BI.emp : sProp 𝕄R) ⊢ bigSep Finset.univ (fun _ : Dev nD => (BI.emp : sProp 𝕄R)) from by rw [BI.bigSep_emp_const])
      iempintro)
    (T₀ := fun c => iprop(held (c : Thread nD τ) (ucRefs τ sig) (launchContents m c) ∗ Rw c))
    (Tₙ := fun c => iprop(held (c : Thread nD τ) (ucRefs τ sig) (W2 m c)))
    (hch := segs_chains m)
    (hinit := by
      refine Pipeline.initEach lvls lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W2 m c b)
    (hfin := fun c s' => by
      unfold held
      iintro ⟨Hh, HSI⟩
      ihave Hr := (pointsTo_read_all (ucRefs τ sig) (fun b => ((c : Dev nD), b)) (fun b => W2 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Run

/-- A buffer no line and no scan writes ends as launched. -/
theorem end_keep (m : (ℓ : Loc nD τ sig) → Buf (Elt F) ℓ) (c : Dev nD) (b : Ref sig .tc)
    (hb : b ∉ (part0 (F := F)).1.2 ++ (part1 (F := F)).1.2 ++ (part2 (F := F)).1.2 ++ (part3 (F := F)).1.1.2 ++ cond0_W ++ (body0 (F := F)).1.2 ++ (part3 (F := F)).1.2.2 ++ (part4 (F := F)).1.1.2
      ++ cond1_W ++ (body1 (F := F)).1.2 ++ (part4 (F := F)).1.2.2 ++ (part5 (F := F)).1.2 ++ (part6 (F := F)).1.2 ++ (part7 (F := F)).1.2) :
    W2 m c (Proc.devRef .tc b) = m ((c : Thread nD τ).loc b) := by
  simp only [List.mem_append, not_or] at hb
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := hb
  unfold W2
  simp only [afterL_cons, afterL_nil]
  rw [after_of_writes_sub _ _ (part7.2 c).writes h13, after_of_writes_sub _ _ (part6.2 c).writes h12, after_of_writes_sub _ _ (part5.2 c).writes h11,
    after_of_writes_sub _ _ (part4.2 c).second.writes h10, after_of_writes_sub _ _ cond1_writes h8, keep1 m c b h8 h9]
  unfold W1
  simp only [afterL_cons, afterL_nil]
  rw [after_of_writes_sub _ _ (part4.2 c).first.writes h7, after_of_writes_sub _ _ (part3.2 c).second.writes h6, after_of_writes_sub _ _ cond0_writes h4, keep0 m c b h4 h5]
  unfold W0 entryContents
  simp only [afterL_cons, afterL_nil]
  rw [after_of_writes_sub _ _ (part3.2 c).first.writes h3, after_of_writes_sub _ _ (part2.2 c).writes h2, after_of_writes_sub _ _ (part1.2 c).writes h1, after_of_writes_sub _ _ (part0.2 c).writes h0]

set_option maxHeartbeats 4000000 in
theorem frame_of (m : (ℓ : Loc nD τ sig) → Buf (Elt F) ℓ) (ρ : Dev nD → PrngReg) :
    θ_run (Cert.MixerRefIdeal.defs (F := F)) (onTc (τ := Cert.MixerRefIdeal.τ) (Cert.MixerRefIdeal.main (F := F))) ⟨m, fun _ => 0, ρ⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0) :=
  (θ_run _ _ _).mono (fun r h => ⟨fun c => by
    refine ⟨?_, ?_, ?_, ?_, ?_, ?_, ?_, ?_, ?_, ?_⟩ <;> exact (h c _ rfl).trans (end_keep m c _ (by dsimp only [part0, part1, part2, part3, part4, part5, part6, part7, body0, body1, Reads.pack, Cut.pack]; decide)), sem_eq_zero_of_no_sems (by decide) r.2⟩)
    (run m ρ)

end Cert.MixerRefIdeal.Hand

end
-- ==== Proof.FfnBlocks.lean ====
/- What one grid step of the feed-forward block's backward kernel leaves in its six output blocks, as families over its groups of 16 rows: four parts of the hidden columns with 16 groups each, then the normalization's 16 groups. -/
module
public import proofs.«01_k».proof.Proof.Gen.FfnBwdIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnBwdIdeal.Blocks
open Cert.FfnBwdIdeal Cert.FfnBwdIdeal.Gen
variable {F : FTy → Type} [FloatOps F]

/-- Group `n` of 64 is part `n / 16` of the hidden columns and the rows from `16 (n % 16)`; `h` is gate or up. -/
def actRect (n : ℕ) : Rect S4x256x704 :=
  Rect.unit ![n / 16 % 4, 16 * (n % 16), 0] S1x16x704.size (by
    intro a
    match a with
    | ⟨0, _⟩ => show n / 16 % 4 + 1 ≤ 4; omega
    | ⟨1, _⟩ => show 16 * (n % 16) + 16 ≤ 256; omega
    | ⟨2, _⟩ => exact Nat.le_refl 704)

def guRect (h n : ℕ) : Rect S2x4x256x704 :=
  Rect.unit ![h % 2, n / 16 % 4, 16 * (n % 16), 0] S1x1x16x704.size (by
    intro a
    match a with
    | ⟨0, _⟩ => show h % 2 + 1 ≤ 2; omega
    | ⟨1, _⟩ => show n / 16 % 4 + 1 ≤ 4; omega
    | ⟨2, _⟩ => show 16 * (n % 16) + 16 ≤ 256; omega
    | ⟨3, _⟩ => exact Nat.le_refl 704)

/-- The two planes that hold the gradient of the products in turn, and a plane's 16 rows of group `n`. -/
def planeRect (j : ℕ) : Rect S2x256x704 :=
  Rect.unit ![j % 2, 0, 0] S1x256x704.size (by
    intro a
    match a with
    | ⟨0, _⟩ => show j % 2 + 1 ≤ 2; omega
    | ⟨1, _⟩ => exact Nat.le_refl 256
    | ⟨2, _⟩ => exact Nat.le_refl 704)

def dactRect (n : ℕ) : Rect S2x256x704 :=
  Rect.unit ![n / 16 % 2, 16 * (n % 16), 0] S1x16x704.size (by
    intro a
    match a with
    | ⟨0, _⟩ => show n / 16 % 2 + 1 ≤ 2; omega
    | ⟨1, _⟩ => show 16 * (n % 16) + 16 ≤ 256; omega
    | ⟨2, _⟩ => exact Nat.le_refl 704)

/-- Part `j` of the down projection's rows, of the block of gradients, and of the weights. -/
def downRect (j : ℕ) : Rect S2816x1024 :=
  Rect.unit ![704 * (j % 4), 0] S704x1024.size (Fin.forall_fin_two.mpr ⟨by
    show 704 * (j % 4) + 704 ≤ 2816
    omega, Nat.le_refl 1024⟩)

def partRect (h j : ℕ) : Rect S2x4x256x704 :=
  Rect.unit ![h % 2, j % 4, 0, 0] S1x1x256x704.size (by
    intro a
    match a with
    | ⟨0, _⟩ => show h % 2 + 1 ≤ 2; omega
    | ⟨1, _⟩ => show j % 4 + 1 ≤ 4; omega
    | ⟨2, _⟩ => exact Nat.le_refl 256
    | ⟨3, _⟩ => exact Nat.le_refl 704)

def weightRect (h j : ℕ) : Rect S2x4x704x1024 :=
  Rect.unit ![h % 2, j % 4, 0, 0] S1x1x704x1024.size (by
    intro a
    match a with
    | ⟨0, _⟩ => show h % 2 + 1 ≤ 2; omega
    | ⟨1, _⟩ => show j % 4 + 1 ≤ 4; omega
    | ⟨2, _⟩ => exact Nat.le_refl 704
    | ⟨3, _⟩ => exact Nat.le_refl 1024)

/-- The 16 rows of the normalization's group `n`. -/
def rws (n : ℕ) : Rect S256x1024 :=
  Rect.unit ![16 * (n % 16), 0] S16x1024.size (Fin.forall_fin_two.mpr ⟨by
    show 16 * (n % 16) + 16 ≤ 256
    omega, Nat.le_refl 1024⟩)

/-- A block's rows of group `n`. -/
def grp (X : Vec F S256x1024 .f32) (n : ℕ) : Vec F S16x1024 .f32 := View.ld X (rws n)

/-- The two halves of a block's rows. -/
def half (b : ℕ) : Rect S256x1024 :=
  Rect.unit ![128 * (b % 2), 0] S128x1024.size (Fin.forall_fin_two.mpr ⟨by
    show 128 * (b % 2) + 128 ≤ 256
    omega, Nat.le_refl 1024⟩)

/-- Row `k` of the packed modulation or of the sums' block. -/
def row8 (k : ℕ) (hk : k < 8) : Rect S8x1024 :=
  Rect.unit ![k, 0] S1x1024.size (Fin.forall_fin_two.mpr ⟨hk, Nat.le_refl 1024⟩)

def mdRow (X3 : Vec F S8x1024 .f32) (k : ℕ) (hk : k < 8) : Vec F S1x1024 .f32 := View.ld X3 (row8 k hk)

section
variable (v : View sig .tc .vmem S2x4x256x704 .bf16)
variable (X0 : Vec F S256x1024 .f32) (X1 : Vec F S2x4x256x704 .bf16) (X2 : Vec F S256x1024 .f32) (X3 : Vec F S8x1024 .f32)
  (X4 : Vec F S1x1024 .f32) (X5 : Vec F S2x4x704x1024 .bf16) (X6 : Vec F S2816x1024 .bf16) (X7 : Vec F S1024x1024 .bf16)

def actPieces : ℕ → List (View.Piece (Elt F) S4x256x704 .bf16)
  | 0 => []
  | n + 1 => ⟨actRect n, k0_pay12 (k0_pay8 (View.ld X1 (guRect 0 n))) (View.ld X1 (guRect 1 n))⟩ :: actPieces n

/-- The stores of the first `n` parts of the gradient of the products, last first. -/
def dactPieces : ℕ → List (View.Piece (Elt F) S2x256x704 .f32)
  | 0 => []
  | n + 1 => ⟨planeRect n, k0_pay151 (k0_pay4 X0 (mdRow X3 5 (by decide))) (View.ld X6 (downRect n))⟩ :: dactPieces n

/-- Its 16 rows of group `n` as the kernel loads them back: the next part is stored already. -/
def dact (n : ℕ) : Vec F S1x16x704 .f32 :=
  (View.whole cc0_scratch2).readCov (dactPieces X0 X3 X6 (min (n / 16 + 2) 4)) (dactRect n).toLoadRect

/-- The stores of the first `n` groups' two gradients. -/
def guPieces : ℕ → List (View.Piece (Elt F) S2x4x256x704 .bf16)
  | 0 => []
  | n + 1 => ⟨guRect 1 n, k0_pay14 (k0_pay7 (dact X0 X3 X6 n)) (k0_pay8 (View.ld X1 (guRect 0 n)))⟩
      :: ⟨guRect 0 n, k0_pay13 (k0_pay7 (dact X0 X3 X6 n)) (k0_pay8 (View.ld X1 (guRect 0 n))) (View.ld X1 (guRect 1 n))⟩
      :: guPieces n

def part (h j : ℕ) : Vec F S1x1x256x704 .bf16 :=
  v.readCov (guPieces X0 X1 X3 X6 (16 * (j + 1))) (partRect h j).toLoadRect

/-- The product's running sum over the parts. -/
def acc : ℕ → FVec F S256x1024 .f32
  | 0 => k0_pay150 (k0_pay149 (part v X0 X1 X3 X6 0 0)) (View.ld X5 (weightRect 0 0)) (part v X0 X1 X3 X6 1 0) (View.ld X5 (weightRect 1 0))
  | j + 1 => k0_pay296 (k0_pay294 (part v X0 X1 X3 X6 0 (j + 1))) (k0_pay295 (View.ld X5 (weightRect 0 (j + 1))))
      (part v X0 X1 X3 X6 1 (j + 1)) (View.ld X5 (weightRect 1 (j + 1))) (acc j)

def accPieces : ℕ → List (View.Piece (Elt F) S256x1024 .f32)
  | 0 => []
  | n + 1 => ⟨Rect.unit ![0, 0] S256x1024.size inb_S256x1024_S256x1024_0_0, acc v X0 X1 X3 X5 X6 n⟩ :: accPieces n

/-- The product's rows of group `n` as the kernel loads them back. -/
def dh (n : ℕ) : Vec F S16x1024 .f32 :=
  (View.whole cc0_scratch0).readCov (accPieces v X0 X1 X3 X5 X6 4) (rws n).toLoadRect

/-- The normalization's gradient with the residual's at group `n`, from the product's rows `d`. -/
def dx1 (d : Vec F S16x1024 .f32) (n : ℕ) : FVec F S16x1024 .f32 :=
  k0_pay597 (k0_pay591 (grp X2 n)) (k0_pay592 (grp X2 n)) (k0_pay594 (mdRow X3 4 (by decide)) X4 d)
    (k0_pay595 (grp X0 n)) (k0_pay596 (mdRow X3 4 (by decide)) X4 d (grp X2 n))

def dx1Pieces : ℕ → List (View.Piece (Elt F) S256x1024 .f32)
  | 0 => []
  | n + 1 => ⟨rws n, dx1 X0 X2 X3 X4 (dh v X0 X1 X3 X5 X6 n) n⟩ :: dx1Pieces n

def dx1bPieces : ℕ → List (View.Piece (Elt F) S256x1024 .bf16)
  | 0 => []
  | n + 1 => ⟨rws n, k0_pay598 (k0_pay591 (grp X2 n)) (k0_pay592 (grp X2 n))
      (k0_pay594 (mdRow X3 4 (by decide)) X4 (dh v X0 X1 X3 X5 X6 n)) (k0_pay595 (grp X0 n))
      (k0_pay596 (mdRow X3 4 (by decide)) X4 (dh v X0 X1 X3 X5 X6 n) (grp X2 n))⟩ :: dx1bPieces n

def dmoPieces : ℕ → List (View.Piece (Elt F) S256x1024 .bf16)
  | 0 => []
  | n + 1 => ⟨rws n, k0_pay599 (k0_pay587 (mdRow X3 2 (by decide))) (k0_pay591 (grp X2 n)) (k0_pay592 (grp X2 n))
      (k0_pay594 (mdRow X3 4 (by decide)) X4 (dh v X0 X1 X3 X5 X6 n)) (k0_pay595 (grp X0 n))
      (k0_pay596 (mdRow X3 4 (by decide)) X4 (dh v X0 X1 X3 X5 X6 n) (grp X2 n))⟩ :: dmoPieces n

/-- The two halves of the gradient that reaches the merged values. -/
def dmgPieces : ℕ → List (View.Piece (Elt F) S256x1024 .bf16)
  | 0 => []
  | n + 1 => ⟨half n, k0_pay680 ((View.whole cc0_scratch1).readCov (dmoPieces v X0 X1 X2 X3 X4 X5 X6 (8 * (n + 1))) (half n).toLoadRect) X7⟩
      :: dmgPieces n

def sumSh : ℕ → FVec F S8x1024 .f32
  | 0 => k0_pay588
  | n + 1 => k0_pay600 (sumSh n) (dh v X0 X1 X3 X5 X6 n)

def sumSc : ℕ → FVec F S8x1024 .f32
  | 0 => k0_pay588
  | n + 1 => k0_pay601 (sumSc n) X4 (dh v X0 X1 X3 X5 X6 n) (k0_pay592 (grp X2 n))

def sumG : ℕ → FVec F S8x1024 .f32
  | 0 => k0_pay588
  | n + 1 => k0_pay602 (sumG n) (k0_pay592 (grp X2 n)) (k0_pay593 (mdRow X3 4 (by decide)) (dh v X0 X1 X3 X5 X6 n))
end

/-- One row of the sums' block added to: the row is loaded, the eight partial sums are summed and the row is stored. -/
def addRow (v : View sig .tc .vmem S8x1024 .f32) (k : ℕ) (hk : k < 8) (S : FVec F S8x1024 .f32)
    (L : List (View.Piece (Elt F) S8x1024 .f32)) : List (View.Piece (Elt F) S8x1024 .f32) :=
  ⟨row8 k hk, k0_pay1 S (v.readCov L (row8 k hk).toLoadRect)⟩ :: L

/-- The same for a block that held `X`. -/
def addRow' (X : Vec F S8x1024 .f32) (k : ℕ) (hk : k < 8) (S : FVec F S8x1024 .f32)
    (L : List (View.Piece (Elt F) S8x1024 .f32)) : List (View.Piece (Elt F) S8x1024 .f32) :=
  ⟨row8 k hk, k0_pay1 S (View.ld X (row8 k hk))⟩ :: L

variable (m : (ℓ : Loc nD τ sig) → Buf (Elt F) ℓ)

set_option maxHeartbeats 8000000 in
theorem out9 (c : Dev nD) (t : Fin cfg0.N) :
    (outsAt0 m c t.val t.isLt).2.1 = View.canon (actPieces (iblk m c 1 t) 64) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out8 (c : Dev nD) (t : Fin cfg0.N) :
    (outsAt0 m c t.val t.isLt).1 = View.canon (guPieces (iblk m c 0 t) (iblk m c 1 t) (iblk m c 3 t) (iblk m c 6 t) 64) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out10 (c : Dev nD) (t : Fin cfg0.N) :
    (outsAt0 m c t.val t.isLt).2.2.1 = View.canon (dx1Pieces (ms0_8 t).view (iblk m c 0 t) (iblk m c 1 t) (iblk m c 2 t)
      (iblk m c 3 t) (iblk m c 4 t) (iblk m c 5 t) (iblk m c 6 t) 16) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out11 (c : Dev nD) (t : Fin cfg0.N) :
    (outsAt0 m c t.val t.isLt).2.2.2.1 = View.canon (dx1bPieces (ms0_8 t).view (iblk m c 0 t) (iblk m c 1 t) (iblk m c 2 t)
      (iblk m c 3 t) (iblk m c 4 t) (iblk m c 5 t) (iblk m c 6 t) 16) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out12 (c : Dev nD) (t : Fin cfg0.N) :
    (outsAt0 m c t.val t.isLt).2.2.2.2.1 = View.canon (dmgPieces (ms0_8 t).view (iblk m c 0 t) (iblk m c 1 t) (iblk m c 2 t)
      (iblk m c 3 t) (iblk m c 4 t) (iblk m c 5 t) (iblk m c 6 t) (iblk m c 7 t) 2) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out13_A (c : Dev nD) (t : Fin cfg0.N) (h : t.val % 32 = 0) :
    (outsAt0 m c t.val t.isLt).2.2.2.2.2 = View.canon
      (addRow (ms0_13 t).view 2 (by decide) (sumG (ms0_8 t).view (iblk m c 0 t) (iblk m c 1 t) (iblk m c 2 t) (iblk m c 3 t) (iblk m c 5 t) (iblk m c 6 t) 16)
      (addRow (ms0_13 t).view 1 (by decide) (sumSc (ms0_8 t).view (iblk m c 0 t) (iblk m c 1 t) (iblk m c 2 t) (iblk m c 3 t) (iblk m c 4 t) (iblk m c 5 t) (iblk m c 6 t) 16)
      (addRow (ms0_13 t).view 0 (by decide) (sumSh (ms0_8 t).view (iblk m c 0 t) (iblk m c 1 t) (iblk m c 3 t) (iblk m c 5 t) (iblk m c 6 t) 16)
        [⟨Rect.unit ![0, 0] S8x1024.size inb_S8x1024_S8x1024_0_0, k0_pay3⟩]))) := by
  rw [outsAt0_A m c t h]
  frame_out
  refine congrArg View.canon ?_
  sl_kernel_rfl

set_option maxHeartbeats 8000000 in
theorem out13_B (c : Dev nD) (t : Fin cfg0.N) (h : ¬ t.val % 32 = 0) :
    ∃ (v : View sig .tc .vmem S8x1024 .f32) (f : v.ty.Contents (Elt F)),
      v.read (Elt F) f = (outsAt0 m c (t.val - 1) (by omega)).2.2.2.2.2 ∧
      (outsAt0 m c t.val t.isLt).2.2.2.2.2 = v.read (Elt F) (v.writes (Elt F) f
      (addRow' (outsAt0 m c (t.val - 1) (by omega)).2.2.2.2.2 2 (by decide) (sumG (ms0_8 t).view (iblk m c 0 t) (iblk m c 1 t) (iblk m c 2 t) (iblk m c 3 t) (iblk m c 5 t) (iblk m c 6 t) 16)
      (addRow' (outsAt0 m c (t.val - 1) (by omega)).2.2.2.2.2 1 (by decide) (sumSc (ms0_8 t).view (iblk m c 0 t) (iblk m c 1 t) (iblk m c 2 t) (iblk m c 3 t) (iblk m c 4 t) (iblk m c 5 t) (iblk m c 6 t) 16)
      (addRow' (outsAt0 m c (t.val - 1) (by omega)).2.2.2.2.2 0 (by decide) (sumSh (ms0_8 t).view (iblk m c 0 t) (iblk m c 1 t) (iblk m c 3 t) (iblk m c 5 t) (iblk m c 6 t) 16) [])))) := by
  refine ⟨(ms0_13 t).view, (hs0_13 t).unread (outsAt0 m c (t.val - 1) (by omega)).2.2.2.2.2, (hs0_13 t).read_unread _, ?_⟩
  rw [outsAt0_B m c t h]
  frame_out
  refine congrArg (fun L => View.read (Elt F) (ms0_13 t).view ((ms0_13 t).view.writes (Elt F) _ L)) ?_
  sl_kernel_rfl
end Cert.FfnBwdIdeal.Blocks
-- ==== Proof.FfnMath.lean ====
/- The second half of the layer, and the gradient through it, as sums and products over the extended reals. -/
module
public import proofs.«01_k».proof.Proof.NormMath
public import proofs.«01_k».proof.Proof.Finite
public import Idealize.ShloMosaic.Lib.Pointwise
@[expose] public section
noncomputable section
open Idealize.ShloMosaic
namespace Cert.Ffn
open Cert.Norm Cert.Finite

/-- The logistic function. -/
def sg (v : EReal) : EReal := Ideal.div 1 (1 + Ideal.exp (-v))

def silu (v : EReal) : EReal := v * sg v

/-- The derivative of `silu`. -/
def dsilu (v : EReal) : EReal := sg v * (1 + v * (1 - sg v))

/-- The arguments: the merged branches, the layer's input, the modulation, the norm's gain, the three weights and the cotangent. -/
structure Args where
  (mg x ct : Fin 8192 → Fin 1024 → EReal)
  (md : Fin 6144 → EReal)
  (g : Fin 1024 → EReal)
  (wo : Fin 1024 → Fin 1024 → EReal)
  (wgu : Fin 1024 → Fin 5632 → EReal)
  (wd : Fin 2816 → Fin 1024 → EReal)

/-- The arguments read off their arrays. -/
def args (mg x : (⟨3, ![1, 8192, 1024]⟩ : Shape).Idx → EReal) (md : (⟨2, ![1, 6144]⟩ : Shape).Idx → EReal)
    (g : (⟨2, ![1, 1024]⟩ : Shape).Idx → EReal) (wo : (⟨3, ![1, 1024, 1024]⟩ : Shape).Idx → EReal)
    (wgu : (⟨3, ![1, 1024, 5632]⟩ : Shape).Idx → EReal) (wd : (⟨3, ![1, 2816, 1024]⟩ : Shape).Idx → EReal)
    (ct : (⟨3, ![1, 8192, 1024]⟩ : Shape).Idx → EReal) : Args where
  mg i k := mg (ix3 (0 : Fin 1) i k)
  x i k := x (ix3 (0 : Fin 1) i k)
  ct i k := ct (ix3 (0 : Fin 1) i k)
  md k := md (ix2 (0 : Fin 1) k)
  g k := g (ix2 (0 : Fin 1) k)
  wo i k := wo (ix3 (0 : Fin 1) i k)
  wgu i k := wgu (ix3 (0 : Fin 1) i k)
  wd i k := wd (ix3 (0 : Fin 1) i k)

namespace Args
variable (A : Args)

/-- Row `c` of the modulation. -/
def mrow (c : Fin 6) (k : Fin 1024) : EReal := A.md ⟨1024 * c.val + k.val, by omega⟩

/-- The first gated residual. -/
def x1 (i : Fin 8192) (k : Fin 1024) : EReal := A.x i k + A.mrow 2 k * ∑ o, A.mg i o * A.wo o k

/-- The second modulated norm. -/
def h (i : Fin 8192) (k : Fin 1024) : EReal := A.x1 i k * rms (A.x1 i) * A.g k * (1 + A.mrow 4 k) + A.mrow 3 k

/-- The two halves of the product with the weights. -/
def gu (i : Fin 8192) (o : Fin 5632) : EReal := ∑ k, A.h i k * A.wgu k o
def gate (i : Fin 8192) (f : Fin 2816) : EReal := A.gu i ⟨f.val, by omega⟩
def up (i : Fin 8192) (f : Fin 2816) : EReal := A.gu i ⟨2816 + f.val, by omega⟩

def act (i : Fin 8192) (f : Fin 2816) : EReal := silu (A.gate i f) * A.up i f

/-- The gradient that reaches `act`, and the gradients that reach the two halves. -/
def dact (i : Fin 8192) (f : Fin 2816) : EReal := ∑ k, A.ct i k * A.mrow 5 k * A.wd f k
def dgate (i : Fin 8192) (f : Fin 2816) : EReal := A.dact i f * A.up i f * dsilu (A.gate i f)
def dup (i : Fin 8192) (f : Fin 2816) : EReal := A.dact i f * silu (A.gate i f)

/-- The gradient that reaches the modulated norm. -/
def dh (i : Fin 8192) (k : Fin 1024) : EReal :=
  ∑ f : Fin 2816, A.dgate i f * A.wgu k ⟨f.val, by omega⟩ + ∑ f : Fin 2816, A.dup i f * A.wgu k ⟨2816 + f.val, by omega⟩

def dn (i : Fin 8192) (k : Fin 1024) : EReal := A.dh i k * (1 + A.mrow 4 k) * A.g k

/-- The gradient that reaches the first gated residual, and from there the merged branches. -/
def dx1 (i : Fin 8192) (j : Fin 1024) : EReal := A.ct i j + rowGrad (A.x1 i) (A.dn i) j
def dmg (i : Fin 8192) (k : Fin 1024) : EReal := ∑ o, A.dx1 i o * A.mrow 2 o * A.wo k o

def sumSh (j : Fin 1024) : EReal := ∑ i, A.dh i j
def sumSc (j : Fin 1024) : EReal := ∑ i, A.dh i j * (A.x1 i j * rms (A.x1 i) * A.g j)
def sumG (j : Fin 1024) : EReal := ∑ i, A.dh i j * (1 + A.mrow 4 j) * (A.x1 i j * rms (A.x1 i))

/-- The block of sums: three rows of gradients, and rows of zeros. -/
def sums (i : Fin 8) (j : Fin 1024) : EReal :=
  (if i.val = 0 then A.sumSh j else 0) + (if i.val = 1 then A.sumSc j else 0) + (if i.val = 2 then A.sumG j else 0)

/-- Every argument is real at every index. -/
structure Real : Prop where
  mg : ∀ i k, ∃ r : ℝ, A.mg i k = r
  x : ∀ i k, ∃ r : ℝ, A.x i k = r
  ct : ∀ i k, ∃ r : ℝ, A.ct i k = r
  md : ∀ k, ∃ r : ℝ, A.md k = r
  g : ∀ k, ∃ r : ℝ, A.g k = r
  wo : ∀ i k, ∃ r : ℝ, A.wo i k = r
  wgu : ∀ i k, ∃ r : ℝ, A.wgu i k = r
  wd : ∀ i k, ∃ r : ℝ, A.wd i k = r
end Args

theorem sg_real (r : ℝ) : sg (r : EReal) = ((1 / (1 + Real.exp (-r)) : ℝ) : EReal) := by
  have h : (1 + Real.exp (-r)) ≠ 0 := by positivity
  unfold sg
  rw [show Ideal.exp (-(r : EReal)) = ((Real.exp (-r) : ℝ) : EReal) from rfl,
    show (1 : EReal) = ((1 : ℝ) : EReal) from rfl, ← EReal.coe_add, div_real _ _ h]

theorem real_sg {v : EReal} (h : ∃ r : ℝ, v = r) : ∃ r : ℝ, sg v = r := by
  obtain ⟨r, rfl⟩ := h
  exact ⟨_, sg_real r⟩

theorem real_sub {a b : EReal} (ha : ∃ r : ℝ, a = r) (hb : ∃ r : ℝ, b = r) : ∃ r : ℝ, a - b = r := by
  obtain ⟨r, rfl⟩ := ha
  obtain ⟨q, rfl⟩ := hb
  exact ⟨r - q, (EReal.coe_sub r q).symm⟩

theorem real_dsilu {v : EReal} (h : ∃ r : ℝ, v = r) : ∃ r : ℝ, dsilu v = r :=
  real_mul (real_sg h) (real_add ⟨1, rfl⟩ (real_mul h (real_sub ⟨1, rfl⟩ (real_sg h))))

theorem real_rms (x : Fin 1024 → EReal) (h : ∀ k, ∃ r : ℝ, x k = r) : ∃ r : ℝ, rms x = r := by
  obtain ⟨x', rfl⟩ := real_of_finite x h
  exact ⟨_, rms_real x'⟩

/-- The derivative of `silu` applied to a gradient, written with the derivative of the logistic function. -/
theorem dsilu_eq (d v : EReal) (hd : ∃ r : ℝ, d = r) (hv : ∃ r : ℝ, v = r) :
    d * sg v + v * d * (sg v * (1 - sg v)) = d * dsilu v := by
  obtain ⟨q, rfl⟩ := hd
  obtain ⟨s, hs⟩ := real_sg hv
  obtain ⟨r, rfl⟩ := hv
  unfold dsilu
  rw [hs, show (1 : EReal) = ((1 : ℝ) : EReal) from rfl]
  simp only [← EReal.coe_mul, ← EReal.coe_sub, ← EReal.coe_add]
  refine congrArg _ ?_
  ring

namespace Args.Real
variable {A : Args} (R : A.Real)
include R

theorem mrow (c : Fin 6) (k : Fin 1024) : ∃ r : ℝ, A.mrow c k = r := R.md _
theorem x1 (i : Fin 8192) (k : Fin 1024) : ∃ r : ℝ, A.x1 i k = r :=
  real_add (R.x i k) (real_mul (R.mrow 2 k) (real_sum _ _ fun o => real_mul (R.mg i o) (R.wo o k)))
theorem h (i : Fin 8192) (k : Fin 1024) : ∃ r : ℝ, A.h i k = r :=
  real_add (real_mul (real_mul (real_mul (R.x1 i k) (real_rms _ (R.x1 i))) (R.g k)) (real_add ⟨1, rfl⟩ (R.mrow 4 k))) (R.mrow 3 k)
theorem gu (i : Fin 8192) (o : Fin 5632) : ∃ r : ℝ, A.gu i o = r := real_sum _ _ fun k => real_mul (R.h i k) (R.wgu k o)
theorem dact (i : Fin 8192) (f : Fin 2816) : ∃ r : ℝ, A.dact i f = r :=
  real_sum _ _ fun k => real_mul (real_mul (R.ct i k) (R.mrow 5 k)) (R.wd f k)
theorem dgate (i : Fin 8192) (f : Fin 2816) : ∃ r : ℝ, A.dgate i f = r :=
  real_mul (real_mul (R.dact i f) (R.gu i _)) (real_dsilu (R.gu i _))
theorem dup (i : Fin 8192) (f : Fin 2816) : ∃ r : ℝ, A.dup i f = r :=
  real_mul (R.dact i f) (real_mul (R.gu i _) (real_sg (R.gu i _)))
theorem dh (i : Fin 8192) (k : Fin 1024) : ∃ r : ℝ, A.dh i k = r :=
  real_add (real_sum _ _ fun f => real_mul (R.dgate i f) (R.wgu k _)) (real_sum _ _ fun f => real_mul (R.dup i f) (R.wgu k _))
theorem dn (i : Fin 8192) (k : Fin 1024) : ∃ r : ℝ, A.dn i k = r :=
  real_mul (real_mul (R.dh i k) (real_add ⟨1, rfl⟩ (R.mrow 4 k))) (R.g k)
/-- The gradient of the residual as the derivative of the norm's formula gives it. -/
theorem dx1_eq (i : Fin 8192) (j : Fin 1024) :
    A.dx1 i j = A.ct i j + A.dn i j * rms (A.x1 i) + A.x1 i j * msGrad (A.x1 i) (A.dn i) + msGrad (A.x1 i) (A.dn i) * A.x1 i j :=
  add_rowGrad _ _ (R.x1 i) (R.dn i) _ j
end Args.Real

/-- The five thousand six hundred and thirty-two terms of a product are those of its two halves. -/
theorem sum_halves (f : Fin 5632 → EReal) :
    ∑ o, f o = ∑ p : Fin 2816, f ⟨p.val, by omega⟩ + ∑ p : Fin 2816, f ⟨2816 + p.val, by omega⟩ :=
  Fin.sum_univ_add (a := 2816) (b := 2816) f

end Cert.Ffn
-- ==== Proof.FfnBlockValues.lean ====
/- The output blocks of one grid step of the feed-forward block's backward kernel read at an index, over the extended reals. -/
module
public import proofs.«01_k».proof.Proof.FfnBlocks
public import proofs.«01_k».proof.Proof.FfnMath
public import proofs.«01_k».proof.Proof.Rows
public import proofs.«01_k».proof.Proof.NormMath
public import Idealize.ShloMosaic.Lib.WritesUnit
@[expose] public section
set_option maxRecDepth 16384
noncomputable section
open Idealize.ShloMosaic Idealize.ShloMosaic.TcCoe Idealize.SL.Sem
namespace Cert.FfnBwdIdeal.Blocks
open Cert.FfnBwdIdeal Cert.FfnBwdIdeal.Gen Cert.Rows Cert.Norm Cert.Ffn

theorem pay12 (G U : Vec Ideal S1x1x16x704 .bf16) (p : Fin 16) (f : Fin 704) :
    k0_pay12 (k0_pay8 G) U (ix3 (0 : Fin 1) p f)
      = silu (G (ix4 (0 : Fin 1) (0 : Fin 1) p f)) * (U (ix4 (0 : Fin 1) (0 : Fin 1) p f) : EReal) := by
  pointwise [k0_pay12, k0_pay11, k0_pay10, k0_pay9, k0_pay8]
  simp only [zero_sub]
  rfl

theorem pay13 (D : Vec Ideal S1x16x704 .f32) (G U : Vec Ideal S1x1x16x704 .bf16) (p : Fin 16) (f : Fin 704) :
    k0_pay13 (k0_pay7 D) (k0_pay8 G) U (ix4 (0 : Fin 1) (0 : Fin 1) p f)
      = (D (ix3 (0 : Fin 1) p f) : EReal) * U (ix4 (0 : Fin 1) (0 : Fin 1) p f) * dsilu (G (ix4 (0 : Fin 1) (0 : Fin 1) p f)) := by
  pointwise [k0_pay13, k0_pay10, k0_pay9, k0_pay8, k0_pay7]
  simp only [zero_sub]
  rfl

theorem pay14 (D : Vec Ideal S1x16x704 .f32) (G : Vec Ideal S1x1x16x704 .bf16) (p : Fin 16) (f : Fin 704) :
    k0_pay14 (k0_pay7 D) (k0_pay8 G) (ix4 (0 : Fin 1) (0 : Fin 1) p f)
      = (D (ix3 (0 : Fin 1) p f) : EReal) * silu (G (ix4 (0 : Fin 1) (0 : Fin 1) p f)) := by
  pointwise [k0_pay14, k0_pay11, k0_pay10, k0_pay8, k0_pay7]
  simp only [zero_sub]
  rfl

theorem pay151 (X : Vec Ideal S256x1024 .f32) (R : Vec Ideal S1x1024 .f32) (W : Vec Ideal S704x1024 .bf16) (i : Fin 256)
    (f : Fin 704) : k0_pay151 (k0_pay4 X R) W (ix3 (0 : Fin 1) i f)
      = ∑ k, (X (ix2 i k) : EReal) * R (ix2 (0 : Fin 1) k) * W (ix2 f k) := by
  pointwise [k0_pay151, k0_pay4]

theorem pay150 (A B : Vec Ideal S1x1x256x704 .bf16) (V W : Vec Ideal S1x1x704x1024 .bf16) (i : Fin 256) (k : Fin 1024) :
    k0_pay150 (k0_pay149 A) V B W (ix2 i k)
      = ∑ f, (A (ix4 (0 : Fin 1) (0 : Fin 1) i f) : EReal) * V (ix4 (0 : Fin 1) (0 : Fin 1) f k)
        + ∑ f, (B (ix4 (0 : Fin 1) (0 : Fin 1) i f) : EReal) * W (ix4 (0 : Fin 1) (0 : Fin 1) f k) := by
  pointwise [k0_pay150, k0_pay149]

theorem pay296 (A B : Vec Ideal S1x1x256x704 .bf16) (V W : Vec Ideal S1x1x704x1024 .bf16) (S : Vec Ideal S256x1024 .f32)
    (i : Fin 256) (k : Fin 1024) :
    k0_pay296 (k0_pay294 A) (k0_pay295 V) B W S (ix2 i k)
      = (S (ix2 i k) : EReal) + (∑ f, (A (ix4 (0 : Fin 1) (0 : Fin 1) i f) : EReal) * V (ix4 (0 : Fin 1) (0 : Fin 1) f k)
        + ∑ f, (B (ix4 (0 : Fin 1) (0 : Fin 1) i f) : EReal) * W (ix4 (0 : Fin 1) (0 : Fin 1) f k)) := by
  pointwise [k0_pay296, k0_pay294, k0_pay295]

theorem mdRow_apply (X3 : Vec Ideal S8x1024 .f32) (k : ℕ) (hk : k < 8) (j : Fin 1024) :
    mdRow X3 k hk (ix2 (0 : Fin 1) j) = X3 (ix2 (⟨k, hk⟩ : Fin 8) j) :=
  ld_hit _ X3 _ _ fun a => match a with | ⟨0, _⟩ => rfl | ⟨1, _⟩ => (Nat.zero_add _).symm

section
variable (v : View sig .tc .vmem S2x4x256x704 .bf16)
variable (X0 : Vec Ideal S256x1024 .f32) (X1 : Vec Ideal S2x4x256x704 .bf16) (X2 : Vec Ideal S256x1024 .f32) (X3 : Vec Ideal S8x1024 .f32)
  (X4 : Vec Ideal S1x1024 .f32) (X5 : Vec Ideal S2x4x704x1024 .bf16) (X6 : Vec Ideal S2816x1024 .bf16) (X7 : Vec Ideal S1024x1024 .bf16)

/-- The gradient of the products, and of the gate and up values. -/
def dactV (j : Fin 4) (i : Fin 256) (f : Fin 704) : EReal :=
  ∑ k, (X0 (ix2 i k) : EReal) * X3 (ix2 (5 : Fin 8) k) * X6 (ix2 (⟨704 * j.val + f.val, by omega⟩ : Fin 2816) k)
def dgateV (j : Fin 4) (i : Fin 256) (f : Fin 704) : EReal :=
  dactV X0 X3 X6 j i f * X1 (ix4 (1 : Fin 2) j i f) * dsilu (X1 (ix4 (0 : Fin 2) j i f))
def dupV (j : Fin 4) (i : Fin 256) (f : Fin 704) : EReal :=
  dactV X0 X3 X6 j i f * silu (X1 (ix4 (0 : Fin 2) j i f))

theorem gu_read (h : Fin 2) (n : ℕ) (hn : n < 64) (p : Fin 16) (f : Fin 704) :
    (View.ld X1 (guRect h.val n) (ix4 (0 : Fin 1) (0 : Fin 1) p f) : EReal)
      = X1 (ix4 h (⟨n / 16, by omega⟩ : Fin 4) (⟨16 * (n % 16) + p.val, by omega⟩ : Fin 256) f) :=
  ld_hit _ X1 _ _ fun a => match a with
    | ⟨0, _⟩ => by show h.val = h.val % 2 + 0; omega
    | ⟨1, _⟩ => by show n / 16 = n / 16 % 4 + 0; omega
    | ⟨2, _⟩ => rfl
    | ⟨3, _⟩ => (Nat.zero_add _).symm

theorem actPieces_apply (n : ℕ) (hn : n ≤ 64) (j : Fin 4) (i : Fin 256) (f : Fin 704) (hi : 16 * j.val + i.val / 16 < n) :
    (View.canon (actPieces X1 n) (ix3 j i f) : EReal) = silu (X1 (ix4 (0 : Fin 2) j i f)) * (X1 (ix4 (1 : Fin 2) j i f) : EReal) := by
  induction n with
  | zero => exact absurd hi (by omega)
  | succ n ih =>
    by_cases h : 16 * j.val + i.val / 16 = n
    · have ej : (⟨n / 16, by omega⟩ : Fin 4) = j := Fin.ext (by show n / 16 = j.val; omega)
      have ei : (⟨16 * (n % 16) + i.val % 16, by omega⟩ : Fin 256) = i := Fin.ext (by show 16 * (n % 16) + i.val % 16 = i.val; omega)
      refine (canon_hit _ _ _ (ix3 j i f) (ix3 (0 : Fin 1) (⟨i.val % 16, by omega⟩ : Fin 16) f) fun a => match a with
        | ⟨0, _⟩ => by show j.val = n / 16 % 4 + 0; omega
        | ⟨1, _⟩ => by show i.val = 16 * (n % 16) + i.val % 16; omega
        | ⟨2, _⟩ => (Nat.zero_add _).symm).trans ?_
      refine (pay12 _ _ _ _).trans ?_
      have h0 := gu_read X1 0 n (by omega) (⟨i.val % 16, by omega⟩ : Fin 16) f
      have h1 := gu_read X1 1 n (by omega) (⟨i.val % 16, by omega⟩ : Fin 16) f
      rw [ej, ei] at h0 h1
      exact congrArg₂ (fun a b => silu a * b) h0 h1
    · refine (?_ : _ = View.canon (actPieces X1 n) (ix3 j i f)).trans (ih (by omega) (by omega))
      by_cases hj : j.val = n / 16
      · exact canon_miss _ _ _ _ (1 : Fin 3) (by show i.val < 16 * (n % 16) ∨ 16 * (n % 16) + 16 ≤ i.val; omega)
      · exact canon_miss _ _ _ _ (0 : Fin 3) (by show j.val < n / 16 % 4 ∨ n / 16 % 4 + 1 ≤ j.val; omega)

theorem plane_hit (n : ℕ) (hn : n < 4) (i : Fin 256) (f : Fin 704) :
    (View.canon (dactPieces X0 X3 X6 (n + 1)) (ix3 (⟨n % 2, by omega⟩ : Fin 2) i f) : EReal) = dactV X0 X3 X6 ⟨n, hn⟩ i f := by
  refine (canon_hit _ _ _ (ix3 (⟨n % 2, by omega⟩ : Fin 2) i f) (ix3 (0 : Fin 1) i f) fun a => match a with
    | ⟨0, _⟩ => rfl
    | ⟨1, _⟩ => (Nat.zero_add _).symm
    | ⟨2, _⟩ => (Nat.zero_add _).symm).trans ?_
  refine (pay151 _ _ _ _ _).trans (Finset.sum_congr rfl fun k _ => ?_)
  refine congrArg₂ (· * ·) (congrArg (_ * ·) (mdRow_apply X3 5 (by decide) k)) ?_
  exact ld_hit _ X6 _ (ix2 f k) fun a => match a with
    | ⟨0, _⟩ => by show 704 * n + f.val = 704 * (n % 4) + f.val; omega
    | ⟨1, _⟩ => (Nat.zero_add _).symm

theorem plane (j : Fin 4) (i : Fin 256) (f : Fin 704) :
    (View.canon (dactPieces X0 X3 X6 (min (j.val + 2) 4)) (ix3 (⟨j.val % 2, by omega⟩ : Fin 2) i f) : EReal) = dactV X0 X3 X6 j i f := by
  by_cases h : j.val = 3
  · rw [show min (j.val + 2) 4 = j.val + 1 by omega]
    exact plane_hit X0 X3 X6 j.val j.isLt i f
  · rw [show min (j.val + 2) 4 = j.val + 1 + 1 by omega]
    refine (canon_miss _ _ _ _ (0 : Fin 3) ?_).trans (plane_hit X0 X3 X6 j.val j.isLt i f)
    show j.val % 2 < (j.val + 1) % 2 ∨ (j.val + 1) % 2 + 1 ≤ j.val % 2
    omega

theorem dact_apply (n : ℕ) (hn : n < 64) (p : Fin 16) (f : Fin 704) :
    (dact X0 X3 X6 n (ix3 (0 : Fin 1) p f) : EReal)
      = dactV X0 X3 X6 (⟨n / 16, by omega⟩ : Fin 4) (⟨16 * (n % 16) + p.val, by omega⟩ : Fin 256) f := by
  unfold dact
  refine (readCov_hit _ _ _ (ix3 (⟨n / 16 % 2, by omega⟩ : Fin 2) (⟨16 * (n % 16) + p.val, by omega⟩ : Fin 256) f) (ix3 (0 : Fin 1) p f) fun a => match a with
    | ⟨0, _⟩ => rfl
    | ⟨1, _⟩ => rfl
    | ⟨2, _⟩ => (Nat.zero_add _).symm).trans ?_
  exact plane X0 X3 X6 (⟨n / 16, by omega⟩ : Fin 4) _ f

theorem guPieces_apply (n : ℕ) (hn : n ≤ 64) (j : Fin 4) (i : Fin 256) (f : Fin 704) (hi : 16 * j.val + i.val / 16 < n) :
    (View.canon (guPieces X0 X1 X3 X6 n) (ix4 (0 : Fin 2) j i f) : EReal) = dgateV X0 X1 X3 X6 j i f ∧
    (View.canon (guPieces X0 X1 X3 X6 n) (ix4 (1 : Fin 2) j i f) : EReal) = dupV X0 X1 X3 X6 j i f := by
  induction n with
  | zero => exact absurd hi (by omega)
  | succ n ih =>
    by_cases h : 16 * j.val + i.val / 16 = n
    · have ej : (⟨n / 16, by omega⟩ : Fin 4) = j := Fin.ext (by show n / 16 = j.val; omega)
      have ei : (⟨16 * (n % 16) + i.val % 16, by omega⟩ : Fin 256) = i := Fin.ext (by show 16 * (n % 16) + i.val % 16 = i.val; omega)
      have h0 := gu_read X1 0 n (by omega) (⟨i.val % 16, by omega⟩ : Fin 16) f
      have h1 := gu_read X1 1 n (by omega) (⟨i.val % 16, by omega⟩ : Fin 16) f
      have hd := dact_apply X0 X3 X6 n (by omega) (⟨i.val % 16, by omega⟩ : Fin 16) f
      rw [ej, ei] at h0 h1 hd
      constructor
      · refine (canon_miss _ _ _ _ (0 : Fin 4) (Or.inl (by show 0 < 1; omega))).trans ?_
        refine (canon_hit _ _ _ (ix4 (0 : Fin 2) j i f) (ix4 (0 : Fin 1) (0 : Fin 1) (⟨i.val % 16, by omega⟩ : Fin 16) f) fun a => match a with
          | ⟨0, _⟩ => rfl
          | ⟨1, _⟩ => by show j.val = n / 16 % 4 + 0; omega
          | ⟨2, _⟩ => by show i.val = 16 * (n % 16) + i.val % 16; omega
          | ⟨3, _⟩ => (Nat.zero_add _).symm).trans ?_
        refine (pay13 _ _ _ _ _).trans ?_
        exact congrArg₂ (· * ·) (congrArg₂ (· * ·) hd h1) (congrArg dsilu h0)
      · refine (canon_hit _ _ _ (ix4 (1 : Fin 2) j i f) (ix4 (0 : Fin 1) (0 : Fin 1) (⟨i.val % 16, by omega⟩ : Fin 16) f) fun a => match a with
          | ⟨0, _⟩ => rfl
          | ⟨1, _⟩ => by show j.val = n / 16 % 4 + 0; omega
          | ⟨2, _⟩ => by show i.val = 16 * (n % 16) + i.val % 16; omega
          | ⟨3, _⟩ => (Nat.zero_add _).symm).trans ?_
        refine (pay14 _ _ _ _).trans ?_
        exact congrArg₂ (· * ·) hd (congrArg silu h0)
    · have skip : ∀ x : Fin 2, View.canon (guPieces X0 X1 X3 X6 (n + 1)) (ix4 x j i f) = View.canon (guPieces X0 X1 X3 X6 n) (ix4 x j i f) := by
        intro x
        by_cases hj : j.val = n / 16
        · have hh : i.val < 16 * (n % 16) ∨ 16 * (n % 16) + 16 ≤ i.val := by omega
          exact (canon_miss _ _ _ _ (2 : Fin 4) hh).trans (canon_miss _ _ _ _ (2 : Fin 4) hh)
        · have hh : j.val < n / 16 % 4 ∨ n / 16 % 4 + 1 ≤ j.val := by omega
          exact (canon_miss _ _ _ _ (1 : Fin 4) hh).trans (canon_miss _ _ _ _ (1 : Fin 4) hh)
      rw [skip, skip]
      exact ih (by omega) (by omega)

/-- Part `j`'s share of the product with the transposed weights. -/
def partV (j : Fin 4) (i : Fin 256) (k : Fin 1024) : EReal :=
  ∑ f, dgateV X0 X1 X3 X6 j i f * X5 (ix4 (0 : Fin 2) j f k) + ∑ f, dupV X0 X1 X3 X6 j i f * X5 (ix4 (1 : Fin 2) j f k)

def dhV (i : Fin 256) (k : Fin 1024) : EReal := ∑ j, partV X0 X1 X3 X5 X6 j i k

theorem part_apply (h : Fin 2) (j : Fin 4) (i : Fin 256) (f : Fin 704) :
    (part v X0 X1 X3 X6 h.val j.val (ix4 (0 : Fin 1) (0 : Fin 1) i f) : EReal)
      = View.canon (guPieces X0 X1 X3 X6 (16 * (j.val + 1))) (ix4 h j i f) :=
  readCov_hit _ _ _ (ix4 h j i f) _ fun a => match a with
    | ⟨0, _⟩ => by show h.val = h.val % 2 + 0; omega
    | ⟨1, _⟩ => by show j.val = j.val % 4 + 0; omega
    | ⟨2, _⟩ => (Nat.zero_add _).symm
    | ⟨3, _⟩ => (Nat.zero_add _).symm

theorem weight_apply (h : Fin 2) (j : Fin 4) (f : Fin 704) (k : Fin 1024) :
    (View.ld X5 (weightRect h.val j.val) (ix4 (0 : Fin 1) (0 : Fin 1) f k) : EReal) = X5 (ix4 h j f k) :=
  ld_hit _ X5 (ix4 h j f k) _ fun a => match a with
    | ⟨0, _⟩ => by show h.val = h.val % 2 + 0; omega
    | ⟨1, _⟩ => by show j.val = j.val % 4 + 0; omega
    | ⟨2, _⟩ => (Nat.zero_add _).symm
    | ⟨3, _⟩ => (Nat.zero_add _).symm

theorem share (j : Fin 4) (i : Fin 256) (k : Fin 1024) :
    (∑ f, (part v X0 X1 X3 X6 0 j.val (ix4 (0 : Fin 1) (0 : Fin 1) i f) : EReal) * View.ld X5 (weightRect 0 j.val) (ix4 (0 : Fin 1) (0 : Fin 1) f k)
      + ∑ f, (part v X0 X1 X3 X6 1 j.val (ix4 (0 : Fin 1) (0 : Fin 1) i f) : EReal) * View.ld X5 (weightRect 1 j.val) (ix4 (0 : Fin 1) (0 : Fin 1) f k))
      = partV X0 X1 X3 X5 X6 j i k := by
  refine congrArg₂ (· + ·) (Finset.sum_congr rfl fun f _ => ?_) (Finset.sum_congr rfl fun f _ => ?_)
  · refine congrArg₂ (· * ·) ((part_apply v X0 X1 X3 X6 0 j i f).trans ?_) (weight_apply X5 0 j f k)
    exact (guPieces_apply X0 X1 X3 X6 _ (by omega) j i f (by omega)).1
  · refine congrArg₂ (· * ·) ((part_apply v X0 X1 X3 X6 1 j i f).trans ?_) (weight_apply X5 1 j f k)
    exact (guPieces_apply X0 X1 X3 X6 _ (by omega) j i f (by omega)).2

theorem acc_apply (i : Fin 256) (k : Fin 1024) : (acc v X0 X1 X3 X5 X6 3 (ix2 i k) : EReal) = dhV X0 X1 X3 X5 X6 i k := by
  have e0 : (acc v X0 X1 X3 X5 X6 0 (ix2 i k) : EReal) = partV X0 X1 X3 X5 X6 0 i k :=
    (pay150 _ _ _ _ i k).trans (share v X0 X1 X3 X5 X6 0 i k)
  have e : ∀ n (hn : n + 1 < 4), (acc v X0 X1 X3 X5 X6 (n + 1) (ix2 i k) : EReal)
      = acc v X0 X1 X3 X5 X6 n (ix2 i k) + partV X0 X1 X3 X5 X6 ⟨n + 1, hn⟩ i k := fun n hn =>
    (pay296 _ _ _ _ _ i k).trans (congrArg (_ + ·) (share v X0 X1 X3 X5 X6 ⟨n + 1, hn⟩ i k))
  rw [e 2 (by decide), e 1 (by decide), e 0 (by decide), e0]
  unfold dhV
  rw [Fin.sum_univ_four]
  rfl

theorem dh_apply (n : ℕ) (hn : n < 16) (p : Fin 16) (j : Fin 1024) :
    (dh v X0 X1 X3 X5 X6 n (ix2 p j) : EReal) = dhV X0 X1 X3 X5 X6 (⟨16 * n + p.val, by omega⟩ : Fin 256) j := by
  unfold dh
  refine (readCov_hit _ _ _ (ix2 (⟨16 * n + p.val, by omega⟩ : Fin 256) j) (ix2 p j) fun a => match a with
    | ⟨0, _⟩ => by show 16 * n + p.val = 16 * (n % 16) + p.val; omega
    | ⟨1, _⟩ => (Nat.zero_add _).symm).trans ?_
  refine (canon_hit _ _ _ (ix2 (⟨16 * n + p.val, by omega⟩ : Fin 256) j) (ix2 (⟨16 * n + p.val, by omega⟩ : Fin 256) j) fun a => match a with
    | ⟨0, _⟩ => (Nat.zero_add _).symm
    | ⟨1, _⟩ => (Nat.zero_add _).symm).trans ?_
  exact acc_apply v X0 X1 X3 X5 X6 _ j

theorem grp_apply (X : Vec Ideal S256x1024 .f32) (n : ℕ) (hn : n < 16) (p : Fin 16) (j : Fin 1024) :
    grp X n (ix2 p j) = X (ix2 (⟨16 * n + p.val, by omega⟩ : Fin 256) j) :=
  ld_hit _ X (ix2 (⟨16 * n + p.val, by omega⟩ : Fin 256) j) _ fun a => match a with
    | ⟨0, _⟩ => by show 16 * n + p.val = 16 * (n % 16) + p.val; omega
    | ⟨1, _⟩ => (Nat.zero_add _).symm

/-- The gradient that reaches row `i` of the block, and from there the merged values. -/
def dx1V (i : Fin 256) (j : Fin 1024) : EReal :=
  X0 (ix2 i j) + rowGrad (fun k => X2 (ix2 i k))
    (fun k => dhV X0 X1 X3 X5 X6 i k * (1 + X3 (ix2 (4 : Fin 8) k)) * X4 (ix2 (0 : Fin 1) k)) j

def dmgV (i : Fin 256) (k : Fin 1024) : EReal :=
  ∑ o, dx1V X0 X1 X2 X3 X4 X5 X6 i o * X3 (ix2 (2 : Fin 8) o) * X7 (ix2 k o)

theorem pay597 (X C D : Vec Ideal S16x1024 .f32) (R G : Vec Ideal S1x1024 .f32) (p : Fin 16) (j : Fin 1024) :
    k0_pay597 (k0_pay591 X) (k0_pay592 X) (k0_pay594 R G D) (k0_pay595 C) (k0_pay596 R G D X) (ix2 p j)
      = (C (ix2 p j) : EReal) + rowGrad (fun k => X (ix2 p k))
          (fun k => (D (ix2 p k) : EReal) * (1 + R (ix2 (0 : Fin 1) k)) * G (ix2 (0 : Fin 1) k)) j := by
  pointwise [k0_pay597, k0_pay591, k0_pay592, k0_pay594, k0_pay595, k0_pay596, k0_pay590, k0_pay593, k0_pay589]
  rfl

theorem dx1_apply (n : ℕ) (hn : n < 16) (p : Fin 16) (j : Fin 1024) :
    (dx1 X0 X2 X3 X4 (dh v X0 X1 X3 X5 X6 n) n (ix2 p j) : EReal)
      = dx1V X0 X1 X2 X3 X4 X5 X6 (⟨16 * n + p.val, by omega⟩ : Fin 256) j := by
  refine (pay597 _ _ _ _ _ p j).trans ?_
  simp only [grp_apply _ n hn, dh_apply _ _ _ _ _ _ n hn, mdRow_apply]
  rfl

/-- A row of the block lies in one of the stores of 16 rows. -/
theorem rows_stores {e : EltTy} (L : ℕ → List (View.Piece (Elt Ideal) S256x1024 e)) (w : (n : ℕ) → S16x1024.Idx → Elt Ideal e)
    (hL : ∀ n, L (n + 1) = ⟨rws n, w n⟩ :: L n) (T : Fin 256 → Fin 1024 → Elt Ideal e)
    (hw : ∀ n (hn : n < 16) (p : Fin 16) (j : Fin 1024), w n (ix2 p j) = T (⟨16 * n + p.val, by omega⟩ : Fin 256) j)
    (n : ℕ) (hn : n ≤ 16) (i : Fin 256) (hi : i.val < 16 * n) (j : Fin 1024) : View.canon (L n) (ix2 i j) = T i j := by
  induction n with
  | zero => exact absurd hi (by omega)
  | succ n ih =>
    rw [hL]
    by_cases h : i.val < 16 * n
    · exact (canon_rows_ne _ _ _ i j (Or.inl (by show i.val < 16 * (n % 16); omega))).trans (ih (by omega) h)
    · have hp : i.val - 16 * n < 16 := by omega
      refine (canon_rows _ _ _ i ⟨i.val - 16 * n, hp⟩ j (by show i.val = 16 * (n % 16) + (i.val - 16 * n); omega)).trans ?_
      refine (hw n (by omega) _ _).trans (congrArg (T · j) (Fin.ext ?_))
      show 16 * n + (i.val - 16 * n) = i.val
      omega

theorem dx1Pieces_apply (i : Fin 256) (j : Fin 1024) :
    (View.canon (dx1Pieces v X0 X1 X2 X3 X4 X5 X6 16) (ix2 i j) : EReal) = dx1V X0 X1 X2 X3 X4 X5 X6 i j :=
  rows_stores (dx1Pieces v X0 X1 X2 X3 X4 X5 X6) (fun n => dx1 X0 X2 X3 X4 (dh v X0 X1 X3 X5 X6 n) n) (fun _ => rfl)
    (dx1V X0 X1 X2 X3 X4 X5 X6) (dx1_apply v X0 X1 X2 X3 X4 X5 X6) 16 (le_refl _) i (by omega) j

theorem dx1bPieces_apply (i : Fin 256) (j : Fin 1024) :
    (View.canon (dx1bPieces v X0 X1 X2 X3 X4 X5 X6 16) (ix2 i j) : EReal) = dx1V X0 X1 X2 X3 X4 X5 X6 i j :=
  rows_stores (dx1bPieces v X0 X1 X2 X3 X4 X5 X6) (fun n => truncf .bf16 (dx1 X0 X2 X3 X4 (dh v X0 X1 X3 X5 X6 n) n) bitsLt_bf16_f32) (fun _ => rfl)
    (dx1V X0 X1 X2 X3 X4 X5 X6) (dx1_apply v X0 X1 X2 X3 X4 X5 X6) 16 (le_refl _) i (by omega) j

theorem dmoPieces_apply (n : ℕ) (hn : n ≤ 16) (i : Fin 256) (hi : i.val < 16 * n) (j : Fin 1024) :
    (View.canon (dmoPieces v X0 X1 X2 X3 X4 X5 X6 n) (ix2 i j) : EReal)
      = dx1V X0 X1 X2 X3 X4 X5 X6 i j * X3 (ix2 (2 : Fin 8) j) := by
  have pay : ∀ (Y : Vec Ideal S1x1024 .f32) (a b c d e p j), k0_pay599 (k0_pay587 Y) a b c d e (ix2 p j)
      = (k0_pay597 (F := Ideal) a b c d e (ix2 p j) : EReal) * Y (ix2 (0 : Fin 1) j) := by
    intro Y a b c d e p j
    unfold k0_pay599
    generalize k0_pay597 a b c d e = Z
    pointwise [k0_pay587]
  refine rows_stores (dmoPieces v X0 X1 X2 X3 X4 X5 X6) _ (fun _ => rfl)
    (fun i j => (dx1V X0 X1 X2 X3 X4 X5 X6 i j * X3 (ix2 (2 : Fin 8) j) : EReal)) (fun n hn p j => ?_) n hn i hi j
  refine (pay _ _ _ _ _ _ _ _).trans ?_
  exact congrArg₂ (· * ·) (dx1_apply v X0 X1 X2 X3 X4 X5 X6 n hn p j) (mdRow_apply X3 2 (by decide) j)

theorem pay680 (A : Vec Ideal S128x1024 .bf16) (W : Vec Ideal S1024x1024 .bf16) (p : Fin 128) (k : Fin 1024) :
    k0_pay680 A W (ix2 p k) = ∑ o, (A (ix2 p o) : EReal) * W (ix2 k o) := by pointwise [k0_pay680]

theorem dmgPieces_apply (i : Fin 256) (k : Fin 1024) :
    (View.canon (dmgPieces v X0 X1 X2 X3 X4 X5 X6 X7 2) (ix2 i k) : EReal) = dmgV X0 X1 X2 X3 X4 X5 X6 X7 i k := by
  have one : ∀ (b : ℕ) (hb : b < 2) (p : Fin 128) (hi : i.val = 128 * b + p.val),
      (View.canon (dmgPieces v X0 X1 X2 X3 X4 X5 X6 X7 (b + 1)) (ix2 i k) : EReal) = dmgV X0 X1 X2 X3 X4 X5 X6 X7 i k := by
    intro b hb p hi
    have hm : 128 * (b % 2) = 128 * b := by omega
    refine (canon_rows _ _ _ i p k (by show i.val = 128 * (b % 2) + p.val; omega)).trans ?_
    refine (pay680 _ _ _ _).trans (Finset.sum_congr rfl fun o _ => congrArg (· * (X7 (ix2 k o) : EReal)) ?_)
    refine (readCov_rows _ _ _ i p o (by show i.val = 128 * (b % 2) + p.val; omega)).trans ?_
    exact dmoPieces_apply v X0 X1 X2 X3 X4 X5 X6 _ (by omega) i (by omega) o
  by_cases h : i.val < 128
  · refine (canon_rows_ne _ _ _ i k (Or.inl (by show i.val < 128 * (1 % 2); omega))).trans ?_
    exact one 0 (by decide) ⟨i.val, h⟩ (by show i.val = 128 * 0 + i.val; omega)
  · exact one 1 (by decide) ⟨i.val - 128, by omega⟩ (by show i.val = 128 * 1 + (i.val - 128); omega)

/-- What row `i` of the block adds to each of the three sums. -/
def shTerm (i : Fin 256) (j : Fin 1024) : EReal := dhV X0 X1 X3 X5 X6 i j
def scTerm (i : Fin 256) (j : Fin 1024) : EReal :=
  dhV X0 X1 X3 X5 X6 i j * (X2 (ix2 i j) * rms (fun k => X2 (ix2 i k)) * X4 (ix2 (0 : Fin 1) j))
def gTerm (i : Fin 256) (j : Fin 1024) : EReal :=
  dhV X0 X1 X3 X5 X6 i j * (1 + X3 (ix2 (4 : Fin 8) j)) * (X2 (ix2 i j) * rms (fun k => X2 (ix2 i k)))

theorem pay588 (p : Fin 8) (j : Fin 1024) : k0_pay588 (F := Ideal) (ix2 p j) = 0 := by pointwise [k0_pay588]

theorem pay600 (S : FVec Ideal S8x1024 .f32) (d : Vec Ideal S16x1024 .f32) (q : Fin 8) (j : Fin 1024) :
    k0_pay600 S d (ix2 q j) = S (ix2 q j) + ((d (ix2 ⟨q.val, by omega⟩ j) : EReal) + d (ix2 ⟨8 + q.val, by omega⟩ j)) := by
  pointwise [k0_pay600]

theorem pay601 (S : FVec Ideal S8x1024 .f32) (d X : Vec Ideal S16x1024 .f32) (q : Fin 8) (j : Fin 1024) :
    k0_pay601 S X4 d (k0_pay592 X) (ix2 q j) = S (ix2 q j)
      + ((d (ix2 ⟨q.val, by omega⟩ j) : EReal) * (X (ix2 ⟨q.val, by omega⟩ j) * rms (fun k => X (ix2 ⟨q.val, by omega⟩ k)) * X4 (ix2 (0 : Fin 1) j))
        + d (ix2 ⟨8 + q.val, by omega⟩ j) * (X (ix2 ⟨8 + q.val, by omega⟩ j) * rms (fun k => X (ix2 ⟨8 + q.val, by omega⟩ k)) * X4 (ix2 (0 : Fin 1) j))) := by
  pointwise [k0_pay601, k0_pay592, k0_pay591, k0_pay590]
  rfl

theorem pay602 (S : FVec Ideal S8x1024 .f32) (R : Vec Ideal S1x1024 .f32) (d X : Vec Ideal S16x1024 .f32) (q : Fin 8) (j : Fin 1024) :
    k0_pay602 S (k0_pay592 X) (k0_pay593 R d) (ix2 q j) = S (ix2 q j)
      + ((d (ix2 ⟨q.val, by omega⟩ j) : EReal) * (1 + R (ix2 (0 : Fin 1) j)) * (X (ix2 ⟨q.val, by omega⟩ j) * rms (fun k => X (ix2 ⟨q.val, by omega⟩ k)))
        + d (ix2 ⟨8 + q.val, by omega⟩ j) * (1 + R (ix2 (0 : Fin 1) j)) * (X (ix2 ⟨8 + q.val, by omega⟩ j) * rms (fun k => X (ix2 ⟨8 + q.val, by omega⟩ k)))) := by
  pointwise [k0_pay602, k0_pay593, k0_pay589, k0_pay592, k0_pay591, k0_pay590]
  rfl

theorem sumSh_total (j : Fin 1024) : ∑ q, sumSh v X0 X1 X3 X5 X6 16 (ix2 q j) = ∑ i, shTerm X0 X1 X3 X5 X6 i j := by
  refine fold_rows 16 rfl (fun i => shTerm X0 X1 X3 X5 X6 i j) (fun n q => sumSh v X0 X1 X3 X5 X6 n (ix2 q j)) (fun q => pay588 q j) fun n hn q => ?_
  refine (pay600 _ _ _ _).trans ?_
  rw [dh_apply _ _ _ _ _ _ n hn, dh_apply _ _ _ _ _ _ n hn]
  rfl

theorem sumSc_total (j : Fin 1024) : ∑ q, sumSc v X0 X1 X2 X3 X4 X5 X6 16 (ix2 q j) = ∑ i, scTerm X0 X1 X2 X3 X4 X5 X6 i j := by
  refine fold_rows 16 rfl (fun i => scTerm X0 X1 X2 X3 X4 X5 X6 i j) (fun n q => sumSc v X0 X1 X2 X3 X4 X5 X6 n (ix2 q j)) (fun q => pay588 q j) fun n hn q => ?_
  refine (pay601 _ _ _ _ _ _).trans ?_
  rw [dh_apply _ _ _ _ _ _ n hn, dh_apply _ _ _ _ _ _ n hn]
  simp only [grp_apply _ n hn]
  rfl

theorem sumG_total (j : Fin 1024) : ∑ q, sumG v X0 X1 X2 X3 X5 X6 16 (ix2 q j) = ∑ i, gTerm X0 X1 X2 X3 X5 X6 i j := by
  refine fold_rows 16 rfl (fun i => gTerm X0 X1 X2 X3 X5 X6 i j) (fun n q => sumG v X0 X1 X2 X3 X5 X6 n (ix2 q j)) (fun q => pay588 q j) fun n hn q => ?_
  refine (pay602 _ _ _ _ _ _).trans ?_
  rw [dh_apply _ _ _ _ _ _ n hn, dh_apply _ _ _ _ _ _ n hn]
  simp only [grp_apply _ n hn, mdRow_apply]
  rfl
end

theorem pay1 (S : FVec Ideal S8x1024 .f32) (Y : Vec Ideal S1x1024 .f32) (j : Fin 1024) :
    k0_pay1 S Y (ix2 (0 : Fin 1) j) = (Y (ix2 (0 : Fin 1) j) : EReal) + ∑ q, S (ix2 q j) := by
  pointwise [k0_pay1]

/-- Adding to row `k` changes that row by the column sums of the eight partial sums. -/
theorem addRow_apply (v : View sig .tc .vmem S8x1024 .f32) (k : ℕ) (hk : k < 8) (S : FVec Ideal S8x1024 .f32)
    (L : List (View.Piece (Elt Ideal) S8x1024 .f32)) (i : Fin 8) (j : Fin 1024) :
    (View.canon (addRow v k hk S L) (ix2 i j) : EReal)
      = View.canon L (ix2 i j) + if i.val = k then ∑ q, S (ix2 q j) else (0 : EReal) := by
  split
  · refine (canon_rows _ _ _ i (0 : Fin 1) j (by show i.val = k + 0; omega)).trans ((pay1 _ _ _).trans (congrArg (· + _) ?_))
    exact readCov_rows v L _ i (0 : Fin 1) j (by show i.val = k + 0; omega)
  · rw [add_zero]
    exact canon_rows_ne _ _ _ i j (by omega)

/-- What one grid step adds to the sums' block. -/
def stepSums (X0 : Vec Ideal S256x1024 .f32) (X1 : Vec Ideal S2x4x256x704 .bf16) (X2 : Vec Ideal S256x1024 .f32) (X3 : Vec Ideal S8x1024 .f32)
    (X4 : Vec Ideal S1x1024 .f32) (X5 : Vec Ideal S2x4x704x1024 .bf16) (X6 : Vec Ideal S2816x1024 .bf16) (i : Fin 8) (j : Fin 1024) : EReal :=
  (if i.val = 0 then ∑ r, shTerm X0 X1 X3 X5 X6 r j else 0) + (if i.val = 1 then ∑ r, scTerm X0 X1 X2 X3 X4 X5 X6 r j else 0)
    + (if i.val = 2 then ∑ r, gTerm X0 X1 X2 X3 X5 X6 r j else 0)

variable (m : (ℓ : Loc nD τ sig) → Buf (Elt Ideal) ℓ)

theorem first_sums (c : Dev nD) (t : Fin cfg0.N) (h : t.val % 32 = 0) (i : Fin 8) (j : Fin 1024) :
    ((outsAt0 m c t.val t.isLt).2.2.2.2.2 (ix2 i j) : EReal)
      = stepSums (iblk m c 0 t) (iblk m c 1 t) (iblk m c 2 t) (iblk m c 3 t) (iblk m c 4 t) (iblk m c 5 t) (iblk m c 6 t) i j := by
  rw [out13_A m c t h, addRow_apply, addRow_apply, addRow_apply, sumSh_total, sumSc_total, sumG_total]
  refine congrArg (· + _) (congrArg (· + _) ((congrArg (· + _) ?_).trans (zero_add _)))
  refine (canon_rows _ _ _ i i j (by show i.val = 0 + i.val; omega)).trans ?_
  pointwise [k0_pay3]

theorem later_sums (c : Dev nD) (t : Fin cfg0.N) (h : ¬ t.val % 32 = 0) (i : Fin 8) (j : Fin 1024) :
    ((outsAt0 m c t.val t.isLt).2.2.2.2.2 (ix2 i j) : EReal)
      = (outsAt0 m c (t.val - 1) (by omega)).2.2.2.2.2 (ix2 i j)
        + stepSums (iblk m c 0 t) (iblk m c 1 t) (iblk m c 2 t) (iblk m c 3 t) (iblk m c 4 t) (iblk m c 5 t) (iblk m c 6 t) i j := by
  obtain ⟨v, f, hf, e⟩ := out13_B m c t h
  rw [e]
  generalize (outsAt0 m c (t.val - 1) (by omega)).2.2.2.2.2 = X at hf
  have step : ∀ (k : ℕ) (hk : k < 8) (S : FVec Ideal S8x1024 .f32) (L : List (View.Piece (Elt Ideal) S8x1024 .f32)),
      (v.read (Elt Ideal) (v.writes (Elt Ideal) f (addRow' X k hk S L)) (ix2 i j) : EReal)
        = if i.val = k then (X (ix2 i j) : EReal) + ∑ q, S (ix2 q j) else v.read (Elt Ideal) (v.writes (Elt Ideal) f L) (ix2 i j) := by
    intro k hk S L
    split
    · refine (View.read_writes_cons_rows_of_mem v f _ _ L (ix2 i j) (ix2 (0 : Fin 1) j) rfl (by show i.val = k + 0; omega) rfl).trans ?_
      exact (pay1 _ _ _).trans (congrArg (· + _) (ld_rows _ X i (0 : Fin 1) j (by show i.val = k + 0; omega)))
    · exact View.read_writes_cons_rows_of_not_mem v f _ _ L (ix2 i j) rfl (W := 1) rfl (by show i.val < k ∨ k + 1 ≤ i.val; omega)
  rw [step, step, step, sumSh_total, sumSc_total, sumG_total, View.writes_nil, hf]
  unfold stepSums
  rcases Nat.lt_or_ge i.val 3 with h3 | h3
  · rcases (by omega : i.val = 0 ∨ i.val = 1 ∨ i.val = 2) with h | h | h <;> simp [h]
  · simp [show i.val ≠ 0 by omega, show i.val ≠ 1 by omega, show i.val ≠ 2 by omega]

end Cert.FfnBwdIdeal.Blocks
-- ==== Proof.FfnRefValues.lean ====
/- The reference's six results at an index, over the arguments. -/
module
public import proofs.«01_k».proof.Proof.Gen.FfnRefIdeal.Read
public import proofs.«01_k».proof.Proof.Rows
public import proofs.«01_k».proof.Proof.FfnMath
public import Idealize.ShloMosaic.Lib.Pointwise
@[expose] public section
set_option maxRecDepth 16384
noncomputable section
open Idealize.ShloMosaic Idealize.ShloMosaic.TcCoe Idealize.SL.Sem
namespace Cert.FfnRefIdeal.Values
open Cert.FfnRefIdeal Cert.FfnRefIdeal.Gen Cert.FfnRefIdeal.Read Cert.Rows Cert.Norm Cert.Ffn

abbrev Arr (s : Shape) : Type := s.Idx → EReal
variable (x0 x1 : Arr S1x8192x1024) (x2 : Arr S1x6144) (x3 : Arr S1x1024) (x4 : Arr S1x1024x1024) (x5 : Arr S1x1024x5632)
  (x6 : Arr S1x2816x1024) (x7 : Arr S1x8192x1024)

theorem v9_at (i : Fin 8192) (k : Fin 1024) :
    (val_main_v9 (F := Ideal) x0 x4 (ix3 (0 : Fin 1) i k) : EReal) = ∑ o, (args x0 x1 x2 x3 x4 x5 x6 x7).mg i o * (args x0 x1 x2 x3 x4 x5 x6 x7).wo o k := by
  rw [val_main_v9_apply]
  refine Finset.sum_congr rfl fun p _ => ?_
  rw [val_main_v8_apply]
  refine congrArg₂ (· * ·) (congrArg x0 ?_) (congrArg x4 ?_)
  · funext a
    match a with | ⟨0, _⟩ => rfl | ⟨1, _⟩ => rfl | ⟨2, _⟩ => rfl
  · funext a
    apply Fin.ext
    match a with
    | ⟨0, _⟩ => rfl
    | ⟨1, _⟩ => show (p.val * 1024 + k.val) / 1024 % 1024 = p.val; omega
    | ⟨2, _⟩ => show (p.val * 1024 + k.val) % 1024 = k.val; omega

theorem v12_at (i : Fin 8192) (k : Fin 1024) :
    (val_main_v12 (F := Ideal) x0 x1 x2 x4 (ix3 (0 : Fin 1) i k) : EReal) = (args x0 x1 x2 x3 x4 x5 x6 x7).x1 i k := by
  have h := v9_at x0 x1 x2 x3 x4 x5 x6 x7 i k
  unfold val_main_v12 val_main_v11
  generalize val_main_v9 (F := Ideal) x0 x4 = y at h ⊢
  pointwise [val_main_v10, val_main_v7, val_main_v2]
  rw [h]
  rfl

theorem v20_at (i : Fin 8192) :
    (val_main_v20 (F := Ideal) x0 x1 x2 x4 (ix3 (0 : Fin 1) i (0 : Fin 1)) : EReal) = ms ((args x0 x1 x2 x3 x4 x5 x6 x7).x1 i) := by
  have h : (val_main_v15 (F := Ideal) x0 x1 x2 x4 (ix2 (0 : Fin 1) i) : EReal) = ∑ k, (args x0 x1 x2 x3 x4 x5 x6 x7).x1 i k * (args x0 x1 x2 x3 x4 x5 x6 x7).x1 i k := by
    rw [val_main_v15_apply]
    refine (congrArg₂ (· + ·) (?_ : _ = (0 : EReal)) (Finset.sum_congr rfl fun k _ => ?_)).trans (zero_add _)
    · pointwise [val_main_cst_0]
    · rw [show idx_main_v15 (ix2 (0 : Fin 1) i) k = ix3 (0 : Fin 1) i k from funext fun a => by
        match a with | ⟨0, _⟩ => rfl | ⟨1, _⟩ => rfl | ⟨2, _⟩ => rfl]
      rw [val_main_v14_apply]
      exact congrArg (fun q => q * q) (v12_at x0 x1 x2 x3 x4 x5 x6 x7 i k)
  unfold val_main_v20 val_main_v18 val_main_v16
  generalize val_main_v15 (F := Ideal) x0 x1 x2 x4 = y at h ⊢
  pointwise [val_main_v19, val_main_v17, val_main_cst_1, val_main_cst_2]
  rw [h]
  rfl

theorem v24_at (i : Fin 8192) : (val_main_v24 (F := Ideal) x0 x1 x2 x4 (ix3 (0 : Fin 1) i (0 : Fin 1)) : EReal)
    = cHalf * Ideal.div (rms ((args x0 x1 x2 x3 x4 x5 x6 x7).x1 i)) (ms ((args x0 x1 x2 x3 x4 x5 x6 x7).x1 i)) := by
  have h := v20_at x0 x1 x2 x3 x4 x5 x6 x7 i
  unfold val_main_v24 val_main_v22 val_main_v21
  generalize val_main_v20 (F := Ideal) x0 x1 x2 x4 = y at h ⊢
  pointwise [val_main_v23, val_main_cst_3]
  rw [h]
  rfl

theorem v26_at (i : Fin 8192) (k : Fin 1024) :
    (val_main_v26 (F := Ideal) x0 x1 x2 x4 (ix3 (0 : Fin 1) i k) : EReal) = (args x0 x1 x2 x3 x4 x5 x6 x7).x1 i k * rms ((args x0 x1 x2 x3 x4 x5 x6 x7).x1 i) := by
  have h := v20_at x0 x1 x2 x3 x4 x5 x6 x7 i
  have h' := v12_at x0 x1 x2 x3 x4 x5 x6 x7 i k
  unfold val_main_v26 val_main_v25 val_main_v21
  generalize val_main_v20 (F := Ideal) x0 x1 x2 x4 = y at h ⊢
  generalize val_main_v12 (F := Ideal) x0 x1 x2 x4 = z at h' ⊢
  pointwise
  rw [h, h']
  rfl

theorem v37_at (i : Fin 8192) (k : Fin 1024) :
    (val_main_v37 (F := Ideal) x0 x1 x2 x3 x4 (ix3 (0 : Fin 1) i k) : EReal) = (args x0 x1 x2 x3 x4 x5 x6 x7).h i k := by
  have h := v26_at x0 x1 x2 x3 x4 x5 x6 x7 i k
  unfold val_main_v37 val_main_v34 val_main_v29
  generalize val_main_v26 (F := Ideal) x0 x1 x2 x4 = y at h ⊢
  pointwise [val_main_v28, val_main_v27, val_main_v13, val_main_v33, val_main_v32, val_main_v31, val_main_cst_4, val_main_v30,
    val_main_v4, val_main_v36, val_main_v35, val_main_v3]
  rw [h]
  rfl

theorem v39_at (i : Fin 8192) (o : Fin 5632) :
    (val_main_v39 (F := Ideal) x0 x1 x2 x3 x4 x5 (ix3 (0 : Fin 1) i o) : EReal) = (args x0 x1 x2 x3 x4 x5 x6 x7).gu i o := by
  rw [val_main_v39_apply]
  refine Finset.sum_congr rfl fun p _ => ?_
  refine congrArg₂ (· * ·) ((congrArg _ ?_).trans (v37_at x0 x1 x2 x3 x4 x5 x6 x7 i p)) ?_
  · funext a
    match a with | ⟨0, _⟩ => rfl | ⟨1, _⟩ => rfl | ⟨2, _⟩ => rfl
  · rw [val_main_v38_apply]
    refine congrArg x5 ?_
    funext a
    apply Fin.ext
    match a with
    | ⟨0, _⟩ => rfl
    | ⟨1, _⟩ => show (p.val * 5632 + o.val) / 5632 % 1024 = p.val; omega
    | ⟨2, _⟩ => show (p.val * 5632 + o.val) % 5632 = o.val; omega

theorem v40_at (i : Fin 8192) (o : Fin 5632) :
    (val_main_v40 (F := Ideal) x0 x1 x2 x3 x4 x5 (ix3 (0 : Fin 1) i o) : EReal) = (args x0 x1 x2 x3 x4 x5 x6 x7).gu i o := by
  have h := v39_at x0 x1 x2 x3 x4 x5 x6 x7 i o
  unfold val_main_v40
  generalize val_main_v39 (F := Ideal) x0 x1 x2 x3 x4 x5 = y at h ⊢
  pointwise [val_main_v6, val_main_cst]
  rw [h]

theorem v43_at (i : Fin 8192) (f : Fin 2816) :
    (val_main_v41 (F := Ideal) x0 x1 x2 x3 x4 x5 (ix3 (0 : Fin 1) i f) : EReal) = (args x0 x1 x2 x3 x4 x5 x6 x7).gate i f
      ∧ (val_main_v42 (F := Ideal) x0 x1 x2 x3 x4 x5 (ix3 (0 : Fin 1) i f) : EReal) = (args x0 x1 x2 x3 x4 x5 x6 x7).up i f
      ∧ (val_main_v43_2 (F := Ideal) x0 x1 x2 x3 x4 x5 (ix3 (0 : Fin 1) i f) : EReal) = sg ((args x0 x1 x2 x3 x4 x5 x6 x7).gate i f) := by
  have h := v40_at x0 x1 x2 x3 x4 x5 x6 x7 i ⟨f.val, by omega⟩
  have h' := v40_at x0 x1 x2 x3 x4 x5 x6 x7 i ⟨2816 + f.val, by omega⟩
  have g : (val_main_v41 (F := Ideal) x0 x1 x2 x3 x4 x5 (ix3 (0 : Fin 1) i f) : EReal) = (args x0 x1 x2 x3 x4 x5 x6 x7).gate i f := by
    unfold val_main_v41
    generalize val_main_v40 (F := Ideal) x0 x1 x2 x3 x4 x5 = y at h ⊢
    pointwise
    exact h
  refine ⟨g, ?_, ?_⟩
  · unfold val_main_v42
    generalize val_main_v40 (F := Ideal) x0 x1 x2 x3 x4 x5 = y at h' ⊢
    pointwise
    exact h'
  · unfold val_main_v43_2 val_main_call0_v3 val_main_call0_v1 val_main_call0_v0
    generalize val_main_v41 (F := Ideal) x0 x1 x2 x3 x4 x5 = y at g ⊢
    pointwise [val_main_call0_v2, val_main_call0_v4, val_main_call0_cst, val_main_call0_cst_0]
    rw [g]
    rfl

theorem v44_at (i : Fin 8192) (f : Fin 2816) :
    (val_main_v44 (F := Ideal) x0 x1 x2 x3 x4 x5 (ix3 (0 : Fin 1) i f) : EReal) = (args x0 x1 x2 x3 x4 x5 x6 x7).act i f := by
  obtain ⟨h1, h2, h3⟩ := v43_at x0 x1 x2 x3 x4 x5 x6 x7 i f
  rw [val_main_v44_apply, val_main_v43_0_apply, h1, h2, h3]
  rfl

theorem v55_at (i : Fin 8192) (f : Fin 2816) :
    (val_main_v55 (F := Ideal) x2 x6 x7 (ix3 (0 : Fin 1) i f) : EReal) = (args x0 x1 x2 x3 x4 x5 x6 x7).dact i f := by
  rw [val_main_v55_apply]
  refine Finset.sum_congr rfl fun p _ => ?_
  rw [val_main_v46_apply, show lidx_main_v55 (ix3 (0 : Fin 1) i f) p = ix3 (0 : Fin 1) i p from funext fun a => by
    match a with | ⟨0, _⟩ => rfl | ⟨1, _⟩ => rfl | ⟨2, _⟩ => rfl]
  refine congrArg₂ (· * ·) ?_ (congrArg x6 ?_)
  · pointwise [val_main_v54, val_main_v53, val_main_v52, val_main_v45, val_main_v5]
    exact mul_comm _ _
  · funext a
    apply Fin.ext
    match a with
    | ⟨0, _⟩ => rfl
    | ⟨1, _⟩ => show (f.val * 1024 + p.val) / 1024 % 2816 = f.val; omega
    | ⟨2, _⟩ => show (f.val * 1024 + p.val) % 1024 = p.val; omega

theorem v56_at (i : Fin 8192) (f : Fin 2816) :
    (val_main_v56 (F := Ideal) x0 x1 x2 x3 x4 x5 x6 x7 (ix3 (0 : Fin 1) i f) : EReal) = (args x0 x1 x2 x3 x4 x5 x6 x7).dup i f := by
  obtain ⟨h1, h2, h3⟩ := v43_at x0 x1 x2 x3 x4 x5 x6 x7 i f
  rw [val_main_v56_apply, val_main_v43_0_apply, h1, h3, v55_at x0 x1 x2 x3 x4 x5 x6 x7]
  exact mul_comm _ _

section
variable (R : (args x0 x1 x2 x3 x4 x5 x6 x7).Real)
include R

theorem v58_at (i : Fin 8192) (f : Fin 2816) :
    (val_main_v58 (F := Ideal) x0 x1 x2 x3 x4 x5 x6 x7 (ix3 (0 : Fin 1) i f) : EReal) = (args x0 x1 x2 x3 x4 x5 x6 x7).dgate i f := by
  obtain ⟨h1, h2, h3⟩ := v43_at x0 x1 x2 x3 x4 x5 x6 x7 i f
  have h4 := v55_at x0 x1 x2 x3 x4 x5 x6 x7 i f
  have h5 : (val_main_v43_1 (F := Ideal) x0 x1 x2 x3 x4 x5 (ix3 (0 : Fin 1) i f) : EReal)
      = sg ((args x0 x1 x2 x3 x4 x5 x6 x7).gate i f) * (1 - sg ((args x0 x1 x2 x3 x4 x5 x6 x7).gate i f)) := by
    unfold val_main_v43_1 val_main_call0_v7
    generalize val_main_v43_2 (F := Ideal) x0 x1 x2 x3 x4 x5 = y at h3 ⊢
    pointwise [val_main_call0_v6, val_main_call0_cst_1]
    rw [h3]
  unfold val_main_v58 val_main_call1_v2 val_main_call1_v1 val_main_call1_v0 val_main_v57
  generalize val_main_v41 (F := Ideal) x0 x1 x2 x3 x4 x5 = a at h1 ⊢
  generalize val_main_v42 (F := Ideal) x0 x1 x2 x3 x4 x5 = b at h2 ⊢
  generalize val_main_v43_2 (F := Ideal) x0 x1 x2 x3 x4 x5 = c at h3 ⊢
  generalize val_main_v43_1 (F := Ideal) x0 x1 x2 x3 x4 x5 = e at h5 ⊢
  generalize val_main_v55 (F := Ideal) x2 x6 x7 = d at h4 ⊢
  pointwise
  rw [h1, h2, h3, h4, h5]
  exact dsilu_eq _ _ (Finite.real_mul (R.dact i f) (R.gu i _)) (R.gu i _)

theorem v59_lo (i : Fin 8192) (f : Fin 2816) :
    (val_main_v59 (F := Ideal) x0 x1 x2 x3 x4 x5 x6 x7 (ix3 (0 : Fin 1) i (⟨f.val, by omega⟩ : Fin 5632)) : EReal) = (args x0 x1 x2 x3 x4 x5 x6 x7).dgate i f := by
  have h := v58_at x0 x1 x2 x3 x4 x5 x6 x7 R i f
  unfold val_main_v59
  generalize val_main_v58 (F := Ideal) x0 x1 x2 x3 x4 x5 x6 x7 = y at h ⊢
  generalize val_main_v56 (F := Ideal) x0 x1 x2 x3 x4 x5 x6 x7 = z
  pointwise
  exact h

theorem v59_hi (i : Fin 8192) (f : Fin 2816) :
    (val_main_v59 (F := Ideal) x0 x1 x2 x3 x4 x5 x6 x7 (ix3 (0 : Fin 1) i (⟨2816 + f.val, by omega⟩ : Fin 5632)) : EReal) = (args x0 x1 x2 x3 x4 x5 x6 x7).dup i f := by
  have h := v56_at x0 x1 x2 x3 x4 x5 x6 x7 i f
  unfold val_main_v59
  generalize val_main_v58 (F := Ideal) x0 x1 x2 x3 x4 x5 x6 x7 = y
  generalize val_main_v56 (F := Ideal) x0 x1 x2 x3 x4 x5 x6 x7 = z at h ⊢
  pointwise
  exact h

theorem v60_at (i : Fin 8192) (k : Fin 1024) :
    (val_main_v60 (F := Ideal) x0 x1 x2 x3 x4 x5 x6 x7 (ix3 (0 : Fin 1) i k) : EReal) = (args x0 x1 x2 x3 x4 x5 x6 x7).dh i k := by
  have w : ∀ o : Fin 5632, (val_main_v38 (F := Ideal) x5 (ridx_main_v60 (ix3 (0 : Fin 1) i k) o) : EReal) = (args x0 x1 x2 x3 x4 x5 x6 x7).wgu k o := by
    intro o
    rw [val_main_v38_apply]
    refine congrArg x5 ?_
    funext a
    apply Fin.ext
    match a with
    | ⟨0, _⟩ => rfl
    | ⟨1, _⟩ => show (k.val * 5632 + o.val) / 5632 % 1024 = k.val; omega
    | ⟨2, _⟩ => show (k.val * 5632 + o.val) % 5632 = o.val; omega
  have l : ∀ o : Fin 5632, lidx_main_v60 (ix3 (0 : Fin 1) i k) o = ix3 (0 : Fin 1) i o := fun o => funext fun a => by
    match a with | ⟨0, _⟩ => rfl | ⟨1, _⟩ => rfl | ⟨2, _⟩ => rfl
  rw [val_main_v60_apply]
  simp only [w, l]
  rw [sum_halves]
  exact congrArg₂ (· + ·)
    (Finset.sum_congr rfl fun f _ => congrArg (· * _) (v59_lo x0 x1 x2 x3 x4 x5 x6 x7 R i f))
    (Finset.sum_congr rfl fun f _ => congrArg (· * _) (v59_hi x0 x1 x2 x3 x4 x5 x6 x7 R i f))
end
theorem drop_col (y : Arr S1x8192x1) (init : EReal) (p : Fin 8192) :
    Ideal.hostReduceAdd reducesTo_S1x8192x1_S8192_d0_2 y init (ix1 p) = init + y (ix3 (0 : Fin 1) p (0 : Fin 1)) := by
  refine hostReduceAdd_one _ y init _ _ ?_ fun i hi => ?_
  · funext a
    apply Fin.ext
    match a with | ⟨0, _⟩ => rfl
  · have h : (i 1).val = p.val := congrArg (fun f : S8192.Idx => (f 0).val) hi
    funext a
    apply Fin.ext
    match a with
    | ⟨0, _⟩ => have : (i 0).val < 1 := (i 0).isLt; show (i 0).val = 0; omega
    | ⟨1, _⟩ => exact h
    | ⟨2, _⟩ => have : (i 2).val < 1 := (i 2).isLt; show (i 2).val = 0; omega

theorem drop_row (y : Arr S1x1x1024) (init : EReal) (p : Fin 1024) :
    Ideal.hostReduceAdd reducesTo_S1x1x1024_S1024_d0_1 y init (ix1 p) = init + y (ix3 (0 : Fin 1) (0 : Fin 1) p) := by
  refine hostReduceAdd_one _ y init _ _ ?_ fun i hi => ?_
  · funext a
    apply Fin.ext
    match a with | ⟨0, _⟩ => rfl
  · have h : (i 2).val = p.val := congrArg (fun f : S1024.Idx => (f 0).val) hi
    funext a
    apply Fin.ext
    match a with
    | ⟨0, _⟩ => have : (i 0).val < 1 := (i 0).isLt; show (i 0).val = 0; omega
    | ⟨1, _⟩ => have : (i 1).val < 1 := (i 1).isLt; show (i 1).val = 0; omega
    | ⟨2, _⟩ => exact h

section
variable (R : (args x0 x1 x2 x3 x4 x5 x6 x7).Real)
include R

theorem v69_at (i : Fin 8192) (k : Fin 1024) :
    (val_main_v69 (F := Ideal) x0 x1 x2 x3 x4 x5 x6 x7 (ix3 (0 : Fin 1) i k) : EReal) = (args x0 x1 x2 x3 x4 x5 x6 x7).dh i k * (1 + (args x0 x1 x2 x3 x4 x5 x6 x7).mrow 4 k) := by
  have h := v60_at x0 x1 x2 x3 x4 x5 x6 x7 R i k
  unfold val_main_v69
  generalize val_main_v60 (F := Ideal) x0 x1 x2 x3 x4 x5 x6 x7 = y at h ⊢
  pointwise [val_main_v68, val_main_v32, val_main_v31, val_main_cst_4, val_main_v30, val_main_v4]
  rw [h]
  rfl

theorem v76_at (i : Fin 8192) (k : Fin 1024) :
    (val_main_v76 (F := Ideal) x0 x1 x2 x3 x4 x5 x6 x7 (ix3 (0 : Fin 1) i k) : EReal) = (args x0 x1 x2 x3 x4 x5 x6 x7).dn i k := by
  have h := v69_at x0 x1 x2 x3 x4 x5 x6 x7 R i k
  unfold val_main_v76
  generalize val_main_v69 (F := Ideal) x0 x1 x2 x3 x4 x5 x6 x7 = y at h ⊢
  pointwise [val_main_v75, val_main_v27, val_main_v13]
  rw [h]
  rfl

theorem v89_at (i : Fin 8192) (j : Fin 1024) :
    (val_main_v89 (F := Ideal) x0 x1 x2 x3 x4 x5 x6 x7 (ix3 (0 : Fin 1) i j) : EReal) = msGrad ((args x0 x1 x2 x3 x4 x5 x6 x7).x1 i) ((args x0 x1 x2 x3 x4 x5 x6 x7).dn i) := by
  have h : (val_main_v79 (F := Ideal) x0 x1 x2 x3 x4 x5 x6 x7 (ix2 (0 : Fin 1) i) : EReal) = ∑ k, (args x0 x1 x2 x3 x4 x5 x6 x7).x1 i k * (args x0 x1 x2 x3 x4 x5 x6 x7).dn i k := by
    rw [val_main_v79_apply]
    refine (congrArg₂ (· + ·) (?_ : _ = (0 : EReal)) (Finset.sum_congr rfl fun k _ => ?_)).trans (zero_add _)
    · pointwise [val_main_cst_11]
    · rw [show idx_main_v79 (ix2 (0 : Fin 1) i) k = ix3 (0 : Fin 1) i k from funext fun a => by
        match a with | ⟨0, _⟩ => rfl | ⟨1, _⟩ => rfl | ⟨2, _⟩ => rfl]
      rw [val_main_v78_apply]
      exact congrArg₂ (· * ·) (v12_at x0 x1 x2 x3 x4 x5 x6 x7 i k) (v76_at x0 x1 x2 x3 x4 x5 x6 x7 R i k)
  have h' := v24_at x0 x1 x2 x3 x4 x5 x6 x7 i
  have h'' : (val_main_v86 (F := Ideal) x0 x1 x2 x3 x4 x5 x6 x7 (ix3 (0 : Fin 1) i (0 : Fin 1)) : EReal) = msGrad ((args x0 x1 x2 x3 x4 x5 x6 x7).x1 i) ((args x0 x1 x2 x3 x4 x5 x6 x7).dn i) := by
    unfold val_main_v86 val_main_v84 val_main_v80
    generalize val_main_v79 (F := Ideal) x0 x1 x2 x3 x4 x5 x6 x7 = y at h ⊢
    generalize val_main_v24 (F := Ideal) x0 x1 x2 x4 = z at h' ⊢
    pointwise [val_main_v85, val_main_cst_12]
    rw [h, h']
    rfl
  unfold val_main_v89 val_main_v88 val_main_v87
  generalize val_main_v86 (F := Ideal) x0 x1 x2 x3 x4 x5 x6 x7 = y at h'' ⊢
  pointwise [val_main_cst_13]
  rw [drop_col, h'', zero_add]

theorem v93_at (i : Fin 8192) (j : Fin 1024) :
    (val_main_v93 (F := Ideal) x0 x1 x2 x3 x4 x5 x6 x7 (ix3 (0 : Fin 1) i j) : EReal) = (args x0 x1 x2 x3 x4 x5 x6 x7).dx1 i j := by
  have h := v89_at x0 x1 x2 x3 x4 x5 x6 x7 R i j
  have h1 := v20_at x0 x1 x2 x3 x4 x5 x6 x7 i
  have h2 := v76_at x0 x1 x2 x3 x4 x5 x6 x7 R i j
  have h3 := v12_at x0 x1 x2 x3 x4 x5 x6 x7 i j
  rw [R.dx1_eq]
  unfold val_main_v93 val_main_v92 val_main_v91 val_main_v90 val_main_v83 val_main_v82 val_main_v81 val_main_v21
  generalize val_main_v89 (F := Ideal) x0 x1 x2 x3 x4 x5 x6 x7 = y at h ⊢
  generalize val_main_v20 (F := Ideal) x0 x1 x2 x4 = z at h1 ⊢
  generalize val_main_v76 (F := Ideal) x0 x1 x2 x3 x4 x5 x6 x7 = a at h2 ⊢
  generalize val_main_v12 (F := Ideal) x0 x1 x2 x4 = b at h3 ⊢
  pointwise [val_main_v51]
  rw [h, h1, h2, h3]
  rfl

theorem v97_at (i : Fin 8192) (k : Fin 1024) :
    (val_main_v97 (F := Ideal) x0 x1 x2 x3 x4 x5 x6 x7 (ix3 (0 : Fin 1) i k) : EReal) = (args x0 x1 x2 x3 x4 x5 x6 x7).dmg i k := by
  rw [val_main_v97_apply]
  refine Finset.sum_congr rfl fun p _ => ?_
  rw [val_main_v8_apply, show lidx_main_v97 (ix3 (0 : Fin 1) i k) p = ix3 (0 : Fin 1) i p from funext fun a => by
    match a with | ⟨0, _⟩ => rfl | ⟨1, _⟩ => rfl | ⟨2, _⟩ => rfl]
  refine congrArg₂ (· * ·) ?_ (congrArg x4 ?_)
  · have h := v93_at x0 x1 x2 x3 x4 x5 x6 x7 R i p
    unfold val_main_v96
    generalize val_main_v93 (F := Ideal) x0 x1 x2 x3 x4 x5 x6 x7 = y at h ⊢
    pointwise [val_main_v95, val_main_v7, val_main_v2]
    rw [h]
    exact mul_comm _ _
  · funext a
    apply Fin.ext
    match a with
    | ⟨0, _⟩ => rfl
    | ⟨1, _⟩ => show (k.val * 1024 + p.val) / 1024 % 1024 = k.val; omega
    | ⟨2, _⟩ => show (k.val * 1024 + p.val) % 1024 = p.val; omega

theorem sh_at (j : Fin 1024) : (val_main_v64 (F := Ideal) x0 x1 x2 x3 x4 x5 x6 x7 (ix2 (0 : Fin 1) j) : EReal) = (args x0 x1 x2 x3 x4 x5 x6 x7).sumSh j := by
  have h : (val_main_v61 (F := Ideal) x0 x1 x2 x3 x4 x5 x6 x7 (ix2 (0 : Fin 1) j) : EReal) = (args x0 x1 x2 x3 x4 x5 x6 x7).sumSh j := by
    rw [val_main_v61_apply]
    refine (congrArg₂ (· + ·) (?_ : _ = (0 : EReal)) (Finset.sum_congr rfl fun k _ => ?_)).trans (zero_add _)
    · pointwise [val_main_cst_5]
    · refine (congrArg _ (funext fun a => ?_)).trans (v60_at x0 x1 x2 x3 x4 x5 x6 x7 R k j)
      match a with | ⟨0, _⟩ => rfl | ⟨1, _⟩ => rfl | ⟨2, _⟩ => rfl
  unfold val_main_v64 val_main_v63 val_main_v62
  generalize val_main_v61 (F := Ideal) x0 x1 x2 x3 x4 x5 x6 x7 = y at h ⊢
  pointwise [val_main_cst_6]
  rw [drop_row, zero_add, ← h]
  pointwise

theorem sc_at (j : Fin 1024) : (val_main_v71 (F := Ideal) x0 x1 x2 x3 x4 x5 x6 x7 (ix2 (0 : Fin 1) j) : EReal) = (args x0 x1 x2 x3 x4 x5 x6 x7).sumSc j := by
  have h : (val_main_v66 (F := Ideal) x0 x1 x2 x3 x4 x5 x6 x7 (ix2 (0 : Fin 1) j) : EReal) = (args x0 x1 x2 x3 x4 x5 x6 x7).sumSc j := by
    rw [val_main_v66_apply]
    refine (congrArg₂ (· + ·) (?_ : _ = (0 : EReal)) (Finset.sum_congr rfl fun k _ => ?_)).trans (zero_add _)
    · pointwise [val_main_cst_7]
    · rw [show idx_main_v66 (ix2 (0 : Fin 1) j) k = ix3 (0 : Fin 1) k j from funext fun a => by
        match a with | ⟨0, _⟩ => rfl | ⟨1, _⟩ => rfl | ⟨2, _⟩ => rfl]
      have h1 := v26_at x0 x1 x2 x3 x4 x5 x6 x7 k j
      have h2 := v60_at x0 x1 x2 x3 x4 x5 x6 x7 R k j
      unfold val_main_v65 val_main_v29
      generalize val_main_v26 (F := Ideal) x0 x1 x2 x4 = y at h1 ⊢
      generalize val_main_v60 (F := Ideal) x0 x1 x2 x3 x4 x5 x6 x7 = z at h2 ⊢
      pointwise [val_main_v28, val_main_v27, val_main_v13]
      rw [h1, h2]
      exact mul_comm _ _
  unfold val_main_v71 val_main_v70 val_main_v67
  generalize val_main_v66 (F := Ideal) x0 x1 x2 x3 x4 x5 x6 x7 = y at h ⊢
  pointwise [val_main_cst_8]
  rw [drop_row, zero_add, ← h]
  pointwise

theorem g_at (j : Fin 1024) : (val_main_v94 (F := Ideal) x0 x1 x2 x3 x4 x5 x6 x7 (ix2 (0 : Fin 1) j) : EReal) = (args x0 x1 x2 x3 x4 x5 x6 x7).sumG j := by
  have h : (val_main_v73 (F := Ideal) x0 x1 x2 x3 x4 x5 x6 x7 (ix2 (0 : Fin 1) j) : EReal) = (args x0 x1 x2 x3 x4 x5 x6 x7).sumG j := by
    rw [val_main_v73_apply]
    refine (congrArg₂ (· + ·) (?_ : _ = (0 : EReal)) (Finset.sum_congr rfl fun k _ => ?_)).trans (zero_add _)
    · pointwise [val_main_cst_9]
    · rw [show idx_main_v73 (ix2 (0 : Fin 1) j) k = ix3 (0 : Fin 1) k j from funext fun a => by
        match a with | ⟨0, _⟩ => rfl | ⟨1, _⟩ => rfl | ⟨2, _⟩ => rfl]
      rw [val_main_v72_apply]
      exact (congrArg₂ (· * ·) (v26_at x0 x1 x2 x3 x4 x5 x6 x7 k j) (v69_at x0 x1 x2 x3 x4 x5 x6 x7 R k j)).trans (mul_comm _ _)
  unfold val_main_v94 val_main_v77 val_main_v74
  generalize val_main_v73 (F := Ideal) x0 x1 x2 x3 x4 x5 x6 x7 = y at h ⊢
  pointwise [val_main_cst_10]
  rw [drop_row, zero_add, ← h]
  pointwise

/-- The six results. -/
theorem dgate_at (j : Fin 4) (i : Fin 8192) (f : Fin 704) :
    (val_main_v101 (F := Ideal) x0 x1 x2 x3 x4 x5 x6 x7 (ix4 (0 : Fin 2) j i f) : EReal) = (args x0 x1 x2 x3 x4 x5 x6 x7).dgate i ⟨704 * j.val + f.val, by omega⟩ := by
  have h := v59_lo x0 x1 x2 x3 x4 x5 x6 x7 R i ⟨704 * j.val + f.val, by omega⟩
  rw [val_main_v101_apply, val_main_v100_apply, val_main_v99_apply, val_main_v98_apply]
  refine (congrArg (val_main_v59 (F := Ideal) x0 x1 x2 x3 x4 x5 x6 x7) ?_).trans h
  funext a
  apply Fin.ext
  match a with
  | ⟨0, _⟩ => rfl
  | ⟨1, _⟩ => show ((((i.val * 2 + 0) * 4 + j.val) * 704 + f.val) / 5632 * 5632 + (((i.val * 2 + 0) * 4 + j.val) * 704 + f.val) % 5632) / 5632 % 8192 = i.val; omega
  | ⟨2, _⟩ => show ((((i.val * 2 + 0) * 4 + j.val) * 704 + f.val) / 5632 * 5632 + (((i.val * 2 + 0) * 4 + j.val) * 704 + f.val) % 5632) % 5632 = 704 * j.val + f.val; omega

theorem dup_at (j : Fin 4) (i : Fin 8192) (f : Fin 704) :
    (val_main_v101 (F := Ideal) x0 x1 x2 x3 x4 x5 x6 x7 (ix4 (1 : Fin 2) j i f) : EReal) = (args x0 x1 x2 x3 x4 x5 x6 x7).dup i ⟨704 * j.val + f.val, by omega⟩ := by
  have h := v59_hi x0 x1 x2 x3 x4 x5 x6 x7 R i ⟨704 * j.val + f.val, by omega⟩
  rw [val_main_v101_apply, val_main_v100_apply, val_main_v99_apply, val_main_v98_apply]
  refine (congrArg (val_main_v59 (F := Ideal) x0 x1 x2 x3 x4 x5 x6 x7) ?_).trans h
  funext a
  apply Fin.ext
  match a with
  | ⟨0, _⟩ => rfl
  | ⟨1, _⟩ => show ((((i.val * 2 + 1) * 4 + j.val) * 704 + f.val) / 5632 * 5632 + (((i.val * 2 + 1) * 4 + j.val) * 704 + f.val) % 5632) / 5632 % 8192 = i.val; omega
  | ⟨2, _⟩ => show ((((i.val * 2 + 1) * 4 + j.val) * 704 + f.val) / 5632 * 5632 + (((i.val * 2 + 1) * 4 + j.val) * 704 + f.val) % 5632) % 5632 = 2816 + (704 * j.val + f.val); omega

omit R in
theorem act_at (j : Fin 4) (i : Fin 8192) (f : Fin 704) :
    (val_main_v105 (F := Ideal) x0 x1 x2 x3 x4 x5 (ix3 j i f) : EReal) = (args x0 x1 x2 x3 x4 x5 x6 x7).act i ⟨704 * j.val + f.val, by omega⟩ := by
  have h := v44_at x0 x1 x2 x3 x4 x5 x6 x7 i ⟨704 * j.val + f.val, by omega⟩
  rw [val_main_v105_apply, val_main_v104_apply, val_main_v103_apply, val_main_v102_apply]
  refine (congrArg (val_main_v44 (F := Ideal) x0 x1 x2 x3 x4 x5) ?_).trans h
  funext a
  apply Fin.ext
  match a with
  | ⟨0, _⟩ => rfl
  | ⟨1, _⟩ => show (((i.val * 4 + j.val) * 704 + f.val) / 2816 * 2816 + ((i.val * 4 + j.val) * 704 + f.val) % 2816) / 2816 % 8192 = i.val; omega
  | ⟨2, _⟩ => show (((i.val * 4 + j.val) * 704 + f.val) / 2816 * 2816 + ((i.val * 4 + j.val) * 704 + f.val) % 2816) % 2816 = 704 * j.val + f.val; omega

theorem dx1_at (i : Fin 8192) (j : Fin 1024) : (val_main_v106 (F := Ideal) x0 x1 x2 x3 x4 x5 x6 x7 (ix2 i j) : EReal) = (args x0 x1 x2 x3 x4 x5 x6 x7).dx1 i j := by
  have h := v93_at x0 x1 x2 x3 x4 x5 x6 x7 R i j
  unfold val_main_v106
  generalize val_main_v93 (F := Ideal) x0 x1 x2 x3 x4 x5 x6 x7 = y at h ⊢
  pointwise
  exact h

theorem dx1b_at (i : Fin 8192) (j : Fin 1024) : (val_main_v108 (F := Ideal) x0 x1 x2 x3 x4 x5 x6 x7 (ix2 i j) : EReal) = (args x0 x1 x2 x3 x4 x5 x6 x7).dx1 i j := by
  have h := v93_at x0 x1 x2 x3 x4 x5 x6 x7 R i j
  unfold val_main_v108 val_main_v107
  generalize val_main_v93 (F := Ideal) x0 x1 x2 x3 x4 x5 x6 x7 = y at h ⊢
  pointwise
  exact h

theorem dmg_at (i : Fin 8192) (j : Fin 1024) : (val_main_v110 (F := Ideal) x0 x1 x2 x3 x4 x5 x6 x7 (ix2 i j) : EReal) = (args x0 x1 x2 x3 x4 x5 x6 x7).dmg i j := by
  have h := v97_at x0 x1 x2 x3 x4 x5 x6 x7 R i j
  unfold val_main_v110 val_main_v109
  generalize val_main_v97 (F := Ideal) x0 x1 x2 x3 x4 x5 x6 x7 = y at h ⊢
  pointwise
  exact h

theorem sums_at (i : Fin 8) (j : Fin 1024) : (val_main_v112 (F := Ideal) x0 x1 x2 x3 x4 x5 x6 x7 (ix2 i j) : EReal) = (args x0 x1 x2 x3 x4 x5 x6 x7).sums i j := by
  have h0 := sh_at x0 x1 x2 x3 x4 x5 x6 x7 R j
  have h1 := sc_at x0 x1 x2 x3 x4 x5 x6 x7 R j
  have h2 := g_at x0 x1 x2 x3 x4 x5 x6 x7 R j
  unfold val_main_v112 Args.sums
  generalize val_main_v64 (F := Ideal) x0 x1 x2 x3 x4 x5 x6 x7 = a at h0 ⊢
  generalize val_main_v71 (F := Ideal) x0 x1 x2 x3 x4 x5 x6 x7 = b at h1 ⊢
  generalize val_main_v94 (F := Ideal) x0 x1 x2 x3 x4 x5 x6 x7 = d at h2 ⊢
  rw [← h0, ← h1, ← h2]
  pointwise [val_main_v111, val_main_cst_14]
  match i with
  | ⟨0, _⟩ => simp
  | ⟨1, _⟩ => simp
  | ⟨2, _⟩ => simp
  | ⟨n + 3, h⟩ => simp
end
end Cert.FfnRefIdeal.Values
-- ==== Proof.FfnResult.lean ====
/- The kernel's six results as functions of its arguments. -/
module
public import proofs.«01_k».proof.Proof.FfnBlockValues
public import proofs.«01_k».proof.Proof.FfnRefValues
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnBwdIdeal.Blocks
open Cert.FfnBwdIdeal Cert.FfnBwdIdeal.Gen Cert.Rows Cert.Norm Cert.Ffn

theorem idx : ∀ t : Fin cfg0.N, win0_0.index t = ![t.val, 0] ∧ win0_1.index t = ![0, 0, t.val, 0] ∧ win0_2.index t = ![t.val, 0]
    ∧ win0_3.index t = ![0, 0] ∧ win0_4.index t = ![0, 0] ∧ win0_5.index t = ![0, 0, 0, 0] ∧ win0_6.index t = ![0, 0]
    ∧ win0_7.index t = ![0, 0] ∧ win0_8.index t = ![0, 0, t.val, 0] ∧ win0_9.index t = ![0, t.val, 0] ∧ win0_10.index t = ![t.val, 0]
    ∧ win0_11.index t = ![t.val, 0] ∧ win0_12.index t = ![t.val, 0] ∧ win0_13.index t = ![0, 0] := (by decide +kernel : ∀ t : Fin grid0.N, _)

theorem lt32 (t : Fin cfg0.N) : t.val < 32 := lt_of_lt_of_eq t.isLt N_0

/-- The row of the arrays that row `i` of step `t`'s block is, and the column that column `f` of plane `j` is. -/
def row (t : Fin cfg0.N) (i : Fin 256) : Fin 8192 := ⟨256 * t.val + i.val, by have := lt32 t; omega⟩
def col (j : Fin 4) (f : Fin 704) : Fin 2816 := ⟨704 * j.val + f.val, by omega⟩

variable (m : (ℓ : Loc nD τ sig) → Buf (Elt Ideal) ℓ)

/-- The arguments on one device. -/
def theArgs (c : Dev nD) : Args := args (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem blk0 (c : Dev nD) (t : Fin cfg0.N) (i : Fin 256) (k : Fin 1024) :
    (iblk m c 0 t (ix2 i k) : EReal) = (theArgs m c).ct (row t i) k := by
  unfold iblk
  entry_read
  blk_simp
  pointwise
  unfold theArgs args
  blk_ext [idx t, row]

section
variable (c : Dev nD)

/-- The reference's residual stream and gate and up product's left operand, at the kernel's arguments. -/
abbrev refX1 : S1x8192x1024.Idx → EReal := Cert.FfnRefIdeal.Read.val_main_v12 (F := Ideal) (m ((c : Thread nD τ).loc main_arg0)) (m ((c : Thread nD τ).loc main_arg1))
  (m ((c : Thread nD τ).loc main_arg2)) (m ((c : Thread nD τ).loc main_arg4))
abbrev refH : S1x8192x1024.Idx → EReal := Cert.FfnRefIdeal.Read.val_main_v37 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

theorem refX1_at (i : Fin 8192) (k : Fin 1024) : refX1 m c (ix3 (0 : Fin 1) i k) = (theArgs m c).x1 i k :=
  Cert.FfnRefIdeal.Values.v12_at (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) i k

theorem refH_at (i : Fin 8192) (k : Fin 1024) : refH m c (ix3 (0 : Fin 1) i k) = (theArgs m c).h i k :=
  Cert.FfnRefIdeal.Values.v37_at (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) i k
end

theorem entry48 (c : Dev nD) (i : Fin 8192) (k : Fin 1024) :
    (V m c main_v48 (ix2 i k) : EReal) = (theArgs m c).x1 i k := by
  entry_read
  have h := refX1_at m c i k
  refine Eq.trans (b := (shapeCast S8192x1024 (refX1 m c) shapeCasts_S1x8192x1024_S8192x1024 (ix2 i k) : EReal)) rfl ?_
  unfold refX1 at h ⊢
  generalize Cert.FfnRefIdeal.Read.val_main_v12 (F := Ideal) _ _ _ _ = y at h ⊢
  pointwise
  exact h

theorem blk2 (c : Dev nD) (t : Fin cfg0.N) (i : Fin 256) (k : Fin 1024) :
    (iblk m c 2 t (ix2 i k) : EReal) = (theArgs m c).x1 (row t i) k := by
  have e : (iblk m c 2 t (ix2 i k) : EReal) = V m c main_v48 (ix2 (row t i) k) := by
    blk_ext [iblk, idx t, row]
  exact e.trans (entry48 m c _ k)

/-- The product with the weights, split and transposed, at an index. -/
theorem planes (y : FVec Ideal S1x8192x1024 .f32) (w : FVec Ideal S1x1024x5632 .f32) (a : Fin 2) (j : Fin 4) (i : Fin 8192) (f : Fin 704) :
    (truncf .bf16 (transpose S2x4x8192x704 [1, 2, 0, 3] (shapeCast S8192x2x4x704 (shapeCast S8192x5632
      (Host.dotGeneral (F := Ideal) dot_S1x8192x1024_S1024x5632_S1x8192x5632_2_0_01_1_n_n none y
        (shapeCast S1024x5632 w shapeCasts_S1x1024x5632_S1024x5632))
      shapeCasts_S1x8192x5632_S8192x5632) shapeCasts_S8192x5632_S8192x2x4x704) transposes_S8192x2x4x704_S2x4x8192x704_1_2_0_3) bitsLt_bf16_f32
      (ix4 a j i f) : EReal)
    = ∑ k, y (ix3 (0 : Fin 1) i k) * w (ix3 (0 : Fin 1) k ⟨2816 * a.val + 704 * j.val + f.val, by omega⟩) := by
  pointwise
  refine Finset.sum_congr rfl fun k _ => congrArg (y (ix3 (0 : Fin 1) i k) * ·) (congrArg w (congrArg (ix3 (0 : Fin 1) k) (Fin.ext ?_)))
  show a.val * 2816 + j.val * 704 + f.val = 2816 * a.val + 704 * j.val + f.val
  omega

theorem entry39 (c : Dev nD) (a : Fin 2) (j : Fin 4) (i : Fin 8192) (f : Fin 704) :
    (V m c main_v39 (ix4 a j i f) : EReal) = (theArgs m c).gu i ⟨2816 * a.val + 704 * j.val + f.val, by omega⟩ := by
  entry_read
  refine Eq.trans (b := (truncf .bf16 (transpose S2x4x8192x704 [1, 2, 0, 3] (shapeCast S8192x2x4x704 (shapeCast S8192x5632
      (Host.dotGeneral (F := Ideal) dot_S1x8192x1024_S1024x5632_S1x8192x5632_2_0_01_1_n_n none (refH m c)
        (shapeCast S1024x5632 (m ((c : Thread nD τ).loc main_arg5)) shapeCasts_S1x1024x5632_S1024x5632))
      shapeCasts_S1x8192x5632_S8192x5632) shapeCasts_S8192x5632_S8192x2x4x704) transposes_S8192x2x4x704_S2x4x8192x704_1_2_0_3) bitsLt_bf16_f32
      (ix4 a j i f) : EReal)) rfl ((planes _ _ a j i f).trans ?_)
  exact Finset.sum_congr rfl fun k _ => congrArg (· * _) (refH_at m c i k)

theorem blk1 (c : Dev nD) (t : Fin cfg0.N) (a : Fin 2) (j : Fin 4) (i : Fin 256) (f : Fin 704) :
    (iblk m c 1 t (ix4 a j i f) : EReal) = (theArgs m c).gu (row t i) ⟨2816 * a.val + 704 * j.val + f.val, by omega⟩ := by
  have e : (iblk m c 1 t (ix4 a j i f) : EReal) = V m c main_v39 (ix4 a j (row t i) f) := by
    blk_ext [iblk, idx t, row]
  exact e.trans (entry39 m c a j _ f)

theorem packed (a : FVec Ideal S1x6144 .f32) (z : FVec Ideal S2x1024 .f32) (r : Fin 6) (j : Fin 1024) :
    concatenate S8x1024 0 [⟨S6x1024, shapeCast S6x1024 a shapeCasts_S1x6144_S6x1024⟩, ⟨S2x1024, z⟩]
      concatenates_S6x1024_S2x1024_S8x1024_d0 (ix2 (⟨r.val, by omega⟩ : Fin 8) j)
      = a (ix2 (0 : Fin 1) (⟨1024 * r.val + j.val, by omega⟩ : Fin 6144)) := by
  match r with
  | ⟨0, _⟩ => pointwise
  | ⟨1, _⟩ => pointwise
  | ⟨2, _⟩ => pointwise
  | ⟨3, _⟩ => pointwise
  | ⟨4, _⟩ => pointwise
  | ⟨5, _⟩ => pointwise

theorem blk3 (c : Dev nD) (t : Fin cfg0.N) (r : Fin 6) (j : Fin 1024) :
    (iblk m c 3 t (ix2 ⟨r.val, by omega⟩ j) : EReal) = (theArgs m c).mrow r j := by
  have e : (iblk m c 3 t (ix2 ⟨r.val, by omega⟩ j) : EReal) = V m c main_v42 (ix2 ⟨r.val, by omega⟩ j) := by
    blk_ext [iblk, idx t, row]
  refine e.trans ?_
  entry_read
  exact packed _ _ r j

theorem blk4 (c : Dev nD) (t : Fin cfg0.N) (j : Fin 1024) :
    (iblk m c 4 t (ix2 (0 : Fin 1) j) : EReal) = (theArgs m c).g j := by
  unfold theArgs args
  blk_ext [iblk, V, idx t]

theorem blk5 (c : Dev nD) (t : Fin cfg0.N) (d : Fin 2) (j : Fin 4) (f : Fin 704) (k : Fin 1024) :
    (iblk m c 5 t (ix4 d j f k) : EReal) = (theArgs m c).wgu k ⟨2816 * d.val + 704 * j.val + f.val, by omega⟩ := by
  unfold iblk
  entry_read
  blk_simp
  pointwise
  refine congrArg (m ((c : Thread nD τ).loc main_arg5)) (funext fun a => Fin.ext ?_)
  match a with
  | ⟨0, _⟩ => rfl
  | ⟨1, _⟩ => blk_simp [idx t]
  | ⟨2, _⟩ =>
    blk_simp [idx t]
    show d.val * 2816 + j.val * 704 + f.val = 2816 * d.val + 704 * j.val + f.val
    omega

theorem blk6 (c : Dev nD) (t : Fin cfg0.N) (f : Fin 2816) (k : Fin 1024) :
    (iblk m c 6 t (ix2 f k) : EReal) = (theArgs m c).wd f k := by
  unfold iblk
  entry_read
  blk_simp
  pointwise
  unfold theArgs args
  blk_ext [idx t]

theorem blk7 (c : Dev nD) (t : Fin cfg0.N) (k o : Fin 1024) :
    (iblk m c 7 t (ix2 k o) : EReal) = (theArgs m c).wo k o := by
  unfold iblk
  entry_read
  blk_simp
  pointwise
  unfold theArgs args
  blk_ext [idx t]

theorem gate_step (c : Dev nD) (t : Fin cfg0.N) (j : Fin 4) (i : Fin 256) (f : Fin 704) :
    (iblk m c 1 t (ix4 (0 : Fin 2) j i f) : EReal) = (theArgs m c).gate (row t i) (col j f) :=
  (blk1 m c t 0 j i f).trans (congrArg ((theArgs m c).gu (row t i)) (Fin.ext (by show 2816 * 0 + 704 * j.val + f.val = 704 * j.val + f.val; omega)))
theorem up_step (c : Dev nD) (t : Fin cfg0.N) (j : Fin 4) (i : Fin 256) (f : Fin 704) :
    (iblk m c 1 t (ix4 (1 : Fin 2) j i f) : EReal) = (theArgs m c).up (row t i) (col j f) :=
  (blk1 m c t 1 j i f).trans (congrArg ((theArgs m c).gu (row t i)) (Fin.ext (by show 2816 * 1 + 704 * j.val + f.val = 2816 + (704 * j.val + f.val); omega)))

theorem dact_step (c : Dev nD) (t : Fin cfg0.N) (j : Fin 4) (i : Fin 256) (f : Fin 704) :
    dactV (iblk m c 0 t) (iblk m c 3 t) (iblk m c 6 t) j i f = (theArgs m c).dact (row t i) (col j f) :=
  Finset.sum_congr rfl fun k _ => congrArg₂ (· * ·) (congrArg₂ (· * ·) (blk0 m c t i k) (blk3 m c t 5 k)) (blk6 m c t (col j f) k)

theorem dgate_step (c : Dev nD) (t : Fin cfg0.N) (j : Fin 4) (i : Fin 256) (f : Fin 704) :
    dgateV (iblk m c 0 t) (iblk m c 1 t) (iblk m c 3 t) (iblk m c 6 t) j i f = (theArgs m c).dgate (row t i) (col j f) := by
  unfold dgateV
  rw [dact_step, gate_step, up_step]
  rfl
theorem dup_step (c : Dev nD) (t : Fin cfg0.N) (j : Fin 4) (i : Fin 256) (f : Fin 704) :
    dupV (iblk m c 0 t) (iblk m c 1 t) (iblk m c 3 t) (iblk m c 6 t) j i f = (theArgs m c).dup (row t i) (col j f) := by
  unfold dupV
  rw [dact_step, gate_step]
  rfl

/-- The columns of the four planes are the 2816 columns. -/
theorem planes_cols (G : Fin 4 → Fin 704 → EReal) (F : Fin 2816 → EReal) (h : ∀ j f, G j f = F (col j f)) : ∑ j, ∑ f, G j f = ∑ f, F f := by
  refine Fin.sum_mul_add_congr fun j f hl => ?_
  rw [h]
  exact congrArg F (Fin.ext (by show 704 * j.val + f.val = j.val * 704 + f.val; omega))

theorem dh_step (c : Dev nD) (t : Fin cfg0.N) (i : Fin 256) (k : Fin 1024) :
    dhV (iblk m c 0 t) (iblk m c 1 t) (iblk m c 3 t) (iblk m c 5 t) (iblk m c 6 t) i k = (theArgs m c).dh (row t i) k := by
  unfold dhV partV
  rw [Finset.sum_add_distrib]
  refine congrArg₂ (· + ·) (planes_cols _ _ fun j f => ?_) (planes_cols _ _ fun j f => ?_)
  · rw [dgate_step, blk5]
    exact congrArg (_ * ·) (congrArg ((theArgs m c).wgu k) (Fin.ext (by show 2816 * 0 + 704 * j.val + f.val = 704 * j.val + f.val; omega)))
  · rw [dup_step, blk5]
    exact congrArg (_ * ·) (congrArg ((theArgs m c).wgu k) (Fin.ext (by show 2816 * 1 + 704 * j.val + f.val = 2816 + (704 * j.val + f.val); omega)))

theorem x1_step (c : Dev nD) (t : Fin cfg0.N) (i : Fin 256) : (fun k => (iblk m c 2 t (ix2 i k) : EReal)) = (theArgs m c).x1 (row t i) :=
  funext fun k => blk2 m c t i k

theorem dx1_step (c : Dev nD) (t : Fin cfg0.N) (i : Fin 256) (j : Fin 1024) :
    dx1V (iblk m c 0 t) (iblk m c 1 t) (iblk m c 2 t) (iblk m c 3 t) (iblk m c 4 t) (iblk m c 5 t) (iblk m c 6 t) i j
      = (theArgs m c).dx1 (row t i) j := by
  unfold dx1V
  rw [x1_step, blk0]
  refine congrArg (_ + ·) (congrArg (fun d => rowGrad _ d j) (funext fun k => ?_))
  rw [dh_step, blk4]
  exact congrArg (fun y => _ * (1 + y) * _) (blk3 m c t 4 k)

theorem dmg_step (c : Dev nD) (t : Fin cfg0.N) (i : Fin 256) (k : Fin 1024) :
    dmgV (iblk m c 0 t) (iblk m c 1 t) (iblk m c 2 t) (iblk m c 3 t) (iblk m c 4 t) (iblk m c 5 t) (iblk m c 6 t) (iblk m c 7 t) i k
      = (theArgs m c).dmg (row t i) k :=
  Finset.sum_congr rfl fun o _ => congrArg₂ (· * ·) (congrArg₂ (· * ·) (dx1_step m c t i o) (blk3 m c t 2 o)) (blk7 m c t k o)

/-- The rows of the 32 grid steps are the 8192 rows. -/
theorem points_rows (G : Fin cfg0.N → Fin 256 → EReal) (F : Fin 8192 → EReal) (h : ∀ t r, G t r = F (row t r)) :
    ∑ t, ∑ r, G t r = ∑ i, F i :=
  block_rows N_0 G F h

theorem sums_points (c : Dev nD) (i : Fin 8) (j : Fin 1024) :
    ∑ t : Fin cfg0.N, stepSums (iblk m c 0 t) (iblk m c 1 t) (iblk m c 2 t) (iblk m c 3 t) (iblk m c 4 t) (iblk m c 5 t) (iblk m c 6 t) i j
      = (theArgs m c).sums i j := by
  have pull : ∀ (p : Prop) [Decidable p] (S : Fin cfg0.N → EReal), (∑ t, if p then S t else 0) = if p then ∑ t, S t else 0 := by
    intro p _ S
    split <;> simp
  unfold stepSums Args.sums
  rw [Finset.sum_add_distrib, Finset.sum_add_distrib, pull, pull, pull]
  refine congrArg₂ (· + ·) (congrArg₂ (· + ·) ?_ ?_) ?_
  · exact if_congr Iff.rfl (points_rows _ _ fun t r => dh_step m c t r j) rfl
  · refine if_congr Iff.rfl (points_rows _ _ fun t r => ?_) rfl
    unfold scTerm
    rw [x1_step, dh_step, blk2, blk4]
  · refine if_congr Iff.rfl (points_rows _ _ fun t r => ?_) rfl
    unfold gTerm
    rw [x1_step, dh_step, blk2]
    exact congrArg (fun y => _ * (1 + y) * _) (blk3 m c t 4 j)

/-- The two planes of gradients, at an index of the array. -/
def planesOf (A : Args) (i : S2x4x8192x704.Idx) : EReal :=
  if (i 0).val = 0 then A.dgate (i 2) (col (i 1) (i 3)) else A.dup (i 2) (col (i 1) (i 3))

theorem final8 (c : Dev nD) : (dats m 0 c).arrAt 8 cfg0.N = (planesOf (theArgs m c) : S2x4x8192x704.Idx → EReal) := by
  refine (dats m 0 c).arrAt_eq_of_covers 8 _ (by decide +kernel) fun t hf y => ?_
  blk_simp
  rw [after0_8, out8]
  idx_vars y
  have e : ((View.whole main_v53_0).slice (win0_8.rect t)).emb (ix4 y0 y1 y2 y3) = ix4 y0 y1 (row t y2) y3 := by
    funext a
    apply Fin.ext
    match a with
    | ⟨0, _⟩ => blk_simp [idx t]
    | ⟨1, _⟩ => blk_simp [idx t]
    | ⟨2, _⟩ =>
      blk_simp [idx t]
      show t.val * 256 + y2.val = 256 * t.val + y2.val
      omega
    | ⟨3, _⟩ => blk_simp [idx t]
  rw [e]
  have h := guPieces_apply (iblk m c 0 t) (iblk m c 1 t) (iblk m c 3 t) (iblk m c 6 t) 64 (le_refl _) y1 y2 y3 (by omega)
  match y0 with
  | ⟨0, _⟩ => exact h.1.trans (dgate_step m c t y1 y2 y3)
  | ⟨1, _⟩ => exact h.2.trans (dup_step m c t y1 y2 y3)

theorem final9 (c : Dev nD) : (dats m 0 c).arrAt 9 cfg0.N
    = (fun i => (theArgs m c).act (i 1) (col (i 0) (i 2)) : S4x8192x704.Idx → EReal) := by
  refine (dats m 0 c).arrAt_eq_of_covers 9 _ (by decide +kernel) fun t hf y => ?_
  blk_simp
  rw [after0_9, out9]
  idx_vars y
  have e : ((View.whole main_v53_1).slice (win0_9.rect t)).emb (ix3 y0 y1 y2) = ix3 y0 (row t y1) y2 := by
    funext a
    apply Fin.ext
    match a with
    | ⟨0, _⟩ => blk_simp [idx t]
    | ⟨1, _⟩ =>
      blk_simp [idx t]
      show t.val * 256 + y1.val = 256 * t.val + y1.val
      omega
    | ⟨2, _⟩ => blk_simp [idx t]
  rw [e]
  refine (actPieces_apply (iblk m c 1 t) 64 (le_refl _) y0 y1 y2 (by omega)).trans ?_
  rw [gate_step, up_step]
  rfl

theorem final10 (c : Dev nD) : (dats m 0 c).arrAt 10 cfg0.N = (fun i => (theArgs m c).dx1 (i 0) (i 1) : S8192x1024.Idx → EReal) := by
  refine (dats m 0 c).arrAt_eq_of_covers 10 _ (by decide +kernel) fun t hf y => ?_
  blk_simp
  rw [after0_10, out10]
  idx_vars y
  refine ((dx1Pieces_apply _ _ _ _ _ _ _ _ _ _).trans (dx1_step m c t y0 y1)).trans ?_
  refine congrArg₂ (theArgs m c).dx1 (Fin.ext ?_) (Fin.ext ?_)
  · blk_simp [idx t]
    show 256 * t.val + y0.val = t.val * 256 + y0.val
    omega
  · blk_simp [idx t]

theorem final11 (c : Dev nD) : (dats m 0 c).arrAt 11 cfg0.N = (fun i => (theArgs m c).dx1 (i 0) (i 1) : S8192x1024.Idx → EReal) := by
  refine (dats m 0 c).arrAt_eq_of_covers 11 _ (by decide +kernel) fun t hf y => ?_
  blk_simp
  rw [after0_11, out11]
  idx_vars y
  refine ((dx1bPieces_apply _ _ _ _ _ _ _ _ _ _).trans (dx1_step m c t y0 y1)).trans ?_
  refine congrArg₂ (theArgs m c).dx1 (Fin.ext ?_) (Fin.ext ?_)
  · blk_simp [idx t]
    show 256 * t.val + y0.val = t.val * 256 + y0.val
    omega
  · blk_simp [idx t]

theorem final12 (c : Dev nD) : (dats m 0 c).arrAt 12 cfg0.N = (fun i => (theArgs m c).dmg (i 0) (i 1) : S8192x1024.Idx → EReal) := by
  refine (dats m 0 c).arrAt_eq_of_covers 12 _ (by decide +kernel) fun t hf y => ?_
  blk_simp
  rw [after0_12, out12]
  idx_vars y
  refine ((dmgPieces_apply _ _ _ _ _ _ _ _ _ _ _).trans (dmg_step m c t y0 y1)).trans ?_
  refine congrArg₂ (theArgs m c).dmg (Fin.ext ?_) (Fin.ext ?_)
  · blk_simp [idx t]
    show 256 * t.val + y0.val = t.val * 256 + y0.val
    omega
  · blk_simp [idx t]

/-- The last step. -/
def lastStep : Fin cfg0.N := ⟨31, by rw [show cfg0.N = 32 from N_0]; decide⟩

theorem final13 (c : Dev nD) : (dats m 0 c).arrAt 13 cfg0.N = (fun i => (theArgs m c).sums (i 0) (i 1) : S8x1024.Idx → EReal) := by
  refine (dats m 0 c).arrAt_eq_of_after_last 13 lastStep (by decide +kernel) _ fun j => ?_
  blk_simp
  idx_vars j
  rw [after0_13, Pipeline.eq_sum_fin_of_reset_step_apply_last (fun n h => (outsAt0 m c n h).2.2.2.2.2) 32 (fun _ => 0)
    (fun t y => stepSums (iblk m c 0 t) (iblk m c 1 t) (iblk m c 2 t) (iblk m c 3 t) (iblk m c 4 t) (iblk m c 5 t) (iblk m c 6 t) (y 0) (y 1))
    (fun t h y => by idx_vars y; exact (first_sums m c t h _ _).trans (zero_add _).symm)
    (fun t h y => by idx_vars y; exact later_sums m c t h _ _)
    (le_of_eq N_0) lastStep rfl _, zero_add]
  exact sums_points m c j0 j1
end Cert.FfnBwdIdeal.Blocks
-- ==== Proof.FfnAlgebraic.lean ====
/- The two programs' six results are the same arrays. -/
module
public import proofs.«01_k».proof.Proof.FfnResult
public import proofs.«01_k».proof.Proof.FfnRefValues
public import proofs.«01_k».proof.Proof.Finite
public import proofs.«01_k».proof.Proof.Gen.Pre_ffn_finite
public import proofs.«01_k».proof.Proof.Gen.FfnRefIdeal.Run
public import proofs.«01_k».proof.Proof.Gen.FfnBwdIdeal.Value
public import proofs.«01_k».proof.Defs
public import Idealize.ShloMosaic.Lib.Claim
@[expose] public section
set_option maxRecDepth 16384
noncomputable section
open Idealize.ShloMosaic Idealize.ShloMosaic.TcCoe Idealize.SL.Sem
namespace Cert.Ffn
open Cert.FfnBwdIdeal Cert.FfnBwdIdeal.Blocks Cert.Finite

/-- Every entry of the arguments is real. -/
theorem reals [Cert.Pre_ffn_finite.Facts] (m : (ℓ : Loc nD τ sig) → Buf (Elt Ideal) ℓ) (h : Cert.Pre_FfnBwdIdeal_ffn_finite m) (c : Dev nD) :
    (theArgs m c).Real := by
  obtain ⟨h0, h1, h2, h3, h4, h5, h6, h7⟩ := h c
  have r0 := real_all (s := S1x8192x1024) _ _ (fun i => pinf) h0
  have r1 := real_all (s := S1x8192x1024) _ _ (fun i => pinf) h1
  have r2 := real_all (s := S1x6144) _ _ (fun i => pinf) h2
  have r3 := real_all (s := S1x1024) _ _ (fun i => pinf) h3
  have r4 := real_all (s := S1x1024x1024) _ _ (fun i => pinf) h4
  have r5 := real_all (s := S1x1024x5632) _ _ (fun i => pinf) h5
  have r6 := real_all (s := S1x2816x1024) _ _ (fun i => pinf) h6
  have r7 := real_all (s := S1x8192x1024) _ _ (fun i => pinf) h7
  exact ⟨fun i k => r0 _, fun i k => r1 _, fun i k => r7 _, fun k => r2 _, fun k => r3 _, fun i k => r4 _, fun i k => r5 _, fun i k => r6 _⟩

/-- The reference ends with its arguments unchanged and every counter at zero: it declares none. -/
theorem ref_frame : Cert.quiescent_FfnRefIdeal := fun m ρ _ =>
  (θ_run _ _ _).mono (fun r h => ⟨fun c => (h c).2.2.2.2.2.2, sem_eq_zero_of_no_sems (by decide) r.2⟩) (FfnRefIdeal.Value.run m ρ)

section
open Cert.FfnRefIdeal.Read Cert.FfnRefIdeal.Values
variable (x0 x1 : S1x8192x1024.Idx → EReal) (x2 : S1x6144.Idx → EReal) (x3 : S1x1024.Idx → EReal) (x4 : S1x1024x1024.Idx → EReal)
  (x5 : S1x1024x5632.Idx → EReal) (x6 : S1x2816x1024.Idx → EReal) (x7 : S1x8192x1024.Idx → EReal)
  (R : (args x0 x1 x2 x3 x4 x5 x6 x7).Real)
include R

theorem ref_planes : (val_main_v101 (F := Ideal) x0 x1 x2 x3 x4 x5 x6 x7 : S2x4x8192x704.Idx → EReal) = planesOf (args x0 x1 x2 x3 x4 x5 x6 x7) := by
  funext i
  idx_vars i
  match i0 with
  | ⟨0, _⟩ => exact dgate_at x0 x1 x2 x3 x4 x5 x6 x7 R i1 i2 i3
  | ⟨1, _⟩ => exact dup_at x0 x1 x2 x3 x4 x5 x6 x7 R i1 i2 i3
theorem ref_dx1 : (val_main_v106 (F := Ideal) x0 x1 x2 x3 x4 x5 x6 x7 : S8192x1024.Idx → EReal) = fun i => (args x0 x1 x2 x3 x4 x5 x6 x7).dx1 (i 0) (i 1) := by
  funext i
  idx_vars i
  exact dx1_at x0 x1 x2 x3 x4 x5 x6 x7 R i0 i1
theorem ref_dx1b : (val_main_v108 (F := Ideal) x0 x1 x2 x3 x4 x5 x6 x7 : S8192x1024.Idx → EReal) = fun i => (args x0 x1 x2 x3 x4 x5 x6 x7).dx1 (i 0) (i 1) := by
  funext i
  idx_vars i
  exact dx1b_at x0 x1 x2 x3 x4 x5 x6 x7 R i0 i1
theorem ref_dmg : (val_main_v110 (F := Ideal) x0 x1 x2 x3 x4 x5 x6 x7 : S8192x1024.Idx → EReal) = fun i => (args x0 x1 x2 x3 x4 x5 x6 x7).dmg (i 0) (i 1) := by
  funext i
  idx_vars i
  exact dmg_at x0 x1 x2 x3 x4 x5 x6 x7 R i0 i1
theorem ref_sums : (val_main_v112 (F := Ideal) x0 x1 x2 x3 x4 x5 x6 x7 : S8x1024.Idx → EReal) = fun i => (args x0 x1 x2 x3 x4 x5 x6 x7).sums (i 0) (i 1) := by
  funext i
  idx_vars i
  exact sums_at x0 x1 x2 x3 x4 x5 x6 x7 R i0 i1
omit R in
theorem ref_act : (val_main_v105 (F := Ideal) x0 x1 x2 x3 x4 x5 : S4x8192x704.Idx → EReal)
    = fun i => (args x0 x1 x2 x3 x4 x5 x6 x7).act (i 1) (col (i 0) (i 2)) := by
  funext i
  idx_vars i
  exact act_at x0 x1 x2 x3 x4 x5 x6 x7 i0 i1 i2
end

set_option maxHeartbeats 2000000 in
theorem algebraic [Cert.Pre_ffn_finite.Facts] : Cert.algebraic_FfnBwdIdeal_FfnRefIdeal_pre_ffn_finite := by
  intro m g m' g' hpre hagree
  refine ⟨_, _, _, _, _, _, Cert.FfnBwdIdeal.Value.run_blocks m g, (θ_run _ _ _).mono (fun r h c => ?_) (Cert.FfnRefIdeal.Value.run m' g')⟩
  obtain ⟨e0, e1, e2, e3, e4, e5, hargs⟩ := h c
  obtain ⟨a0, a1, a2, a3, a4, a5, a6, a7⟩ := hagree c
  have R := reals m hpre c
  refine ⟨(e0.trans (Cert.FfnRefIdeal.Read.val_main_v101_eq m' c)).trans ?_, (e1.trans (Cert.FfnRefIdeal.Read.val_main_v105_eq m' c)).trans ?_,
    (e2.trans (Cert.FfnRefIdeal.Read.val_main_v106_eq m' c)).trans ?_, (e3.trans (Cert.FfnRefIdeal.Read.val_main_v108_eq m' c)).trans ?_,
    (e4.trans (Cert.FfnRefIdeal.Read.val_main_v110_eq m' c)).trans ?_, (e5.trans (Cert.FfnRefIdeal.Read.val_main_v112_eq m' c)).trans ?_, hargs⟩
  · rw [a0, a1, a2, a3, a4, a5, a6, a7]
    exact (ref_planes _ _ _ _ _ _ _ _ R).trans (final8 m c).symm
  · rw [a0, a1, a2, a3, a4, a5]
    exact (ref_act _ _ _ _ _ _ (m ((c : Thread nD τ).loc main_arg6)) (m ((c : Thread nD τ).loc main_arg7))).trans (final9 m c).symm
  · rw [a0, a1, a2, a3, a4, a5, a6, a7]
    exact (ref_dx1 _ _ _ _ _ _ _ _ R).trans (final10 m c).symm
  · rw [a0, a1, a2, a3, a4, a5, a6, a7]
    exact (ref_dx1b _ _ _ _ _ _ _ _ R).trans (final11 m c).symm
  · rw [a0, a1, a2, a3, a4, a5, a6, a7]
    exact (ref_dmg _ _ _ _ _ _ _ _ R).trans (final12 m c).symm
  · rw [a0, a1, a2, a3, a4, a5, a6, a7]
    exact (ref_sums _ _ _ _ _ _ _ _ R).trans (final13 m c).symm
end Cert.Ffn
-- ==== Proof.FwdBlocks.lean ====
/- What one grid step of the feed-forward block's forward kernel with the loss leaves in its five output blocks, as families over the four parts of the hidden columns and over its groups of 16 rows. -/
module
public import proofs.«01_k».proof.Proof.Gen.FfnFwdIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnFwdIdeal.Blocks
open Cert.FfnFwdIdeal Cert.FfnFwdIdeal.Gen
variable {F : FTy → Type} [FloatOps F]

/-- Part `j` of the hidden columns in the block of products, of their weights and of the down projection's; `h` is gate or up. -/
def partRect (h j : ℕ) : Rect S2x4x256x704 :=
  Rect.unit ![h % 2, j % 4, 0, 0] S1x1x256x704.size (by
    intro a
    match a with
    | ⟨0, _⟩ => show h % 2 + 1 ≤ 2; omega
    | ⟨1, _⟩ => show j % 4 + 1 ≤ 4; omega
    | ⟨2, _⟩ => exact Nat.le_refl 256
    | ⟨3, _⟩ => exact Nat.le_refl 704)

def weightRect (h j : ℕ) : Rect S2x4x704x1024 :=
  Rect.unit ![h % 2, j % 4, 0, 0] S1x1x704x1024.size (by
    intro a
    match a with
    | ⟨0, _⟩ => show h % 2 + 1 ≤ 2; omega
    | ⟨1, _⟩ => show j % 4 + 1 ≤ 4; omega
    | ⟨2, _⟩ => exact Nat.le_refl 704
    | ⟨3, _⟩ => exact Nat.le_refl 1024)

def downRect (j : ℕ) : Rect S2816x1024 :=
  Rect.unit ![704 * (j % 4), 0] S704x1024.size (Fin.forall_fin_two.mpr ⟨by
    show 704 * (j % 4) + 704 ≤ 2816
    omega, Nat.le_refl 1024⟩)

/-- The 16 rows of group `n`. -/
def rws (n : ℕ) : Rect S256x1024 :=
  Rect.unit ![16 * (n % 16), 0] S16x1024.size (Fin.forall_fin_two.mpr ⟨by
    show 16 * (n % 16) + 16 ≤ 256
    omega, Nat.le_refl 1024⟩)

def grp (X : Vec F S256x1024 .f32) (n : ℕ) : Vec F S16x1024 .f32 := View.ld X (rws n)

/-- The branch gate's row of the packed modulation, and the final norm's weight. -/
def gateRow (X3 : Vec F S8x1024 .f32) : FVec F S1x1024 .f32 :=
  k0_pay27 (View.ld X3 (Rect.unit ![5, 0] S1x1024.size inb_S8x1024_S1x1024_5_0))

section
variable (X0 : Vec F S256x1024 .bf16) (X1 X2 : Vec F S256x1024 .f32) (X3 : Vec F S8x1024 .f32)
  (X4 : Vec F S1x1024 .f32) (X5 : Vec F S2x4x704x1024 .bf16) (X6 : Vec F S2816x1024 .bf16)

/-- One part of gate or up. -/
def prod (h j : ℕ) : FVec F S256x704 .f32 := k0_pay12 (k0_pay4 X0) (View.ld X5 (weightRect h j))

def guPieces : ℕ → List (View.Piece (Elt F) S2x4x256x704 .bf16)
  | 0 => []
  | j + 1 => ⟨partRect 1 j, k0_pay14 (prod X0 X5 1 j)⟩ :: ⟨partRect 0 j, k0_pay14 (prod X0 X5 0 j)⟩ :: guPieces j

/-- The down projection's running sum over the parts. -/
def acc : ℕ → FVec F S256x1024 .f32
  | 0 => k0_pay11 (prod X0 X5 0 0) (prod X0 X5 1 0) (View.ld X6 (downRect 0))
  | j + 1 => k0_pay18 (prod X0 X5 0 (j + 1)) (prod X0 X5 1 (j + 1)) (acc j) (k0_pay16 (prod X0 X5 0 (j + 1))) k0_pay17
      (View.ld X6 (downRect (j + 1)))

/-- Its rows of group `n` as the kernel loads them back. -/
def ffn (n : ℕ) : Vec F S16x1024 .f32 :=
  (View.whole cc0_scratch0).readCov [⟨Rect.unit ![0, 0] S256x1024.size inb_S256x1024_S256x1024_0_0,
    shapeCast S256x1024 (acc X0 X5 X6 3) shapeCasts_S256x1024_S256x1024⟩] (rws n).toLoadRect

/-- The residual sum, its normalization, the difference from the target, and the two gradients at group `n`. -/
def xn (n : ℕ) : FVec F S16x1024 .f32 := k0_pay32 (gateRow X3) (grp X1 n) (ffn X0 X5 X6 n)
def diff (n : ℕ) : FVec F S16x1024 .f32 := k0_pay33 (gateRow X3) (k0_pay28 X4) (grp X1 n) (ffn X0 X5 X6 n) (grp X2 n)
def dy (n : ℕ) : FVec F S16x1024 .f32 := k0_pay34 (gateRow X3) (k0_pay28 X4) (grp X1 n) (ffn X0 X5 X6 n) (grp X2 n)
def dx2 (n : ℕ) : FVec F S16x1024 .f32 := k0_pay35 (gateRow X3) (k0_pay28 X4) (grp X1 n) (ffn X0 X5 X6 n) (grp X2 n)

def dx2Pieces : ℕ → List (View.Piece (Elt F) S256x1024 .f32)
  | 0 => []
  | n + 1 => ⟨rws n, dx2 X0 X1 X2 X3 X4 X5 X6 n⟩ :: dx2Pieces n

def dx2bPieces : ℕ → List (View.Piece (Elt F) S256x1024 .bf16)
  | 0 => []
  | n + 1 => ⟨rws n, truncf .bf16 (dx2 X0 X1 X2 X3 X4 X5 X6 n) bitsLt_bf16_f32⟩ :: dx2bPieces n

def sq (n : ℕ) : FVec F S16x1024 .f32 := mulf (diff X0 X1 X2 X3 X4 X5 X6 n) (diff X0 X1 X2 X3 X4 X5 X6 n)

def sumLoss : ℕ → FVec F S8x1024 .f32
  | 0 => k0_pay29
  | n + 1 => k0_pay39 (sumLoss n) (sq X0 X1 X2 X3 X4 X5 X6 n)
      (extractStridedSlice S8x1024 ![0, 0] (sq X0 X1 X2 X3 X4 X5 X6 n) slices_S16x1024_o0_0_S8x1024)

def sumG : ℕ → FVec F S8x1024 .f32
  | 0 => k0_pay29
  | n + 1 => k0_pay40 (sumG n) (xn X0 X1 X3 X5 X6 n) (dy X0 X1 X2 X3 X4 X5 X6 n)
end

/-- The loss block `L` with the eight partial sums `S`, summed and scaled, added to each of its elements. -/
def lossOut (S : FVec F S8x1024 .f32) (L : Vec F S1x128 .f32) : FVec F S1x128 .f32 :=
  addf (shapeCast S1x128 L shapeCasts_S1x128_S1x128) (broadcast S1x128 (Scalar.mulf
    (extractAt ![0, 0, 0] (shapeCast S1x1x1 (multiReduction .add [1, 2] S1 (shapeCast S1x8x1024 S shapeCasts_S8x1024_S1x8x1024)
      0x00000000#32 reduces_S1x8x1024_S1 (.inl rfl) rfl) shapeCasts_S1_S1x1x1) inpos_S1x1x1_p0_0_0) (Scalar.ofBits .f32 0x3A000000#32)))

variable (m : (ℓ : Loc nD τ sig) → Buf (Elt F) ℓ)

set_option maxHeartbeats 8000000 in
theorem out7 (c : Dev nD) (t : Fin cfg0.N) :
    (outsAt0 m c t.val t.isLt).1 = View.canon (guPieces (iblk m c 0 t) (iblk m c 5 t) 4) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out8 (c : Dev nD) (t : Fin cfg0.N) :
    (outsAt0 m c t.val t.isLt).2.1 = View.canon (dx2Pieces (iblk m c 0 t) (iblk m c 1 t) (iblk m c 2 t) (iblk m c 3 t) (iblk m c 4 t) (iblk m c 5 t) (iblk m c 6 t) 16) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out9 (c : Dev nD) (t : Fin cfg0.N) :
    (outsAt0 m c t.val t.isLt).2.2.1 = View.canon (dx2bPieces (iblk m c 0 t) (iblk m c 1 t) (iblk m c 2 t) (iblk m c 3 t) (iblk m c 4 t) (iblk m c 5 t) (iblk m c 6 t) 16) := by
  by_cases h : t.val % 32 = 0
  · rw [outsAt0_A m c t h]
    frame_out
    refine congrArg View.canon ?_
    sl_kernel_rfl
  · rw [outsAt0_B m c t h]
    frame_out
    refine congrArg View.canon ?_
    sl_kernel_rfl

set_option maxHeartbeats 8000000 in
theorem out10_A (c : Dev nD) (t : Fin cfg0.N) (h : t.val % 32 = 0) :
    (outsAt0 m c t.val t.isLt).2.2.2.1 = lossOut (sumLoss (iblk m c 0 t) (iblk m c 1 t) (iblk m c 2 t) (iblk m c 3 t) (iblk m c 4 t) (iblk m c 5 t) (iblk m c 6 t) 16) (k0_pay2) := by
  rw [outsAt0_A m c t h]
  frame_out
  sl_kernel_rfl

set_option maxHeartbeats 8000000 in
theorem out10_B (c : Dev nD) (t : Fin cfg0.N) (h : ¬ t.val % 32 = 0) :
    (outsAt0 m c t.val t.isLt).2.2.2.1 = lossOut (sumLoss (iblk m c 0 t) (iblk m c 1 t) (iblk m c 2 t) (iblk m c 3 t) (iblk m c 4 t) (iblk m c 5 t) (iblk m c 6 t) 16) ((outsAt0 m c (t.val - 1) (by omega)).2.2.2.1) := by
  rw [outsAt0_B m c t h]
  frame_out
  sl_kernel_rfl

set_option maxHeartbeats 8000000 in
theorem out11_A (c : Dev nD) (t : Fin cfg0.N) (h : t.val % 32 = 0) :
    (outsAt0 m c t.val t.isLt).2.2.2.2 = k0_pay1 (sumG (iblk m c 0 t) (iblk m c 1 t) (iblk m c 2 t) (iblk m c 3 t) (iblk m c 4 t) (iblk m c 5 t) (iblk m c 6 t) 16) (k0_pay197 (k0_pay3)) := by
  rw [outsAt0_A m c t h]
  frame_out
  sl_kernel_rfl

set_option maxHeartbeats 8000000 in
theorem out11_B (c : Dev nD) (t : Fin cfg0.N) (h : ¬ t.val % 32 = 0) :
    (outsAt0 m c t.val t.isLt).2.2.2.2 = k0_pay1 (sumG (iblk m c 0 t) (iblk m c 1 t) (iblk m c 2 t) (iblk m c 3 t) (iblk m c 4 t) (iblk m c 5 t) (iblk m c 6 t) 16) (k0_pay197 ((outsAt0 m c (t.val - 1) (by omega)).2.2.2.2)) := by
  rw [outsAt0_B m c t h]
  frame_out
  sl_kernel_rfl
end Cert.FfnFwdIdeal.Blocks
-- ==== Proof.FwdMath.lean ====
/- The feed-forward block's forward pass with the final norm and the loss as formulas of its arguments: the second residual, the loss with its gradients, and two ways to write them. The target stands in the cotangent's place. -/
module
public import proofs.«01_k».proof.Proof.FfnMath
@[expose] public section
noncomputable section
open Idealize.ShloMosaic Cert.Norm Cert.Finite
namespace Cert.Ffn

/-- One 1024th, half of it, a half and two as single precision holds them. -/
abbrev cD : EReal := Ideal.ofBits .f32 981467136#32
abbrev cL : EReal := Ideal.ofBits .f32 973078528#32
abbrev cH : EReal := Ideal.ofBits .f32 1056964608#32
abbrev cTwo : EReal := Ideal.ofBits .f32 1073741824#32

theorem cD_eq : cD = ((1 / 1024 : ℝ) : EReal) := by
  simp [Ideal.ofBits, Ideal.ieee, -EReal.coe_mul]
  norm_num
theorem cL_eq : cL = ((1 / 2048 : ℝ) : EReal) := by
  simp [Ideal.ofBits, Ideal.ieee, -EReal.coe_mul]
  norm_num
theorem cH_eq : cH = ((1 / 2 : ℝ) : EReal) := by
  simp [Ideal.ofBits, Ideal.ieee, -EReal.coe_mul]
  norm_num
theorem cTwo_eq : cTwo = ((2 : ℝ) : EReal) := by
  simp [Ideal.ofBits, Ideal.ieee, -EReal.coe_mul]
  norm_num

theorem coe_sums {ι : Type} [Fintype ι] (f : ι → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

/-- A sum of real terms each scaled is the scaled sum. -/
theorem sum_scaled {ι : Type} [Fintype ι] (f : ι → EReal) (h : ∀ i, ∃ r : ℝ, f i = r) : ∑ i, f i * cL = (∑ i, f i) * cL := by
  obtain ⟨g, rfl⟩ := real_of_finite f h
  rw [cL_eq]
  simp only [← EReal.coe_mul]
  rw [coe_sums, coe_sums, ← EReal.coe_mul, Finset.sum_mul]

/-- Half the sum of the rows' means likewise. -/
theorem half_means {ι : Type} [Fintype ι] (f : ι → EReal) (h : ∀ i, ∃ r : ℝ, f i = r) : cH * ∑ i, Ideal.div (f i) cN = (∑ i, f i) * cL := by
  obtain ⟨g, rfl⟩ := real_of_finite f h
  rw [cL_eq, cN_eq, cH_eq]
  simp only [div_real _ _ (show (1024 : ℝ) ≠ 0 by norm_num)]
  rw [coe_sums, coe_sums, ← EReal.coe_mul, ← EReal.coe_mul, ← Finset.sum_div]
  refine congrArg _ ?_
  ring

/-- The derivative of the mean of squares, with the constants in the order the derivative's formula has them. -/
theorem scaled_diff (d : EReal) (h : ∃ r : ℝ, d = r) : Ideal.div cH cN * (cTwo * d) = d * cD := by
  obtain ⟨r, rfl⟩ := h
  rw [cD_eq, cN_eq, cH_eq, cTwo_eq, div_real _ _ (by norm_num)]
  simp only [← EReal.coe_mul]
  refine congrArg _ ?_
  ring

namespace Args
variable (A : Args) (gf : Fin 1024 → EReal)

/-- The second gated residual, and its normalised rows. -/
def x2 (i : Fin 8192) (k : Fin 1024) : EReal := A.x1 i k + A.mrow 5 k * ∑ f, A.act i f * A.wd f k
def xn (i : Fin 8192) (k : Fin 1024) : EReal := A.x2 i k * rms (A.x2 i)

/-- The output's difference from the target, and the loss's gradient that reaches the output. -/
def diff (i : Fin 8192) (k : Fin 1024) : EReal := A.xn i k * gf k - A.ct i k
def dy (i : Fin 8192) (k : Fin 1024) : EReal := A.diff gf i k * cD

/-- The gradient that reaches the residual and the one of the final norm's weight, and the loss. -/
def dx2 (i : Fin 8192) (j : Fin 1024) : EReal := rowGrad (A.x2 i) (fun k => A.dy gf i k * gf k) j
def dgf (j : Fin 1024) : EReal := ∑ i, A.dy gf i j * A.xn i j
def loss : EReal := (∑ i, ∑ j, A.diff gf i j * A.diff gf i j) * cL
end Args

namespace Args.Real
variable {A : Args} (R : A.Real) {gf : Fin 1024 → EReal} (hg : ∀ k, ∃ r : ℝ, gf k = r)
include R

theorem x2 (i : Fin 8192) (k : Fin 1024) : ∃ r : ℝ, A.x2 i k = r :=
  real_add (R.x1 i k) (real_mul (R.mrow 5 k) (real_sum _ _ fun f =>
    real_mul (real_mul (real_mul (R.gu i _) (real_sg (R.gu i _))) (R.gu i _)) (R.wd f k)))
include hg
theorem diff (i : Fin 8192) (k : Fin 1024) : ∃ r : ℝ, A.diff gf i k = r :=
  real_sub (real_mul (real_mul (R.x2 i k) (real_rms _ (R.x2 i))) (hg k)) (R.ct i k)
theorem dyg (i : Fin 8192) (k : Fin 1024) : ∃ r : ℝ, A.dy gf i k * gf k = r :=
  real_mul (real_mul (R.diff hg i k) ⟨_, cD_eq⟩) (hg k)

/-- The gradient of the residual as the derivative of the norm's formula gives it. -/
theorem dx2_eq (i : Fin 8192) (j : Fin 1024) :
    A.dx2 gf i j = A.dy gf i j * gf j * rms (A.x2 i) + A.x2 i j * msGrad (A.x2 i) (fun k => A.dy gf i k * gf k)
      + msGrad (A.x2 i) (fun k => A.dy gf i k * gf k) * A.x2 i j := by
  have h := add_rowGrad _ _ (R.x2 i) (R.dyg hg i) 0 j
  rw [zero_add, zero_add] at h
  exact h
end Args.Real

end Cert.Ffn
-- ==== Proof.FwdBlockValues.lean ====
/- The output blocks of one grid step of the feed-forward block's forward kernel read at an index, over the extended reals. -/
module
public import proofs.«01_k».proof.Proof.FwdBlocks
public import proofs.«01_k».proof.Proof.FwdMath
public import proofs.«01_k».proof.Proof.Rows
@[expose] public section
set_option maxRecDepth 16384
noncomputable section
open Idealize.ShloMosaic Idealize.ShloMosaic.TcCoe Idealize.SL.Sem
namespace Cert.FfnFwdIdeal.Blocks
open Cert.FfnFwdIdeal Cert.FfnFwdIdeal.Gen Cert.Rows Cert.Norm Cert.Ffn

theorem pay12 (X : Vec Ideal S256x1024 .bf16) (W : Vec Ideal S1x1x704x1024 .bf16) (i : Fin 256) (f : Fin 704) :
    k0_pay12 (k0_pay4 X) W (ix2 i f) = ∑ k, (X (ix2 i k) : EReal) * W (ix4 (0 : Fin 1) (0 : Fin 1) f k) := by
  pointwise [k0_pay12, k0_pay4]

theorem pay14 (G : FVec Ideal S256x704 .f32) (i : Fin 256) (f : Fin 704) :
    k0_pay14 G (ix4 (0 : Fin 1) (0 : Fin 1) i f) = (G (ix2 i f) : EReal) := by
  pointwise [k0_pay14]

theorem pay11 (G U : FVec Ideal S256x704 .f32) (W : Vec Ideal S704x1024 .bf16) (i : Fin 256) (k : Fin 1024) :
    k0_pay11 G U W (ix2 i k) = ∑ f, silu (G (ix2 i f)) * U (ix2 i f) * (W (ix2 f k) : EReal) := by
  pointwise [k0_pay11]
  simp only [zero_sub]
  rfl

theorem pay18 (G U : FVec Ideal S256x704 .f32) (S : FVec Ideal S256x1024 .f32) (W : Vec Ideal S704x1024 .bf16) (i : Fin 256) (k : Fin 1024) :
    k0_pay18 G U S (k0_pay16 G) k0_pay17 W (ix2 i k)
      = (S (ix2 i k) : EReal) + ∑ f, silu (G (ix2 i f)) * U (ix2 i f) * (W (ix2 f k) : EReal) := by
  pointwise [k0_pay18, k0_pay16, k0_pay17]
  simp only [zero_sub]
  rfl

section
variable (R G : Vec Ideal S1x1024 .f32) (X D T : Vec Ideal S16x1024 .f32)

/-- A row of the residual sum, of the difference from the target and of the gradient that reaches the output. -/
def sumRow (p : Fin 16) (k : Fin 1024) : EReal := X (ix2 p k) + R (ix2 (0 : Fin 1) k) * D (ix2 p k)
def diffRow (p : Fin 16) (k : Fin 1024) : EReal :=
  sumRow R X D p k * rms (sumRow R X D p) * G (ix2 (0 : Fin 1) k) - T (ix2 p k)

theorem pay32 (p : Fin 16) (k : Fin 1024) :
    k0_pay32 (k0_pay27 R) X D (ix2 p k) = sumRow R X D p k * rms (sumRow R X D p) := by
  pointwise [k0_pay32, k0_pay31, k0_pay30, k0_pay27]
  rfl

theorem pay33 (p : Fin 16) (k : Fin 1024) :
    k0_pay33 (k0_pay27 R) (k0_pay28 G) X D T (ix2 p k) = diffRow R G X D T p k := by
  pointwise [k0_pay33, k0_pay32, k0_pay31, k0_pay30, k0_pay27, k0_pay28]
  rfl

theorem pay34 (p : Fin 16) (k : Fin 1024) :
    k0_pay34 (k0_pay27 R) (k0_pay28 G) X D T (ix2 p k) = diffRow R G X D T p k * cD := by
  pointwise [k0_pay34, k0_pay33, k0_pay32, k0_pay31, k0_pay30, k0_pay27, k0_pay28]
  rfl

theorem pay35 (p : Fin 16) (j : Fin 1024) :
    k0_pay35 (k0_pay27 R) (k0_pay28 G) X D T (ix2 p j)
      = rowGrad (sumRow R X D p) (fun k => diffRow R G X D T p k * cD * G (ix2 (0 : Fin 1) k)) j := by
  pointwise [k0_pay35, k0_pay34, k0_pay33, k0_pay32, k0_pay31, k0_pay30, k0_pay27, k0_pay28]
  rfl
end

theorem pay29 (q : Fin 8) (j : Fin 1024) : k0_pay29 (F := Ideal) (ix2 q j) = 0 := by pointwise [k0_pay29]

theorem pay39 (S : FVec Ideal S8x1024 .f32) (d : FVec Ideal S16x1024 .f32) (q : Fin 8) (j : Fin 1024) :
    k0_pay39 S (mulf d d) (extractStridedSlice S8x1024 ![0, 0] (mulf d d) slices_S16x1024_o0_0_S8x1024) (ix2 q j)
      = S (ix2 q j) + ((d (ix2 ⟨q.val, by omega⟩ j) : EReal) * d (ix2 ⟨q.val, by omega⟩ j)
        + d (ix2 ⟨8 + q.val, by omega⟩ j) * d (ix2 ⟨8 + q.val, by omega⟩ j)) := by
  pointwise [k0_pay39]

theorem pay40 (S : FVec Ideal S8x1024 .f32) (x d : FVec Ideal S16x1024 .f32) (q : Fin 8) (j : Fin 1024) :
    k0_pay40 S x d (ix2 q j) = S (ix2 q j) + ((d (ix2 ⟨q.val, by omega⟩ j) : EReal) * x (ix2 ⟨q.val, by omega⟩ j)
        + d (ix2 ⟨8 + q.val, by omega⟩ j) * x (ix2 ⟨8 + q.val, by omega⟩ j)) := by
  pointwise [k0_pay40]

theorem pay1 (S : FVec Ideal S8x1024 .f32) (Y : Vec Ideal S1x1024 .f32) (j : Fin 1024) :
    k0_pay1 S (k0_pay197 Y) (ix2 (0 : Fin 1) j) = (Y (ix2 (0 : Fin 1) j) : EReal) + ∑ q, S (ix2 q j) := by
  pointwise [k0_pay1, k0_pay197]

theorem lossOut_apply (S : FVec Ideal S8x1024 .f32) (L : Vec Ideal S1x128 .f32) (q : Fin 128) :
    lossOut S L (ix2 (0 : Fin 1) q) = (L (ix2 (0 : Fin 1) q) : EReal) + (∑ a, ∑ j, S (ix2 a j)) * cL := by
  pointwise [lossOut]

section
variable (X0 : Vec Ideal S256x1024 .bf16) (X1 X2 : Vec Ideal S256x1024 .f32) (X3 : Vec Ideal S8x1024 .f32)
  (X4 : Vec Ideal S1x1024 .f32) (X5 : Vec Ideal S2x4x704x1024 .bf16) (X6 : Vec Ideal S2816x1024 .bf16)

/-- Gate and up by parts, the down projection, and the rows that follow from it. -/
def prodV (h : Fin 2) (j : Fin 4) (i : Fin 256) (f : Fin 704) : EReal := ∑ k, (X0 (ix2 i k) : EReal) * X5 (ix4 h j f k)
def partV (j : Fin 4) (i : Fin 256) (k : Fin 1024) : EReal :=
  ∑ f, silu (prodV X0 X5 0 j i f) * prodV X0 X5 1 j i f * (X6 (ix2 (⟨704 * j.val + f.val, by omega⟩ : Fin 2816) k) : EReal)
def x2V (i : Fin 256) (k : Fin 1024) : EReal := X1 (ix2 i k) + X3 (ix2 (5 : Fin 8) k) * ∑ j, partV X0 X5 X6 j i k
def xnV (i : Fin 256) (k : Fin 1024) : EReal := x2V X0 X1 X3 X5 X6 i k * rms (x2V X0 X1 X3 X5 X6 i)
def diffV (i : Fin 256) (k : Fin 1024) : EReal := xnV X0 X1 X3 X5 X6 i k * X4 (ix2 (0 : Fin 1) k) - X2 (ix2 i k)
def dyV (i : Fin 256) (k : Fin 1024) : EReal := diffV X0 X1 X2 X3 X4 X5 X6 i k * cD
def dx2V (i : Fin 256) (j : Fin 1024) : EReal :=
  rowGrad (x2V X0 X1 X3 X5 X6 i) (fun k => dyV X0 X1 X2 X3 X4 X5 X6 i k * X4 (ix2 (0 : Fin 1) k)) j

theorem prod_apply (h : Fin 2) (j : Fin 4) (i : Fin 256) (f : Fin 704) :
    (prod X0 X5 h.val j.val (ix2 i f) : EReal) = prodV X0 X5 h j i f := by
  refine (pay12 _ _ i f).trans (Finset.sum_congr rfl fun k _ => congrArg (_ * ·) ?_)
  exact ld_hit _ X5 (ix4 h j f k) _ fun a => match a with
    | ⟨0, _⟩ => by show h.val = h.val % 2 + 0; omega
    | ⟨1, _⟩ => by show j.val = j.val % 4 + 0; omega
    | ⟨2, _⟩ => (Nat.zero_add _).symm
    | ⟨3, _⟩ => (Nat.zero_add _).symm

theorem guPieces_apply (n : ℕ) (hn : n ≤ 4) (h : Fin 2) (j : Fin 4) (i : Fin 256) (f : Fin 704) (hj : j.val < n) :
    (View.canon (guPieces X0 X5 n) (ix4 h j i f) : EReal) = prodV X0 X5 h j i f := by
  induction n with
  | zero => exact absurd hj (by omega)
  | succ n ih =>
    by_cases e : j.val = n
    · subst e
      match h with
      | ⟨1, _⟩ =>
        refine (canon_hit _ _ _ (ix4 (1 : Fin 2) j i f) (ix4 (0 : Fin 1) (0 : Fin 1) i f) fun a => match a with
          | ⟨0, _⟩ => rfl
          | ⟨1, _⟩ => by show j.val = j.val % 4 + 0; omega
          | ⟨2, _⟩ => (Nat.zero_add _).symm
          | ⟨3, _⟩ => (Nat.zero_add _).symm).trans ?_
        exact (pay14 _ _ _).trans (prod_apply X0 X5 1 j i f)
      | ⟨0, _⟩ =>
        refine (canon_miss _ _ _ _ (0 : Fin 4) (Or.inl (show 0 < 1 by omega))).trans ?_
        refine (canon_hit _ _ _ (ix4 (0 : Fin 2) j i f) (ix4 (0 : Fin 1) (0 : Fin 1) i f) fun a => match a with
          | ⟨0, _⟩ => rfl
          | ⟨1, _⟩ => by show j.val = j.val % 4 + 0; omega
          | ⟨2, _⟩ => (Nat.zero_add _).symm
          | ⟨3, _⟩ => (Nat.zero_add _).symm).trans ?_
        exact (pay14 _ _ _).trans (prod_apply X0 X5 0 j i f)
    · refine (canon_miss _ _ _ _ (1 : Fin 4) (by show j.val < n % 4 ∨ n % 4 + 1 ≤ j.val; omega)).trans ?_
      exact (canon_miss _ _ _ _ (1 : Fin 4) (by show j.val < n % 4 ∨ n % 4 + 1 ≤ j.val; omega)).trans (ih (by omega) (by omega))

theorem down_apply (j : Fin 4) (f : Fin 704) (k : Fin 1024) :
    (View.ld X6 (downRect j.val) (ix2 f k) : EReal) = X6 (ix2 (⟨704 * j.val + f.val, by omega⟩ : Fin 2816) k) :=
  ld_hit _ X6 _ (ix2 f k) fun a => match a with
    | ⟨0, _⟩ => by show 704 * j.val + f.val = 704 * (j.val % 4) + f.val; omega
    | ⟨1, _⟩ => (Nat.zero_add _).symm

theorem share (j : Fin 4) (i : Fin 256) (k : Fin 1024) :
    ∑ f, silu (prod X0 X5 0 j.val (ix2 i f)) * prod X0 X5 1 j.val (ix2 i f) * (View.ld X6 (downRect j.val) (ix2 f k) : EReal)
      = partV X0 X5 X6 j i k :=
  Finset.sum_congr rfl fun f _ => congrArg₂ (· * ·)
    (congrArg₂ (fun a b => silu a * b) (prod_apply X0 X5 0 j i f) (prod_apply X0 X5 1 j i f)) (down_apply X6 j f k)

theorem acc_apply (i : Fin 256) (k : Fin 1024) : (acc X0 X5 X6 3 (ix2 i k) : EReal) = ∑ j, partV X0 X5 X6 j i k := by
  have e0 : (acc X0 X5 X6 0 (ix2 i k) : EReal) = partV X0 X5 X6 0 i k := (pay11 _ _ _ i k).trans (share X0 X5 X6 0 i k)
  have e : ∀ n (hn : n + 1 < 4), (acc X0 X5 X6 (n + 1) (ix2 i k) : EReal)
      = acc X0 X5 X6 n (ix2 i k) + partV X0 X5 X6 ⟨n + 1, hn⟩ i k := fun n hn =>
    (pay18 _ _ _ _ i k).trans (congrArg (_ + ·) (share X0 X5 X6 ⟨n + 1, hn⟩ i k))
  rw [e 2 (by decide), e 1 (by decide), e 0 (by decide), e0, Fin.sum_univ_four]
  rfl

theorem whole_cast (A : FVec Ideal S256x1024 .f32) (i : Fin 256) (k : Fin 1024) :
    shapeCast S256x1024 A shapeCasts_S256x1024_S256x1024 (ix2 i k) = A (ix2 i k) := by pointwise

theorem ffn_apply (n : ℕ) (hn : n < 16) (p : Fin 16) (j : Fin 1024) :
    (ffn X0 X5 X6 n (ix2 p j) : EReal) = ∑ a, partV X0 X5 X6 a (⟨16 * n + p.val, by omega⟩ : Fin 256) j := by
  unfold ffn
  refine (readCov_hit _ _ _ (ix2 (⟨16 * n + p.val, by omega⟩ : Fin 256) j) (ix2 p j) fun a => match a with
    | ⟨0, _⟩ => by show 16 * n + p.val = 16 * (n % 16) + p.val; omega
    | ⟨1, _⟩ => (Nat.zero_add _).symm).trans ?_
  refine (canon_hit _ _ _ (ix2 (⟨16 * n + p.val, by omega⟩ : Fin 256) j) (ix2 (⟨16 * n + p.val, by omega⟩ : Fin 256) j) fun a => match a with
    | ⟨0, _⟩ => (Nat.zero_add _).symm
    | ⟨1, _⟩ => (Nat.zero_add _).symm).trans ?_
  exact (whole_cast _ _ _).trans (acc_apply X0 X5 X6 _ j)

theorem grp_apply (X : Vec Ideal S256x1024 .f32) (n : ℕ) (hn : n < 16) (p : Fin 16) (j : Fin 1024) :
    grp X n (ix2 p j) = X (ix2 (⟨16 * n + p.val, by omega⟩ : Fin 256) j) :=
  ld_hit _ X (ix2 (⟨16 * n + p.val, by omega⟩ : Fin 256) j) _ fun a => match a with
    | ⟨0, _⟩ => by show 16 * n + p.val = 16 * (n % 16) + p.val; omega
    | ⟨1, _⟩ => (Nat.zero_add _).symm

/-- The modulation's row the kernel loads. -/
def modRow : Vec Ideal S1x1024 .f32 := View.ld X3 (Rect.unit ![5, 0] S1x1024.size inb_S8x1024_S1x1024_5_0)

theorem modRow_apply (j : Fin 1024) : modRow X3 (ix2 (0 : Fin 1) j) = X3 (ix2 (5 : Fin 8) j) :=
  ld_hit _ X3 _ _ fun a => match a with | ⟨0, _⟩ => rfl | ⟨1, _⟩ => (Nat.zero_add _).symm

theorem sumRow_apply (n : ℕ) (hn : n < 16) (p : Fin 16) :
    sumRow (modRow X3) (grp X1 n) (ffn X0 X5 X6 n) p = x2V X0 X1 X3 X5 X6 (⟨16 * n + p.val, by omega⟩ : Fin 256) :=
  funext fun k => congrArg₂ (· + ·) (grp_apply X1 n hn p k) (congrArg₂ (· * ·) (modRow_apply X3 k) (ffn_apply X0 X5 X6 n hn p k))

theorem diffRow_apply (n : ℕ) (hn : n < 16) (p : Fin 16) (k : Fin 1024) :
    diffRow (modRow X3) X4 (grp X1 n) (ffn X0 X5 X6 n) (grp X2 n) p k
      = diffV X0 X1 X2 X3 X4 X5 X6 (⟨16 * n + p.val, by omega⟩ : Fin 256) k := by
  unfold diffRow
  rw [sumRow_apply X0 X1 X3 X5 X6 n hn p, grp_apply X2 n hn]
  rfl

theorem xn_apply (n : ℕ) (hn : n < 16) (p : Fin 16) (k : Fin 1024) :
    (xn X0 X1 X3 X5 X6 n (ix2 p k) : EReal) = xnV X0 X1 X3 X5 X6 (⟨16 * n + p.val, by omega⟩ : Fin 256) k := by
  refine (pay32 (modRow X3) (grp X1 n) (ffn X0 X5 X6 n) p k).trans ?_
  rw [sumRow_apply X0 X1 X3 X5 X6 n hn p]
  rfl

theorem diff_apply (n : ℕ) (hn : n < 16) (p : Fin 16) (k : Fin 1024) :
    (diff X0 X1 X2 X3 X4 X5 X6 n (ix2 p k) : EReal) = diffV X0 X1 X2 X3 X4 X5 X6 (⟨16 * n + p.val, by omega⟩ : Fin 256) k :=
  (pay33 (modRow X3) X4 (grp X1 n) (ffn X0 X5 X6 n) (grp X2 n) p k).trans (diffRow_apply X0 X1 X2 X3 X4 X5 X6 n hn p k)

theorem dy_apply (n : ℕ) (hn : n < 16) (p : Fin 16) (k : Fin 1024) :
    (dy X0 X1 X2 X3 X4 X5 X6 n (ix2 p k) : EReal) = dyV X0 X1 X2 X3 X4 X5 X6 (⟨16 * n + p.val, by omega⟩ : Fin 256) k :=
  (pay34 (modRow X3) X4 (grp X1 n) (ffn X0 X5 X6 n) (grp X2 n) p k).trans
    (congrArg (· * cD) (diffRow_apply X0 X1 X2 X3 X4 X5 X6 n hn p k))

theorem dx2_apply (n : ℕ) (hn : n < 16) (p : Fin 16) (j : Fin 1024) :
    (dx2 X0 X1 X2 X3 X4 X5 X6 n (ix2 p j) : EReal) = dx2V X0 X1 X2 X3 X4 X5 X6 (⟨16 * n + p.val, by omega⟩ : Fin 256) j := by
  refine (pay35 (modRow X3) X4 (grp X1 n) (ffn X0 X5 X6 n) (grp X2 n) p j).trans ?_
  simp only [sumRow_apply X0 X1 X3 X5 X6 n hn p, diffRow_apply X0 X1 X2 X3 X4 X5 X6 n hn p]
  rfl

/-- A row of the block lies in one of the stores of 16 rows. -/
theorem in_rows {e : EltTy} (L : ℕ → List (View.Piece (Elt Ideal) S256x1024 e)) (w : (n : ℕ) → S16x1024.Idx → Elt Ideal e)
    (hL : ∀ n, L (n + 1) = ⟨rws n, w n⟩ :: L n) (T : Fin 256 → Fin 1024 → Elt Ideal e)
    (hw : ∀ n (hn : n < 16) (p : Fin 16) (j : Fin 1024), w n (ix2 p j) = T (⟨16 * n + p.val, by omega⟩ : Fin 256) j)
    (i : Fin 256) (j : Fin 1024) : View.canon (L 16) (ix2 i j) = T i j := by
  have key : ∀ n ≤ 16, i.val < 16 * n → View.canon (L n) (ix2 i j) = T i j := fun n => by
    induction n with
    | zero => exact fun _ h => absurd h (by omega)
    | succ n ih =>
      intro hn hi
      rw [hL]
      rcases Nat.lt_or_ge i.val (16 * n) with h | h
      · exact (canon_rows_ne _ _ _ i j (Or.inl (by show i.val < 16 * (n % 16); omega))).trans (ih (by omega) h)
      · refine (canon_rows _ _ _ i ⟨i.val - 16 * n, by omega⟩ j (by show i.val = 16 * (n % 16) + (i.val - 16 * n); omega)).trans ?_
        exact (hw n (by omega) _ _).trans (congrArg (T · j) (Fin.ext (by show 16 * n + (i.val - 16 * n) = i.val; omega)))
  exact key 16 (le_refl _) (by omega)

theorem dx2Pieces_apply (i : Fin 256) (j : Fin 1024) :
    (View.canon (dx2Pieces X0 X1 X2 X3 X4 X5 X6 16) (ix2 i j) : EReal) = dx2V X0 X1 X2 X3 X4 X5 X6 i j :=
  in_rows (e := .f32) (dx2Pieces X0 X1 X2 X3 X4 X5 X6) (fun n => dx2 X0 X1 X2 X3 X4 X5 X6 n) (fun _ => rfl)
    (dx2V X0 X1 X2 X3 X4 X5 X6) (fun n hn p j => dx2_apply X0 X1 X2 X3 X4 X5 X6 n hn p j) i j

theorem dx2bPieces_apply (i : Fin 256) (j : Fin 1024) :
    (View.canon (dx2bPieces X0 X1 X2 X3 X4 X5 X6 16) (ix2 i j) : EReal) = dx2V X0 X1 X2 X3 X4 X5 X6 i j :=
  in_rows (e := .bf16) (dx2bPieces X0 X1 X2 X3 X4 X5 X6) (fun n => truncf .bf16 (dx2 X0 X1 X2 X3 X4 X5 X6 n) bitsLt_bf16_f32) (fun _ => rfl)
    (dx2V X0 X1 X2 X3 X4 X5 X6) (fun n hn p j => dx2_apply X0 X1 X2 X3 X4 X5 X6 n hn p j) i j

theorem sumLoss_total (j : Fin 1024) : ∑ q, sumLoss X0 X1 X2 X3 X4 X5 X6 16 (ix2 q j)
    = ∑ i, diffV X0 X1 X2 X3 X4 X5 X6 i j * diffV X0 X1 X2 X3 X4 X5 X6 i j := by
  refine fold_rows 16 rfl (fun i => diffV X0 X1 X2 X3 X4 X5 X6 i j * diffV X0 X1 X2 X3 X4 X5 X6 i j)
    (fun n q => sumLoss X0 X1 X2 X3 X4 X5 X6 n (ix2 q j)) (fun q => pay29 q j) fun n hn q => ?_
  refine (pay39 _ _ _ _).trans ?_
  rw [diff_apply _ _ _ _ _ _ _ n hn, diff_apply _ _ _ _ _ _ _ n hn]

theorem sumG_total (j : Fin 1024) : ∑ q, sumG X0 X1 X2 X3 X4 X5 X6 16 (ix2 q j)
    = ∑ i, dyV X0 X1 X2 X3 X4 X5 X6 i j * xnV X0 X1 X3 X5 X6 i j := by
  refine fold_rows 16 rfl (fun i => dyV X0 X1 X2 X3 X4 X5 X6 i j * xnV X0 X1 X3 X5 X6 i j)
    (fun n q => sumG X0 X1 X2 X3 X4 X5 X6 n (ix2 q j)) (fun q => pay29 q j) fun n hn q => ?_
  refine (pay40 _ _ _ _ _).trans ?_
  rw [dy_apply _ _ _ _ _ _ _ n hn, dy_apply _ _ _ _ _ _ _ n hn, xn_apply _ _ _ _ _ n hn, xn_apply _ _ _ _ _ n hn]

/-- What one grid step adds to the loss and to the final norm's weight's gradient. -/
def stepLoss : EReal := (∑ i, ∑ j, diffV X0 X1 X2 X3 X4 X5 X6 i j * diffV X0 X1 X2 X3 X4 X5 X6 i j) * cL
def stepG (j : Fin 1024) : EReal := ∑ i, dyV X0 X1 X2 X3 X4 X5 X6 i j * xnV X0 X1 X3 X5 X6 i j

theorem loss_step (L : Vec Ideal S1x128 .f32) (q : Fin 128) :
    lossOut (sumLoss X0 X1 X2 X3 X4 X5 X6 16) L (ix2 (0 : Fin 1) q) = (L (ix2 (0 : Fin 1) q) : EReal) + stepLoss X0 X1 X2 X3 X4 X5 X6 := by
  rw [lossOut_apply, Finset.sum_comm]
  simp only [sumLoss_total]
  rw [Finset.sum_comm]
  rfl

theorem g_step (Y : Vec Ideal S1x1024 .f32) (j : Fin 1024) :
    k0_pay1 (sumG X0 X1 X2 X3 X4 X5 X6 16) (k0_pay197 Y) (ix2 (0 : Fin 1) j) = (Y (ix2 (0 : Fin 1) j) : EReal) + stepG X0 X1 X2 X3 X4 X5 X6 j := by
  rw [pay1, sumG_total]
  rfl
end

theorem pay2 (q : Fin 128) : k0_pay2 (F := Ideal) (ix2 (0 : Fin 1) q) = 0 := by pointwise [k0_pay2]
theorem pay3 (j : Fin 1024) : k0_pay3 (F := Ideal) (ix2 (0 : Fin 1) j) = 0 := by pointwise [k0_pay3]

end Cert.FfnFwdIdeal.Blocks
-- ==== Proof.FwdResult.lean ====
/- The forward kernel's five results as functions of its arguments. -/
module
public import proofs.«01_k».proof.Proof.FwdBlockValues
public import proofs.«01_k».proof.Proof.FfnResult
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnFwdIdeal.Blocks
open Cert.FfnFwdIdeal Cert.FfnFwdIdeal.Gen Cert.Rows Cert.Norm Cert.Ffn Cert.Finite
open Cert.FfnBwdIdeal.Blocks (col planes_cols packed)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0, 0] ∧ win0_6.index t = ![0, 0]
    ∧ win0_7.index t = ![0, 0, t.val, 0] ∧ win0_8.index t = ![t.val, 0] ∧ win0_9.index t = ![t.val, 0]
    ∧ win0_10.index t = ![0, 0] ∧ win0_11.index t = ![0, 0] := (by decide +kernel : ∀ t : Fin grid0.N, _)

/-- The row of the arrays that row `i` of step `t`'s block is. -/
def row (t : Fin cfg0.N) (i : Fin 256) : Fin 8192 := ⟨256 * t.val + i.val, by have : t.val < 32 := lt_of_lt_of_eq t.isLt N_0; omega⟩

variable (m : (ℓ : Loc nD τ sig) → Buf (Elt Ideal) ℓ)

/-- The arguments on one device, the target in the cotangent's place, and the final norm's weight. -/
def theArgs (c : Dev nD) : Args := args (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg8))
def gf (c : Dev nD) (k : Fin 1024) : EReal := (m ((c : Thread nD τ).loc main_arg7) : S1024.Idx → EReal) (ix1 k)

section
variable (c : Dev nD)

/-- The reference's residual stream and gate and up product's left operand, at the kernel's arguments. -/
abbrev refX1 : S1x8192x1024.Idx → EReal := Cert.FfnRefIdeal.Read.val_main_v12 (F := Ideal) (m ((c : Thread nD τ).loc main_arg0)) (m ((c : Thread nD τ).loc main_arg1))
  (m ((c : Thread nD τ).loc main_arg2)) (m ((c : Thread nD τ).loc main_arg4))
abbrev refH : S1x8192x1024.Idx → EReal := Cert.FfnRefIdeal.Read.val_main_v37 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

theorem refX1_at (i : Fin 8192) (k : Fin 1024) : refX1 m c (ix3 (0 : Fin 1) i k) = (theArgs m c).x1 i k :=
  Cert.FfnRefIdeal.Values.v12_at (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8)) i k

theorem refH_at (i : Fin 8192) (k : Fin 1024) : refH m c (ix3 (0 : Fin 1) i k) = (theArgs m c).h i k :=
  Cert.FfnRefIdeal.Values.v37_at (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8)) i k
end

/-- One row block of a three-axis array as the host reshapes it. -/
theorem flat (y : FVec Ideal S1x8192x1024 .f32) (i : Fin 8192) (k : Fin 1024) :
    shapeCast S8192x1024 y shapeCasts_S1x8192x1024_S8192x1024 (ix2 i k) = y (ix3 (0 : Fin 1) i k) := by pointwise
theorem flat_b (y : FVec Ideal S1x8192x1024 .f32) (i : Fin 8192) (k : Fin 1024) :
    (truncf .bf16 (shapeCast S8192x1024 y shapeCasts_S1x8192x1024_S8192x1024) bitsLt_bf16_f32 (ix2 i k) : EReal) = y (ix3 (0 : Fin 1) i k) := by
  pointwise

theorem blk0 (c : Dev nD) (t : Fin cfg0.N) (i : Fin 256) (k : Fin 1024) :
    (iblk m c 0 t (ix2 i k) : EReal) = (theArgs m c).h (row t i) k := by
  have e : (iblk m c 0 t (ix2 i k) : EReal) = V m c main_v42 (ix2 (row t i) k) := by
    blk_ext [iblk, idx t, row]
  refine e.trans ?_
  entry_read
  refine (Eq.trans ?_ (flat_b (refH m c) (row t i) k)).trans (refH_at m c (row t i) k)
  rfl

theorem blk1 (c : Dev nD) (t : Fin cfg0.N) (i : Fin 256) (k : Fin 1024) :
    (iblk m c 1 t (ix2 i k) : EReal) = (theArgs m c).x1 (row t i) k := by
  have e : (iblk m c 1 t (ix2 i k) : EReal) = V m c main_v43 (ix2 (row t i) k) := by
    blk_ext [iblk, idx t, row]
  refine e.trans ?_
  entry_read
  refine Eq.trans (b := (shapeCast S8192x1024 (refX1 m c) shapeCasts_S1x8192x1024_S8192x1024 (ix2 (row t i) k) : EReal)) rfl ?_
  exact (flat (refX1 m c) (row t i) k).trans (refX1_at m c (row t i) k)

theorem blk2 (c : Dev nD) (t : Fin cfg0.N) (i : Fin 256) (k : Fin 1024) :
    (iblk m c 2 t (ix2 i k) : EReal) = (theArgs m c).ct (row t i) k := by
  unfold iblk
  entry_read
  blk_simp
  pointwise
  unfold theArgs args
  blk_ext [idx t, row]

theorem blk3 (c : Dev nD) (t : Fin cfg0.N) (r : Fin 6) (j : Fin 1024) :
    (iblk m c 3 t (ix2 ⟨r.val, by omega⟩ j) : EReal) = (theArgs m c).mrow r j := by
  have e : (iblk m c 3 t (ix2 ⟨r.val, by omega⟩ j) : EReal) = V m c main_v36 (ix2 ⟨r.val, by omega⟩ j) := by
    blk_ext [iblk, idx t, row]
  refine e.trans ?_
  entry_read
  exact packed _ _ r j

theorem blk4 (c : Dev nD) (t : Fin cfg0.N) (j : Fin 1024) :
    (iblk m c 4 t (ix2 (0 : Fin 1) j) : EReal) = gf m c j := by
  unfold iblk
  entry_read
  blk_simp
  pointwise
  unfold gf
  blk_ext [idx t]

theorem blk5 (c : Dev nD) (t : Fin cfg0.N) (d : Fin 2) (j : Fin 4) (f : Fin 704) (k : Fin 1024) :
    (iblk m c 5 t (ix4 d j f k) : EReal) = (theArgs m c).wgu k ⟨2816 * d.val + 704 * j.val + f.val, by omega⟩ := by
  unfold iblk
  entry_read
  blk_simp
  pointwise
  refine congrArg (m ((c : Thread nD τ).loc main_arg5)) (funext fun a => Fin.ext ?_)
  match a with
  | ⟨0, _⟩ => rfl
  | ⟨1, _⟩ => blk_simp [idx t]
  | ⟨2, _⟩ =>
    blk_simp [idx t]
    show d.val * 2816 + j.val * 704 + f.val = 2816 * d.val + 704 * j.val + f.val
    omega

theorem blk6 (c : Dev nD) (t : Fin cfg0.N) (f : Fin 2816) (k : Fin 1024) :
    (iblk m c 6 t (ix2 f k) : EReal) = (theArgs m c).wd f k := by
  unfold iblk
  entry_read
  blk_simp
  pointwise
  unfold theArgs args
  blk_ext [idx t]

theorem gu_step (c : Dev nD) (t : Fin cfg0.N) (h : Fin 2) (j : Fin 4) (i : Fin 256) (f : Fin 704) :
    prodV (iblk m c 0 t) (iblk m c 5 t) h j i f = (theArgs m c).gu (row t i) ⟨2816 * h.val + 704 * j.val + f.val, by omega⟩ :=
  Finset.sum_congr rfl fun k _ => congrArg₂ (· * ·) (blk0 m c t i k) (blk5 m c t h j f k)

theorem x2_step (c : Dev nD) (t : Fin cfg0.N) (i : Fin 256) :
    x2V (iblk m c 0 t) (iblk m c 1 t) (iblk m c 3 t) (iblk m c 5 t) (iblk m c 6 t) i = (theArgs m c).x2 (row t i) := by
  funext k
  refine congrArg₂ (· + ·) (blk1 m c t i k) (congrArg₂ (· * ·) (blk3 m c t 5 k) (planes_cols _ _ fun j f => ?_))
  refine congrArg₂ (· * ·) (congrArg₂ (fun a b => silu a * b) ((gu_step m c t 0 j i f).trans ?_) ((gu_step m c t 1 j i f).trans ?_)) (blk6 m c t (col j f) k)
  · exact congrArg ((theArgs m c).gu (row t i)) (Fin.ext (by show 2816 * 0 + 704 * j.val + f.val = 704 * j.val + f.val; omega))
  · exact congrArg ((theArgs m c).gu (row t i)) (Fin.ext (by show 2816 * 1 + 704 * j.val + f.val = 2816 + (704 * j.val + f.val); omega))

theorem xn_step (c : Dev nD) (t : Fin cfg0.N) (i : Fin 256) (k : Fin 1024) :
    xnV (iblk m c 0 t) (iblk m c 1 t) (iblk m c 3 t) (iblk m c 5 t) (iblk m c 6 t) i k = (theArgs m c).xn (row t i) k := by
  unfold xnV
  rw [x2_step]
  rfl

theorem diff_step (c : Dev nD) (t : Fin cfg0.N) (i : Fin 256) (k : Fin 1024) :
    diffV (iblk m c 0 t) (iblk m c 1 t) (iblk m c 2 t) (iblk m c 3 t) (iblk m c 4 t) (iblk m c 5 t) (iblk m c 6 t) i k
      = (theArgs m c).diff (gf m c) (row t i) k := by
  unfold diffV
  rw [xn_step, blk2, blk4]
  rfl

theorem dx2_step (c : Dev nD) (t : Fin cfg0.N) (i : Fin 256) (j : Fin 1024) :
    dx2V (iblk m c 0 t) (iblk m c 1 t) (iblk m c 2 t) (iblk m c 3 t) (iblk m c 4 t) (iblk m c 5 t) (iblk m c 6 t) i j
      = (theArgs m c).dx2 (gf m c) (row t i) j := by
  unfold dx2V
  rw [x2_step]
  refine congrArg (fun d => rowGrad _ d j) (funext fun k => ?_)
  unfold dyV
  rw [diff_step, blk4]
  rfl

theorem loss_points (c : Dev nD) (R : (theArgs m c).Real) (hg : ∀ k, ∃ r : ℝ, gf m c k = r) :
    ∑ t : Fin cfg0.N, stepLoss (iblk m c 0 t) (iblk m c 1 t) (iblk m c 2 t) (iblk m c 3 t) (iblk m c 4 t) (iblk m c 5 t) (iblk m c 6 t)
      = (theArgs m c).loss (gf m c) := by
  unfold stepLoss
  simp only [diff_step]
  rw [sum_scaled _ fun t => real_sum _ _ fun r => real_sum _ _ fun j => real_mul (R.diff hg _ j) (R.diff hg _ j)]
  exact congrArg (· * cL) (block_rows N_0 _ (fun i => ∑ j, (theArgs m c).diff (gf m c) i j * (theArgs m c).diff (gf m c) i j) fun t r => rfl)

theorem g_points (c : Dev nD) (j : Fin 1024) :
    ∑ t : Fin cfg0.N, stepG (iblk m c 0 t) (iblk m c 1 t) (iblk m c 2 t) (iblk m c 3 t) (iblk m c 4 t) (iblk m c 5 t) (iblk m c 6 t) j
      = (theArgs m c).dgf (gf m c) j := by
  unfold stepG dyV
  simp only [diff_step, xn_step]
  exact block_rows N_0 _ (fun i => (theArgs m c).dy (gf m c) i j * (theArgs m c).xn i j) fun t r => rfl

/-- The two halves' planes, at an index of the array. -/
def guOf (A : Args) (i : S2x4x8192x704.Idx) : EReal :=
  A.gu (i 2) ⟨2816 * (i 0).val + 704 * (i 1).val + (i 3).val, by
    have h0 : (i 0).val < 2 := (i 0).isLt
    have h1 : (i 1).val < 4 := (i 1).isLt
    have h3 : (i 3).val < 704 := (i 3).isLt
    omega⟩

theorem final7 (c : Dev nD) : (dats m 0 c).arrAt 7 cfg0.N = (guOf (theArgs m c) : S2x4x8192x704.Idx → EReal) := by
  refine (dats m 0 c).arrAt_eq_of_covers 7 _ (by decide +kernel) fun t hf y => ?_
  blk_simp
  rw [after0_7, out7]
  idx_vars y
  have e : ((View.whole main_v48_0).slice (win0_7.rect t)).emb (ix4 y0 y1 y2 y3) = ix4 y0 y1 (row t y2) y3 := by
    funext a
    apply Fin.ext
    match a with
    | ⟨0, _⟩ => blk_simp [idx t]
    | ⟨1, _⟩ => blk_simp [idx t]
    | ⟨2, _⟩ =>
      blk_simp [idx t]
      show t.val * 256 + y2.val = 256 * t.val + y2.val
      omega
    | ⟨3, _⟩ => blk_simp [idx t]
  rw [e]
  exact (guPieces_apply (iblk m c 0 t) (iblk m c 5 t) 4 (le_refl _) y0 y1 y2 y3 y1.isLt).trans (gu_step m c t y0 y1 y2 y3)

theorem final8 (c : Dev nD) : (dats m 0 c).arrAt 8 cfg0.N = (fun i => (theArgs m c).dx2 (gf m c) (i 0) (i 1) : S8192x1024.Idx → EReal) := by
  refine (dats m 0 c).arrAt_eq_of_covers 8 _ (by decide +kernel) fun t hf y => ?_
  blk_simp
  rw [after0_8, out8]
  idx_vars y
  refine ((dx2Pieces_apply _ _ _ _ _ _ _ _ _).trans (dx2_step m c t y0 y1)).trans ?_
  refine congrArg₂ ((theArgs m c).dx2 (gf m c)) (Fin.ext ?_) (Fin.ext ?_)
  · blk_simp [idx t]
    show 256 * t.val + y0.val = t.val * 256 + y0.val
    omega
  · blk_simp [idx t]

theorem final9 (c : Dev nD) : (dats m 0 c).arrAt 9 cfg0.N = (fun i => (theArgs m c).dx2 (gf m c) (i 0) (i 1) : S8192x1024.Idx → EReal) := by
  refine (dats m 0 c).arrAt_eq_of_covers 9 _ (by decide +kernel) fun t hf y => ?_
  blk_simp
  rw [after0_9, out9]
  idx_vars y
  refine ((dx2bPieces_apply _ _ _ _ _ _ _ _ _).trans (dx2_step m c t y0 y1)).trans ?_
  refine congrArg₂ ((theArgs m c).dx2 (gf m c)) (Fin.ext ?_) (Fin.ext ?_)
  · blk_simp [idx t]
    show 256 * t.val + y0.val = t.val * 256 + y0.val
    omega
  · blk_simp [idx t]

/-- The loss and the final norm's gradient, as a step leaves them. -/
theorem first_loss (c : Dev nD) (t : Fin cfg0.N) (h : t.val % 32 = 0) (q : Fin 128) :
    (outsAt0 m c t.val t.isLt).2.2.2.1 (ix2 (0 : Fin 1) q) = stepLoss (iblk m c 0 t) (iblk m c 1 t) (iblk m c 2 t) (iblk m c 3 t) (iblk m c 4 t) (iblk m c 5 t) (iblk m c 6 t) := by
  rw [out10_A m c t h, loss_step, pay2, zero_add]

theorem later_loss (c : Dev nD) (t : Fin cfg0.N) (h : ¬ t.val % 32 = 0) (q : Fin 128) :
    (outsAt0 m c t.val t.isLt).2.2.2.1 (ix2 (0 : Fin 1) q)
      = (outsAt0 m c (t.val - 1) (by omega)).2.2.2.1 (ix2 (0 : Fin 1) q) + stepLoss (iblk m c 0 t) (iblk m c 1 t) (iblk m c 2 t) (iblk m c 3 t) (iblk m c 4 t) (iblk m c 5 t) (iblk m c 6 t) := by
  rw [out10_B m c t h, loss_step]

theorem first_g (c : Dev nD) (t : Fin cfg0.N) (h : t.val % 32 = 0) (j : Fin 1024) :
    (outsAt0 m c t.val t.isLt).2.2.2.2 (ix2 (0 : Fin 1) j) = stepG (iblk m c 0 t) (iblk m c 1 t) (iblk m c 2 t) (iblk m c 3 t) (iblk m c 4 t) (iblk m c 5 t) (iblk m c 6 t) j := by
  rw [out11_A m c t h, g_step, pay3, zero_add]

theorem later_g (c : Dev nD) (t : Fin cfg0.N) (h : ¬ t.val % 32 = 0) (j : Fin 1024) :
    (outsAt0 m c t.val t.isLt).2.2.2.2 (ix2 (0 : Fin 1) j)
      = (outsAt0 m c (t.val - 1) (by omega)).2.2.2.2 (ix2 (0 : Fin 1) j) + stepG (iblk m c 0 t) (iblk m c 1 t) (iblk m c 2 t) (iblk m c 3 t) (iblk m c 4 t) (iblk m c 5 t) (iblk m c 6 t) j := by
  rw [out11_B m c t h, g_step]

/-- The last step. -/
def lastStep : Fin cfg0.N := ⟨31, by rw [show cfg0.N = 32 from N_0]; decide⟩

theorem final10 (c : Dev nD) (R : (theArgs m c).Real) (hg : ∀ k, ∃ r : ℝ, gf m c k = r) :
    (dats m 0 c).arrAt 10 cfg0.N = (fun i => (theArgs m c).loss (gf m c) : S1x128.Idx → EReal) := by
  refine (dats m 0 c).arrAt_eq_of_after_last 10 lastStep (by decide +kernel) _ fun j => ?_
  blk_simp
  idx_vars j
  rw [after0_10, Pipeline.eq_sum_fin_of_reset_step_apply_last (fun n h => (outsAt0 m c n h).2.2.2.1) 32 (fun _ => 0)
    (fun t y => stepLoss (iblk m c 0 t) (iblk m c 1 t) (iblk m c 2 t) (iblk m c 3 t) (iblk m c 4 t) (iblk m c 5 t) (iblk m c 6 t))
    (fun t h y => by idx_vars y; obtain rfl : y0 = 0 := Subsingleton.elim _ _; exact (first_loss m c t h _).trans (zero_add _).symm)
    (fun t h y => by idx_vars y; obtain rfl : y0 = 0 := Subsingleton.elim _ _; exact later_loss m c t h _)
    (le_of_eq N_0) lastStep rfl _, zero_add]
  exact loss_points m c R hg

theorem final11 (c : Dev nD) : (dats m 0 c).arrAt 11 cfg0.N = (fun i => (theArgs m c).dgf (gf m c) (i 1) : S1x1024.Idx → EReal) := by
  refine (dats m 0 c).arrAt_eq_of_after_last 11 lastStep (by decide +kernel) _ fun j => ?_
  blk_simp
  idx_vars j
  rw [after0_11, Pipeline.eq_sum_fin_of_reset_step_apply_last (fun n h => (outsAt0 m c n h).2.2.2.2) 32 (fun _ => 0)
    (fun t y => stepG (iblk m c 0 t) (iblk m c 1 t) (iblk m c 2 t) (iblk m c 3 t) (iblk m c 4 t) (iblk m c 5 t) (iblk m c 6 t) (y 1))
    (fun t h y => by idx_vars y; obtain rfl : y0 = 0 := Subsingleton.elim _ _; exact (first_g m c t h _).trans (zero_add _).symm)
    (fun t h y => by idx_vars y; obtain rfl : y0 = 0 := Subsingleton.elim _ _; exact later_g m c t h _)
    (le_of_eq N_0) lastStep rfl _, zero_add]
  exact g_points m c j1
end Cert.FfnFwdIdeal.Blocks
-- ==== Proof.HeadRefValues.lean ====
/- The reference of the forward pass with the loss: its five results at an index, over the arguments. Its first lines are those of the backward pass's reference. -/
module
public import proofs.«01_k».proof.Proof.Gen.HeadRefIdeal.Read
public import proofs.«01_k».proof.Proof.FfnRefValues
public import proofs.«01_k».proof.Proof.FwdMath
public import Idealize.ShloMosaic.Lib.Pointwise
@[expose] public section
set_option maxRecDepth 16384
noncomputable section
open Idealize.ShloMosaic Idealize.ShloMosaic.TcCoe Idealize.SL.Sem
namespace Cert.HeadRefIdeal.Values
open Cert.HeadRefIdeal Cert.HeadRefIdeal.Gen Cert.HeadRefIdeal.Read Cert.Rows Cert.Norm Cert.Ffn Cert.Finite

abbrev Arr (s : Shape) : Type := s.Idx → EReal
variable (x0 x1 : Arr S1x8192x1024) (x2 : Arr S1x6144) (x3 : Arr S1x1024) (x4 : Arr S1x1024x1024) (x5 : Arr S1x1024x5632)
  (x6 : Arr S1x2816x1024) (x7 : Arr S1024) (x8 : Arr S1x8192x1024)

theorem v11_at (i : Fin 8192) (k : Fin 1024) : (val_main_v11 (F := Ideal) x0 x1 x2 x4 (ix3 (0 : Fin 1) i k) : EReal) = (args x0 x1 x2 x3 x4 x5 x6 x8).x1 i k :=
  Eq.trans rfl (Cert.FfnRefIdeal.Values.v12_at x0 x1 x2 x3 x4 x5 x6 x8 i k)

theorem v35_at (i : Fin 8192) (o : Fin 5632) : (val_main_v35 (F := Ideal) x0 x1 x2 x3 x4 x5 (ix3 (0 : Fin 1) i o) : EReal) = (args x0 x1 x2 x3 x4 x5 x6 x8).gu i o :=
  Eq.trans rfl (Cert.FfnRefIdeal.Values.v39_at x0 x1 x2 x3 x4 x5 x6 x8 i o)

theorem v40_at (i : Fin 8192) (f : Fin 2816) : (val_main_v40 (F := Ideal) x0 x1 x2 x3 x4 x5 (ix3 (0 : Fin 1) i f) : EReal) = (args x0 x1 x2 x3 x4 x5 x6 x8).act i f := by
  have h := v35_at x0 x1 x2 x3 x4 x5 x6 x8 i ⟨f.val, by omega⟩
  have h' := v35_at x0 x1 x2 x3 x4 x5 x6 x8 i ⟨2816 + f.val, by omega⟩
  unfold val_main_v40 val_main_v39 val_main_call0_v5 val_main_call0_v3 val_main_call0_v1 val_main_call0_v0 val_main_v37 val_main_v36
  generalize val_main_v35 (F := Ideal) x0 x1 x2 x3 x4 x5 = y at h h' ⊢
  pointwise [val_main_call0_v2, val_main_call0_v4, val_main_call0_cst, val_main_call0_cst_0]
  rw [h, h']
  rfl

theorem v42_at (i : Fin 8192) (k : Fin 1024) : (val_main_v42 (F := Ideal) x0 x1 x2 x3 x4 x5 x6 (ix3 (0 : Fin 1) i k) : EReal) = ∑ f, (args x0 x1 x2 x3 x4 x5 x6 x8).act i f * (args x0 x1 x2 x3 x4 x5 x6 x8).wd f k := by
  rw [val_main_v42_apply]
  refine Finset.sum_congr rfl fun f _ => ?_
  rw [val_main_v41_apply]
  refine congrArg₂ (· * ·) ((congrArg _ ?_).trans (v40_at x0 x1 x2 x3 x4 x5 x6 x8 i f)) (congrArg x6 ?_)
  · funext a
    match a with | ⟨0, _⟩ => rfl | ⟨1, _⟩ => rfl | ⟨2, _⟩ => rfl
  · funext a
    apply Fin.ext
    match a with
    | ⟨0, _⟩ => rfl
    | ⟨1, _⟩ => show (f.val * 1024 + k.val) / 1024 % 2816 = f.val; omega
    | ⟨2, _⟩ => show (f.val * 1024 + k.val) % 1024 = k.val; omega

theorem v45_at (i : Fin 8192) (k : Fin 1024) : (val_main_v45 (F := Ideal) x0 x1 x2 x3 x4 x5 x6 (ix3 (0 : Fin 1) i k) : EReal) = (args x0 x1 x2 x3 x4 x5 x6 x8).x2 i k := by
  have h := v11_at x0 x1 x2 x3 x4 x5 x6 x8 i k
  have h' := v42_at x0 x1 x2 x3 x4 x5 x6 x8 i k
  unfold val_main_v45 val_main_v44
  generalize val_main_v11 (F := Ideal) x0 x1 x2 x4 = y at h ⊢
  generalize val_main_v42 (F := Ideal) x0 x1 x2 x3 x4 x5 x6 = z at h' ⊢
  pointwise [val_main_v43, val_main_v38, val_main_v5]
  rw [h, h']
  rfl

theorem v52_at (i : Fin 8192) : (val_main_v52 (F := Ideal) x0 x1 x2 x3 x4 x5 x6 (ix3 (0 : Fin 1) i (0 : Fin 1)) : EReal) = ms ((args x0 x1 x2 x3 x4 x5 x6 x8).x2 i) := by
  have h : (val_main_v47 (F := Ideal) x0 x1 x2 x3 x4 x5 x6 (ix2 (0 : Fin 1) i) : EReal) = ∑ k, (args x0 x1 x2 x3 x4 x5 x6 x8).x2 i k * (args x0 x1 x2 x3 x4 x5 x6 x8).x2 i k := by
    rw [val_main_v47_apply]
    refine (congrArg₂ (· + ·) (?_ : _ = (0 : EReal)) (Finset.sum_congr rfl fun k _ => ?_)).trans (zero_add _)
    · pointwise [val_main_cst_3]
    · rw [show idx_main_v47 (ix2 (0 : Fin 1) i) k = ix3 (0 : Fin 1) i k from funext fun a => by
        match a with | ⟨0, _⟩ => rfl | ⟨1, _⟩ => rfl | ⟨2, _⟩ => rfl]
      rw [val_main_v46_apply]
      exact congrArg (fun q => q * q) (v45_at x0 x1 x2 x3 x4 x5 x6 x8 i k)
  unfold val_main_v52 val_main_v50 val_main_v48
  generalize val_main_v47 (F := Ideal) x0 x1 x2 x3 x4 x5 x6 = y at h ⊢
  pointwise [val_main_v51, val_main_v49, val_main_cst_4, val_main_cst_5]
  rw [h]
  rfl

theorem v56_at (i : Fin 8192) : (val_main_v56 (F := Ideal) x0 x1 x2 x3 x4 x5 x6 (ix3 (0 : Fin 1) i (0 : Fin 1)) : EReal) = cHalf * Ideal.div (rms ((args x0 x1 x2 x3 x4 x5 x6 x8).x2 i)) (ms ((args x0 x1 x2 x3 x4 x5 x6 x8).x2 i)) := by
  have h := v52_at x0 x1 x2 x3 x4 x5 x6 x8 i
  unfold val_main_v56 val_main_v54 val_main_v53
  generalize val_main_v52 (F := Ideal) x0 x1 x2 x3 x4 x5 x6 = y at h ⊢
  pointwise [val_main_v55, val_main_cst_6]
  rw [h]
  rfl

theorem v58_at (i : Fin 8192) (k : Fin 1024) : (val_main_v58 (F := Ideal) x0 x1 x2 x3 x4 x5 x6 (ix3 (0 : Fin 1) i k) : EReal) = (args x0 x1 x2 x3 x4 x5 x6 x8).xn i k := by
  have h := v52_at x0 x1 x2 x3 x4 x5 x6 x8 i
  have h' := v45_at x0 x1 x2 x3 x4 x5 x6 x8 i k
  unfold val_main_v58 val_main_v57 val_main_v53
  generalize val_main_v52 (F := Ideal) x0 x1 x2 x3 x4 x5 x6 = y at h ⊢
  generalize val_main_v45 (F := Ideal) x0 x1 x2 x3 x4 x5 x6 = z at h' ⊢
  pointwise
  rw [h, h']
  rfl

theorem v62_at (i : Fin 8192) (k : Fin 1024) : (val_main_v62 (F := Ideal) x0 x1 x2 x3 x4 x5 x6 x7 x8 (ix3 (0 : Fin 1) i k) : EReal) = (args x0 x1 x2 x3 x4 x5 x6 x8).diff (fun k => x7 (ix1 k)) i k := by
  have h := v58_at x0 x1 x2 x3 x4 x5 x6 x8 i k
  unfold val_main_v62 val_main_v61
  generalize val_main_v58 (F := Ideal) x0 x1 x2 x3 x4 x5 x6 = y at h ⊢
  pointwise [val_main_v60, val_main_v59]
  rw [h]
  rfl

section
variable (R : (args x0 x1 x2 x3 x4 x5 x6 x8).Real) (hg : ∀ k, ∃ r : ℝ, x7 (ix1 k) = r)
include R hg

theorem v76_at (i : Fin 8192) (k : Fin 1024) : (val_main_v76 (F := Ideal) x0 x1 x2 x3 x4 x5 x6 x7 x8 (ix3 (0 : Fin 1) i k) : EReal) = (args x0 x1 x2 x3 x4 x5 x6 x8).dy (fun k => x7 (ix1 k)) i k := by
  have h := v62_at x0 x1 x2 x3 x4 x5 x6 x7 x8 i k
  unfold val_main_v76 val_main_v65
  generalize val_main_v62 (F := Ideal) x0 x1 x2 x3 x4 x5 x6 x7 x8 = y at h ⊢
  pointwise [val_main_v75, val_main_v74, val_main_v73, val_main_v72, val_main_v71, val_main_v64, val_main_cst_7, val_main_cst_12, val_main_cst_13, val_main_cst_14]
  rw [h]
  exact scaled_diff _ (R.diff hg i k)

theorem v81_at (i : Fin 8192) (k : Fin 1024) : (val_main_v81 (F := Ideal) x0 x1 x2 x3 x4 x5 x6 x7 x8 (ix3 (0 : Fin 1) i k) : EReal) = (args x0 x1 x2 x3 x4 x5 x6 x8).dy (fun k => x7 (ix1 k)) i k * x7 (ix1 k) := by
  have h := v76_at x0 x1 x2 x3 x4 x5 x6 x7 x8 R hg i k
  unfold val_main_v81
  generalize val_main_v76 (F := Ideal) x0 x1 x2 x3 x4 x5 x6 x7 x8 = y at h ⊢
  pointwise [val_main_v80, val_main_v59]
  rw [h]

theorem v93_at (i : Fin 8192) (j : Fin 1024) : (val_main_v93 (F := Ideal) x0 x1 x2 x3 x4 x5 x6 x7 x8 (ix3 (0 : Fin 1) i j) : EReal) = msGrad ((args x0 x1 x2 x3 x4 x5 x6 x8).x2 i) (fun k => (args x0 x1 x2 x3 x4 x5 x6 x8).dy (fun k => x7 (ix1 k)) i k * x7 (ix1 k)) := by
  have h : (val_main_v84 (F := Ideal) x0 x1 x2 x3 x4 x5 x6 x7 x8 (ix2 (0 : Fin 1) i) : EReal) = ∑ k, (args x0 x1 x2 x3 x4 x5 x6 x8).x2 i k * ((args x0 x1 x2 x3 x4 x5 x6 x8).dy (fun k => x7 (ix1 k)) i k * x7 (ix1 k)) := by
    rw [val_main_v84_apply]
    refine (congrArg₂ (· + ·) (?_ : _ = (0 : EReal)) (Finset.sum_congr rfl fun k _ => ?_)).trans (zero_add _)
    · pointwise [val_main_cst_17]
    · rw [show idx_main_v84 (ix2 (0 : Fin 1) i) k = ix3 (0 : Fin 1) i k from funext fun a => by
        match a with | ⟨0, _⟩ => rfl | ⟨1, _⟩ => rfl | ⟨2, _⟩ => rfl]
      rw [val_main_v83_apply]
      exact congrArg₂ (· * ·) (v45_at x0 x1 x2 x3 x4 x5 x6 x8 i k) (v81_at x0 x1 x2 x3 x4 x5 x6 x7 x8 R hg i k)
  have h' := v56_at x0 x1 x2 x3 x4 x5 x6 x8 i
  have h'' : (val_main_v90 (F := Ideal) x0 x1 x2 x3 x4 x5 x6 x7 x8 (ix3 (0 : Fin 1) i (0 : Fin 1)) : EReal) = msGrad ((args x0 x1 x2 x3 x4 x5 x6 x8).x2 i) (fun k => (args x0 x1 x2 x3 x4 x5 x6 x8).dy (fun k => x7 (ix1 k)) i k * x7 (ix1 k)) := by
    unfold val_main_v90 val_main_v88 val_main_v85
    generalize val_main_v84 (F := Ideal) x0 x1 x2 x3 x4 x5 x6 x7 x8 = y at h ⊢
    generalize val_main_v56 (F := Ideal) x0 x1 x2 x3 x4 x5 x6 = z at h' ⊢
    pointwise [val_main_v89, val_main_cst_18]
    rw [h, h']
    rfl
  unfold val_main_v93 val_main_v92 val_main_v91
  generalize val_main_v90 (F := Ideal) x0 x1 x2 x3 x4 x5 x6 x7 x8 = y at h'' ⊢
  pointwise [val_main_cst_19]
  rw [Cert.FfnRefIdeal.Values.drop_col, h'', zero_add]

theorem v97_at (i : Fin 8192) (j : Fin 1024) : (val_main_v97 (F := Ideal) x0 x1 x2 x3 x4 x5 x6 x7 x8 (ix3 (0 : Fin 1) i j) : EReal) = (args x0 x1 x2 x3 x4 x5 x6 x8).dx2 (fun k => x7 (ix1 k)) i j := by
  have h := v93_at x0 x1 x2 x3 x4 x5 x6 x7 x8 R hg i j
  have h1 := v52_at x0 x1 x2 x3 x4 x5 x6 x8 i
  have h2 := v81_at x0 x1 x2 x3 x4 x5 x6 x7 x8 R hg i j
  have h3 := v45_at x0 x1 x2 x3 x4 x5 x6 x8 i j
  rw [R.dx2_eq hg]
  unfold val_main_v97 val_main_v96 val_main_v95 val_main_v94 val_main_v87 val_main_v86 val_main_v53
  generalize val_main_v93 (F := Ideal) x0 x1 x2 x3 x4 x5 x6 x7 x8 = y at h ⊢
  generalize val_main_v52 (F := Ideal) x0 x1 x2 x3 x4 x5 x6 = z at h1 ⊢
  generalize val_main_v81 (F := Ideal) x0 x1 x2 x3 x4 x5 x6 x7 x8 = a at h2 ⊢
  generalize val_main_v45 (F := Ideal) x0 x1 x2 x3 x4 x5 x6 = b at h3 ⊢
  pointwise
  rw [h, h1, h2, h3]
  rfl

/-- The five results. -/
theorem dx2_at (i : Fin 8192) (j : Fin 1024) : (val_main_v102 (F := Ideal) x0 x1 x2 x3 x4 x5 x6 x7 x8 (ix2 i j) : EReal) = (args x0 x1 x2 x3 x4 x5 x6 x8).dx2 (fun k => x7 (ix1 k)) i j := by
  have h := v97_at x0 x1 x2 x3 x4 x5 x6 x7 x8 R hg i j
  unfold val_main_v102
  generalize val_main_v97 (F := Ideal) x0 x1 x2 x3 x4 x5 x6 x7 x8 = y at h ⊢
  pointwise
  exact h

theorem dx2b_at (i : Fin 8192) (j : Fin 1024) : (val_main_v104 (F := Ideal) x0 x1 x2 x3 x4 x5 x6 x7 x8 (ix2 i j) : EReal) = (args x0 x1 x2 x3 x4 x5 x6 x8).dx2 (fun k => x7 (ix1 k)) i j := by
  have h := v97_at x0 x1 x2 x3 x4 x5 x6 x7 x8 R hg i j
  unfold val_main_v104 val_main_v103
  generalize val_main_v97 (F := Ideal) x0 x1 x2 x3 x4 x5 x6 x7 x8 = y at h ⊢
  pointwise
  exact h

theorem dg_at (j : Fin 1024) : (val_main_v106 (F := Ideal) x0 x1 x2 x3 x4 x5 x6 x7 x8 (ix2 (0 : Fin 1) j) : EReal) = (args x0 x1 x2 x3 x4 x5 x6 x8).dgf (fun k => x7 (ix1 k)) j := by
  have h : (val_main_v78 (F := Ideal) x0 x1 x2 x3 x4 x5 x6 x7 x8 (ix2 (0 : Fin 1) j) : EReal) = (args x0 x1 x2 x3 x4 x5 x6 x8).dgf (fun k => x7 (ix1 k)) j := by
    rw [val_main_v78_apply]
    refine (congrArg₂ (· + ·) (?_ : _ = (0 : EReal)) (Finset.sum_congr rfl fun k _ => ?_)).trans (zero_add _)
    · pointwise [val_main_cst_15]
    · rw [show idx_main_v78 (ix2 (0 : Fin 1) j) k = ix3 (0 : Fin 1) k j from funext fun a => by
        match a with | ⟨0, _⟩ => rfl | ⟨1, _⟩ => rfl | ⟨2, _⟩ => rfl]
      rw [val_main_v77_apply]
      exact (congrArg₂ (· * ·) (v58_at x0 x1 x2 x3 x4 x5 x6 x8 k j) (v76_at x0 x1 x2 x3 x4 x5 x6 x7 x8 R hg k j)).trans (mul_comm _ _)
  unfold val_main_v106 val_main_v82 val_main_v79
  generalize val_main_v78 (F := Ideal) x0 x1 x2 x3 x4 x5 x6 x7 x8 = y at h ⊢
  pointwise [val_main_cst_16]
  rw [Cert.FfnRefIdeal.Values.drop_row, zero_add, ← h]
  pointwise

theorem loss_at (q : Fin 128) : (val_main_v105 (F := Ideal) x0 x1 x2 x3 x4 x5 x6 x7 x8 (ix2 (0 : Fin 1) q) : EReal) = (args x0 x1 x2 x3 x4 x5 x6 x8).loss (fun k => x7 (ix1 k)) := by
  have h : ∀ i : Fin 8192, (val_main_v68 (F := Ideal) x0 x1 x2 x3 x4 x5 x6 x7 x8 (ix2 (0 : Fin 1) i) : EReal) = Ideal.div (∑ k, (args x0 x1 x2 x3 x4 x5 x6 x8).diff (fun k => x7 (ix1 k)) i k * (args x0 x1 x2 x3 x4 x5 x6 x8).diff (fun k => x7 (ix1 k)) i k) cN := by
    intro i
    have e : (val_main_v66 (F := Ideal) x0 x1 x2 x3 x4 x5 x6 x7 x8 (ix2 (0 : Fin 1) i) : EReal) = ∑ k, (args x0 x1 x2 x3 x4 x5 x6 x8).diff (fun k => x7 (ix1 k)) i k * (args x0 x1 x2 x3 x4 x5 x6 x8).diff (fun k => x7 (ix1 k)) i k := by
      rw [val_main_v66_apply]
      refine (congrArg₂ (· + ·) (?_ : _ = (0 : EReal)) (Finset.sum_congr rfl fun k _ => ?_)).trans (zero_add _)
      · pointwise [val_main_cst_8]
      · rw [show idx_main_v66 (ix2 (0 : Fin 1) i) k = ix3 (0 : Fin 1) i k from funext fun a => by
          match a with | ⟨0, _⟩ => rfl | ⟨1, _⟩ => rfl | ⟨2, _⟩ => rfl]
        rw [val_main_v63_apply]
        exact congrArg (fun q => q * q) (v62_at x0 x1 x2 x3 x4 x5 x6 x7 x8 i k)
    unfold val_main_v68
    generalize val_main_v66 (F := Ideal) x0 x1 x2 x3 x4 x5 x6 x7 x8 = y at e ⊢
    pointwise [val_main_v67, val_main_cst_9]
    rw [e]
  have t : ∀ s, (val_main_v69 (F := Ideal) x0 x1 x2 x3 x4 x5 x6 x7 x8 s : EReal) = ∑ i, Ideal.div (∑ k, (args x0 x1 x2 x3 x4 x5 x6 x8).diff (fun k => x7 (ix1 k)) i k * (args x0 x1 x2 x3 x4 x5 x6 x8).diff (fun k => x7 (ix1 k)) i k) cN := by
    intro s
    rw [val_main_v69_apply]
    refine (congrArg₂ (· + ·) (?_ : _ = (0 : EReal)) ?_).trans (zero_add _)
    · pointwise [val_main_cst_10]
    · rw [sum_idx2, Fin.sum_univ_one]
      exact Finset.sum_congr rfl fun i _ => h i
  unfold val_main_v105 val_main_v70
  generalize val_main_v69 (F := Ideal) x0 x1 x2 x3 x4 x5 x6 x7 x8 = y at t ⊢
  pointwise [val_main_cst_11]
  rw [t]
  exact half_means _ fun i => real_sum _ _ fun k => real_mul (R.diff hg i k) (R.diff hg i k)
end

theorem gu_at (a : Fin 2) (j : Fin 4) (i : Fin 8192) (f : Fin 704) :
    (val_main_v101 (F := Ideal) x0 x1 x2 x3 x4 x5 (ix4 a j i f) : EReal) = (args x0 x1 x2 x3 x4 x5 x6 x8).gu i ⟨2816 * a.val + 704 * j.val + f.val, by omega⟩ := by
  have h := v35_at x0 x1 x2 x3 x4 x5 x6 x8 i ⟨2816 * a.val + 704 * j.val + f.val, by omega⟩
  rw [val_main_v101_apply, val_main_v100_apply, val_main_v99_apply, val_main_v98_apply]
  refine (congrArg (val_main_v35 (F := Ideal) x0 x1 x2 x3 x4 x5) ?_).trans h
  funext b
  apply Fin.ext
  match b with
  | ⟨0, _⟩ => rfl
  | ⟨1, _⟩ => show ((((i.val * 2 + a.val) * 4 + j.val) * 704 + f.val) / 5632 * 5632 + (((i.val * 2 + a.val) * 4 + j.val) * 704 + f.val) % 5632) / 5632 % 8192 = i.val; omega
  | ⟨2, _⟩ => show ((((i.val * 2 + a.val) * 4 + j.val) * 704 + f.val) / 5632 * 5632 + (((i.val * 2 + a.val) * 4 + j.val) * 704 + f.val) % 5632) % 5632 = 2816 * a.val + 704 * j.val + f.val; omega

end Cert.HeadRefIdeal.Values
-- ==== Proof.FwdAlgebraic.lean ====
/- The forward kernel's and its reference's five results are the same arrays. -/
module
public import proofs.«01_k».proof.Proof.FwdResult
public import proofs.«01_k».proof.Proof.HeadRefValues
public import proofs.«01_k».proof.Proof.Finite
public import proofs.«01_k».proof.Proof.Gen.Pre_head_finite
public import proofs.«01_k».proof.Proof.Gen.HeadRefIdeal.Run
public import proofs.«01_k».proof.Proof.Gen.FfnFwdIdeal.Value
public import proofs.«01_k».proof.Defs
public import Idealize.ShloMosaic.Lib.Claim
@[expose] public section
set_option maxRecDepth 16384
noncomputable section
open Idealize.ShloMosaic Idealize.ShloMosaic.TcCoe Idealize.SL.Sem
namespace Cert.Head
open Cert.FfnFwdIdeal Cert.FfnFwdIdeal.Blocks Cert.Finite Cert.Ffn

/-- Every entry of the arguments is real. -/
theorem reals [Cert.Pre_head_finite.Facts] (m : (ℓ : Loc nD τ sig) → Buf (Elt Ideal) ℓ) (h : Cert.Pre_FfnFwdIdeal_head_finite m) (c : Dev nD) :
    (theArgs m c).Real ∧ ∀ k, ∃ r : ℝ, gf m c k = r := by
  obtain ⟨h0, h1, h2, h3, h4, h5, h6, h7, h8⟩ := h c
  have r0 := real_all (s := S1x8192x1024) _ _ (fun i => pinf) h0
  have r1 := real_all (s := S1x8192x1024) _ _ (fun i => pinf) h1
  have r2 := real_all (s := S1x6144) _ _ (fun i => pinf) h2
  have r3 := real_all (s := S1x1024) _ _ (fun i => pinf) h3
  have r4 := real_all (s := S1x1024x1024) _ _ (fun i => pinf) h4
  have r5 := real_all (s := S1x1024x5632) _ _ (fun i => pinf) h5
  have r6 := real_all (s := S1x2816x1024) _ _ (fun i => pinf) h6
  have r7 := real_all (s := S1024) _ _ (fun i => pinf) h7
  have r8 := real_all (s := S1x8192x1024) _ _ (fun i => pinf) h8
  exact ⟨⟨fun i k => r0 _, fun i k => r1 _, fun i k => r8 _, fun k => r2 _, fun k => r3 _, fun i k => r4 _, fun i k => r5 _, fun i k => r6 _⟩, fun k => r7 _⟩

/-- The reference ends with its arguments unchanged and every counter at zero: it declares none. -/
theorem ref_frame : Cert.quiescent_HeadRefIdeal := fun m ρ _ =>
  (θ_run _ _ _).mono (fun r h => ⟨fun c => (h c).2.2.2.2.2, sem_eq_zero_of_no_sems (by decide) r.2⟩) (HeadRefIdeal.Value.run m ρ)

section
open Cert.HeadRefIdeal.Read Cert.HeadRefIdeal.Values
variable (x0 x1 : S1x8192x1024.Idx → EReal) (x2 : S1x6144.Idx → EReal) (x3 : S1x1024.Idx → EReal) (x4 : S1x1024x1024.Idx → EReal)
  (x5 : S1x1024x5632.Idx → EReal) (x6 : S1x2816x1024.Idx → EReal) (x7 : S1024.Idx → EReal) (x8 : S1x8192x1024.Idx → EReal)

theorem ref_gu : (val_main_v101 (F := Ideal) x0 x1 x2 x3 x4 x5 : S2x4x8192x704.Idx → EReal) = guOf (args x0 x1 x2 x3 x4 x5 x6 x8) := by
  funext i
  idx_vars i
  exact gu_at x0 x1 x2 x3 x4 x5 x6 x8 i0 i1 i2 i3

variable (R : (args x0 x1 x2 x3 x4 x5 x6 x8).Real) (hg : ∀ k : Fin 1024, ∃ r : ℝ, x7 (ix1 k) = r)
include R hg

theorem ref_dx2 : (val_main_v102 (F := Ideal) x0 x1 x2 x3 x4 x5 x6 x7 x8 : S8192x1024.Idx → EReal)
    = fun i => (args x0 x1 x2 x3 x4 x5 x6 x8).dx2 (fun k => x7 (ix1 k)) (i 0) (i 1) := by
  funext i
  idx_vars i
  exact dx2_at x0 x1 x2 x3 x4 x5 x6 x7 x8 R hg i0 i1
theorem ref_dx2b : (val_main_v104 (F := Ideal) x0 x1 x2 x3 x4 x5 x6 x7 x8 : S8192x1024.Idx → EReal)
    = fun i => (args x0 x1 x2 x3 x4 x5 x6 x8).dx2 (fun k => x7 (ix1 k)) (i 0) (i 1) := by
  funext i
  idx_vars i
  exact dx2b_at x0 x1 x2 x3 x4 x5 x6 x7 x8 R hg i0 i1
theorem ref_loss : (val_main_v105 (F := Ideal) x0 x1 x2 x3 x4 x5 x6 x7 x8 : S1x128.Idx → EReal)
    = fun i => (args x0 x1 x2 x3 x4 x5 x6 x8).loss (fun k => x7 (ix1 k)) := by
  funext i
  idx_vars i
  obtain rfl : i0 = 0 := Subsingleton.elim _ _
  exact loss_at x0 x1 x2 x3 x4 x5 x6 x7 x8 R hg i1
theorem ref_dg : (val_main_v106 (F := Ideal) x0 x1 x2 x3 x4 x5 x6 x7 x8 : S1x1024.Idx → EReal)
    = fun i => (args x0 x1 x2 x3 x4 x5 x6 x8).dgf (fun k => x7 (ix1 k)) (i 1) := by
  funext i
  idx_vars i
  obtain rfl : i0 = 0 := Subsingleton.elim _ _
  exact dg_at x0 x1 x2 x3 x4 x5 x6 x7 x8 R hg i1
end

set_option maxHeartbeats 2000000 in
theorem algebraic [Cert.Pre_head_finite.Facts] : Cert.algebraic_FfnFwdIdeal_HeadRefIdeal_pre_head_finite := by
  intro m g m' g' hpre hagree
  refine ⟨_, _, _, _, _, Cert.FfnFwdIdeal.Value.run_blocks m g, (θ_run _ _ _).mono (fun r h c => ?_) (Cert.HeadRefIdeal.Value.run m' g')⟩
  obtain ⟨e0, e1, e2, e3, e4, hargs⟩ := h c
  obtain ⟨a0, a1, a2, a3, a4, a5, a6, a7, a8⟩ := hagree c
  replace a0 : StableHlo.launchContents m' c (Proc.devRef .tc HeadRefIdeal.main_arg0) = _ := a0
  replace a1 : StableHlo.launchContents m' c (Proc.devRef .tc HeadRefIdeal.main_arg1) = _ := a1
  replace a2 : StableHlo.launchContents m' c (Proc.devRef .tc HeadRefIdeal.main_arg2) = _ := a2
  replace a3 : StableHlo.launchContents m' c (Proc.devRef .tc HeadRefIdeal.main_arg3) = _ := a3
  replace a4 : StableHlo.launchContents m' c (Proc.devRef .tc HeadRefIdeal.main_arg4) = _ := a4
  replace a5 : StableHlo.launchContents m' c (Proc.devRef .tc HeadRefIdeal.main_arg5) = _ := a5
  replace a6 : StableHlo.launchContents m' c (Proc.devRef .tc HeadRefIdeal.main_arg6) = _ := a6
  replace a7 : StableHlo.launchContents m' c (Proc.devRef .tc HeadRefIdeal.main_arg7) = _ := a7
  replace a8 : StableHlo.launchContents m' c (Proc.devRef .tc HeadRefIdeal.main_arg8) = _ := a8
  obtain ⟨R, hg⟩ := reals m hpre c
  refine ⟨(e0.trans (Cert.HeadRefIdeal.Read.val_main_v101_eq (StableHlo.launchContents m' c))).trans ?_, (e1.trans (Cert.HeadRefIdeal.Read.val_main_v102_eq (StableHlo.launchContents m' c))).trans ?_,
    (e2.trans (Cert.HeadRefIdeal.Read.val_main_v104_eq (StableHlo.launchContents m' c))).trans ?_, (e3.trans (Cert.HeadRefIdeal.Read.val_main_v105_eq (StableHlo.launchContents m' c))).trans ?_,
    (e4.trans (Cert.HeadRefIdeal.Read.val_main_v106_eq (StableHlo.launchContents m' c))).trans ?_, hargs⟩
  · rw [a0, a1, a2, a3, a4, a5]
    exact (ref_gu _ _ _ _ _ _ (m ((c : Thread nD τ).loc main_arg6)) (m ((c : Thread nD τ).loc main_arg8))).trans (final7 m c).symm
  · rw [a0, a1, a2, a3, a4, a5, a6, a7, a8]
    exact (ref_dx2 _ _ _ _ _ _ _ _ _ R hg).trans (final8 m c).symm
  · rw [a0, a1, a2, a3, a4, a5, a6, a7, a8]
    exact (ref_dx2b _ _ _ _ _ _ _ _ _ R hg).trans (final9 m c).symm
  · rw [a0, a1, a2, a3, a4, a5, a6, a7, a8]
    exact (ref_loss _ _ _ _ _ _ _ _ _ R hg).trans (final10 m c R hg).symm
  · rw [a0, a1, a2, a3, a4, a5, a6, a7, a8]
    exact (ref_dg _ _ _ _ _ _ _ _ _ R hg).trans (final11 m c).symm
end Cert.Head
-- ==== Proof.WgradBlocks.lean ====
/- What one grid step of the output projection's weight gradient leaves: in the running product, in the staged quarter and in the gate's gradient. -/
module
public import proofs.«01_k».proof.Proof.Gen.OutWgradIdeal.Value
public import proofs.«01_k».proof.Proof.Rows
public import Idealize.ShloMosaic.Lib.Pipeline.ValueKit
public import Idealize.ShloMosaic.Lib.WritesUnit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.OutWgradIdeal.Blocks
open Cert.OutWgradIdeal Cert.OutWgradIdeal.Gen Cert.Rows

section
variable {F : FTy → Type} [FloatOps F]

/-- The gate's row of the packed modulation, and the first row of the gate's gradient. -/
def gateRow (X3 : Vec F S8x1024 .f32) : Vec F S1x1024 .f32 := View.ld X3 (Rect.unit ![2, 0] S1x1024.size inb_S8x1024_S1x1024_2_0)
def firstRow (D : Vec F S8x1024 .f32) : Vec F S1x1024 .f32 := View.ld D (Rect.unit ![0, 0] S1x1024.size inb_S8x1024_S1x1024_0_0)

/-- The two halves of a quarter as they are stored. -/
def halves (Z : Vec F S256x1024 .f32) (X3 : Vec F S8x1024 .f32) : List (View.Piece (Elt F) S1x2x128x1024 .bf16) :=
  [⟨Rect.unit ![0, 1, 0, 0] S1x1x128x1024.size inb_S1x2x128x1024_S1x1x128x1024_0_1_0_0, k0_pay7 Z (gateRow X3)⟩,
   ⟨Rect.unit ![0, 0, 0, 0] S1x1x128x1024.size inb_S1x2x128x1024_S1x1x128x1024_0_0_0_0, k0_pay6 Z (gateRow X3)⟩]

variable (m : (ℓ : Loc nD τ sig) → Buf (Elt F) ℓ)

set_option maxHeartbeats 8000000 in
theorem acc_A (c : Dev nD) (t : Fin cfg0.N) (h0 : t.val % 16 = 0) :
    (outsAt0 m c t.val t.isLt).2.2 = k0_pay3 k0_pay2 (iblk m c 0 t) (iblk m c 1 t) := by
  rw [outsAt0_A m c t h0 (by omega) (by omega)]
  frame_out

set_option maxHeartbeats 8000000 in
theorem acc_D (c : Dev nD) (t : Fin cfg0.N) (h0 : ¬ t.val % 16 = 0) (h1 : t.val % 4 = 0) :
    (outsAt0 m c t.val t.isLt).2.2 = k0_pay3 k0_pay2 (iblk m c 0 t) (iblk m c 1 t) := by
  rw [outsAt0_D m c t h0 h1 (by omega)]
  frame_out

set_option maxHeartbeats 8000000 in
theorem acc_B (c : Dev nD) (t : Fin cfg0.N) (h1 : ¬ t.val % 4 = 0) (h2 : ¬ t.val % 4 = 3) :
    (outsAt0 m c t.val t.isLt).2.2 = k0_pay3 (outsAt0 m c (t.val - 1) (by omega)).2.2 (iblk m c 0 t) (iblk m c 1 t) := by
  rw [outsAt0_B m c t (by omega) h1 h2]
  frame_out
  rw [read_unread_whole]

set_option maxHeartbeats 8000000 in
theorem acc_C (c : Dev nD) (t : Fin cfg0.N) (h2 : t.val % 4 = 3) :
    (outsAt0 m c t.val t.isLt).2.2 = k0_pay3 (outsAt0 m c (t.val - 1) (by omega)).2.2 (iblk m c 0 t) (iblk m c 1 t) := by
  rw [outsAt0_C m c t (by omega) (by omega) h2]
  frame_out
  rw [read_unread_whole]

set_option maxHeartbeats 8000000 in
theorem stage_C (c : Dev nD) (t : Fin cfg0.N) (h2 : t.val % 4 = 3) :
    (outsAt0 m c t.val t.isLt).1 = View.canon (halves (outsAt0 m c t.val t.isLt).2.2 (iblk m c 3 t)) := by
  rw [acc_C m c t h2, outsAt0_C m c t (by omega) (by omega) h2]
  frame_out
  rw [read_unread_whole]
  rfl

set_option maxHeartbeats 8000000 in
theorem dg_A (c : Dev nD) (t : Fin cfg0.N) (h0 : t.val % 16 = 0) : (outsAt0 m c t.val t.isLt).2.1 = k0_pay1 := by
  rw [outsAt0_A m c t h0 (by omega) (by omega)]
  frame_out

theorem dg_B (c : Dev nD) (t : Fin cfg0.N) (h0 : ¬ t.val % 16 = 0) (h2 : ¬ t.val % 4 = 3) :
    (outsAt0 m c t.val t.isLt).2.1 = (outsAt0 m c (t.val - 1) (by omega)).2.1 := by
  by_cases h1 : t.val % 4 = 0
  · rw [outsAt0_D m c t h0 h1 h2]
    rfl
  · rw [outsAt0_B m c t h0 h1 h2]
    rfl

set_option maxHeartbeats 8000000 in
theorem dg_C (c : Dev nD) (t : Fin cfg0.N) (h2 : t.val % 4 = 3) (r : Fin 8) (j : Fin 1024) :
    (outsAt0 m c t.val t.isLt).2.1 (ix2 r j) = if r.val = 0
      then k0_pay5 (outsAt0 m c t.val t.isLt).2.2 (firstRow (outsAt0 m c (t.val - 1) (by omega)).2.1) (iblk m c 2 t) (ix2 (0 : Fin 1) j)
      else (outsAt0 m c (t.val - 1) (by omega)).2.1 (ix2 r j) := by
  rw [acc_C m c t h2, outsAt0_C m c t (by omega) (by omega) h2]
  frame_out
  rw [read_unread_whole]
  by_cases hr : r.val = 0
  · rw [if_pos hr]
    exact View.read_writes_cons_rows_of_mem (o := 0) _ _ _ _ _ _ (ix2 (0 : Fin 1) j) rfl hr rfl
  · rw [if_neg hr]
    refine (View.read_writes_cons_rows_of_not_mem (o := 0) _ _ _ _ _ _ rfl rfl (Or.inr ?_)).trans ?_
    · show 0 + 1 ≤ r.val
      omega
    · exact congrFun (Memref.IsWhole.read_unread _ _) _
end

theorem pay1 (i : S8x1024.Idx) : (k0_pay1 (F := Ideal) i : EReal) = 0 := by
  pointwise [k0_pay1]

theorem pay2 (i : S256x1024.Idx) : (k0_pay2 (F := Ideal) i : EReal) = 0 := by
  idx_vars i
  pointwise [k0_pay2]

theorem acc_step (X : Vec Ideal S256x1024 .f32) (X0 : Vec Ideal S2048x256 .bf16) (X1 : Vec Ideal S2048x1024 .bf16) (i : Fin 256) (j : Fin 1024) :
    (k0_pay3 X X0 X1 (ix2 i j) : EReal) = (X (ix2 i j) : EReal) + ∑ r : Fin 2048, (X0 (ix2 r i) : EReal) * (X1 (ix2 r j) : EReal) := by
  pointwise [k0_pay3]

theorem dg_step (Z : Vec Ideal S256x1024 .f32) (D : Vec Ideal S8x1024 .f32) (X2 : Vec Ideal S256x1024 .bf16) (j : Fin 1024) :
    (k0_pay5 Z (firstRow D) X2 (ix2 (0 : Fin 1) j) : EReal) = (D (ix2 (0 : Fin 8) j) : EReal) + ∑ i : Fin 256, (Z (ix2 i j) : EReal) * (X2 (ix2 i j) : EReal) := by
  have e : firstRow D (ix2 (0 : Fin 1) j) = D (ix2 (0 : Fin 8) j) := ld_rows _ D _ (0 : Fin 1) j rfl
  rw [← e]
  generalize firstRow D = d
  pointwise [k0_pay5]

theorem half_apply (Z : Vec Ideal S256x1024 .f32) (X3 : Vec Ideal S8x1024 .f32) (h : Fin 2) (i : Fin 128) (j : Fin 1024) :
    (View.canon (halves Z X3) (ix4 (0 : Fin 1) h i j) : EReal) = (Z (ix2 (⟨128 * h.val + i.val, by omega⟩ : Fin 256) j) : EReal) * (X3 (ix2 (2 : Fin 8) j) : EReal) := by
  have e : gateRow X3 (ix2 (0 : Fin 1) j) = X3 (ix2 (2 : Fin 8) j) := ld_rows _ X3 _ (0 : Fin 1) j rfl
  rw [← e]
  unfold halves
  generalize gateRow X3 = d
  match h with
  | ⟨1, _⟩ =>
    refine (canon_hit _ _ _ _ (ix4 (0 : Fin 1) (0 : Fin 1) i j) fun a => match a with
      | ⟨0, _⟩ => rfl
      | ⟨1, _⟩ => rfl
      | ⟨2, _⟩ => (Nat.zero_add _).symm
      | ⟨3, _⟩ => (Nat.zero_add _).symm).trans ?_
    pointwise [k0_pay7, k0_pay4]
  | ⟨0, _⟩ =>
    refine (canon_miss _ _ _ _ (1 : Fin 4) (Or.inl (show 0 < 1 by omega))).trans ?_
    refine (canon_hit _ _ _ _ (ix4 (0 : Fin 1) (0 : Fin 1) i j) fun a => match a with
      | ⟨0, _⟩ => rfl
      | ⟨1, _⟩ => rfl
      | ⟨2, _⟩ => (Nat.zero_add _).symm
      | ⟨3, _⟩ => (Nat.zero_add _).symm).trans ?_
    pointwise [k0_pay6, k0_pay4]
end Cert.OutWgradIdeal.Blocks
-- ==== Proof.WgradMath.lean ====
/- The output projection's weight gradient and its gate's gradient as formulas of the arguments, and the derivative's forms of them. -/
module
public import proofs.«01_k».proof.Proof.FwdMath
@[expose] public section
noncomputable section
open Idealize.ShloMosaic Cert.Norm Cert.Finite
namespace Cert.Wgrad

/-- The merged activations, the gate's row, the weight and the cotangent. -/
structure Args where
  a : Fin 8192 → Fin 1024 → EReal
  g : Fin 1024 → EReal
  w : Fin 1024 → Fin 1024 → EReal
  ct : Fin 8192 → Fin 1024 → EReal

namespace Args
variable (A : Args)

/-- The product of the activations with the cotangent, the gradient of the weight and the one of the gate. -/
def z (k j : Fin 1024) : EReal := ∑ i, A.a i k * A.ct i j
def dw (k j : Fin 1024) : EReal := A.z k j * A.g j
def dg (j : Fin 1024) : EReal := ∑ k, A.z k j * A.w k j

structure Real : Prop where
  a : ∀ i k, ∃ r : ℝ, A.a i k = r
  g : ∀ k, ∃ r : ℝ, A.g k = r
  w : ∀ i k, ∃ r : ℝ, A.w i k = r
  ct : ∀ i k, ∃ r : ℝ, A.ct i k = r

variable {A} (R : A.Real)
include R

/-- The gate scales the cotangent's rows or the product. -/
theorem dw_eq (k j : Fin 1024) : ∑ i, A.g j * A.ct i j * A.a i k = A.dw k j := by
  obtain ⟨a, ha⟩ := real_of_finite (fun i => A.a i k) (fun i => R.a i k)
  obtain ⟨ct, hct⟩ := real_of_finite (fun i => A.ct i j) (fun i => R.ct i j)
  obtain ⟨g, hg⟩ := R.g j
  have ha' : ∀ i, A.a i k = a i := congrFun ha
  have hct' : ∀ i, A.ct i j = ct i := congrFun hct
  unfold dw z
  simp only [ha', hct', hg, ← EReal.coe_mul, Cert.Ffn.coe_sums]
  rw [Finset.sum_mul]
  exact congrArg _ (Finset.sum_congr rfl fun i _ => by ring)

/-- The gate's gradient sums over the rows first or over the weight's rows first. -/
theorem dg_eq (j : Fin 1024) : ∑ i, A.ct i j * ∑ k, A.a i k * A.w k j = A.dg j := by
  obtain ⟨a, ha⟩ := real_of_finite (fun p : Fin 8192 × Fin 1024 => A.a p.1 p.2) (fun p => R.a p.1 p.2)
  obtain ⟨ct, hct⟩ := real_of_finite (fun i => A.ct i j) (fun i => R.ct i j)
  obtain ⟨w, hw⟩ := real_of_finite (fun k => A.w k j) (fun k => R.w k j)
  have ha' : ∀ i k, A.a i k = a (i, k) := fun i k => congrFun ha (i, k)
  have hct' : ∀ i, A.ct i j = ct i := congrFun hct
  have hw' : ∀ k, A.w k j = w k := congrFun hw
  unfold dg z
  simp only [ha', hct', hw', ← EReal.coe_mul, Cert.Ffn.coe_sums]
  refine congrArg _ ?_
  simp only [Finset.mul_sum, Finset.sum_mul]
  rw [Finset.sum_comm]
  exact Finset.sum_congr rfl fun k _ => Finset.sum_congr rfl fun i _ => by ring
end Args
end Cert.Wgrad
-- ==== Proof.WgradResult.lean ====
/- The output projection's weight gradient kernel: its two results as functions of its arguments. -/
module
public import proofs.«01_k».proof.Proof.WgradBlocks
public import proofs.«01_k».proof.Proof.WgradMath
public import proofs.«01_k».proof.Proof.FfnResult
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutWgradIdeal.Blocks
open Cert.OutWgradIdeal Cert.OutWgradIdeal.Gen Cert.Rows Cert.Wgrad
open Cert.FfnBwdIdeal.Blocks (packed)

theorem idx : ∀ t : Fin cfg0.N, win0_0.index t = ![t.val % 4, 3 - t.val / 4] ∧ win0_1.index t = ![t.val % 4, 0] ∧ win0_2.index t = ![3 - t.val / 4, 0]
    ∧ win0_3.index t = ![0, 0] ∧ win0_4.index t = ![3 - t.val / 4, 0, 0, 0] ∧ win0_5.index t = ![0, 0] := (by decide +kernel : ∀ t : Fin grid0.N, _)

theorem lt16 (t : Fin cfg0.N) : t.val < 16 := lt_of_lt_of_eq t.isLt N_0

/-- The rows of the arrays that rows of step `t`'s blocks are. -/
def row (t : Fin cfg0.N) (r : Fin 2048) : Fin 8192 := ⟨2048 * (t.val % 4) + r.val, by omega⟩
def out (t : Fin cfg0.N) (i : Fin 256) : Fin 1024 := ⟨256 * (3 - t.val / 4) + i.val, by omega⟩

/-- The merged activations, the modulation's third row, the weight and the cotangent of arrays. -/
def args (x0 : S1x8192x1024.Idx → EReal) (x1 : S1x6144.Idx → EReal) (x2 : S1x1024x1024.Idx → EReal) (x3 : S1x8192x1024.Idx → EReal) : Args :=
  ⟨fun i k => x0 (ix3 (0 : Fin 1) i k), fun j => x1 (ix2 (0 : Fin 1) (⟨1024 * 2 + j.val, by omega⟩ : Fin 6144)),
    fun k j => x2 (ix3 (0 : Fin 1) k j), fun i k => x3 (ix3 (0 : Fin 1) i k)⟩

variable (m : (ℓ : Loc nD τ sig) → Buf (Elt Ideal) ℓ)

def theArgs (c : Dev nD) : Args := args (m ((c : Thread nD τ).loc main_arg0)) (m ((c : Thread nD τ).loc main_arg1))
  (m ((c : Thread nD τ).loc main_arg2)) (m ((c : Thread nD τ).loc main_arg3))

theorem blk0 (c : Dev nD) (t : Fin cfg0.N) (r : Fin 2048) (i : Fin 256) :
    (iblk m c 0 t (ix2 r i) : EReal) = (theArgs m c).a (row t r) (out t i) := by
  unfold iblk
  entry_read
  blk_simp
  pointwise
  unfold theArgs args
  blk_ext [idx t, row, out]

theorem blk1 (c : Dev nD) (t : Fin cfg0.N) (r : Fin 2048) (j : Fin 1024) :
    (iblk m c 1 t (ix2 r j) : EReal) = (theArgs m c).ct (row t r) j := by
  unfold iblk
  entry_read
  blk_simp
  pointwise
  unfold theArgs args
  blk_ext [idx t, row, out]

theorem blk2 (c : Dev nD) (t : Fin cfg0.N) (i : Fin 256) (j : Fin 1024) :
    (iblk m c 2 t (ix2 i j) : EReal) = (theArgs m c).w (out t i) j := by
  unfold iblk
  entry_read
  blk_simp
  pointwise
  unfold theArgs args
  blk_ext [idx t, row, out]

theorem blk3 (c : Dev nD) (t : Fin cfg0.N) (j : Fin 1024) :
    (iblk m c 3 t (ix2 (2 : Fin 8) j) : EReal) = (theArgs m c).g j := by
  have e : (iblk m c 3 t (ix2 (2 : Fin 8) j) : EReal) = V m c main_v2 (ix2 (2 : Fin 8) j) := by
    blk_ext [iblk, idx t]
  refine e.trans ?_
  entry_read
  exact packed _ _ (2 : Fin 6) j

/-- What step `t` adds to the running product. -/
def term (c : Dev nD) (t : Fin cfg0.N) (y : S256x1024.Idx) : EReal := ∑ r, (theArgs m c).a (row t r) (out t (y 0)) * (theArgs m c).ct (row t r) (y 1)

theorem first_acc (c : Dev nD) (t : Fin cfg0.N) (h : t.val % 4 = 0) (i : Fin 256) (j : Fin 1024) :
    ((outsAt0 m c t.val t.isLt).2.2 (ix2 i j) : EReal) = 0 + term m c t (ix2 i j) := by
  have e : (outsAt0 m c t.val t.isLt).2.2 = k0_pay3 k0_pay2 (iblk m c 0 t) (iblk m c 1 t) := by
    by_cases h0 : t.val % 16 = 0
    · exact acc_A m c t h0
    · exact acc_D m c t h0 h
  rw [e, acc_step, pay2]
  exact congrArg (0 + ·) (Finset.sum_congr rfl fun r _ => congrArg₂ (· * ·) (blk0 m c t r i) (blk1 m c t r j))

theorem later_acc (c : Dev nD) (t : Fin cfg0.N) (h : ¬ t.val % 4 = 0) (i : Fin 256) (j : Fin 1024) :
    ((outsAt0 m c t.val t.isLt).2.2 (ix2 i j) : EReal) = (outsAt0 m c (t.val - 1) (by omega)).2.2 (ix2 i j) + term m c t (ix2 i j) := by
  have e : (outsAt0 m c t.val t.isLt).2.2 = k0_pay3 (outsAt0 m c (t.val - 1) (by omega)).2.2 (iblk m c 0 t) (iblk m c 1 t) := by
    by_cases h2 : t.val % 4 = 3
    · exact acc_C m c t h2
    · exact acc_B m c t h h2
  rw [e, acc_step]
  exact congrArg (_ + ·) (Finset.sum_congr rfl fun r _ => congrArg₂ (· * ·) (blk0 m c t r i) (blk1 m c t r j))

/-- At a quarter's last step the running product is the product. -/
theorem acc_last (c : Dev nD) (t : Fin cfg0.N) (h : t.val % 4 = 3) (i : Fin 256) (j : Fin 1024) :
    ((outsAt0 m c t.val t.isLt).2.2 (ix2 i j) : EReal) = (theArgs m c).z (out t i) j := by
  rw [Pipeline.eq_sum_fin_of_reset_step_apply_of_flush (fun n h => (outsAt0 m c n h).2.2) 4 (fun _ => (0 : EReal)) (term m c)
    (fun t h y => by idx_vars y; exact first_acc m c t h _ _) (fun t h y => by idx_vars y; exact later_acc m c t h _ _) t h _, zero_add]
  refine Fin.sum_mul_add_congr fun s r hl => ?_
  refine congrArg₂ (· * ·) (congrArg₂ (theArgs m c).a (Fin.ext ?_) (Fin.ext ?_)) (congrArg (fun q => (theArgs m c).ct q j) (Fin.ext ?_))
  · show 2048 * ((4 * (t.val / 4) + s.val) % 4) + r.val = s.val * 2048 + r.val
    omega
  · show 256 * (3 - (4 * (t.val / 4) + s.val) / 4) + i.val = 256 * (3 - t.val / 4) + i.val
    omega
  · show 2048 * ((4 * (t.val / 4) + s.val) % 4) + r.val = s.val * 2048 + r.val
    omega

/-- The staged halves of the quarters, at an index of the array. -/
def dwOf (A : Args) (i : S4x2x128x1024.Idx) : EReal :=
  A.dw ⟨256 * (i 0).val + 128 * (i 1).val + (i 2).val, by
    have h0 : (i 0).val < 4 := (i 0).isLt
    have h1 : (i 1).val < 2 := (i 1).isLt
    have h2 : (i 2).val < 128 := (i 2).isLt
    omega⟩ (i 3)

theorem flush4 : ∀ t : Fin cfg0.N, (cfg0.win 4).flush t = true → t.val % 4 = 3 := by decide +kernel

theorem final4 (c : Dev nD) : (dats m 0 c).arrAt 4 cfg0.N = (dwOf (theArgs m c) : S4x2x128x1024.Idx → EReal) := by
  refine (dats m 0 c).arrAt_eq_of_covers 4 _ (by decide +kernel) fun t hf y => ?_
  have h := flush4 t hf
  blk_simp
  rw [after0_4, stage_C m c t h]
  idx_vars y
  obtain rfl : y0 = 0 := Subsingleton.elim _ _
  refine ((half_apply _ _ y1 y2 y3).trans (congrArg₂ (· * ·) (acc_last m c t h _ _) (blk3 m c t y3))).trans ?_
  refine congrArg₂ (theArgs m c).dw (Fin.ext ?_) (Fin.ext ?_)
  · blk_simp [idx t, out]
    show 256 * (3 - t.val / 4) + (128 * y1.val + y2.val) = 256 * (3 - t.val / 4 + 0) + 128 * y1.val + y2.val
    omega
  · blk_simp [idx t]

/-- What step `t` adds to the gate's gradient: at a quarter's last step, in its first row. -/
def gTerm (c : Dev nD) (t : Fin cfg0.N) (y : S8x1024.Idx) : EReal :=
  if (y 0).val = 0 ∧ t.val % 4 = 3 then ∑ i, (theArgs m c).z (out t i) (y 1) * (theArgs m c).w (out t i) (y 1) else 0

theorem gTerm_apply (c : Dev nD) (t : Fin cfg0.N) (r : Fin 8) (j : Fin 1024) : gTerm m c t (ix2 r j)
    = if r.val = 0 ∧ t.val % 4 = 3 then ∑ i, (theArgs m c).z (out t i) j * (theArgs m c).w (out t i) j else 0 := rfl

theorem first_g (c : Dev nD) (t : Fin cfg0.N) (h : t.val % 16 = 0) (r : Fin 8) (j : Fin 1024) :
    ((outsAt0 m c t.val t.isLt).2.1 (ix2 r j) : EReal) = 0 + gTerm m c t (ix2 r j) := by
  rw [dg_A m c t h, pay1, gTerm_apply, if_neg (by rintro ⟨_, h'⟩; omega), zero_add]

theorem later_g (c : Dev nD) (t : Fin cfg0.N) (h : ¬ t.val % 16 = 0) (r : Fin 8) (j : Fin 1024) :
    ((outsAt0 m c t.val t.isLt).2.1 (ix2 r j) : EReal) = (outsAt0 m c (t.val - 1) (by omega)).2.1 (ix2 r j) + gTerm m c t (ix2 r j) := by
  rw [gTerm_apply]
  by_cases h2 : t.val % 4 = 3
  · rw [dg_C m c t h2]
    by_cases hr : r.val = 0
    · obtain rfl : r = 0 := Fin.ext hr
      rw [if_pos hr, if_pos ⟨hr, h2⟩, dg_step]
      exact congrArg (_ + ·) (Finset.sum_congr rfl fun i _ => congrArg₂ (· * ·) (acc_last m c t h2 i j) (blk2 m c t i j))
    · rw [if_neg hr, if_neg fun h' => hr h'.1, add_zero]
  · rw [dg_B m c t h h2, if_neg fun h' => h2 h'.2, add_zero]

/-- The last step. -/
def lastStep : Fin cfg0.N := ⟨15, by rw [show cfg0.N = 16 from N_0]; decide⟩

/-- The gate's gradient in the first of eight rows. -/
def dgOf (A : Args) (i : S8x1024.Idx) : EReal := if (i 0).val = 0 then A.dg (i 1) else 0

theorem g_points (c : Dev nD) (y : S8x1024.Idx) : ∑ t, gTerm m c t y = dgOf (theArgs m c) y := by
  unfold dgOf
  by_cases hy : (y 0).val = 0
  · rw [if_pos hy]
    refine (Fin.sum_mul_add_congr (S := 4) (n := 4) (F := fun p s => gTerm m c ⟨p.val * 4 + s.val, by rw [show cfg0.N = 16 from N_0]; omega⟩ y)
      (fun p s hl => rfl) (hL := N_0)).symm.trans ?_
    refine (Equiv.sum_comp Fin.revPerm _).symm.trans ?_
    refine (Finset.sum_congr rfl fun p _ => ?_).trans (Fin.sum_mul_add_congr (S := 4) (n := 256)
      (F := fun p i => (theArgs m c).z ⟨p.val * 256 + i.val, by omega⟩ (y 1) * (theArgs m c).w ⟨p.val * 256 + i.val, by omega⟩ (y 1))
      fun p i hl => rfl)
    rw [Fin.sum_univ_four]
    unfold gTerm
    rw [if_neg (by rintro ⟨_, h⟩; revert h; show ¬ ((4 - (p.val + 1)) * 4 + 0) % 4 = 3; omega),
      if_neg (by rintro ⟨_, h⟩; revert h; show ¬ ((4 - (p.val + 1)) * 4 + 1) % 4 = 3; omega),
      if_neg (by rintro ⟨_, h⟩; revert h; show ¬ ((4 - (p.val + 1)) * 4 + 2) % 4 = 3; omega),
      if_pos ⟨hy, by show ((4 - (p.val + 1)) * 4 + 3) % 4 = 3; omega⟩, zero_add, zero_add, zero_add]
    refine Finset.sum_congr rfl fun i _ => ?_
    have e : out ⟨(4 - (p.val + 1)) * 4 + 3, by rw [show cfg0.N = 16 from N_0]; omega⟩ i = ⟨p.val * 256 + i.val, by omega⟩ := Fin.ext (by
      show 256 * (3 - ((4 - (p.val + 1)) * 4 + 3) / 4) + i.val = p.val * 256 + i.val
      omega)
    exact congrArg (fun q => (theArgs m c).z q (y 1) * (theArgs m c).w q (y 1)) e
  · rw [if_neg hy]
    exact Finset.sum_eq_zero fun t _ => if_neg fun h => hy h.1

theorem final5 (c : Dev nD) : (dats m 0 c).arrAt 5 cfg0.N = (dgOf (theArgs m c) : S8x1024.Idx → EReal) := by
  refine (dats m 0 c).arrAt_eq_of_after_last 5 lastStep (by decide +kernel) _ fun j => ?_
  blk_simp
  idx_vars j
  rw [after0_5, Pipeline.eq_sum_fin_of_reset_step_apply_last (fun n h => (outsAt0 m c n h).2.1) 16 (fun _ => (0 : EReal)) (gTerm m c)
    (fun t h y => by idx_vars y; exact first_g m c t h _ _) (fun t h y => by idx_vars y; exact later_g m c t h _ _)
    (le_of_eq N_0) lastStep rfl _, zero_add]
  exact g_points m c _
end Cert.OutWgradIdeal.Blocks
-- ==== Proof.WgradRefValues.lean ====
/- The derivative's results for the output projection's weight and its gate, entry by entry. -/
module
public import proofs.«01_k».proof.Proof.Gen.OutRefIdeal.Read
public import proofs.«01_k».proof.Proof.WgradResult
public import proofs.«01_k».proof.Proof.FfnRefValues
@[expose] public section
set_option maxRecDepth 16384
noncomputable section
open Idealize.ShloMosaic Idealize.ShloMosaic.TcCoe Idealize.SL.Sem
namespace Cert.OutRefIdeal.Values
open Cert.OutRefIdeal Cert.OutRefIdeal.Read Cert.Wgrad
open Cert.OutWgradIdeal.Blocks (args dwOf dgOf)
variable (x0 : S1x8192x1024.Idx → EReal) (x1 : S1x6144.Idx → EReal) (x2 : S1x1024x1024.Idx → EReal) (x3 : S1x8192x1024.Idx → EReal)

theorem v12_at (i : Fin 8192) (j : Fin 1024) : (val_main_v12 (F := Ideal) x1 x3 (ix3 (0 : Fin 1) i j) : EReal) = (args x0 x1 x2 x3).g j * (args x0 x1 x2 x3).ct i j := by
  pointwise [val_main_v12, val_main_v11, val_main_v6, val_main_v2]
  rfl

theorem v8_at (i : Fin 8192) (j : Fin 1024) : (val_main_v8 (F := Ideal) x0 x2 (ix3 (0 : Fin 1) i j) : EReal) = ∑ k, (args x0 x1 x2 x3).a i k * (args x0 x1 x2 x3).w k j := by
  pointwise [val_main_v8, val_main_v7]
  rfl

variable (R : (args x0 x1 x2 x3).Real)
include R

theorem v16_at (j k : Fin 1024) : (val_main_v16 (F := Ideal) x0 x1 x3 (ix2 j k) : EReal) = (args x0 x1 x2 x3).dw k j := by
  rw [← Args.dw_eq R]
  simp only [← v12_at]
  unfold val_main_v16
  generalize val_main_v12 (F := Ideal) x1 x3 = y
  pointwise
  exact Fin.sum_univ_one _

theorem v23_at (p : Fin 4) (h : Fin 2) (i : Fin 128) (j : Fin 1024) :
    (val_main_v23 (F := Ideal) x0 x1 x3 (ix4 p h i j) : EReal) = dwOf (args x0 x1 x2 x3) (ix4 p h i j) := by
  refine Eq.trans ?_ (v16_at x0 x1 x2 x3 R j (⟨256 * p.val + 128 * h.val + i.val, by omega⟩ : Fin 1024))
  rw [val_main_v23_apply, val_main_v22_apply, val_main_v21_apply, val_main_v18_apply, val_main_v17_apply]
  refine congrArg (val_main_v16 (F := Ideal) x0 x1 x3) ?_
  funext b
  apply Fin.ext
  match b with
  | ⟨0, _⟩ =>
    show ((((p.val * 2 + h.val) * 128 + i.val) * 1024 + j.val) / 1024 * 1024 + (((p.val * 2 + h.val) * 128 + i.val) * 1024 + j.val) % 1024) % 1024 = j.val
    omega
  | ⟨1, _⟩ =>
    show ((((p.val * 2 + h.val) * 128 + i.val) * 1024 + j.val) / 1024 * 1024 + (((p.val * 2 + h.val) * 128 + i.val) * 1024 + j.val) % 1024) / 1024 % 1024 = 256 * p.val + 128 * h.val + i.val
    omega

theorem v20_at (j : Fin 1024) : (val_main_v20 (F := Ideal) x0 x2 x3 (ix2 (0 : Fin 1) j) : EReal) = (args x0 x1 x2 x3).dg j := by
  have h : (val_main_v14 (F := Ideal) x0 x2 x3 (ix2 (0 : Fin 1) j) : EReal) = (args x0 x1 x2 x3).dg j := by
    rw [val_main_v14_apply, ← Args.dg_eq R]
    refine (congrArg₂ (· + ·) (?_ : _ = (0 : EReal)) (Finset.sum_congr rfl fun k _ => ?_)).trans (zero_add _)
    · pointwise [val_main_cst]
    · rw [show idx_main_v14 (ix2 (0 : Fin 1) j) k = ix3 (0 : Fin 1) k j from funext fun a => by
        match a with | ⟨0, _⟩ => rfl | ⟨1, _⟩ => rfl | ⟨2, _⟩ => rfl]
      rw [val_main_v13_apply]
      exact congrArg (x3 (ix3 (0 : Fin 1) k j) * ·) (v8_at x0 x1 x2 x3 k j)
  unfold val_main_v20 val_main_v19 val_main_v15
  generalize val_main_v14 (F := Ideal) x0 x2 x3 = y at h ⊢
  pointwise [val_main_cst_0]
  rw [Cert.FfnRefIdeal.Values.drop_row, zero_add, ← h]
  pointwise

theorem v25_at (r : Fin 8) (j : Fin 1024) : (val_main_v25 (F := Ideal) x0 x2 x3 (ix2 r j) : EReal) = dgOf (args x0 x1 x2 x3) (ix2 r j) := by
  have h := v20_at x0 x1 x2 x3 R j
  show _ = if r.val = 0 then (args x0 x1 x2 x3).dg j else 0
  unfold val_main_v25
  generalize val_main_v20 (F := Ideal) x0 x2 x3 = y at h ⊢
  match r with
  | ⟨0, _⟩ =>
    rw [if_pos rfl]
    pointwise
    exact h
  | ⟨r + 1, hr⟩ =>
    rw [if_neg (Nat.succ_ne_zero r)]
    pointwise [val_main_v24, val_main_cst_1]
    exact dif_neg (by omega)
end Cert.OutRefIdeal.Values
-- ==== Proof.WgradAlgebraic.lean ====
/- The weight gradient kernel's and the derivative's two results are the same arrays. -/
module
public import proofs.«01_k».proof.Proof.WgradRefValues
public import proofs.«01_k».proof.Proof.Finite
public import proofs.«01_k».proof.Proof.Gen.Pre_out_finite
public import proofs.«01_k».proof.Proof.Gen.OutRefIdeal.Run
public import proofs.«01_k».proof.Defs
@[expose] public section
set_option maxRecDepth 16384
noncomputable section
open Idealize.ShloMosaic Idealize.ShloMosaic.TcCoe Idealize.SL.Sem
namespace Cert.Wgrad
open Cert.OutWgradIdeal Cert.OutWgradIdeal.Blocks Cert.Finite

/-- Every entry of the arguments is real. -/
theorem reals [Cert.Pre_out_finite.Facts] (m : (ℓ : Loc nD τ sig) → Buf (Elt Ideal) ℓ) (h : Cert.Pre_OutWgradIdeal_out_finite m) (c : Dev nD) :
    (theArgs m c).Real := by
  obtain ⟨h0, h1, h2, h3⟩ := h c
  have r0 := real_all (s := S1x8192x1024) _ _ (fun i => pinf) h0
  have r1 := real_all (s := S1x6144) _ _ (fun i => pinf) h1
  have r2 := real_all (s := S1x1024x1024) _ _ (fun i => pinf) h2
  have r3 := real_all (s := S1x8192x1024) _ _ (fun i => pinf) h3
  exact ⟨fun i k => r0 _, fun k => r1 _, fun i k => r2 _, fun i k => r3 _⟩

/-- The reference ends with its arguments unchanged and every counter at zero: it declares none. -/
theorem ref_frame : Cert.quiescent_OutRefIdeal := fun m ρ _ =>
  (θ_run _ _ _).mono (fun r h => ⟨fun c => (h c).2.2, sem_eq_zero_of_no_sems (by decide) r.2⟩) (OutRefIdeal.Value.run m ρ)

section
open Cert.OutRefIdeal.Read Cert.OutRefIdeal.Values
variable (x0 : S1x8192x1024.Idx → EReal) (x1 : S1x6144.Idx → EReal) (x2 : S1x1024x1024.Idx → EReal) (x3 : S1x8192x1024.Idx → EReal)
  (R : (args x0 x1 x2 x3).Real)
include R

theorem ref_dw : (val_main_v23 (F := Ideal) x0 x1 x3 : S4x2x128x1024.Idx → EReal) = dwOf (args x0 x1 x2 x3) := by
  funext i
  idx_vars i
  exact v23_at x0 x1 x2 x3 R i0 i1 i2 i3
theorem ref_dg : (val_main_v25 (F := Ideal) x0 x2 x3 : S8x1024.Idx → EReal) = dgOf (args x0 x1 x2 x3) := by
  funext i
  idx_vars i
  exact v25_at x0 x1 x2 x3 R i0 i1
end

set_option maxHeartbeats 2000000 in
theorem algebraic [Cert.Pre_out_finite.Facts] : Cert.algebraic_OutWgradIdeal_OutRefIdeal_pre_out_finite := by
  intro m g m' g' hpre hagree
  refine ⟨_, _, Cert.OutWgradIdeal.Value.run_blocks m g, (θ_run _ _ _).mono (fun r h c => ?_) (Cert.OutRefIdeal.Value.run m' g')⟩
  obtain ⟨e0, e1, hargs⟩ := h c
  obtain ⟨a0, a1, a2, a3⟩ := hagree c
  have R := reals m hpre c
  refine ⟨(e0.trans (Cert.OutRefIdeal.Read.val_main_v23_eq _ _ _)).trans ?_, (e1.trans (Cert.OutRefIdeal.Read.val_main_v25_eq _ _ _)).trans ?_, hargs⟩
  · rw [a0, a1, a3]
    exact (ref_dw _ _ _ _ R).trans (final4 m c).symm
  · rw [a0, a2, a3]
    exact (ref_dg _ _ _ _ R).trans (final5 m c).symm
end Cert.Wgrad
-- ==== Proof.OutBlocks.lean ====
/- What one grid step of the output projection's kernel leaves in its two output blocks, as families over the four blocks of 256 rows and over the groups of 16 rows. -/
module
public import proofs.«01_k».proof.Proof.Gen.OutProjIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.OutProjIdeal.Blocks
open Cert.OutProjIdeal Cert.OutProjIdeal.Gen
variable {F : FTy → Type} [FloatOps F]

/-- The 256 rows of sub-block `b`, and the 16 rows of group `n`. -/
def sub (b : ℕ) : Rect S1024x1024 :=
  Rect.unit ![256 * (b % 4), 0] S256x1024.size (Fin.forall_fin_two.mpr ⟨by
    show 256 * (b % 4) + 256 ≤ 1024
    omega, Nat.le_refl 1024⟩)
def rws (n : ℕ) : Rect S1024x1024 :=
  Rect.unit ![16 * (n % 64), 0] S16x1024.size (Fin.forall_fin_two.mpr ⟨by
    show 16 * (n % 64) + 16 ≤ 1024
    omega, Nat.le_refl 1024⟩)

section
variable (X0 : Vec F S1024x1024 .bf16) (X1 : Vec F S1024x1024 .f32) (X2 : Vec F S8x1024 .f32)
  (X3 : Vec F S1x1024 .f32) (X4 : Vec F S1024x1024 .bf16)

/-- One sub-block of the gated residual. -/
def x1Block (b : ℕ) : FVec F S256x1024 .f32 :=
  k0_pay5 (View.ld X2 (Rect.unit ![2, 0] S1x1024.size inb_S8x1024_S1x1024_2_0)) (View.ld X1 (sub b)) (View.ld X0 (sub b)) X4

def x1Pieces : ℕ → List (View.Piece (Elt F) S1024x1024 .f32)
  | 0 => []
  | b + 1 => ⟨sub b, x1Block X0 X1 X2 X4 b⟩ :: x1Pieces b

/-- The modulated norm of group `n`'s rows, read back from the residual's sub-blocks stored so far. -/
def h2Block (v : View sig .tc .vmem S1024x1024 .f32) (n : ℕ) : FVec F S16x1024 .bf16 :=
  k0_pay1 (k0_pay3 X3 (View.ld X2 (Rect.unit ![4, 0] S1x1024.size inb_S8x1024_S1x1024_4_0)))
    (k0_pay4 (View.ld X2 (Rect.unit ![3, 0] S1x1024.size inb_S8x1024_S1x1024_3_0)))
    (v.readCov (x1Pieces X0 X1 X2 X4 (n / 16 + 1)) (rws n).toLoadRect)

def h2Pieces (v : View sig .tc .vmem S1024x1024 .f32) : ℕ → List (View.Piece (Elt F) S1024x1024 .bf16)
  | 0 => []
  | n + 1 => ⟨rws n, h2Block X0 X1 X2 X3 X4 v n⟩ :: h2Pieces v n
end

variable (m : (ℓ : Loc nD τ sig) → Buf (Elt F) ℓ)

set_option maxHeartbeats 8000000 in
theorem out5 (c : Dev nD) (t : Fin cfg0.N) : (outsAt0 m c t).1 = View.canon (x1Pieces (iblk m c 0 t) (iblk m c 1 t) (iblk m c 2 t) (iblk m c 4 t) 4) := by
  unfold outsAt0
  frame_out
  refine congrArg View.canon ?_
  sl_kernel_rfl

set_option maxHeartbeats 8000000 in
theorem out6 (c : Dev nD) (t : Fin cfg0.N) :
    (outsAt0 m c t).2 = View.canon (h2Pieces (iblk m c 0 t) (iblk m c 1 t) (iblk m c 2 t) (iblk m c 3 t) (iblk m c 4 t) (ms0_5 t).view 64) := by
  unfold outsAt0
  frame_out
  refine congrArg View.canon ?_
  sl_kernel_rfl
end Cert.OutProjIdeal.Blocks
-- ==== Proof.OutResult.lean ====
/- The output projection kernel's two results as functions of its arguments: the gated residual and its modulated norm. -/
module
public import proofs.«01_k».proof.Proof.OutBlocks
public import proofs.«01_k».proof.Proof.Rows
public import proofs.«01_k».proof.Proof.FfnResult
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutProjIdeal.Blocks
open Cert.OutProjIdeal Cert.OutProjIdeal.Gen Cert.Rows Cert.Norm Cert.Ffn
open Cert.FfnBwdIdeal.Blocks (packed)

theorem pay5 (R : Vec Ideal S1x1024 .f32) (X : Vec Ideal S256x1024 .f32) (M : Vec Ideal S256x1024 .bf16) (W : Vec Ideal S1024x1024 .bf16)
    (p : Fin 256) (k : Fin 1024) :
    k0_pay5 R X M W (ix2 p k) = (X (ix2 p k) : EReal) + R (ix2 (0 : Fin 1) k) * ∑ o, (M (ix2 p o) : EReal) * W (ix2 o k) := by
  pointwise [k0_pay5, k0_pay2]

theorem pay1 (G S H : Vec Ideal S1x1024 .f32) (Y : Vec Ideal S16x1024 .f32) (p : Fin 16) (k : Fin 1024) :
    k0_pay1 (k0_pay3 G S) (k0_pay4 H) Y (ix2 p k) = (Y (ix2 p k) : EReal) * rms (fun j => Y (ix2 p j))
      * (G (ix2 (0 : Fin 1) k) * (1 + S (ix2 (0 : Fin 1) k))) + H (ix2 (0 : Fin 1) k) := by
  pointwise [k0_pay1, k0_pay3, k0_pay4]
  rfl

section
variable (X0 : Vec Ideal S1024x1024 .bf16) (X1 : Vec Ideal S1024x1024 .f32) (X2 : Vec Ideal S8x1024 .f32)
  (X3 : Vec Ideal S1x1024 .f32) (X4 : Vec Ideal S1024x1024 .bf16) (v : View sig .tc .vmem S1024x1024 .f32)

/-- An element of the gated residual, and of its modulated norm. -/
def x1V (i k : Fin 1024) : EReal := X1 (ix2 i k) + X2 (ix2 (2 : Fin 8) k) * ∑ o, (X0 (ix2 i o) : EReal) * X4 (ix2 o k)
def h2V (i k : Fin 1024) : EReal := x1V X0 X1 X2 X4 i k * rms (x1V X0 X1 X2 X4 i)
  * (X3 (ix2 (0 : Fin 1) k) * (1 + X2 (ix2 (4 : Fin 8) k))) + X2 (ix2 (3 : Fin 8) k)

theorem row8_at (r : ℕ) (hr : r < 8) (inb : ∀ a, (![r, 0] : Fin 2 → ℕ) a + S1x1024.size a ≤ S8x1024.size a) (k : Fin 1024) :
    View.ld X2 (Rect.unit (s := S8x1024) ![r, 0] S1x1024.size inb) (ix2 (0 : Fin 1) k) = X2 (ix2 ⟨r, hr⟩ k) :=
  ld_rows inb X2 ⟨r, hr⟩ 0 k rfl

theorem x1Block_at (b : ℕ) (hb : b < 4) (p : Fin 256) (k : Fin 1024) :
    x1Block X0 X1 X2 X4 b (ix2 p k) = x1V X0 X1 X2 X4 ⟨256 * b + p.val, by omega⟩ k := by
  have e : 256 * b + p.val = 256 * (b % 4) + p.val := by omega
  refine (pay5 _ _ _ _ p k).trans ?_
  refine congrArg₂ (· + ·) (ld_rows _ X1 ⟨256 * b + p.val, by omega⟩ p k e) (congrArg₂ (· * ·) (row8_at X2 2 (by decide) _ k)
    (Finset.sum_congr rfl fun o _ => congrArg (· * _) (ld_rows _ X0 ⟨256 * b + p.val, by omega⟩ p o e)))

/-- The rows that `n` sub-blocks' stores cover. -/
theorem x1_at (n : ℕ) (hn : n ≤ 4) (i k : Fin 1024) (h : i.val < 256 * n) :
    View.canon (x1Pieces X0 X1 X2 X4 n) (ix2 i k) = x1V X0 X1 X2 X4 i k := by
  induction n with
  | zero => omega
  | succ n ih =>
    by_cases hi : i.val < 256 * n
    · exact (canon_rows_ne _ _ _ i k (by left; omega)).trans (ih (by omega) hi)
    · refine (canon_rows _ _ _ i ⟨i.val - 256 * n, by omega⟩ k (by show i.val = 256 * (n % 4) + (i.val - 256 * n); omega)).trans
        ((x1Block_at X0 X1 X2 X4 n (by omega) _ k).trans ?_)
      exact congrArg (fun q => x1V X0 X1 X2 X4 q k) (Fin.ext (by show 256 * n + (i.val - 256 * n) = i.val; omega))

theorem h2Block_at (n : ℕ) (hn : n < 64) (p : Fin 16) (k : Fin 1024) :
    h2Block X0 X1 X2 X3 X4 v n (ix2 p k) = h2V X0 X1 X2 X3 X4 ⟨16 * n + p.val, by omega⟩ k := by
  have e (j : Fin 1024) : v.readCov (x1Pieces X0 X1 X2 X4 (n / 16 + 1)) (rws n).toLoadRect (ix2 p j)
      = x1V X0 X1 X2 X4 ⟨16 * n + p.val, by omega⟩ j :=
    (readCov_rows v _ _ ⟨16 * n + p.val, by omega⟩ p j (by show 16 * n + p.val = 16 * (n % 64) + p.val; omega)).trans
      (x1_at X0 X1 X2 X4 _ (by omega) _ j (by show 16 * n + p.val < 256 * (n / 16 + 1); omega))
  refine (pay1 _ _ _ _ p k).trans ?_
  refine congrArg₂ (· + ·) (congrArg₂ (· * ·) (congrArg₂ (· * ·) (e k) (congrArg rms (funext e))) ?_) (row8_at X2 3 (by decide) _ k)
  exact congrArg (fun q => _ * (1 + q)) (row8_at X2 4 (by decide) _ k)

theorem h2_at (n : ℕ) (hn : n ≤ 64) (i k : Fin 1024) (h : i.val < 16 * n) :
    View.canon (h2Pieces X0 X1 X2 X3 X4 v n) (ix2 i k) = h2V X0 X1 X2 X3 X4 i k := by
  induction n with
  | zero => omega
  | succ n ih =>
    by_cases hi : i.val < 16 * n
    · exact (canon_rows_ne _ _ _ i k (by left; omega)).trans (ih (by omega) hi)
    · refine (canon_rows _ _ _ i ⟨i.val - 16 * n, by omega⟩ k (by show i.val = 16 * (n % 64) + (i.val - 16 * n); omega)).trans
        ((h2Block_at X0 X1 X2 X3 X4 v n (by omega) _ k).trans ?_)
      exact congrArg (fun q => h2V X0 X1 X2 X3 X4 q k) (Fin.ext (by show 16 * n + (i.val - 16 * n) = i.val; omega))
end

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The row of the arrays that row `i` of step `t`'s block is. -/
def row (t : Fin cfg0.N) (i : Fin 1024) : Fin 8192 := ⟨1024 * t.val + i.val, by have : t.val < 8 := lt_of_lt_of_eq t.isLt N_0; omega⟩

variable (m : (ℓ : Loc nD τ sig) → Buf (Elt Ideal) ℓ)

/-- The arguments on one device; the feed-forward block's own are not read. -/
def theArgs (c : Dev nD) : Args := args (m ((c : Thread nD τ).loc main_arg0)) (m ((c : Thread nD τ).loc main_arg1))
  (m ((c : Thread nD τ).loc main_arg2)) (m ((c : Thread nD τ).loc main_arg3)) (m ((c : Thread nD τ).loc main_arg4))
  (fun _ => 0) (fun _ => 0) (fun _ => 0)

theorem blk0 (c : Dev nD) (t : Fin cfg0.N) (i k : Fin 1024) : (iblk m c 0 t (ix2 i k) : EReal) = (theArgs m c).mg (row t i) k := by
  unfold iblk
  entry_read
  blk_simp
  pointwise
  unfold theArgs args
  blk_ext [idx t, row]

theorem blk1 (c : Dev nD) (t : Fin cfg0.N) (i k : Fin 1024) : (iblk m c 1 t (ix2 i k) : EReal) = (theArgs m c).x (row t i) k := by
  unfold iblk
  entry_read
  blk_simp
  pointwise
  unfold theArgs args
  blk_ext [idx t, row]

theorem blk2 (c : Dev nD) (t : Fin cfg0.N) (r : Fin 6) (j : Fin 1024) :
    (iblk m c 2 t (ix2 ⟨r.val, by omega⟩ j) : EReal) = (theArgs m c).mrow r j := by
  have e : (iblk m c 2 t (ix2 ⟨r.val, by omega⟩ j) : EReal) = V m c main_v2 (ix2 ⟨r.val, by omega⟩ j) := by
    blk_ext [iblk, idx t, row]
  refine e.trans ?_
  entry_read
  exact packed _ _ r j

theorem blk3 (c : Dev nD) (t : Fin cfg0.N) (j : Fin 1024) : (iblk m c 3 t (ix2 (0 : Fin 1) j) : EReal) = (theArgs m c).g j := by
  unfold iblk
  entry_read
  blk_simp
  pointwise
  unfold theArgs args
  blk_ext [idx t]

theorem blk4 (c : Dev nD) (t : Fin cfg0.N) (i k : Fin 1024) : (iblk m c 4 t (ix2 i k) : EReal) = (theArgs m c).wo i k := by
  unfold iblk
  entry_read
  blk_simp
  pointwise
  unfold theArgs args
  blk_ext [idx t]

theorem x1_step (c : Dev nD) (t : Fin cfg0.N) (i : Fin 1024) :
    x1V (iblk m c 0 t) (iblk m c 1 t) (iblk m c 2 t) (iblk m c 4 t) i = (theArgs m c).x1 (row t i) := by
  funext k
  exact congrArg₂ (· + ·) (blk1 m c t i k) (congrArg₂ (· * ·) (blk2 m c t 2 k)
    (Finset.sum_congr rfl fun o _ => congrArg₂ (· * ·) (blk0 m c t i o) (blk4 m c t o k)))

theorem h2_step (c : Dev nD) (t : Fin cfg0.N) (i k : Fin 1024) :
    h2V (iblk m c 0 t) (iblk m c 1 t) (iblk m c 2 t) (iblk m c 3 t) (iblk m c 4 t) i k = (theArgs m c).h (row t i) k := by
  unfold h2V Args.h
  rw [x1_step, mul_assoc (_ * rms _)]
  exact congrArg₂ (fun a b : EReal => _ * a + b) (congrArg₂ (fun a b : EReal => a * (1 + b)) (blk3 m c t k) (blk2 m c t 4 k)) (blk2 m c t 3 k)

/-- The two results at an index of their arrays. -/
def x1Of (A : Args) (i : S8192x1024.Idx) : EReal := A.x1 (i 0) (i 1)
def hOf (A : Args) (i : S8192x1024.Idx) : EReal := A.h (i 0) (i 1)

theorem final5 (c : Dev nD) : (dats m 0 c).arrAt 5 cfg0.N = (x1Of (theArgs m c) : S8192x1024.Idx → EReal) := by
  refine (dats m 0 c).arrAt_eq_of_covers 5 _ (by decide +kernel) fun t hf y => ?_
  blk_simp
  rw [after0_5, out5 m c t]
  idx_vars y
  rw [x1_at _ _ _ _ 4 (le_refl _) y0 y1 y0.isLt, x1_step]
  unfold x1Of
  refine congrArg₂ (theArgs m c).x1 (Fin.ext ?_) (Fin.ext ?_)
  · blk_simp [idx t, row]
    show 1024 * t.val + y0.val = t.val * 1024 + y0.val
    omega
  · blk_simp [idx t]

theorem final6 (c : Dev nD) : (dats m 0 c).arrAt 6 cfg0.N = (hOf (theArgs m c) : S8192x1024.Idx → EReal) := by
  refine (dats m 0 c).arrAt_eq_of_covers 6 _ (by decide +kernel) fun t hf y => ?_
  blk_simp
  rw [after0_6, out6 m c t]
  idx_vars y
  rw [h2_at _ _ _ _ _ _ 64 (le_refl _) y0 y1 y0.isLt, h2_step]
  unfold hOf
  refine congrArg₂ (theArgs m c).h (Fin.ext ?_) (Fin.ext ?_)
  · blk_simp [idx t, row]
    show 1024 * t.val + y0.val = t.val * 1024 + y0.val
    omega
  · blk_simp [idx t]
end Cert.OutProjIdeal.Blocks
-- ==== Proof.OutAlgebraic.lean ====
/- The output projection kernel's and the reference's two results are the same arrays, whatever the arguments hold. -/
module
public import proofs.«01_k».proof.Proof.OutResult
public import proofs.«01_k».proof.Proof.FwdResult
public import proofs.«01_k».proof.Proof.Gen.OutProjRefIdeal.Run
public import proofs.«01_k».proof.Proof.Gen.OutProjRefIdeal.Read
public import proofs.«01_k».proof.Defs
@[expose] public section
set_option maxRecDepth 16384
noncomputable section
open Idealize.ShloMosaic Idealize.ShloMosaic.TcCoe Idealize.SL.Sem
namespace Cert.OutProj
open Cert.OutProjIdeal Cert.OutProjIdeal.Blocks Cert.Ffn
open Cert.FfnFwdIdeal.Blocks (flat flat_b)

/-- The reference ends with its arguments unchanged and every counter at zero: it declares none. -/
theorem ref_frame : Cert.quiescent_OutProjRefIdeal := fun m ρ _ =>
  (θ_run _ _ _).mono (fun r h => ⟨fun c => (h c).2.2, sem_eq_zero_of_no_sems (by decide) r.2⟩) (OutProjRefIdeal.Value.run m ρ)

section
open Cert.OutProjRefIdeal.Read
variable (x0 x1 : S1x8192x1024.Idx → EReal) (x2 : S1x6144.Idx → EReal) (x3 : S1x1024.Idx → EReal) (x4 : S1x1024x1024.Idx → EReal)

/-- The residual and its modulated norm are the ones that the feed-forward block's reference starts with. -/
theorem v11_eq : val_main_v11 (F := Ideal) x0 x1 x2 x4 = Cert.FfnRefIdeal.Read.val_main_v12 (F := Ideal) x0 x1 x2 x4 := rfl
theorem v34_eq : val_main_v34 (F := Ideal) x0 x1 x2 x3 x4 = Cert.FfnRefIdeal.Read.val_main_v37 (F := Ideal) x0 x1 x2 x3 x4 := rfl

theorem ref_x1 : (val_main_v12 (F := Ideal) x0 x1 x2 x4 : S8192x1024.Idx → EReal)
    = x1Of (args x0 x1 x2 x3 x4 (fun _ => 0) (fun _ => 0) (fun _ => 0)) := by
  funext i
  idx_vars i
  unfold val_main_v12
  rw [v11_eq]
  exact (flat _ i0 i1).trans (Cert.FfnRefIdeal.Values.v12_at x0 x1 x2 x3 x4 _ _ _ i0 i1)

theorem ref_h : (val_main_v36 (F := Ideal) x0 x1 x2 x3 x4 : S8192x1024.Idx → EReal)
    = hOf (args x0 x1 x2 x3 x4 (fun _ => 0) (fun _ => 0) (fun _ => 0)) := by
  funext i
  idx_vars i
  unfold val_main_v36 val_main_v35
  rw [v34_eq]
  exact (flat_b _ i0 i1).trans (Cert.FfnRefIdeal.Values.v37_at x0 x1 x2 x3 x4 _ _ _ i0 i1)
end

set_option maxHeartbeats 2000000 in
theorem algebraic : Cert.algebraic_OutProjIdeal_OutProjRefIdeal := by
  intro m g m' g' hpre hagree
  refine ⟨_, _, Cert.OutProjIdeal.Value.run_blocks m g, (θ_run _ _ _).mono (fun r h c => ?_) (Cert.OutProjRefIdeal.Value.run m' g')⟩
  obtain ⟨e0, e1, hargs⟩ := h c
  obtain ⟨a0, a1, a2, a3, a4⟩ := hagree c
  refine ⟨(e0.trans (Cert.OutProjRefIdeal.Read.val_main_v12_eq _ _ _ _)).trans ?_, (e1.trans (Cert.OutProjRefIdeal.Read.val_main_v36_eq _ _ _ _ _)).trans ?_, hargs⟩
  · rw [a0, a1, a2, a4]
    exact (ref_x1 _ _ _ _ _).trans (final5 m c).symm
  · rw [a0, a1, a2, a3, a4]
    exact (ref_h _ _ _ _ _).trans (final6 m c).symm
end Cert.OutProj
-- ==== Proof.AdaResult.lean ====
/- The four results of the kernel that steps the modulation's weights, as functions of its arguments: the gradient, the step, and the two moments. -/
module
public import proofs.«01_k».proof.Proof.Gen.AdaBwdIdeal.Value
public import Idealize.ShloMosaic.Lib.Pipeline.ValueKit
public import Idealize.ShloMosaic.Lib.Pointwise
public import proofs.«01_k».proof.Proof.Rows
public import proofs.«01_k».proof.Proof.FfnMath
@[expose] public section
set_option maxRecDepth 16384
noncomputable section
open Idealize.ShloMosaic Idealize.ShloMosaic.TcCoe Idealize.SL.Sem
open Idealize.ShloMosaic.Pipeline (Dat)
namespace Cert.AdaBwdIdeal.Blocks
open Cert.AdaBwdIdeal Cert.AdaBwdIdeal.Gen Cert.Rows Cert.Ffn

/-- The number that a 32-bit literal stands for. -/
def lit (b : BitVec 32) : EReal := FloatOps.ofBits (F := Ideal) .f32 b

/-- The two moments and the step of one weight, from its gradient. -/
def momV (m g : EReal) : EReal := lit 0x3F666666#32 * m + lit 0x3DCCCCCD#32 * g
def velV (v g : EReal) : EReal := lit 0x3F7FBE77#32 * v + lit 0x3A83126F#32 * (g * g)
def stepV (w m v : EReal) : EReal := lit 0xBA83126F#32
  * (Ideal.div (Ideal.div m (lit 0x3F26BD02#32)) (Ideal.sqrt (Ideal.div v (lit 0x3C231ACC#32)) + lit 0x322BCC77#32) + lit 0x3C23D70A#32 * w)

theorem pay2 (X : Vec Ideal S16x256 .f32) (Y : Vec Ideal S16x768 .f32) (i : Fin 256) (j : Fin 768) :
    (k0_pay2 X Y (ix2 i j) : EReal) = ∑ p, silu (X (ix2 p i)) * (Y (ix2 p j) : EReal) := by
  pointwise [k0_pay2]
  simp only [zero_sub]
  rfl

theorem pay4 (X : Vec Ideal S16x256 .f32) (Y : Vec Ideal S16x768 .f32) (M : Vec Ideal S256x768 .f32) (i : Fin 256) (j : Fin 768) :
    (k0_pay4 X Y M (ix2 i j) : EReal) = momV (M (ix2 i j)) (k0_pay2 X Y (ix2 i j)) := by
  unfold k0_pay4
  generalize k0_pay2 X Y = G
  pointwise
  rfl

theorem pay5 (X : Vec Ideal S16x256 .f32) (Y : Vec Ideal S16x768 .f32) (M : Vec Ideal S256x768 .f32) (i : Fin 256) (j : Fin 768) :
    (k0_pay5 X Y M (ix2 i j) : EReal) = velV (M (ix2 i j)) (k0_pay2 X Y (ix2 i j)) := by
  unfold k0_pay5
  generalize k0_pay2 X Y = G
  pointwise
  rfl

theorem pay1 (X : Vec Ideal S16x256 .f32) (Y : Vec Ideal S16x768 .f32) (W M V : Vec Ideal S256x768 .f32) (i : Fin 256) (j : Fin 768) :
    (k0_pay1 (k0_pay3 W) V (k0_pay6 X Y M) k0_pay7 (ix2 i j) : EReal) = stepV (W (ix2 i j)) (k0_pay4 X Y M (ix2 i j)) (V (ix2 i j)) := by
  unfold k0_pay6
  generalize k0_pay4 X Y M = G
  pointwise [k0_pay1, k0_pay3, k0_pay7]
  rfl

section
variable (X0 : Vec Ideal S16x256 .f32) (X1 : Vec Ideal S16x768 .f32) (X2 X3 X4 : Vec Ideal S256x768 .f32)

theorem out5 : out0_5 X0 X1 X2 X3 X4 = k0_pay2 X0 X1 := by
  unfold out0_5 r0_0 r0_1 r0_2
  rw [View.canon_cons_unit_lit _ _ _ (by decide), View.ld_unit_lit _ X0 (by decide), View.ld_unit_lit _ X1 (by decide)]

theorem out8 : out0_8 X0 X1 X2 X3 X4 = k0_pay5 X0 X1 X4 := by
  unfold out0_8 k0_pay8 r0_0 r0_1 r0_2
  rw [View.canon_cons_unit_lit _ _ _ (by decide), View.ld_unit_lit _ X0 (by decide), View.ld_unit_lit _ X1 (by decide), View.ld_unit_lit _ X4 (by decide)]

theorem out7 : out0_7 X0 X1 X2 X3 X4 = k0_pay4 X0 X1 X3 := by
  unfold out0_7 r0_0 r0_1 r0_2
  rw [View.canon_cons_unit_lit _ _ _ (by decide), View.ld_unit_lit _ X0 (by decide), View.ld_unit_lit _ X1 (by decide), View.ld_unit_lit _ X3 (by decide)]

theorem out6 : out0_6 X0 X1 X2 X3 X4 = k0_pay1 (k0_pay3 X2) (k0_pay5 X0 X1 X4) (k0_pay6 X0 X1 X3) k0_pay7 := by
  unfold out0_6 k0_pay8 r0_0 r0_1 r0_2
  rw [View.canon_cons_unit_lit _ _ _ (by decide), View.ld_unit_lit _ X0 (by decide), View.ld_unit_lit _ X1 (by decide), View.ld_unit_lit _ X2 (by decide),
    View.ld_unit_lit _ X3 (by decide), View.ld_unit_lit _ X4 (by decide)]
end

theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the weights that row `i` of step `t`'s block is. -/
def row (t : Fin cfg0.N) (i : Fin 256) : Fin 1024 := ⟨256 * t.val + i.val, by have : t.val < 4 := lt_of_lt_of_eq t.isLt N_0; omega⟩

variable (m : (ℓ : Loc nD τ sig) → Buf (Elt Ideal) ℓ)

/-- The arguments on one device: the conditioning vectors, the cotangent of the modulation, and the weights with their two moments. -/
def cA (c : Dev nD) : S8x1024.Idx → EReal := m ((c : Thread nD τ).loc main_arg0)
def dA (c : Dev nD) : S8x768.Idx → EReal := m ((c : Thread nD τ).loc main_arg2)
def wA (c : Dev nD) : S1x1024x768.Idx → EReal := m ((c : Thread nD τ).loc main_arg1)
def mA (c : Dev nD) : S1x1024x768.Idx → EReal := m ((c : Thread nD τ).loc main_arg3)
def vA (c : Dev nD) : S1x1024x768.Idx → EReal := m ((c : Thread nD τ).loc main_arg4)

theorem blk0 (c : Dev nD) (t : Fin cfg0.N) (p : Fin 16) (i : Fin 256) :
    (iblk m c 0 t (ix2 p i) : EReal) = if h : p.val < 8 then cA m c (ix2 (⟨p.val, h⟩ : Fin 8) (row t i)) else 0 := by
  have e : (iblk m c 0 t (ix2 p i) : EReal) = V m c main_v1 (ix2 p (row t i)) := by
    blk_ext [iblk, idx t, row]
  refine e.trans ?_
  entry_read
  pointwise
  rfl

theorem blk1 (c : Dev nD) (t : Fin cfg0.N) (p : Fin 16) (j : Fin 768) :
    (iblk m c 1 t (ix2 p j) : EReal) = if h : p.val < 8 then dA m c (ix2 (⟨p.val, h⟩ : Fin 8) j) else 0 := by
  have e : (iblk m c 1 t (ix2 p j) : EReal) = V m c main_v3 (ix2 p j) := by
    blk_ext [iblk, idx t, row]
  refine e.trans ?_
  entry_read
  pointwise
  rfl

theorem blk2 (c : Dev nD) (t : Fin cfg0.N) (i : Fin 256) (j : Fin 768) :
    (iblk m c 2 t (ix2 i j) : EReal) = wA m c (ix3 (0 : Fin 1) (row t i) j) := by
  unfold iblk wA
  entry_read
  blk_simp
  pointwise
  blk_ext [idx t, row]

theorem blk3 (c : Dev nD) (t : Fin cfg0.N) (i : Fin 256) (j : Fin 768) :
    (iblk m c 3 t (ix2 i j) : EReal) = mA m c (ix3 (0 : Fin 1) (row t i) j) := by
  unfold iblk mA
  entry_read
  blk_simp
  pointwise
  blk_ext [idx t, row]

theorem blk4 (c : Dev nD) (t : Fin cfg0.N) (i : Fin 256) (j : Fin 768) :
    (iblk m c 4 t (ix2 i j) : EReal) = vA m c (ix3 (0 : Fin 1) (row t i) j) := by
  unfold iblk vA
  entry_read
  blk_simp
  pointwise
  blk_ext [idx t, row]

/-- The gradient of the weights. -/
def gradV (C : S8x1024.Idx → EReal) (D : S8x768.Idx → EReal) (k : Fin 1024) (j : Fin 768) : EReal :=
  ∑ p : Fin 8, silu (C (ix2 p k)) * D (ix2 p j)

/-- The kernel's sixteen rows are the eight examples and eight rows of zeros. -/
theorem grad_step (c : Dev nD) (t : Fin cfg0.N) (i : Fin 256) (j : Fin 768) :
    (k0_pay2 (iblk m c 0 t) (iblk m c 1 t) (ix2 i j) : EReal) = gradV (cA m c) (dA m c) (row t i) j := by
  rw [pay2]
  simp only [blk0, blk1]
  refine (Fin.sum_univ_add (a := 8) (b := 8) _).trans ?_
  refine (congrArg₂ (· + ·) (Finset.sum_congr rfl fun p _ => ?_) (Finset.sum_eq_zero fun p _ => ?_)).trans (add_zero _)
  · have h : (Fin.castAdd 8 p).val < 8 := p.isLt
    rw [dif_pos h, dif_pos h]
    rfl
  · have h : ¬ (Fin.natAdd 8 p).val < 8 := by
      show ¬ 8 + p.val < 8
      omega
    rw [dif_neg h, dif_neg h, mul_zero]

/-- The four results at an index of their arrays. -/
def gOf (C : S8x1024.Idx → EReal) (D : S8x768.Idx → EReal) (i : S1024x768.Idx) : EReal := gradV C D (i 0) (i 1)
def mOf (C : S8x1024.Idx → EReal) (D : S8x768.Idx → EReal) (M : S1x1024x768.Idx → EReal) (i : S1024x768.Idx) : EReal :=
  momV (M (ix3 (0 : Fin 1) (i 0) (i 1))) (gOf C D i)
def vOf (C : S8x1024.Idx → EReal) (D : S8x768.Idx → EReal) (V : S1x1024x768.Idx → EReal) (i : S1024x768.Idx) : EReal :=
  velV (V (ix3 (0 : Fin 1) (i 0) (i 1))) (gOf C D i)
def sOf (C : S8x1024.Idx → EReal) (D : S8x768.Idx → EReal) (W M V : S1x1024x768.Idx → EReal) (i : S1024x768.Idx) : EReal :=
  stepV (W (ix3 (0 : Fin 1) (i 0) (i 1))) (mOf C D M i) (vOf C D V i)

/-- Where row `i`, column `j` of step `t`'s output blocks lies. -/
def pos (t : Fin cfg0.N) (i : Fin 256) (j : Fin 768) : S1024x768.Idx := ix2 (row t i) j

theorem final5 (c : Dev nD) : (dats m 0 c).arrAt 5 cfg0.N = (gOf (cA m c) (dA m c) : S1024x768.Idx → EReal) := by
  refine (dats m 0 c).arrAt_eq_of_covers 5 _ (by decide +kernel) fun t hf y => ?_
  blk_simp
  rw [after0_5, out5]
  idx_vars y
  refine (grad_step m c t y0 y1).trans (congrArg (gOf (cA m c) (dA m c)) (?_ : pos t y0 y1 = _))
  unfold pos
  blk_ext [idx t, row]

theorem final7 (c : Dev nD) : (dats m 0 c).arrAt 7 cfg0.N = (mOf (cA m c) (dA m c) (mA m c) : S1024x768.Idx → EReal) := by
  refine (dats m 0 c).arrAt_eq_of_covers 7 _ (by decide +kernel) fun t hf y => ?_
  blk_simp
  rw [after0_7, out7]
  idx_vars y
  refine ((pay4 _ _ _ y0 y1).trans (congrArg₂ momV (blk3 m c t y0 y1) (grad_step m c t y0 y1))).trans
    (congrArg (mOf (cA m c) (dA m c) (mA m c)) (?_ : pos t y0 y1 = _))
  unfold pos
  blk_ext [idx t, row]

theorem final8 (c : Dev nD) : (dats m 0 c).arrAt 8 cfg0.N = (vOf (cA m c) (dA m c) (vA m c) : S1024x768.Idx → EReal) := by
  refine (dats m 0 c).arrAt_eq_of_covers 8 _ (by decide +kernel) fun t hf y => ?_
  blk_simp
  rw [after0_8, out8]
  idx_vars y
  refine ((pay5 _ _ _ y0 y1).trans (congrArg₂ velV (blk4 m c t y0 y1) (grad_step m c t y0 y1))).trans
    (congrArg (vOf (cA m c) (dA m c) (vA m c)) (?_ : pos t y0 y1 = _))
  unfold pos
  blk_ext [idx t, row]

theorem final6 (c : Dev nD) : (dats m 0 c).arrAt 6 cfg0.N = (sOf (cA m c) (dA m c) (wA m c) (mA m c) (vA m c) : S1024x768.Idx → EReal) := by
  refine (dats m 0 c).arrAt_eq_of_covers 6 _ (by decide +kernel) fun t hf y => ?_
  blk_simp
  rw [after0_6, out6]
  idx_vars y
  have em := (pay4 _ _ _ y0 y1).trans (congrArg₂ momV (blk3 m c t y0 y1) (grad_step m c t y0 y1))
  have ev := (pay5 _ _ _ y0 y1).trans (congrArg₂ velV (blk4 m c t y0 y1) (grad_step m c t y0 y1))
  refine Eq.trans ?_ (congrArg (sOf (cA m c) (dA m c) (wA m c) (mA m c) (vA m c)) (?_ : pos t y0 y1 = _))
  · refine (pay1 _ _ _ _ _ y0 y1).trans ?_
    rw [em, ev, blk2]
    rfl
  · unfold pos
    blk_ext [idx t, row]
end Cert.AdaBwdIdeal.Blocks
-- ==== Proof.AdaAlgebraic.lean ====
/- The kernel that steps the modulation's weights and its reference end with the same four arrays, whatever the arguments hold. -/
module
public import proofs.«01_k».proof.Proof.AdaResult
public import proofs.«01_k».proof.Proof.Gen.AdaRefIdeal.Run
public import proofs.«01_k».proof.Proof.Gen.AdaRefIdeal.Read
public import proofs.«01_k».proof.Defs
@[expose] public section
set_option maxRecDepth 16384
noncomputable section
open Idealize.ShloMosaic Idealize.ShloMosaic.TcCoe Idealize.SL.Sem
namespace Cert.Ada
open Cert.AdaBwdIdeal Cert.AdaBwdIdeal.Blocks Cert.Ffn

/-- The reference ends with its arguments unchanged and every counter at zero: it declares none. -/
theorem ref_frame : Cert.quiescent_AdaRefIdeal := fun m ρ _ =>
  (θ_run _ _ _).mono (fun r h => ⟨fun c => (h c).2.2.2.2, sem_eq_zero_of_no_sems (by decide) r.2⟩) (AdaRefIdeal.Value.run m ρ)

section
open Cert.AdaRefIdeal.Read
variable (x0 : S8x1024.Idx → EReal) (x1 : S1x1024x768.Idx → EReal) (x2 : S8x768.Idx → EReal) (x3 x4 : S1x1024x768.Idx → EReal)

theorem v0_at (p : Fin 8) (k : Fin 1024) : (val_main_v0 (F := Ideal) x0 (ix2 p k) : EReal) = silu (x0 (ix2 p k)) := by
  pointwise [val_main_v0, val_main_call0_v5, val_main_call0_v4, val_main_call0_v3, val_main_call0_v2, val_main_call0_v1, val_main_call0_v0,
    val_main_call0_cst, val_main_call0_cst_0]
  rfl

theorem v5_at (k : Fin 1024) (j : Fin 768) : (val_main_v5 (F := Ideal) x0 x2 (ix3 (0 : Fin 1) k j) : EReal) = gradV x0 x2 k j := by
  unfold val_main_v5 val_main_v4 gradV
  simp only [← v0_at]
  unfold val_main_v3
  generalize val_main_v0 (F := Ideal) x0 = y
  pointwise
  exact Finset.sum_congr rfl fun p _ => mul_comm _ _

theorem v10_at (k : Fin 1024) (j : Fin 768) : (val_main_v10 (F := Ideal) x0 x2 x3 (ix3 (0 : Fin 1) k j) : EReal)
    = momV (x3 (ix3 (0 : Fin 1) k j)) (gradV x0 x2 k j) := by
  rw [← v5_at]
  unfold val_main_v10 val_main_v9
  generalize val_main_v5 (F := Ideal) x0 x2 = y
  pointwise [val_main_v7, val_main_v6, val_main_v8, val_main_cst, val_main_cst_0]
  rfl

theorem v16_at (k : Fin 1024) (j : Fin 768) : (val_main_v16 (F := Ideal) x0 x2 x4 (ix3 (0 : Fin 1) k j) : EReal)
    = velV (x4 (ix3 (0 : Fin 1) k j)) (gradV x0 x2 k j) := by
  rw [← v5_at]
  unfold val_main_v16 val_main_v15 val_main_v13
  generalize val_main_v5 (F := Ideal) x0 x2 = y
  pointwise [val_main_v12, val_main_v11, val_main_v14, val_main_cst_1, val_main_cst_2]
  rfl

theorem v29_at (k : Fin 1024) (j : Fin 768) : (val_main_v29 (F := Ideal) x0 x1 x2 x3 x4 (ix3 (0 : Fin 1) k j) : EReal)
    = stepV (x1 (ix3 (0 : Fin 1) k j)) (momV (x3 (ix3 (0 : Fin 1) k j)) (gradV x0 x2 k j)) (velV (x4 (ix3 (0 : Fin 1) k j)) (gradV x0 x2 k j)) := by
  rw [← v10_at, ← v16_at]
  unfold val_main_v29 val_main_v27 val_main_v24 val_main_v23 val_main_v21 val_main_v20 val_main_v18
  generalize val_main_v10 (F := Ideal) x0 x2 x3 = y
  generalize val_main_v16 (F := Ideal) x0 x2 x4 = z
  pointwise [val_main_v28, val_main_v26, val_main_v25, val_main_v22, val_main_v19, val_main_v17, val_main_cst_3, val_main_cst_4, val_main_cst_5,
    val_main_cst_6, val_main_cst_7]
  rfl

/-- The first axis, of one element, put away. -/
theorem flat (h : Cert.AdaRefIdeal.S1x1024x768.ShapeCasts Cert.AdaRefIdeal.S1024x768) (y : FVec Ideal Cert.AdaRefIdeal.S1x1024x768 .f32) (k : Fin 1024) (j : Fin 768) :
    (shapeCast Cert.AdaRefIdeal.S1024x768 y h (ix2 k j) : EReal) = y (ix3 (0 : Fin 1) k j) := by
  pointwise

theorem ref_g : (val_main_v30 (F := Ideal) x0 x2 : S1024x768.Idx → EReal) = gOf x0 x2 := by
  funext i
  idx_vars i
  exact (flat _ _ i0 i1).trans (v5_at x0 x2 i0 i1)

theorem ref_s : (val_main_v31 (F := Ideal) x0 x1 x2 x3 x4 : S1024x768.Idx → EReal) = sOf x0 x2 x1 x3 x4 := by
  funext i
  idx_vars i
  exact (flat _ _ i0 i1).trans (v29_at x0 x1 x2 x3 x4 i0 i1)

theorem ref_m : (val_main_v32 (F := Ideal) x0 x2 x3 : S1024x768.Idx → EReal) = mOf x0 x2 x3 := by
  funext i
  idx_vars i
  exact (flat _ _ i0 i1).trans (v10_at x0 x2 x3 i0 i1)

theorem ref_v : (val_main_v33 (F := Ideal) x0 x2 x4 : S1024x768.Idx → EReal) = vOf x0 x2 x4 := by
  funext i
  idx_vars i
  exact (flat _ _ i0 i1).trans (v16_at x0 x2 x4 i0 i1)
end

set_option maxHeartbeats 2000000 in
theorem algebraic : Cert.algebraic_AdaBwdIdeal_AdaRefIdeal := by
  intro m g m' g' hpre hagree
  refine ⟨_, _, _, _, Cert.AdaBwdIdeal.Value.run_blocks m g, (θ_run _ _ _).mono (fun r h c => ?_) (Cert.AdaRefIdeal.Value.run m' g')⟩
  obtain ⟨e0, e1, e2, e3, hargs⟩ := h c
  obtain ⟨a0, a1, a2, a3, a4⟩ := hagree c
  refine ⟨(e0.trans (Cert.AdaRefIdeal.Read.val_main_v30_eq _ _)).trans ?_, (e1.trans (Cert.AdaRefIdeal.Read.val_main_v31_eq _ _ _ _ _)).trans ?_,
    (e2.trans (Cert.AdaRefIdeal.Read.val_main_v32_eq _ _ _)).trans ?_, (e3.trans (Cert.AdaRefIdeal.Read.val_main_v33_eq _ _ _)).trans ?_, hargs⟩
  · rw [a0, a2]
    exact (ref_g _ _).trans (final5 m c).symm
  · rw [a0, a1, a2, a3, a4]
    exact (ref_s _ _ _ _ _).trans (final6 m c).symm
  · rw [a0, a2, a3]
    exact (ref_m _ _ _).trans (final7 m c).symm
  · rw [a0, a2, a4]
    exact (ref_v _ _ _).trans (final8 m c).symm
end Cert.Ada
-- ==== Proof.AdamResult.lean ====
/- The four results of the kernel that adds up the chips' parts of a weight's gradient and takes the AdamW step, as functions of its arguments. -/
module
public import proofs.«01_k».proof.Proof.Gen.AdamIdeal.Value
public import proofs.«01_k».proof.Proof.AdaResult
@[expose] public section
set_option maxRecDepth 16384
noncomputable section
open Idealize.ShloMosaic Idealize.ShloMosaic.TcCoe Idealize.SL.Sem
open Idealize.ShloMosaic.Pipeline (Dat)
namespace Cert.AdamIdeal.Blocks
open Cert.AdamIdeal Cert.AdamIdeal.Gen Cert.Rows
open Cert.AdaBwdIdeal.Blocks (lit momV velV stepV)

section
variable (P : Fin 4 → Vec Ideal S1x128x1024 .bf16) (W M V G : Vec Ideal S128x1024 .f32) (i : Fin 128) (j : Fin 1024)

theorem pay2 : (k0_pay2 (P 0) (P 1) (P 2) (P 3) (ix2 i j) : EReal) = ∑ q, (P q (ix3 (0 : Fin 1) i j) : EReal) := by
  rw [Fin.sum_univ_four]
  generalize P 0 = a
  generalize P 1 = b
  generalize P 2 = c
  generalize P 3 = d
  pointwise [k0_pay2]

theorem pay4 : (k0_pay4 (P 0) (P 1) (P 2) (P 3) M (ix2 i j) : EReal) = momV (M (ix2 i j)) (k0_pay2 (P 0) (P 1) (P 2) (P 3) (ix2 i j)) := by
  unfold k0_pay4
  generalize k0_pay2 (P 0) (P 1) (P 2) (P 3) = y
  pointwise
  rfl

theorem pay5 : (k0_pay5 (P 0) (P 1) (P 2) (P 3) V (ix2 i j) : EReal) = velV (V (ix2 i j)) (k0_pay2 (P 0) (P 1) (P 2) (P 3) (ix2 i j)) := by
  unfold k0_pay5
  generalize k0_pay2 (P 0) (P 1) (P 2) (P 3) = y
  pointwise
  rfl

theorem pay1 : (k0_pay1 (k0_pay3 W) M V (Scalar.ofBits .f32 0x3F26BD02#32) (ix2 i j) : EReal) = stepV (W (ix2 i j)) (M (ix2 i j)) (V (ix2 i j)) := by
  pointwise [k0_pay1, k0_pay3]
  rfl
end

/-- One chip's part. -/
def part (X : Vec Ideal S4x128x1024 .bf16) : Fin 4 → Vec Ideal S1x128x1024 .bf16
  | ⟨0, _⟩ => View.ld X r0_0
  | ⟨1, _⟩ => View.ld X r0_1
  | ⟨2, _⟩ => View.ld X r0_2
  | ⟨3, _⟩ => View.ld X r0_3

/-- The sum of the four parts. -/
def sumV (X : S4x128x1024.Idx → EReal) (i : Fin 128) (j : Fin 1024) : EReal := ∑ q : Fin 4, X (ix3 q i j)

section
variable (X0 : Vec Ideal S4x128x1024 .bf16) (X1 X2 X3 : Vec Ideal S128x1024 .f32) (i : Fin 128) (j : Fin 1024)

theorem part_at (q : Fin 4) : part X0 q (ix3 (0 : Fin 1) i j) = X0 (ix3 q i j) := by
  match q with
  | ⟨0, _⟩ => exact ld_hit _ X0 _ _ fun a => by match a with | ⟨0, _⟩ => rfl | ⟨1, _⟩ => exact (Nat.zero_add _).symm | ⟨2, _⟩ => exact (Nat.zero_add _).symm
  | ⟨1, _⟩ => exact ld_hit _ X0 _ _ fun a => by match a with | ⟨0, _⟩ => rfl | ⟨1, _⟩ => exact (Nat.zero_add _).symm | ⟨2, _⟩ => exact (Nat.zero_add _).symm
  | ⟨2, _⟩ => exact ld_hit _ X0 _ _ fun a => by match a with | ⟨0, _⟩ => rfl | ⟨1, _⟩ => exact (Nat.zero_add _).symm | ⟨2, _⟩ => exact (Nat.zero_add _).symm
  | ⟨3, _⟩ => exact ld_hit _ X0 _ _ fun a => by match a with | ⟨0, _⟩ => rfl | ⟨1, _⟩ => exact (Nat.zero_add _).symm | ⟨2, _⟩ => exact (Nat.zero_add _).symm

theorem out4_at : (out0_4 X0 X1 X2 X3 (ix2 i j) : EReal) = sumV X0 i j := by
  refine Eq.trans ?_ ((pay2 (part X0) i j).trans (Finset.sum_congr rfl fun q _ => part_at X0 i j q))
  unfold out0_4 r0_4
  rw [View.canon_cons_unit_lit _ _ _ (by decide)]
  rfl

theorem out6_at : (out0_6 X0 X1 X2 X3 (ix2 i j) : EReal) = momV (X2 (ix2 i j)) (sumV X0 i j) := by
  refine Eq.trans ?_ ((pay4 (part X0) X2 i j).trans
    (congrArg (momV _) ((pay2 (part X0) i j).trans (Finset.sum_congr rfl fun q _ => part_at X0 i j q))))
  unfold out0_6 k0_pay6 r0_4
  rw [View.canon_cons_unit_lit _ _ _ (by decide), View.ld_unit_lit _ X2 (by decide)]
  rfl

theorem out7_at : (out0_7 X0 X1 X2 X3 (ix2 i j) : EReal) = velV (X3 (ix2 i j)) (sumV X0 i j) := by
  refine Eq.trans ?_ ((pay5 (part X0) X3 i j).trans
    (congrArg (velV _) ((pay2 (part X0) i j).trans (Finset.sum_congr rfl fun q _ => part_at X0 i j q))))
  unfold out0_7 k0_pay7 r0_4
  rw [View.canon_cons_unit_lit _ _ _ (by decide), View.ld_unit_lit _ X3 (by decide)]
  rfl

theorem out5_at : (out0_5 X0 X1 X2 X3 (ix2 i j) : EReal)
    = stepV (X1 (ix2 i j)) (momV (X2 (ix2 i j)) (sumV X0 i j)) (velV (X3 (ix2 i j)) (sumV X0 i j)) := by
  rw [← out6_at X0 X1 X2 X3, ← out7_at X0 X1 X2 X3]
  unfold out0_5 out0_6 out0_7 r0_4
  rw [View.canon_cons_unit_lit _ _ _ (by decide), View.canon_cons_unit_lit _ _ _ (by decide), View.canon_cons_unit_lit _ _ _ (by decide),
    View.ld_unit_lit _ X1 (by decide)]
  exact pay1 X1 _ _ i j
end

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ)

/-- The arguments on one device: the parts of the gradient, and the weights with their two moments. -/
def pA (c : Dev nD) : S4x128x1024.Idx → EReal := m ((c : Thread nD τ).loc main_arg0)
def wA (c : Dev nD) : S1x128x1024.Idx → EReal := m ((c : Thread nD τ).loc main_arg1)
def mA (c : Dev nD) : S1x128x1024.Idx → EReal := m ((c : Thread nD τ).loc main_arg2)
def vA (c : Dev nD) : S1x128x1024.Idx → EReal := m ((c : Thread nD τ).loc main_arg3)

theorem blk0 (c : Dev nD) (t : Fin cfg0.N) (q : Fin 4) (i : Fin 128) (j : Fin 1024) : (iblk m c 0 t (ix3 q i j) : EReal) = pA m c (ix3 q i j) := by
  unfold iblk pA
  entry_read
  blk_ext [idx t]

theorem blk1 (c : Dev nD) (t : Fin cfg0.N) (i : Fin 128) (j : Fin 1024) : (iblk m c 1 t (ix2 i j) : EReal) = wA m c (ix3 (0 : Fin 1) i j) := by
  unfold iblk wA
  entry_read
  blk_simp
  pointwise
  blk_ext [idx t]

theorem blk2 (c : Dev nD) (t : Fin cfg0.N) (i : Fin 128) (j : Fin 1024) : (iblk m c 2 t (ix2 i j) : EReal) = mA m c (ix3 (0 : Fin 1) i j) := by
  unfold iblk mA
  entry_read
  blk_simp
  pointwise
  blk_ext [idx t]

theorem blk3 (c : Dev nD) (t : Fin cfg0.N) (i : Fin 128) (j : Fin 1024) : (iblk m c 3 t (ix2 i j) : EReal) = vA m c (ix3 (0 : Fin 1) i j) := by
  unfold iblk vA
  entry_read
  blk_simp
  pointwise
  blk_ext [idx t]

/-- The four results at an index of their arrays. -/
def gOf (P : S4x128x1024.Idx → EReal) (i : S128x1024.Idx) : EReal := ∑ q : Fin 4, P (ix3 q (i 0) (i 1))
def mOf (P : S4x128x1024.Idx → EReal) (M : S1x128x1024.Idx → EReal) (i : S128x1024.Idx) : EReal := momV (M (ix3 (0 : Fin 1) (i 0) (i 1))) (gOf P i)
def vOf (P : S4x128x1024.Idx → EReal) (V : S1x128x1024.Idx → EReal) (i : S128x1024.Idx) : EReal := velV (V (ix3 (0 : Fin 1) (i 0) (i 1))) (gOf P i)
def sOf (P : S4x128x1024.Idx → EReal) (W M V : S1x128x1024.Idx → EReal) (i : S128x1024.Idx) : EReal :=
  stepV (W (ix3 (0 : Fin 1) (i 0) (i 1))) (mOf P M i) (vOf P V i)

theorem sum_step (c : Dev nD) (t : Fin cfg0.N) (i : Fin 128) (j : Fin 1024) :
    sumV (iblk m c 0 t) i j = gOf (pA m c) (ix2 i j) :=
  Finset.sum_congr rfl fun q _ => blk0 m c t q i j

theorem final4 (c : Dev nD) : (dats m 0 c).arrAt 4 cfg0.N = (gOf (pA m c) : S128x1024.Idx → EReal) := by
  refine (dats m 0 c).arrAt_eq_of_covers 4 _ (by decide +kernel) fun t hf y => ?_
  blk_simp
  rw [after0_4]
  idx_vars y
  refine ((out4_at _ _ _ _ y0 y1).trans (sum_step m c t y0 y1)).trans (congrArg (gOf (pA m c)) (?_ : ix2 y0 y1 = _))
  blk_ext [idx t]

theorem final6 (c : Dev nD) : (dats m 0 c).arrAt 6 cfg0.N = (mOf (pA m c) (mA m c) : S128x1024.Idx → EReal) := by
  refine (dats m 0 c).arrAt_eq_of_covers 6 _ (by decide +kernel) fun t hf y => ?_
  blk_simp
  rw [after0_6]
  idx_vars y
  refine ((out6_at _ _ _ _ y0 y1).trans (congrArg₂ momV (blk2 m c t y0 y1) (sum_step m c t y0 y1))).trans
    (congrArg (mOf (pA m c) (mA m c)) (?_ : ix2 y0 y1 = _))
  blk_ext [idx t]

theorem final7 (c : Dev nD) : (dats m 0 c).arrAt 7 cfg0.N = (vOf (pA m c) (vA m c) : S128x1024.Idx → EReal) := by
  refine (dats m 0 c).arrAt_eq_of_covers 7 _ (by decide +kernel) fun t hf y => ?_
  blk_simp
  rw [after0_7]
  idx_vars y
  refine ((out7_at _ _ _ _ y0 y1).trans (congrArg₂ velV (blk3 m c t y0 y1) (sum_step m c t y0 y1))).trans
    (congrArg (vOf (pA m c) (vA m c)) (?_ : ix2 y0 y1 = _))
  blk_ext [idx t]

theorem final5 (c : Dev nD) : (dats m 0 c).arrAt 5 cfg0.N = (sOf (pA m c) (wA m c) (mA m c) (vA m c) : S128x1024.Idx → EReal) := by
  refine (dats m 0 c).arrAt_eq_of_covers 5 _ (by decide +kernel) fun t hf y => ?_
  blk_simp
  rw [after0_5]
  idx_vars y
  refine Eq.trans ?_ (congrArg (sOf (pA m c) (wA m c) (mA m c) (vA m c)) (?_ : ix2 y0 y1 = _))
  · refine (out5_at _ _ _ _ y0 y1).trans ?_
    rw [sum_step m c t y0 y1, blk1 m c t y0 y1, blk2 m c t y0 y1, blk3 m c t y0 y1]
    rfl
  · blk_ext [idx t]
end Cert.AdamIdeal.Blocks
-- ==== Proof.AdamAlgebraic.lean ====
/- The kernel that adds up the parts of a weight's gradient and takes the AdamW step and its reference end with the same four arrays, whatever the arguments hold. -/
module
public import proofs.«01_k».proof.Proof.AdamResult
public import proofs.«01_k».proof.Proof.Gen.AdamRefIdeal.Run
public import proofs.«01_k».proof.Proof.Gen.AdamRefIdeal.Read
public import proofs.«01_k».proof.Defs
@[expose] public section
set_option maxRecDepth 16384
noncomputable section
open Idealize.ShloMosaic Idealize.ShloMosaic.TcCoe Idealize.SL.Sem
namespace Cert.Adam
open Cert.AdamIdeal Cert.AdamIdeal.Blocks
open Cert.AdaBwdIdeal.Blocks (lit momV velV stepV)

/-- The reference ends with its arguments unchanged and every counter at zero: it declares none. -/
theorem ref_frame : Cert.quiescent_AdamRefIdeal := fun m ρ _ =>
  (θ_run _ _ _).mono (fun r h => ⟨fun c => (h c).2.2.2.2, sem_eq_zero_of_no_sems (by decide) r.2⟩) (AdamRefIdeal.Value.run m ρ)

section
open Cert.AdamRefIdeal.Read
variable (x0 : S4x128x1024.Idx → EReal) (x1 x2 x3 : S1x128x1024.Idx → EReal) (k : Fin 128) (j : Fin 1024)

theorem v2_at : (val_main_v2 (F := Ideal) x0 (ix3 (0 : Fin 1) k j) : EReal) = gOf x0 (ix2 k j) := by
  rw [val_main_v2_apply, val_main_v1_apply]
  refine (congrArg₂ (· + ·) (?_ : _ = (0 : EReal)) (Finset.sum_congr rfl fun q _ => ?_)).trans (zero_add _)
  · pointwise [val_main_cst]
  · refine congrArg x0 (funext fun a => ?_)
    match a with
    | ⟨0, _⟩ => rfl
    | ⟨1, _⟩ => rfl
    | ⟨2, _⟩ => rfl

theorem v7_at : (val_main_v7 (F := Ideal) x0 x2 (ix3 (0 : Fin 1) k j) : EReal) = mOf x0 x2 (ix2 k j) := by
  refine Eq.trans ?_ (congrArg (momV (x2 (ix3 (0 : Fin 1) k j))) (v2_at x0 k j))
  unfold val_main_v7 val_main_v6
  generalize val_main_v2 (F := Ideal) x0 = y
  pointwise [val_main_v4, val_main_v3, val_main_v5, val_main_cst_0, val_main_cst_1]
  rfl

theorem v13_at : (val_main_v13 (F := Ideal) x0 x3 (ix3 (0 : Fin 1) k j) : EReal) = vOf x0 x3 (ix2 k j) := by
  refine Eq.trans ?_ (congrArg (velV (x3 (ix3 (0 : Fin 1) k j))) (v2_at x0 k j))
  unfold val_main_v13 val_main_v12 val_main_v10
  generalize val_main_v2 (F := Ideal) x0 = y
  pointwise [val_main_v9, val_main_v8, val_main_v11, val_main_cst_2, val_main_cst_3]
  rfl

theorem v26_at : (val_main_v26 (F := Ideal) x0 x1 x2 x3 (ix3 (0 : Fin 1) k j) : EReal) = sOf x0 x1 x2 x3 (ix2 k j) := by
  refine Eq.trans ?_ (congrArg₂ (stepV (x1 (ix3 (0 : Fin 1) k j))) (v7_at x0 x2 k j) (v13_at x0 x3 k j))
  unfold val_main_v26 val_main_v24 val_main_v21 val_main_v20 val_main_v18 val_main_v17 val_main_v15
  generalize val_main_v7 (F := Ideal) x0 x2 = y
  generalize val_main_v13 (F := Ideal) x0 x3 = z
  pointwise [val_main_v25, val_main_v23, val_main_v22, val_main_v19, val_main_v16, val_main_v14, val_main_cst_4, val_main_cst_5, val_main_cst_6,
    val_main_cst_7, val_main_cst_8]
  rfl

/-- The first axis, of one element, put away. -/
theorem flat (h : Cert.AdamRefIdeal.S1x128x1024.ShapeCasts Cert.AdamRefIdeal.S128x1024) (y : FVec Ideal Cert.AdamRefIdeal.S1x128x1024 .f32) :
    (shapeCast Cert.AdamRefIdeal.S128x1024 y h (ix2 k j) : EReal) = y (ix3 (0 : Fin 1) k j) := by
  pointwise

theorem ref_g : (val_main_v27 (F := Ideal) x0 : S128x1024.Idx → EReal) = gOf x0 := by
  funext i
  idx_vars i
  exact (flat i0 i1 _ _).trans (v2_at x0 i0 i1)

theorem ref_s : (val_main_v28 (F := Ideal) x0 x1 x2 x3 : S128x1024.Idx → EReal) = sOf x0 x1 x2 x3 := by
  funext i
  idx_vars i
  exact (flat i0 i1 _ _).trans (v26_at x0 x1 x2 x3 i0 i1)

theorem ref_m : (val_main_v29 (F := Ideal) x0 x2 : S128x1024.Idx → EReal) = mOf x0 x2 := by
  funext i
  idx_vars i
  exact (flat i0 i1 _ _).trans (v7_at x0 x2 i0 i1)

theorem ref_v : (val_main_v30 (F := Ideal) x0 x3 : S128x1024.Idx → EReal) = vOf x0 x3 := by
  funext i
  idx_vars i
  exact (flat i0 i1 _ _).trans (v13_at x0 x3 i0 i1)
end

set_option maxHeartbeats 2000000 in
theorem algebraic : Cert.algebraic_AdamIdeal_AdamRefIdeal := by
  intro m g m' g' hpre hagree
  refine ⟨_, _, _, _, Cert.AdamIdeal.Value.run_blocks m g, (θ_run _ _ _).mono (fun r h c => ?_) (Cert.AdamRefIdeal.Value.run m' g')⟩
  obtain ⟨e0, e1, e2, e3, hargs⟩ := h c
  obtain ⟨a0, a1, a2, a3⟩ := hagree c
  refine ⟨(e0.trans (Cert.AdamRefIdeal.Read.val_main_v27_eq _)).trans ?_, (e1.trans (Cert.AdamRefIdeal.Read.val_main_v28_eq _ _ _ _)).trans ?_,
    (e2.trans (Cert.AdamRefIdeal.Read.val_main_v29_eq _ _)).trans ?_, (e3.trans (Cert.AdamRefIdeal.Read.val_main_v30_eq _ _)).trans ?_, hargs⟩
  · rw [a0]
    exact (ref_g _).trans (final4 m c).symm
  · rw [a0, a1, a2, a3]
    exact (ref_s _ _ _ _).trans (final5 m c).symm
  · rw [a0, a2]
    exact (ref_m _ _).trans (final6 m c).symm
  · rw [a0, a3]
    exact (ref_v _ _).trans (final7 m c).symm
end Cert.Adam
-- ==== Proof.GuBlocks.lean ====
/- What one grid step of the gate and up projections' weight gradient leaves: in the running product and in the staged quarter. -/
module
public import proofs.«01_k».proof.Proof.Gen.GuWgradIdeal.Value
public import proofs.«01_k».proof.Proof.Rows
public import Idealize.ShloMosaic.Lib.Pipeline.ValueKit
public import Idealize.ShloMosaic.Lib.WritesUnit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.GuWgradIdeal.Blocks
open Cert.GuWgradIdeal Cert.GuWgradIdeal.Gen Cert.Rows

section
variable {F : FTy → Type} [FloatOps F]

/-- The two halves of the running product, as the step after `X` stores them. -/
def half0 (X0 : Vec F S2048x1024 .bf16) (X1 : Vec F S1x2x2048x704 .bf16) (X : Vec F S2x704x1024 .f32) : View.Piece (Elt F) S2x704x1024 .f32 :=
  ⟨Rect.unit ![0, 0, 0] S1x704x1024.size inb_S2x704x1024_S1x704x1024_0_0_0,
    k0_pay3 X0 (View.ld X (Rect.unit ![0, 0, 0] S1x704x1024.size inb_S2x704x1024_S1x704x1024_0_0_0))
      (View.ld X1 (Rect.unit ![0, 0, 0, 0] S1x1x2048x704.size inb_S1x2x2048x704_S1x1x2048x704_0_0_0_0))⟩
def half1 (X0 : Vec F S2048x1024 .bf16) (X1 : Vec F S1x2x2048x704 .bf16) (X : Vec F S2x704x1024 .f32) : View.Piece (Elt F) S2x704x1024 .f32 :=
  ⟨Rect.unit ![1, 0, 0] S1x704x1024.size inb_S2x704x1024_S1x704x1024_1_0_0,
    k0_pay4 X0 (View.ld X (Rect.unit ![1, 0, 0] S1x704x1024.size inb_S2x704x1024_S1x704x1024_1_0_0))
      (View.ld X1 (Rect.unit ![0, 1, 0, 0] S1x1x2048x704.size inb_S1x2x2048x704_S1x1x2048x704_0_1_0_0))⟩
def next (X0 : Vec F S2048x1024 .bf16) (X1 : Vec F S1x2x2048x704 .bf16) (X : Vec F S2x704x1024 .f32) : List (View.Piece (Elt F) S2x704x1024 .f32) :=
  [half1 X0 X1 X, half0 X0 X1 X]

/-- The zeros a quarter's first step stores; its first half over the zeros, its second over both. -/
def zeros : List (View.Piece (Elt F) S2x704x1024 .f32) :=
  [⟨Rect.unit ![0, 0, 0] S2x704x1024.size inb_S2x704x1024_S2x704x1024_0_0_0, k0_pay1⟩]
def lower (X0 : Vec F S2048x1024 .bf16) (X1 : Vec F S1x2x2048x704 .bf16) : List (View.Piece (Elt F) S2x704x1024 .f32) :=
  half0 X0 X1 (View.canon zeros) :: zeros
def first (X0 : Vec F S2048x1024 .bf16) (X1 : Vec F S1x2x2048x704 .bf16) : List (View.Piece (Elt F) S2x704x1024 .f32) :=
  half1 X0 X1 (View.canon (lower X0 X1)) :: lower X0 X1

variable (m : (ℓ : Loc nD τ sig) → Buf (Elt F) ℓ)

set_option maxHeartbeats 8000000 in
theorem acc_A (c : Dev nD) (t : Fin cfg0.N) (h0 : t.val % 4 = 0) :
    (outsAt0 m c t.val t.isLt).2 = View.canon (first (iblk m c 0 t) (iblk m c 1 t)) := by
  rw [outsAt0_A m c t h0 (by omega)]
  frame_out
  simp only [View.readCov_eq_canon']
  rfl

set_option maxHeartbeats 8000000 in
theorem acc_B (c : Dev nD) (t : Fin cfg0.N) (h1 : ¬ t.val % 4 = 0) (h2 : ¬ t.val % 4 = 3) :
    (outsAt0 m c t.val t.isLt).2 = View.canon (next (iblk m c 0 t) (iblk m c 1 t) (outsAt0 m c (t.val - 1) (by omega)).2) := by
  rw [outsAt0_B m c t h1 h2]
  frame_out
  rw [read_unread_whole]
  rfl

set_option maxHeartbeats 8000000 in
theorem acc_C (c : Dev nD) (t : Fin cfg0.N) (h2 : t.val % 4 = 3) :
    (outsAt0 m c t.val t.isLt).2 = View.canon (next (iblk m c 0 t) (iblk m c 1 t) (outsAt0 m c (t.val - 1) (by omega)).2) := by
  rw [outsAt0_C m c t (by omega) h2]
  frame_out
  rw [read_unread_whole]
  rfl

set_option maxHeartbeats 8000000 in
theorem stage_C (c : Dev nD) (t : Fin cfg0.N) (h2 : t.val % 4 = 3) :
    (outsAt0 m c t.val t.isLt).1 = k0_pay5 (outsAt0 m c t.val t.isLt).2 := by
  rw [acc_C m c t h2, outsAt0_C m c t (by omega) h2]
  frame_out
  rw [read_unread_whole, View.readCov_eq_canon']
  exact congrArg k0_pay5 (View.ld_unit_lit _ _ (by decide))
end

theorem pay1 (i : S2x704x1024.Idx) : (k0_pay1 (F := Ideal) i : EReal) = 0 := by
  idx_vars i
  pointwise [k0_pay1]

theorem pay3 (X0 : Vec Ideal S2048x1024 .bf16) (A : Vec Ideal S1x704x1024 .f32) (B : Vec Ideal S1x1x2048x704 .bf16) (f : Fin 704) (d : Fin 1024) :
    (k0_pay3 X0 A B (ix3 (0 : Fin 1) f d) : EReal)
      = (A (ix3 (0 : Fin 1) f d) : EReal) + ∑ r : Fin 2048, (B (ix4 (0 : Fin 1) (0 : Fin 1) r f) : EReal) * (X0 (ix2 r d) : EReal) := by
  pointwise [k0_pay3, k0_pay2]

theorem pay4 (X0 : Vec Ideal S2048x1024 .bf16) (A : Vec Ideal S1x704x1024 .f32) (B : Vec Ideal S1x1x2048x704 .bf16) (f : Fin 704) (d : Fin 1024) :
    (k0_pay4 X0 A B (ix3 (0 : Fin 1) f d) : EReal)
      = (A (ix3 (0 : Fin 1) f d) : EReal) + ∑ r : Fin 2048, (B (ix4 (0 : Fin 1) (0 : Fin 1) r f) : EReal) * (X0 (ix2 r d) : EReal) := by
  pointwise [k0_pay4, k0_pay2]

theorem pay5 (Z : Vec Ideal S2x704x1024 .f32) (h : Fin 2) (f : Fin 704) (d : Fin 1024) :
    (k0_pay5 Z (ix4 (0 : Fin 1) h f d) : EReal) = Z (ix3 h f d) := by
  pointwise [k0_pay5]

theorem emb3 {p n k : ℕ} (h : Fin p) (f : Fin n) (d : Fin k) (a : Fin 3) :
    ((ix3 h f d : (⟨3, ![p, n, k]⟩ : Shape).Idx) a).val = (![h.val, 0, 0] : Fin 3 → ℕ) a + ((ix3 (0 : Fin 1) f d : (⟨3, ![1, n, k]⟩ : Shape).Idx) a).val :=
  match a with
  | ⟨0, _⟩ => rfl
  | ⟨1, _⟩ => (Nat.zero_add _).symm
  | ⟨2, _⟩ => (Nat.zero_add _).symm

theorem emb4 {p n k : ℕ} (h : Fin p) (f : Fin n) (d : Fin k) (a : Fin 4) :
    ((ix4 (0 : Fin 1) h f d : (⟨4, ![1, p, n, k]⟩ : Shape).Idx) a).val
      = (![0, h.val, 0, 0] : Fin 4 → ℕ) a + ((ix4 (0 : Fin 1) (0 : Fin 1) f d : (⟨4, ![1, 1, n, k]⟩ : Shape).Idx) a).val :=
  match a with
  | ⟨0, _⟩ => rfl
  | ⟨1, _⟩ => rfl
  | ⟨2, _⟩ => (Nat.zero_add _).symm
  | ⟨3, _⟩ => (Nat.zero_add _).symm

/-- What a step adds to an entry. -/
def added (X0 : S2048x1024.Idx → EReal) (X1 : S1x2x2048x704.Idx → EReal) (h : Fin 2) (f : Fin 704) (d : Fin 1024) : EReal :=
  ∑ r : Fin 2048, X1 (ix4 (0 : Fin 1) h r f) * X0 (ix2 r d)

section
variable (X0 : Vec Ideal S2048x1024 .bf16) (X1 : Vec Ideal S1x2x2048x704 .bf16) (X : Vec Ideal S2x704x1024 .f32)
  (L : List (View.Piece (Elt Ideal) S2x704x1024 .f32)) (f : Fin 704) (d : Fin 1024)

theorem hit0 : (View.canon (half0 X0 X1 X :: L) (ix3 (0 : Fin 2) f d) : EReal) = (X (ix3 (0 : Fin 2) f d) : EReal) + added X0 X1 0 f d := by
  unfold half0
  refine (canon_hit _ _ _ (ix3 (0 : Fin 2) f d) (ix3 (0 : Fin 1) f d) (emb3 (0 : Fin 2) f d)).trans ?_
  refine (pay3 _ _ _ f d).trans ?_
  exact congrArg₂ (fun a b : EReal => a + b) (ld_hit _ X (ix3 (0 : Fin 2) f d) _ (emb3 (0 : Fin 2) f d))
    (Finset.sum_congr rfl fun r _ => congrArg (fun a : EReal => a * X0 (ix2 r d)) (ld_hit _ X1 (ix4 (0 : Fin 1) (0 : Fin 2) r f) _ (emb4 (0 : Fin 2) r f)))

theorem hit1 : (View.canon (half1 X0 X1 X :: L) (ix3 (1 : Fin 2) f d) : EReal) = (X (ix3 (1 : Fin 2) f d) : EReal) + added X0 X1 1 f d := by
  unfold half1
  refine (canon_hit _ _ _ (ix3 (1 : Fin 2) f d) (ix3 (0 : Fin 1) f d) (emb3 (1 : Fin 2) f d)).trans ?_
  refine (pay4 _ _ _ f d).trans ?_
  exact congrArg₂ (fun a b : EReal => a + b) (ld_hit _ X (ix3 (1 : Fin 2) f d) _ (emb3 (1 : Fin 2) f d))
    (Finset.sum_congr rfl fun r _ => congrArg (fun a : EReal => a * X0 (ix2 r d)) (ld_hit _ X1 (ix4 (0 : Fin 1) (1 : Fin 2) r f) _ (emb4 (1 : Fin 2) r f)))

theorem miss0 : View.canon (half0 X0 X1 X :: L) (ix3 (1 : Fin 2) f d) = View.canon L (ix3 (1 : Fin 2) f d) :=
  canon_miss _ _ _ (ix3 (1 : Fin 2) f d) (0 : Fin 3) (Or.inr (le_refl 1))

theorem miss1 : View.canon (half1 X0 X1 X :: L) (ix3 (0 : Fin 2) f d) = View.canon L (ix3 (0 : Fin 2) f d) :=
  canon_miss _ _ _ (ix3 (0 : Fin 2) f d) (0 : Fin 3) (Or.inl Nat.zero_lt_one)
end

theorem zeros_apply (i : S2x704x1024.Idx) : (View.canon (zeros (F := Ideal)) i : EReal) = 0 :=
  (congrFun (View.canon_cons_unit_lit _ _ _ (by decide)) i).trans (pay1 i)

theorem next_apply (X0 : Vec Ideal S2048x1024 .bf16) (X1 : Vec Ideal S1x2x2048x704 .bf16) (X : Vec Ideal S2x704x1024 .f32) (h : Fin 2) (f : Fin 704) (d : Fin 1024) :
    (View.canon (next X0 X1 X) (ix3 h f d) : EReal) = (X (ix3 h f d) : EReal) + added X0 X1 h f d := by
  match h with
  | ⟨1, _⟩ => exact hit1 X0 X1 X _ f d
  | ⟨0, _⟩ => exact (miss1 X0 X1 X _ f d).trans (hit0 X0 X1 X _ f d)

theorem first_apply (X0 : Vec Ideal S2048x1024 .bf16) (X1 : Vec Ideal S1x2x2048x704 .bf16) (h : Fin 2) (f : Fin 704) (d : Fin 1024) :
    (View.canon (first X0 X1) (ix3 h f d) : EReal) = 0 + added X0 X1 h f d := by
  match h with
  | ⟨1, _⟩ =>
    refine (hit1 X0 X1 _ _ f d).trans (congrArg (fun a : EReal => a + added X0 X1 1 f d) ?_)
    exact (miss0 X0 X1 _ _ f d).trans (zeros_apply _)
  | ⟨0, _⟩ =>
    refine (miss1 X0 X1 _ _ f d).trans ((hit0 X0 X1 _ _ f d).trans (congrArg (fun a : EReal => a + added X0 X1 0 f d) ?_))
    exact zeros_apply _
end Cert.GuWgradIdeal.Blocks
-- ==== Proof.GuResult.lean ====
/- The array the gate and up projections' weight gradient kernel ends with. -/
module
public import proofs.«01_k».proof.Proof.GuBlocks
@[expose] public section
set_option maxRecDepth 16384
noncomputable section
open Idealize.ShloMosaic Idealize.ShloMosaic.TcCoe Idealize.SL.Sem
open Idealize.ShloMosaic.Pipeline (Dat)
namespace Cert.GuWgradIdeal.Blocks
open Cert.GuWgradIdeal Cert.GuWgradIdeal.Gen Cert.Rows

theorem idx : ∀ t : Fin cfg0.N, win0_0.index t = ![t.val % 4, 0] ∧ win0_1.index t = ![3 - t.val / 4, 0, t.val % 4, 0]
    ∧ win0_2.index t = ![3 - t.val / 4, 0, 0, 0] := (by decide +kernel : ∀ t : Fin grid0.N, _)

theorem lt16 (t : Fin cfg0.N) : t.val < 16 := lt_of_lt_of_eq t.isLt N_0

/-- The rows of the arrays that rows of step `t`'s blocks are, and the gradient's row that a row of its halves is. -/
def row (t : Fin cfg0.N) (r : Fin 2048) : Fin 8192 := ⟨2048 * (t.val % 4) + r.val, by omega⟩
def outRow (q : Fin 4) (h : Fin 2) (f : Fin 704) : Fin 5632 := ⟨704 * (2 * q.val + h.val) + f.val, by omega⟩
def quarter (t : Fin cfg0.N) : Fin 4 := ⟨3 - t.val / 4, by omega⟩

/-- The weight's gradient, at an entry of its transpose: the sum over the tokens. -/
def dwV (x0 : S1x8192x1024.Idx → EReal) (x2 : S1x8192x5632.Idx → EReal) (j : Fin 5632) (d : Fin 1024) : EReal :=
  ∑ i : Fin 8192, x2 (ix3 (0 : Fin 1) i j) * x0 (ix3 (0 : Fin 1) i d)
def dwOf (x0 : S1x8192x1024.Idx → EReal) (x2 : S1x8192x5632.Idx → EReal) (i : S4x2x704x1024.Idx) : EReal := dwV x0 x2 (outRow (i 0) (i 1) (i 2)) (i 3)

variable (m : (ℓ : Loc nD τ sig) → Buf (Elt Ideal) ℓ)

def hid (c : Dev nD) : S1x8192x1024.Idx → EReal := m ((c : Thread nD τ).loc main_arg0)
def cot (c : Dev nD) : S1x8192x5632.Idx → EReal := m ((c : Thread nD τ).loc main_arg2)

theorem blk0 (c : Dev nD) (t : Fin cfg0.N) (r : Fin 2048) (d : Fin 1024) :
    (iblk m c 0 t (ix2 r d) : EReal) = hid m c (ix3 (0 : Fin 1) (row t r) d) := by
  unfold iblk
  entry_read
  blk_simp
  pointwise
  unfold hid
  blk_ext [idx t, row]

theorem blk1 (c : Dev nD) (t : Fin cfg0.N) (h : Fin 2) (r : Fin 2048) (f : Fin 704) :
    (iblk m c 1 t (ix4 (0 : Fin 1) h r f) : EReal) = cot m c (ix3 (0 : Fin 1) (row t r) (outRow (quarter t) h f)) := by
  unfold iblk
  entry_read
  blk_simp
  pointwise
  unfold cot
  blk_ext [idx t, row, outRow, quarter]

/-- What step `t` adds to the running product. -/
def term (c : Dev nD) (t : Fin cfg0.N) (y : S2x704x1024.Idx) : EReal :=
  ∑ r : Fin 2048, cot m c (ix3 (0 : Fin 1) (row t r) (outRow (quarter t) (y 0) (y 1))) * hid m c (ix3 (0 : Fin 1) (row t r) (y 2))

theorem added_eq (c : Dev nD) (t : Fin cfg0.N) (h : Fin 2) (f : Fin 704) (d : Fin 1024) :
    added (iblk m c 0 t) (iblk m c 1 t) h f d = term m c t (ix3 h f d) :=
  Finset.sum_congr rfl fun r _ => congrArg₂ (fun a b : EReal => a * b) (blk1 m c t h r f) (blk0 m c t r d)

theorem first_acc (c : Dev nD) (t : Fin cfg0.N) (h : t.val % 4 = 0) (p : Fin 2) (f : Fin 704) (d : Fin 1024) :
    ((outsAt0 m c t.val t.isLt).2 (ix3 p f d) : EReal) = 0 + term m c t (ix3 p f d) := by
  rw [acc_A m c t h, ← added_eq]
  exact first_apply _ _ p f d

theorem later_acc (c : Dev nD) (t : Fin cfg0.N) (h : ¬ t.val % 4 = 0) (p : Fin 2) (f : Fin 704) (d : Fin 1024) :
    ((outsAt0 m c t.val t.isLt).2 (ix3 p f d) : EReal) = (outsAt0 m c (t.val - 1) (by omega)).2 (ix3 p f d) + term m c t (ix3 p f d) := by
  have e : (outsAt0 m c t.val t.isLt).2 = View.canon (next (iblk m c 0 t) (iblk m c 1 t) (outsAt0 m c (t.val - 1) (by omega)).2) := by
    by_cases h2 : t.val % 4 = 3
    · exact acc_C m c t h2
    · exact acc_B m c t h h2
  rw [e, ← added_eq]
  exact next_apply _ _ _ p f d

/-- At a quarter's last step the running product is the gradient. -/
theorem acc_last (c : Dev nD) (t : Fin cfg0.N) (h : t.val % 4 = 3) (p : Fin 2) (f : Fin 704) (d : Fin 1024) :
    ((outsAt0 m c t.val t.isLt).2 (ix3 p f d) : EReal) = dwV (hid m c) (cot m c) (outRow (quarter t) p f) d := by
  rw [Pipeline.eq_sum_fin_of_reset_step_apply_of_flush (fun n h => (outsAt0 m c n h).2) 4 (fun _ => (0 : EReal)) (term m c)
    (fun t h y => by idx_vars y; exact first_acc m c t h _ _ _) (fun t h y => by idx_vars y; exact later_acc m c t h _ _ _) t h _, zero_add]
  refine Fin.sum_mul_add_congr fun s r hl => ?_
  refine congrArg₂ (· * ·) (congrArg₂ (fun i j => cot m c (ix3 (0 : Fin 1) i j)) (Fin.ext ?_) (Fin.ext ?_))
    (congrArg (fun i => hid m c (ix3 (0 : Fin 1) i d)) (Fin.ext ?_))
  · show 2048 * ((4 * (t.val / 4) + s.val) % 4) + r.val = s.val * 2048 + r.val
    omega
  · show 704 * (2 * (3 - (4 * (t.val / 4) + s.val) / 4) + p.val) + f.val = 704 * (2 * (3 - t.val / 4) + p.val) + f.val
    omega
  · show 2048 * ((4 * (t.val / 4) + s.val) % 4) + r.val = s.val * 2048 + r.val
    omega

theorem flush2 : ∀ t : Fin cfg0.N, (cfg0.win 2).flush t = true → t.val % 4 = 3 := by decide +kernel

theorem final2 (c : Dev nD) : (dats m 0 c).arrAt 2 cfg0.N = (dwOf (hid m c) (cot m c) : S4x2x704x1024.Idx → EReal) := by
  refine (dats m 0 c).arrAt_eq_of_covers 2 _ (by decide +kernel) fun t hf y => ?_
  have h := flush2 t hf
  blk_simp
  rw [after0_2, stage_C m c t h]
  idx_vars y
  obtain rfl : y0 = 0 := Subsingleton.elim _ _
  refine ((pay5 _ y1 y2 y3).trans (acc_last m c t h y1 y2 y3)).trans ?_
  refine congrArg₂ (dwV (hid m c) (cot m c)) (Fin.ext ?_) (Fin.ext ?_)
  · blk_simp [idx t, outRow, quarter]
    show 704 * (2 * (3 - t.val / 4) + y1.val) + y2.val = 704 * (2 * (3 - t.val / 4 + 0) + y1.val) + y2.val
    omega
  · blk_simp [idx t]
end Cert.GuWgradIdeal.Blocks
-- ==== Proof.GuAlgebraic.lean ====
/- The gate and up projections' weight gradient kernel and the derivative end with the same array, whatever the arguments hold. -/
module
public import proofs.«01_k».proof.Proof.GuResult
public import proofs.«01_k».proof.Proof.Gen.GuRefIdeal.Run
public import proofs.«01_k».proof.Proof.Gen.GuRefIdeal.Read
public import proofs.«01_k».proof.Defs
@[expose] public section
set_option maxRecDepth 16384
noncomputable section
open Idealize.ShloMosaic Idealize.ShloMosaic.TcCoe Idealize.SL.Sem
namespace Cert.Gu
open Cert.GuWgradIdeal Cert.GuWgradIdeal.Blocks

/-- The reference ends with its arguments unchanged and every counter at zero: it declares none. -/
theorem ref_frame : Cert.quiescent_GuRefIdeal := fun m ρ _ =>
  (θ_run _ _ _).mono (fun r h => ⟨fun c => (h c).2, sem_eq_zero_of_no_sems (by decide) r.2⟩) (GuRefIdeal.Value.run m ρ)

section
open Cert.GuRefIdeal.Read
variable (x0 : S1x8192x1024.Idx → EReal) (x2 : S1x8192x5632.Idx → EReal)

theorem v2_at (j : Fin 5632) (d : Fin 1024) : (val_main_v2 (F := Ideal) x0 x2 (ix2 j d) : EReal) = dwV x0 x2 j d := by
  pointwise [val_main_v2]
  exact Fin.sum_univ_one _

theorem v7_at (q : Fin 4) (h : Fin 2) (f : Fin 704) (d : Fin 1024) :
    (val_main_v7 (F := Ideal) x0 x2 (ix4 q h f d) : EReal) = dwV x0 x2 (outRow q h f) d := by
  refine Eq.trans ?_ (v2_at x0 x2 (outRow q h f) d)
  rw [val_main_v7_apply, val_main_v6_apply, val_main_v5_apply, val_main_v4_apply, val_main_v3_apply]
  have e0 : (((q.val * 2 + h.val) * 704 + f.val) * 1024 + d.val) / 1024 = 704 * (2 * q.val + h.val) + f.val := by omega
  have e1 : (((q.val * 2 + h.val) * 704 + f.val) * 1024 + d.val) % 1024 = d.val := by omega
  refine congrArg (val_main_v2 (F := Ideal) x0 x2) ?_
  funext b
  apply Fin.ext
  match b with
  | ⟨0, _⟩ =>
    show ((((q.val * 2 + h.val) * 704 + f.val) * 1024 + d.val) % 1024 * 5632 + (((q.val * 2 + h.val) * 704 + f.val) * 1024 + d.val) / 1024) % 5632
      = 704 * (2 * q.val + h.val) + f.val
    rw [e0, e1]
    omega
  | ⟨1, _⟩ =>
    show ((((q.val * 2 + h.val) * 704 + f.val) * 1024 + d.val) % 1024 * 5632 + (((q.val * 2 + h.val) * 704 + f.val) * 1024 + d.val) / 1024) / 5632 % 1024
      = d.val
    rw [e0, e1]
    omega

theorem v8_at (q : Fin 4) (h : Fin 2) (f : Fin 704) (d : Fin 1024) :
    (val_main_v8 (F := Ideal) x0 x2 (ix4 q h f d) : EReal) = dwOf x0 x2 (ix4 q h f d) := by
  rw [val_main_v8_apply]
  exact v7_at x0 x2 q h f d

theorem ref_dw : (val_main_v8 (F := Ideal) x0 x2 : S4x2x704x1024.Idx → EReal) = dwOf x0 x2 := by
  funext i
  idx_vars i
  exact v8_at x0 x2 i0 i1 i2 i3
end

set_option maxHeartbeats 2000000 in
theorem algebraic : Cert.algebraic_GuWgradIdeal_GuRefIdeal := by
  intro m g m' g' hpre hagree
  refine ⟨_, Cert.GuWgradIdeal.Value.run_blocks m g, (θ_run _ _ _).mono (fun r h c => ?_) (Cert.GuRefIdeal.Value.run m' g')⟩
  obtain ⟨e0, hargs⟩ := h c
  obtain ⟨a0, a1, a2⟩ := hagree c
  refine ⟨(e0.trans (Cert.GuRefIdeal.Read.val_main_v8_eq _ _)).trans ?_, hargs⟩
  rw [a0, a2]
  exact (ref_dw _ _).trans (final2 m c).symm
end Cert.Gu
-- ==== Proof.lean ====
module

public import proofs.«01_k».proof.Proof.Gen.MixerBwd
public import proofs.«01_k».proof.Proof.Gen.MixerBwd.Skeleton
public import proofs.«01_k».proof.Proof.Gen.MixerBwd.Loops
public import proofs.«01_k».proof.Proof.Gen.MixerBwd.Launch
public import proofs.«01_k».proof.Proof.Gen.MixerBwd.Points
public import proofs.«01_k».proof.Proof.Gen.MixerBwdIdeal
public import proofs.«01_k».proof.Proof.Gen.MixerBwdIdeal.Skeleton
public import proofs.«01_k».proof.Proof.Gen.MixerBwdIdeal.Loops
public import proofs.«01_k».proof.Proof.Gen.MixerBwdIdeal.Launch
public import proofs.«01_k».proof.Proof.Gen.MixerBwdIdeal.Points
public import proofs.«01_k».proof.Proof.Gen.MixerRefIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Pre_head_finite
public import proofs.«01_k».proof.Proof.Gen.Pre_ffn_finite
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.GuWgrad
public import proofs.«01_k».proof.Proof.Gen.GuWgrad.Skeleton
public import proofs.«01_k».proof.Proof.Gen.GuWgrad.Launch
public import proofs.«01_k».proof.Proof.Gen.GuWgrad.Points
public import proofs.«01_k».proof.Proof.Gen.GuWgrad.Frame
public import proofs.«01_k».proof.Proof.Gen.GuWgradIdeal
public import proofs.«01_k».proof.Proof.Gen.GuWgradIdeal.Skeleton
public import proofs.«01_k».proof.Proof.Gen.GuWgradIdeal.Launch
public import proofs.«01_k».proof.Proof.Gen.GuWgradIdeal.Points
public import proofs.«01_k».proof.Proof.Gen.GuWgradIdeal.Frame
public import proofs.«01_k».proof.Proof.Gen.GuWgradIdeal.Value
public import proofs.«01_k».proof.Proof.Gen.GuRefIdeal
public import proofs.«01_k».proof.Proof.Gen.GuRefIdeal.Run
public import proofs.«01_k».proof.Proof.Gen.GuRefIdeal.Read
public import proofs.«01_k».proof.Proof.Gen.Pre_out_finite
public import proofs.«01_k».proof.Proof.Algebraic
public import proofs.«01_k».proof.Proof.MixerFrame
public import proofs.«01_k».proof.Proof.MixerRefRun
public import Idealize.ShloMosaic.Adequacy
public import proofs.«01_k».proof.Proof.FfnAlgebraic
public import proofs.«01_k».proof.Proof.FwdAlgebraic
public import proofs.«01_k».proof.Proof.WgradAlgebraic
public import proofs.«01_k».proof.Proof.OutAlgebraic
public import proofs.«01_k».proof.Proof.AdaAlgebraic
public import proofs.«01_k».proof.Proof.AdamAlgebraic
public import proofs.«01_k».proof.Proof.GuAlgebraic
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MixerBwd.Gen.facts, Cert.MixerBwdIdeal.Gen.facts, Cert.MixerRefIdeal.Gen.facts,
  Cert.FfnBwd.Gen.facts, Cert.FfnBwdIdeal.Gen.facts, Cert.FfnRefIdeal.Gen.facts,
  Cert.FfnFwd.Gen.facts, Cert.FfnFwdIdeal.Gen.facts, Cert.HeadRefIdeal.Gen.facts,
  Cert.OutWgrad.Gen.facts, Cert.OutWgradIdeal.Gen.facts, Cert.OutRefIdeal.Gen.facts,
  Cert.OutProj.Gen.facts, Cert.OutProjIdeal.Gen.facts, Cert.OutProjRefIdeal.Gen.facts,
  Cert.AdaBwd.Gen.facts, Cert.AdaBwdIdeal.Gen.facts, Cert.AdaRefIdeal.Gen.facts,
  Cert.Adam.Gen.facts, Cert.AdamIdeal.Gen.facts, Cert.AdamRefIdeal.Gen.facts, Cert.GuWgrad.Gen.facts, Cert.GuWgradIdeal.Gen.facts, Cert.GuRefIdeal.Gen.facts,
  Cert.Pre_finite.Gen.facts, Cert.Pre_ffn_finite.Gen.facts, Cert.Pre_head_finite.Gen.facts, Cert.Pre_out_finite.Gen.facts,
  fun m ρ _ => Cert.Kernel.Gen.frame m ρ, fun m ρ _ => Cert.KernelIdeal.Gen.frame m ρ, fun m ρ _ => Cert.KernelIdeal.Gen.frame m ρ,
  fun m ρ _ => Cert.InProj.ref_frame m ρ trivial, fun m ρ _ => Cert.InProj.ref_frame m ρ trivial,
  fun m ρ _ => Cert.MixerBwdIdeal.Hand.frame_bits m ρ, fun m ρ _ => Cert.MixerBwdIdeal.Hand.frame_ideal m ρ,
  fun m ρ _ => Cert.MixerRefIdeal.Hand.frame_of m ρ,
  fun m ρ _ => Cert.FfnBwd.Gen.frame m ρ, fun m ρ _ => Cert.FfnBwdIdeal.Gen.frame m ρ, fun m ρ _ => Cert.FfnBwdIdeal.Gen.frame m ρ,
  fun m ρ _ => Cert.Ffn.ref_frame m ρ trivial, fun m ρ _ => Cert.Ffn.ref_frame m ρ trivial,
  fun m ρ _ => Cert.FfnFwd.Gen.frame m ρ, fun m ρ _ => Cert.FfnFwdIdeal.Gen.frame m ρ, fun m ρ _ => Cert.FfnFwdIdeal.Gen.frame m ρ,
  fun m ρ _ => Cert.Head.ref_frame m ρ trivial, fun m ρ _ => Cert.Head.ref_frame m ρ trivial,
  fun m ρ _ => Cert.OutWgrad.Gen.frame m ρ, fun m ρ _ => Cert.OutWgradIdeal.Gen.frame m ρ, fun m ρ _ => Cert.OutWgradIdeal.Gen.frame m ρ,
  fun m ρ _ => Cert.Wgrad.ref_frame m ρ trivial, fun m ρ _ => Cert.Wgrad.ref_frame m ρ trivial,
  fun m ρ _ => Cert.OutProj.Gen.frame m ρ, fun m ρ _ => Cert.OutProjIdeal.Gen.frame m ρ, fun m ρ _ => Cert.OutProj.ref_frame m ρ trivial,
  fun m ρ _ => Cert.AdaBwd.Gen.frame m ρ, fun m ρ _ => Cert.AdaBwdIdeal.Gen.frame m ρ, fun m ρ _ => Cert.Ada.ref_frame m ρ trivial,
  fun m ρ _ => Cert.Adam.Gen.frame m ρ, fun m ρ _ => Cert.AdamIdeal.Gen.frame m ρ, fun m ρ _ => Cert.Adam.ref_frame m ρ trivial,
  fun m ρ _ => Cert.GuWgrad.Gen.frame m ρ, fun m ρ _ => Cert.GuWgradIdeal.Gen.frame m ρ, fun m ρ _ => Cert.Gu.ref_frame m ρ trivial,
  trivial, Cert.InProj.algebraic,
  ⟨IdealRules.named_const.statement Cert.MixerBwdIdeal.κ "gelu_c" .f32 0x3D372713#32 ((8943 / 200000 : ℝ) : EReal) rfl,
    IdealRules.named_const.statement Cert.MixerBwdIdeal.κ "gelu_3c" .f32 0x3E095D4F#32 ((26829 / 200000 : ℝ) : EReal) rfl⟩,
  trivial, Cert.Ffn.algebraic,
  trivial, Cert.Head.algebraic,
  trivial, Cert.Wgrad.algebraic,
  trivial, Cert.OutProj.algebraic,
  trivial, Cert.Ada.algebraic,
  trivial, Cert.Adam.algebraic,
  trivial, Cert.Gu.algebraic⟩

end Cert.Proof

end
